-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_packed [hPre_packed : Cert.Pre_packed.Facts] (m : (ℓ : Loc Cert.AttnIdeal.nD Cert.AttnIdeal.τ Cert.AttnIdeal.sig) → Buf (Elt Ideal) ℓ) : Prop :=
  ∀ c : Dev Cert.AttnIdeal.nD,
    (Cert.Pre_packed.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_packed [hPre_packed : Cert.Pre_packed.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_packed.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_packed [hAttnIdeal : Cert.AttnIdeal.Facts] [hPre_packed : Cert.Pre_packed.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_packed m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_packed [hAttnRefIdeal : Cert.AttnRefIdeal.Facts] [hPre_packed : Cert.Pre_packed.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_packed m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8)
      ∧ r.2.mem ((c.tc : Thread Cert.FfnS.nD Cert.FfnS.τ).loc Cert.FfnS.main_arg9) = m ((c.tc : Thread Cert.FfnS.nD Cert.FfnS.τ).loc Cert.FfnS.main_arg9)
      ∧ r.2.mem ((c.tc : Thread Cert.FfnS.nD Cert.FfnS.τ).loc Cert.FfnS.main_arg10) = m ((c.tc : Thread Cert.FfnS.nD Cert.FfnS.τ).loc Cert.FfnS.main_arg10)
      ∧ r.2.mem ((c.tc : Thread Cert.FfnS.nD Cert.FfnS.τ).loc Cert.FfnS.main_arg11) = m ((c.tc : Thread Cert.FfnS.nD Cert.FfnS.τ).loc Cert.FfnS.main_arg11)
      ∧ r.2.mem ((c.tc : Thread Cert.FfnS.nD Cert.FfnS.τ).loc Cert.FfnS.main_arg12) = m ((c.tc : Thread Cert.FfnS.nD Cert.FfnS.τ).loc Cert.FfnS.main_arg12)
      ∧ r.2.mem ((c.tc : Thread Cert.FfnS.nD Cert.FfnS.τ).loc Cert.FfnS.main_arg13) = m ((c.tc : Thread Cert.FfnS.nD Cert.FfnS.τ).loc Cert.FfnS.main_arg13))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
      ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9)
      ∧ r.2.mem ((c.tc : Thread Cert.FfnSIdeal.nD Cert.FfnSIdeal.τ).loc Cert.FfnSIdeal.main_arg10) = m ((c.tc : Thread Cert.FfnSIdeal.nD Cert.FfnSIdeal.τ).loc Cert.FfnSIdeal.main_arg10)
      ∧ r.2.mem ((c.tc : Thread Cert.FfnSIdeal.nD Cert.FfnSIdeal.τ).loc Cert.FfnSIdeal.main_arg11) = m ((c.tc : Thread Cert.FfnSIdeal.nD Cert.FfnSIdeal.τ).loc Cert.FfnSIdeal.main_arg11)
      ∧ r.2.mem ((c.tc : Thread Cert.FfnSIdeal.nD Cert.FfnSIdeal.τ).loc Cert.FfnSIdeal.main_arg12) = m ((c.tc : Thread Cert.FfnSIdeal.nD Cert.FfnSIdeal.τ).loc Cert.FfnSIdeal.main_arg12)
      ∧ r.2.mem ((c.tc : Thread Cert.FfnSIdeal.nD Cert.FfnSIdeal.τ).loc Cert.FfnSIdeal.main_arg13) = m ((c.tc : Thread Cert.FfnSIdeal.nD Cert.FfnSIdeal.τ).loc Cert.FfnSIdeal.main_arg13))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7)
      ∧ r.2.mem ((c.tc : Thread Cert.FfnSRefIdeal.nD Cert.FfnSRefIdeal.τ).loc Cert.FfnSRefIdeal.main_arg8) = m ((c.tc : Thread Cert.FfnSRefIdeal.nD Cert.FfnSRefIdeal.τ).loc Cert.FfnSRefIdeal.main_arg8)
      ∧ r.2.mem ((c.tc : Thread Cert.FfnSRefIdeal.nD Cert.FfnSRefIdeal.τ).loc Cert.FfnSRefIdeal.main_arg9) = m ((c.tc : Thread Cert.FfnSRefIdeal.nD Cert.FfnSRefIdeal.τ).loc Cert.FfnSRefIdeal.main_arg9)
      ∧ r.2.mem ((c.tc : Thread Cert.FfnSRefIdeal.nD Cert.FfnSRefIdeal.τ).loc Cert.FfnSRefIdeal.main_arg10) = m ((c.tc : Thread Cert.FfnSRefIdeal.nD Cert.FfnSRefIdeal.τ).loc Cert.FfnSRefIdeal.main_arg10)
      ∧ r.2.mem ((c.tc : Thread Cert.FfnSRefIdeal.nD Cert.FfnSRefIdeal.τ).loc Cert.FfnSRefIdeal.main_arg11) = m ((c.tc : Thread Cert.FfnSRefIdeal.nD Cert.FfnSRefIdeal.τ).loc Cert.FfnSRefIdeal.main_arg11)
      ∧ r.2.mem ((c.tc : Thread Cert.FfnSRefIdeal.nD Cert.FfnSRefIdeal.τ).loc Cert.FfnSRefIdeal.main_arg12) = m ((c.tc : Thread Cert.FfnSRefIdeal.nD Cert.FfnSRefIdeal.τ).loc Cert.FfnSRefIdeal.main_arg12)
      ∧ r.2.mem ((c.tc : Thread Cert.FfnSRefIdeal.nD Cert.FfnSRefIdeal.τ).loc Cert.FfnSRefIdeal.main_arg13) = m ((c.tc : Thread Cert.FfnSRefIdeal.nD Cert.FfnSRefIdeal.τ).loc Cert.FfnSRefIdeal.main_arg13))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_packed [hAttnIdeal : Cert.AttnIdeal.Facts] [hAttnRefIdeal : Cert.AttnRefIdeal.Facts] [hPre_packed : Cert.Pre_packed.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_packed m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v23)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v79) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)) →
    ∃ (v0 : (c : Dev Cert.InprojSIdeal.nD) → Buf (Elt Ideal) ((c.tc : Thread Cert.InprojSIdeal.nD Cert.InprojSIdeal.τ).loc Cert.InprojSIdeal.main_v15_0)) (v1 : (c : Dev Cert.InprojSIdeal.nD) → Buf (Elt Ideal) ((c.tc : Thread Cert.InprojSIdeal.nD Cert.InprojSIdeal.τ).loc Cert.InprojSIdeal.main_v15_1)) (v2 : (c : Dev Cert.InprojSIdeal.nD) → Buf (Elt Ideal) ((c.tc : Thread Cert.InprojSIdeal.nD Cert.InprojSIdeal.τ).loc Cert.InprojSIdeal.main_v15_2)) (v3 : (c : Dev Cert.InprojSIdeal.nD) → Buf (Elt Ideal) ((c.tc : Thread Cert.InprojSIdeal.nD Cert.InprojSIdeal.τ).loc Cert.InprojSIdeal.main_v15_3)) (v4 : (c : Dev Cert.InprojSIdeal.nD) → Buf (Elt Ideal) ((c.tc : Thread Cert.InprojSIdeal.nD Cert.InprojSIdeal.τ).loc Cert.InprojSIdeal.main_v15_4)) (v5 : (c : Dev Cert.InprojSIdeal.nD) → Buf (Elt Ideal) ((c.tc : Thread Cert.InprojSIdeal.nD Cert.InprojSIdeal.τ).loc Cert.InprojSIdeal.main_v15_5)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v15_0) = v0 c
          ∧ r.2.mem ((c.tc : Thread Cert.InprojSIdeal.nD Cert.InprojSIdeal.τ).loc Cert.InprojSIdeal.main_v15_1) = v1 c
          ∧ r.2.mem ((c.tc : Thread Cert.InprojSIdeal.nD Cert.InprojSIdeal.τ).loc Cert.InprojSIdeal.main_v15_2) = v2 c
          ∧ r.2.mem ((c.tc : Thread Cert.InprojSIdeal.nD Cert.InprojSIdeal.τ).loc Cert.InprojSIdeal.main_v15_3) = v3 c
          ∧ r.2.mem ((c.tc : Thread Cert.InprojSIdeal.nD Cert.InprojSIdeal.τ).loc Cert.InprojSIdeal.main_v15_4) = v4 c
          ∧ r.2.mem ((c.tc : Thread Cert.InprojSIdeal.nD Cert.InprojSIdeal.τ).loc Cert.InprojSIdeal.main_v15_5) = v5 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v27) = v0 c
          ∧ r.2.mem ((c.tc : Thread Cert.InprojSRefIdeal.nD Cert.InprojSRefIdeal.τ).loc Cert.InprojSRefIdeal.main_v30) = v1 c
          ∧ r.2.mem ((c.tc : Thread Cert.InprojSRefIdeal.nD Cert.InprojSRefIdeal.τ).loc Cert.InprojSRefIdeal.main_v31) = v2 c
          ∧ r.2.mem ((c.tc : Thread Cert.InprojSRefIdeal.nD Cert.InprojSRefIdeal.τ).loc Cert.InprojSRefIdeal.main_v32) = v3 c
          ∧ r.2.mem ((c.tc : Thread Cert.InprojSRefIdeal.nD Cert.InprojSRefIdeal.τ).loc Cert.InprojSRefIdeal.main_v33) = v4 c
          ∧ r.2.mem ((c.tc : Thread Cert.InprojSRefIdeal.nD Cert.InprojSRefIdeal.τ).loc Cert.InprojSRefIdeal.main_v35) = v5 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)
      ∧ m' ((c.tc : Thread Cert.FfnSRefIdeal.nD Cert.FfnSRefIdeal.τ).loc Cert.FfnSRefIdeal.main_arg8) = m ((c.tc : Thread Cert.FfnSIdeal.nD Cert.FfnSIdeal.τ).loc Cert.FfnSIdeal.main_arg8)
      ∧ m' ((c.tc : Thread Cert.FfnSRefIdeal.nD Cert.FfnSRefIdeal.τ).loc Cert.FfnSRefIdeal.main_arg9) = m ((c.tc : Thread Cert.FfnSIdeal.nD Cert.FfnSIdeal.τ).loc Cert.FfnSIdeal.main_arg9)
      ∧ m' ((c.tc : Thread Cert.FfnSRefIdeal.nD Cert.FfnSRefIdeal.τ).loc Cert.FfnSRefIdeal.main_arg10) = m ((c.tc : Thread Cert.FfnSIdeal.nD Cert.FfnSIdeal.τ).loc Cert.FfnSIdeal.main_arg10)
      ∧ m' ((c.tc : Thread Cert.FfnSRefIdeal.nD Cert.FfnSRefIdeal.τ).loc Cert.FfnSRefIdeal.main_arg11) = m ((c.tc : Thread Cert.FfnSIdeal.nD Cert.FfnSIdeal.τ).loc Cert.FfnSIdeal.main_arg11)
      ∧ m' ((c.tc : Thread Cert.FfnSRefIdeal.nD Cert.FfnSRefIdeal.τ).loc Cert.FfnSRefIdeal.main_arg12) = m ((c.tc : Thread Cert.FfnSIdeal.nD Cert.FfnSIdeal.τ).loc Cert.FfnSIdeal.main_arg12)
      ∧ m' ((c.tc : Thread Cert.FfnSRefIdeal.nD Cert.FfnSRefIdeal.τ).loc Cert.FfnSRefIdeal.main_arg13) = m ((c.tc : Thread Cert.FfnSIdeal.nD Cert.FfnSIdeal.τ).loc Cert.FfnSIdeal.main_arg13)) →
    ∃ (v0 : (c : Dev Cert.FfnSIdeal.nD) → Buf (Elt Ideal) ((c.tc : Thread Cert.FfnSIdeal.nD Cert.FfnSIdeal.τ).loc Cert.FfnSIdeal.main_v23)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v23) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
          ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9)
          ∧ r.2.mem ((c.tc : Thread Cert.FfnSIdeal.nD Cert.FfnSIdeal.τ).loc Cert.FfnSIdeal.main_arg10) = m ((c.tc : Thread Cert.FfnSIdeal.nD Cert.FfnSIdeal.τ).loc Cert.FfnSIdeal.main_arg10)
          ∧ r.2.mem ((c.tc : Thread Cert.FfnSIdeal.nD Cert.FfnSIdeal.τ).loc Cert.FfnSIdeal.main_arg11) = m ((c.tc : Thread Cert.FfnSIdeal.nD Cert.FfnSIdeal.τ).loc Cert.FfnSIdeal.main_arg11)
          ∧ r.2.mem ((c.tc : Thread Cert.FfnSIdeal.nD Cert.FfnSIdeal.τ).loc Cert.FfnSIdeal.main_arg12) = m ((c.tc : Thread Cert.FfnSIdeal.nD Cert.FfnSIdeal.τ).loc Cert.FfnSIdeal.main_arg12)
          ∧ r.2.mem ((c.tc : Thread Cert.FfnSIdeal.nD Cert.FfnSIdeal.τ).loc Cert.FfnSIdeal.main_arg13) = m ((c.tc : Thread Cert.FfnSIdeal.nD Cert.FfnSIdeal.τ).loc Cert.FfnSIdeal.main_arg13))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v79) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7)
          ∧ r.2.mem ((c.tc : Thread Cert.FfnSRefIdeal.nD Cert.FfnSRefIdeal.τ).loc Cert.FfnSRefIdeal.main_arg8) = m' ((c.tc : Thread Cert.FfnSRefIdeal.nD Cert.FfnSRefIdeal.τ).loc Cert.FfnSRefIdeal.main_arg8)
          ∧ r.2.mem ((c.tc : Thread Cert.FfnSRefIdeal.nD Cert.FfnSRefIdeal.τ).loc Cert.FfnSRefIdeal.main_arg9) = m' ((c.tc : Thread Cert.FfnSRefIdeal.nD Cert.FfnSRefIdeal.τ).loc Cert.FfnSRefIdeal.main_arg9)
          ∧ r.2.mem ((c.tc : Thread Cert.FfnSRefIdeal.nD Cert.FfnSRefIdeal.τ).loc Cert.FfnSRefIdeal.main_arg10) = m' ((c.tc : Thread Cert.FfnSRefIdeal.nD Cert.FfnSRefIdeal.τ).loc Cert.FfnSRefIdeal.main_arg10)
          ∧ r.2.mem ((c.tc : Thread Cert.FfnSRefIdeal.nD Cert.FfnSRefIdeal.τ).loc Cert.FfnSRefIdeal.main_arg11) = m' ((c.tc : Thread Cert.FfnSRefIdeal.nD Cert.FfnSRefIdeal.τ).loc Cert.FfnSRefIdeal.main_arg11)
          ∧ r.2.mem ((c.tc : Thread Cert.FfnSRefIdeal.nD Cert.FfnSRefIdeal.τ).loc Cert.FfnSRefIdeal.main_arg12) = m' ((c.tc : Thread Cert.FfnSRefIdeal.nD Cert.FfnSRefIdeal.τ).loc Cert.FfnSRefIdeal.main_arg12)
          ∧ r.2.mem ((c.tc : Thread Cert.FfnSRefIdeal.nD Cert.FfnSRefIdeal.τ).loc Cert.FfnSRefIdeal.main_arg13) = m' ((c.tc : Thread Cert.FfnSRefIdeal.nD Cert.FfnSRefIdeal.τ).loc Cert.FfnSRefIdeal.main_arg13))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInprojS : Cert.InprojS.Facts) (hInprojSIdeal : Cert.InprojSIdeal.Facts) (hInprojSRefIdeal : Cert.InprojSRefIdeal.Facts) (hFfnS : Cert.FfnS.Facts) (hFfnSIdeal : Cert.FfnSIdeal.Facts) (hFfnSRefIdeal : Cert.FfnSRefIdeal.Facts) (hPre_packed : Cert.Pre_packed.Facts),
    quiescent_Attn (hAttn := hAttn)
    ∧ quiescent_AttnIdeal (hAttnIdeal := hAttnIdeal)
    ∧ quiescent_AttnIdeal_pre_packed (hAttnIdeal := hAttnIdeal) (hPre_packed := hPre_packed)
    ∧ quiescent_AttnRefIdeal (hAttnRefIdeal := hAttnRefIdeal)
    ∧ quiescent_AttnRefIdeal_pre_packed (hAttnRefIdeal := hAttnRefIdeal) (hPre_packed := hPre_packed)
    ∧ quiescent_Ffn (hFfn := hFfn)
    ∧ quiescent_FfnIdeal (hFfnIdeal := hFfnIdeal)
    ∧ quiescent_FfnRefIdeal (hFfnRefIdeal := hFfnRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_Attn_AttnIdeal
    ∧ algebraic_AttnIdeal_AttnRefIdeal_pre_packed (hAttnIdeal := hAttnIdeal) (hAttnRefIdeal := hAttnRefIdeal) (hPre_packed := hPre_packed)
    ∧ preserves_Ffn_FfnIdeal
    ∧ algebraic_FfnIdeal_FfnRefIdeal (hFfnIdeal := hFfnIdeal) (hFfnRefIdeal := hFfnRefIdeal)
    ∧ preserves_InprojS_InprojSIdeal
    ∧ algebraic_InprojSIdeal_InprojSRefIdeal (hInprojSIdeal := hInprojSIdeal) (hInprojSRefIdeal := hInprojSRefIdeal)
    ∧ preserves_FfnS_FfnSIdeal
    ∧ algebraic_FfnSIdeal_FfnSRefIdeal (hFfnSIdeal := hFfnSIdeal) (hFfnSRefIdeal := hFfnSRefIdeal)
-- ==== Pre_packed.lean ====
abbrev S1024x16384 : Shape := ⟨2, ![1024, 16384]⟩
abbrev S16384x1024 : Shape := ⟨2, ![16384, 1024]⟩
abbrev S8x640x2048 : Shape := ⟨3, ![8, 640, 2048]⟩
abbrev S4x8x16384 : Shape := ⟨3, ![4, 8, 16384]⟩
abbrev S8x128 : Shape := ⟨2, ![8, 128]⟩
abbrev S8x8x80x2048 : Shape := ⟨4, ![8, 8, 80, 2048]⟩
abbrev S8x8x1x2048 : Shape := ⟨4, ![8, 8, 1, 2048]⟩
abbrev S8x8x2048 : Shape := ⟨3, ![8, 8, 2048]⟩
abbrev S_ : Shape := ⟨0, ![]⟩

class Facts : Prop where
  shapeCasts_S8x640x2048_S8x8x80x2048 : S8x640x2048.ShapeCasts S8x8x80x2048
  slices_S8x8x80x2048_S8x8x1x2048_0_0_64_0 : S8x8x80x2048.Slices ![0, 0, 64, 0] S8x8x1x2048
  shapeCasts_S8x8x1x2048_S8x8x2048 : S8x8x1x2048.ShapeCasts S8x8x2048
  bitsLt_bf16_f32 : FTy.bits .bf16 < FTy.bits .f32
  bcast_S_S8x8x2048 : S_.BroadcastsInDim S8x8x2048 (![] : Fin 0 → Fin S8x8x2048.rank)
  reducesTo_S8x8x2048_S_d0_1_2 : S8x8x2048.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S4x8x16384 : S_.BroadcastsInDim S4x8x16384 (![] : Fin 0 → Fin S4x8x16384.rank)
  reducesTo_S4x8x16384_S_d0_1_2 : S4x8x16384.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg3 : FVec F S4x8x16384 .f32) (main_arg4 : FVec F S8x128 .f32) (main_v6 : IVec S_ 1) (main_v17 : IVec S_ 1) : IVec S_ 1 :=
  let main_v18 : FVec F S4x8x16384 .f32 := Host.absf main_arg3
  let main_cst_4 : FVec F S_ .f32 := constant S_ .f32 0x7F800000#32
  let main_v19 : FVec F S4x8x16384 .f32 := broadcastInDim S4x8x16384 ![] bcast_S_S4x8x16384 main_cst_4
  let main_v20 : IVec S4x8x16384 1 := cmpf .olt main_v18 main_v19
  let main_c_5 : IVec S_ 1 := constantI S_ 1 1#1
  let main_v21 : IVec S_ 1 := (fun x v => Host.reduce IntOp.andi x v reducesTo_S4x8x16384_S_d0_1_2 h_S_) main_v20 main_c_5
  let main_v22 : IVec S_ 1 := andi main_v17 main_v21
  let main_v23 : FVec F S8x128 .f32 := Host.absf main_arg4
  let main_cst_6 : FVec F S_ .f32 := constant S_ .f32 0x7F800000#32
  let main_v24 : FVec F S8x128 .f32 := broadcastInDim S8x128 ![] bcast_S_S8x128 main_cst_6
  let main_v25 : IVec S8x128 1 := cmpf .olt main_v23 main_v24
  let main_c_7 : IVec S_ 1 := constantI S_ 1 1#1
  let main_v26 : IVec S_ 1 := (fun x v => Host.reduce IntOp.andi x v reducesTo_S8x128_S_d0_1 h_S_) main_v25 main_c_7
  let main_v27 : IVec S_ 1 := andi main_v22 main_v26
  let main_cst_8 : FVec F S_ .f32 := constant S_ .f32 0x00000000#32
  let main_v28 : FVec F S8x128 .f32 := broadcastInDim S8x128 ![] bcast_S_S8x128 main_cst_8
  let main_v29 : IVec S8x128 1 := cmpf .oge main_arg4 main_v28
  let main_c_9 : IVec S_ 1 := constantI S_ 1 1#1
  let main_v30 : IVec S_ 1 := (fun x v => Host.reduce IntOp.andi x v reducesTo_S8x128_S_d0_1 h_S_) main_v29 main_c_9
  let main_v31 : IVec S_ 1 := andi main_v27 main_v30
  let main_v32 : IVec S_ 1 := andi main_v31 main_v6
  main_v32

def fn {F : FTy → Type} [FloatOps F] (main_arg0 : FVec F S1024x16384 .bf16) (main_arg1 : FVec F S16384x1024 .bf16) (main_arg2 : FVec F S8x640x2048 .bf16) (main_arg3 : FVec F S4x8x16384 .f32) (main_arg4 : FVec F S8x128 .f32) : IVec S_ 1 :=
  let main_v0 : FVec F S8x8x80x2048 .bf16 := shapeCast S8x8x80x2048 main_arg2 shapeCasts_S8x640x2048_S8x8x80x2048
  let main_v1 : FVec F S8x8x1x2048 .bf16 := (extractStridedSlice S8x8x1x2048 ![0, 0, 64, 0] · slices_S8x8x80x2048_S8x8x1x2048_0_0_64_0) main_v0
  let main_v2 : FVec F S8x8x2048 .bf16 := shapeCast S8x8x2048 main_v1 shapeCasts_S8x8x1x2048_S8x8x2048
  let main_v3 : FVec F S8x8x2048 .f32 := (extf .f32 · bitsLt_bf16_f32) main_v2
  let main_cst : FVec F S_ .f32 := constant S_ .f32 0x3F800000#32
  let main_v4 : FVec F S8x8x2048 .f32 := broadcastInDim S8x8x2048 ![] bcast_S_S8x8x2048 main_cst
  let main_v5 : IVec S8x8x2048 1 := cmpf .oeq main_v3 main_v4
  let main_c : IVec S_ 1 := constantI S_ 1 1#1
  let main_v6 : IVec S_ 1 := (fun x v => Host.reduce IntOp.andi x v reducesTo_S8x8x2048_S_d0_1_2 h_S_) main_v5 main_c
  let main_v7 : FVec F S1024x16384 .f32 := (extf .f32 · bitsLt_bf16_f32) main_arg0
  let main_v8 : FVec F S1024x16384 .f32 := Host.absf main_v7
  let main_cst_0 : FVec F S_ .f32 := constant S_ .f32 0x7F800000#32
  let main_v9 : FVec F S1024x16384 .f32 := broadcastInDim S1024x16384 ![] bcast_S_S1024x16384 main_cst_0
  let main_v10 : IVec S1024x16384 1 := cmpf .olt main_v8 main_v9
  let main_c_1 : IVec S_ 1 := constantI S_ 1 1#1
  let main_v11 : IVec S_ 1 := (fun x v => Host.reduce IntOp.andi x v reducesTo_S1024x16384_S_d0_1 h_S_) main_v10 main_c_1
  let main_v12 : FVec F S16384x1024 .f32 := (extf .f32 · bitsLt_bf16_f32) main_arg1
  let main_v13 : FVec F S16384x1024 .f32 := Host.absf main_v12
  let main_cst_2 : FVec F S_ .f32 := constant S_ .f32 0x7F800000#32
  let main_v14 : FVec F S16384x1024 .f32 := broadcastInDim S16384x1024 ![] bcast_S_S16384x1024 main_cst_2
  let main_v15 : IVec S16384x1024 1 := cmpf .olt main_v13 main_v14
  let main_c_3 : IVec S_ 1 := constantI S_ 1 1#1
  let main_v16 : IVec S_ 1 := (fun x v => Host.reduce IntOp.andi x v reducesTo_S16384x1024_S_d0_1 h_S_) main_v15 main_c_3
  let main_v17 : IVec S_ 1 := andi main_v11 main_v16
  fn_part1 (F := F) main_arg3 main_arg4 main_v6 main_v17
-- ==== Attn.lean ====
abbrev S1024x16384 : Shape := ⟨2, ![1024, 16384]⟩
abbrev S16384x1024 : Shape := ⟨2, ![16384, 1024]⟩
abbrev S8x640x2048 : Shape := ⟨3, ![8, 640, 2048]⟩
abbrev S4x8x16384 : Shape := ⟨3, ![4, 8, 16384]⟩
abbrev S8x128 : Shape := ⟨2, ![8, 128]⟩
abbrev S16384x512 : Shape := ⟨2, ![16384, 512]⟩
abbrev S256x2048 : Shape := ⟨2, ![256, 2048]⟩
abbrev S16384x256 : Shape := ⟨2, ![16384, 256]⟩
abbrev S8x160x2048 : Shape := ⟨3, ![8, 160, 2048]⟩
abbrev S1x8x2048 : Shape := ⟨3, ![1, 8, 2048]⟩
abbrev S2048x128 : Shape := ⟨2, ![2048, 128]⟩
abbrev S2x8x8x256 : Shape := ⟨4, ![2, 8, 8, 256]⟩
abbrev S2x8x80x256 : Shape := ⟨4, ![2, 8, 80, 256]⟩
abbrev S1x128 : Shape := ⟨2, ![1, 128]⟩
abbrev S1x1 : Shape := ⟨2, ![1, 1]⟩
abbrev S1x1x256 : Shape := ⟨3, ![1, 1, 256]⟩
abbrev S1x256 : Shape := ⟨2, ![1, 256]⟩
abbrev S8x256 : Shape := ⟨2, ![8, 256]⟩
abbrev S1x1x8x256 : Shape := ⟨4, ![1, 1, 8, 256]⟩
abbrev S80x256 : Shape := ⟨2, ![80, 256]⟩
abbrev S1x1x80x256 : Shape := ⟨4, ![1, 1, 80, 256]⟩
abbrev S128x256 : Shape := ⟨2, ![128, 256]⟩
abbrev S2048x256 : Shape := ⟨2, ![2048, 256]⟩
abbrev S1x80x2048 : Shape := ⟨3, ![1, 80, 2048]⟩
abbrev S80x2048 : Shape := ⟨2, ![80, 2048]⟩
abbrev S256x128 : Shape := ⟨2, ![256, 128]⟩
abbrev S256x256 : Shape := ⟨2, ![256, 256]⟩
abbrev S512x128 : Shape := ⟨2, ![512, 128]⟩
abbrev S512x256 : Shape := ⟨2, ![512, 256]⟩
abbrev S768x128 : Shape := ⟨2, ![768, 128]⟩
abbrev S768x256 : Shape := ⟨2, ![768, 256]⟩
abbrev S1x80x256 : Shape := ⟨3, ![1, 80, 256]⟩
abbrev S1024x128 : Shape := ⟨2, ![1024, 128]⟩
abbrev S1024x256 : Shape := ⟨2, ![1024, 256]⟩
abbrev S1x80x512 : Shape := ⟨3, ![1, 80, 512]⟩
abbrev S80x512 : Shape := ⟨2, ![80, 512]⟩
abbrev S1280x128 : Shape := ⟨2, ![1280, 128]⟩
abbrev S1280x256 : Shape := ⟨2, ![1280, 256]⟩
abbrev S1x80x768 : Shape := ⟨3, ![1, 80, 768]⟩
abbrev S80x768 : Shape := ⟨2, ![80, 768]⟩
abbrev S1536x128 : Shape := ⟨2, ![1536, 128]⟩
abbrev S1536x256 : Shape := ⟨2, ![1536, 256]⟩
abbrev S1x80x1024 : Shape := ⟨3, ![1, 80, 1024]⟩
abbrev S80x1024 : Shape := ⟨2, ![80, 1024]⟩
abbrev S1792x128 : Shape := ⟨2, ![1792, 128]⟩
abbrev S1792x256 : Shape := ⟨2, ![1792, 256]⟩
abbrev S1x80x1280 : Shape := ⟨3, ![1, 80, 1280]⟩
abbrev S80x1280 : Shape := ⟨2, ![80, 1280]⟩
abbrev S1x80x1536 : Shape := ⟨3, ![1, 80, 1536]⟩
abbrev S80x1536 : Shape := ⟨2, ![80, 1536]⟩
abbrev S1x80x1792 : Shape := ⟨3, ![1, 80, 1792]⟩
abbrev S80x1792 : Shape := ⟨2, ![80, 1792]⟩
abbrev S1 : Shape := ⟨1, ![1]⟩
abbrev S1x1x1 : Shape := ⟨3, ![1, 1, 1]⟩
abbrev S256 : Shape := ⟨1, ![256]⟩
abbrev S64x256 : Shape := ⟨2, ![64, 256]⟩

abbrev nBuf : Space → Nat
  | .hbm => 6
  | .vmem => 13
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S8x640x2048, .bf16⟩
  | .hbm, ⟨3, _⟩ => ⟨S4x8x16384, .f32⟩
  | .hbm, ⟨4, _⟩ => ⟨S8x128, .f32⟩
  | .hbm, ⟨5, _⟩ => ⟨S16384x512, .bf16⟩
  | .local _ .vmem, ⟨0, _⟩ => ⟨S256x2048, .bf16⟩
  | .local _ .vmem, ⟨1, _⟩ => ⟨S256x2048, .bf16⟩
  | .local _ .vmem, ⟨2, _⟩ => ⟨S16384x256, .bf16⟩
  | .local _ .vmem, ⟨3, _⟩ => ⟨S16384x256, .bf16⟩
  | .local _ .vmem, ⟨4, _⟩ => ⟨S8x160x2048, .bf16⟩
  | .local _ .vmem, ⟨5, _⟩ => ⟨S8x160x2048, .bf16⟩
  | .local _ .vmem, ⟨6, _⟩ => ⟨S1x8x2048, .f32⟩
  | .local _ .vmem, ⟨7, _⟩ => ⟨S1x8x2048, .f32⟩
  | .local _ .vmem, ⟨8, _⟩ => ⟨S8x128, .f32⟩
  | .local _ .vmem, ⟨9, _⟩ => ⟨S2048x128, .bf16⟩
  | .local _ .vmem, ⟨10, _⟩ => ⟨S2048x128, .bf16⟩
  | .local _ .vmem, ⟨11, _⟩ => ⟨S2x8x8x256, .f32⟩
  | .local _ .vmem, ⟨12, _⟩ => ⟨S2x8x80x256, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_off1 (i : grid0.Coords) (c0_i32_30 : BitVec 32) : Fin 2 → Nat :=
  let c2_i32 : BitVec 32 := 2#32
  let arg0 : BitVec 32 := BitVec.ofNat 32 (i 0).val
  let v32 : BitVec 32 := Scalar.muli c2_i32 arg0
  let v33 : BitVec 32 := Scalar.addi v32 c0_i32_30
  let v34 : Index := Scalar.indexCast v33
  let c0 : Index := 0#32
  ![v34.toNat, 0]
@[reducible] def k0_t1_loop (i : grid0.Coords) : Scf.Loop 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_217 : BitVec 32 := 1#32
  ⟨c0_i32_215, v261, c1_i32_217⟩
def k0_mult1 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_708 : BitVec 32 := 2048#32
  let v941 : BitVec 32 := Scalar.muli arg10 c2048_i32_708
  v941
def k0_off2 (i : grid0.Coords) (k0_t1 : Fin (k0_t1_loop i).trips) : Fin 2 → Nat :=
  let c0_i32_215 : BitVec 32 := 0#32
  let c1_i32_217 : BitVec 32 := 1#32
  let arg10 : BitVec 32 := Scf.iv c0_i32_215 c1_i32_217 k0_t1
  let c2048_i32_708 : BitVec 32 := 2048#32
  let v941 : BitVec 32 := Scalar.muli arg10 c2048_i32_708
  let v942 : BitVec 32 := v941
  let v943 : Index := Scalar.indexCast v942
  let c0_709 : Index := 0#32
  ![v943.toNat, 0]
def k0_mult2 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_713 : BitVec 32 := 2048#32
  let v947 : BitVec 32 := Scalar.muli arg10 c2048_i32_713
  v947
def k0_off3 (i : grid0.Coords) (k0_t1 : Fin (k0_t1_loop i).trips) : Fin 2 → Nat :=
  let c0_i32_215 : BitVec 32 := 0#32
  let c1_i32_217 : BitVec 32 := 1#32
  let arg10 : BitVec 32 := Scf.iv c0_i32_215 c1_i32_217 k0_t1
  let c2048_i32_713 : BitVec 32 := 2048#32
  let v947 : BitVec 32 := Scalar.muli arg10 c2048_i32_713
  let v948 : BitVec 32 := v947
  let v949 : Index := Scalar.indexCast v948
  let c128_714 : Index := 128#32
  ![v949.toNat, 128]
def k0_mult3 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_718 : BitVec 32 := 2048#32
  let v953 : BitVec 32 := Scalar.muli arg10 c2048_i32_718
  v953
def k0_mult4 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_723 : BitVec 32 := 2048#32
  let v959 : BitVec 32 := Scalar.muli arg10 c2048_i32_723
  v959
def k0_mult5 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_732 : BitVec 32 := 2048#32
  let v972 : BitVec 32 := Scalar.muli arg10 c2048_i32_732
  v972
def k0_off4 (i : grid0.Coords) (k0_t1 : Fin (k0_t1_loop i).trips) : Fin 3 → Nat :=
  let c0_i32_215 : BitVec 32 := 0#32
  let c1_i32_217 : BitVec 32 := 1#32
  let arg10 : BitVec 32 := Scf.iv c0_i32_215 c1_i32_217 k0_t1
  let v985 : Index := Scalar.indexCast arg10
  let c0_741 : Index := 0#32
  let c0_742 : Index := 0#32
  ![v985.toNat, 0, 0]
def k0_mult6 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_752 : BitVec 32 := 2048#32
  let v995 : BitVec 32 := Scalar.muli arg10 c2048_i32_752
  v995
def k0_off5 (i : grid0.Coords) (k0_t1 : Fin (k0_t1_loop i).trips) : Fin 3 → Nat :=
  let c0_i32_215 : BitVec 32 := 0#32
  let c1_i32_217 : BitVec 32 := 1#32
  let arg10 : BitVec 32 := Scf.iv c0_i32_215 c1_i32_217 k0_t1
  let v1008 : Index := Scalar.indexCast arg10
  let c80_761 : Index := 80#32
  let c0_762 : Index := 0#32
  ![v1008.toNat, 80, 0]
def k0_mult7 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_772 : BitVec 32 := 2048#32
  let v1018 : BitVec 32 := Scalar.muli arg10 c2048_i32_772
  v1018
def k0_mult8 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_792 : BitVec 32 := 2048#32
  let v1041 : BitVec 32 := Scalar.muli arg10 c2048_i32_792
  v1041
def k0_mult9 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_812 : BitVec 32 := 2048#32
  let v1064 : BitVec 32 := Scalar.muli arg10 c2048_i32_812
  v1064
def k0_mult10 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_832 : BitVec 32 := 2048#32
  let v1087 : BitVec 32 := Scalar.muli arg10 c2048_i32_832
  v1087
def k0_mult11 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_852 : BitVec 32 := 2048#32
  let v1110 : BitVec 32 := Scalar.muli arg10 c2048_i32_852
  v1110
def k0_mult12 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_872 : BitVec 32 := 2048#32
  let v1133 : BitVec 32 := Scalar.muli arg10 c2048_i32_872
  v1133
def k0_mult13 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_892 : BitVec 32 := 2048#32
  let v1156 : BitVec 32 := Scalar.muli arg10 c2048_i32_892
  v1156
def k0_mult14 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_912 : BitVec 32 := 2048#32
  let v1179 : BitVec 32 := Scalar.muli arg10 c2048_i32_912
  v1179
def k0_mult15 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_932 : BitVec 32 := 2048#32
  let v1202 : BitVec 32 := Scalar.muli arg10 c2048_i32_932
  v1202
def k0_mult16 (i : grid0.Coords) (k0_t1 : Fin (k0_t1_loop i).trips) : BitVec 32 :=
  let c0_i32_215 : BitVec 32 := 0#32
  let c1_i32_217 : BitVec 32 := 1#32
  let arg10 : BitVec 32 := Scf.iv c0_i32_215 c1_i32_217 k0_t1
  let c2048_i32_952 : BitVec 32 := 2048#32
  let v1225 : BitVec 32 := Scalar.muli arg10 c2048_i32_952
  v1225
@[reducible] def k0_t2_loop (i : grid0.Coords) : Scf.Loop 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let v258 : BitVec 32 := Scalar.addi c0_i32_215 v257
  let c1_i32_218 : BitVec 32 := 1#32
  ⟨v261, v258, c1_i32_218⟩
def k0_mult17 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_708 : BitVec 32 := 2048#32
  let v941 : BitVec 32 := Scalar.muli arg10 c2048_i32_708
  v941
def k0_off6 (i : grid0.Coords) (k0_t2 : Fin (k0_t2_loop i).trips) : Fin 2 → Nat :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_708 : BitVec 32 := 2048#32
  let v941 : BitVec 32 := Scalar.muli arg10 c2048_i32_708
  let v942 : BitVec 32 := v941
  let v943 : Index := Scalar.indexCast v942
  let c0_709 : Index := 0#32
  ![v943.toNat, 0]
def k0_mult18 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_713 : BitVec 32 := 2048#32
  let v947 : BitVec 32 := Scalar.muli arg10 c2048_i32_713
  v947
def k0_off7 (i : grid0.Coords) (k0_t2 : Fin (k0_t2_loop i).trips) : Fin 2 → Nat :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_713 : BitVec 32 := 2048#32
  let v947 : BitVec 32 := Scalar.muli arg10 c2048_i32_713
  let v948 : BitVec 32 := v947
  let v949 : Index := Scalar.indexCast v948
  let c128_714 : Index := 128#32
  ![v949.toNat, 128]
def k0_mult19 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_718 : BitVec 32 := 2048#32
  let v953 : BitVec 32 := Scalar.muli arg10 c2048_i32_718
  v953
def k0_mult20 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_723 : BitVec 32 := 2048#32
  let v959 : BitVec 32 := Scalar.muli arg10 c2048_i32_723
  v959
def k0_mult21 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_732 : BitVec 32 := 2048#32
  let v972 : BitVec 32 := Scalar.muli arg10 c2048_i32_732
  v972
def k0_off8 (i : grid0.Coords) (k0_t2 : Fin (k0_t2_loop i).trips) : Fin 3 → Nat :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let v985 : Index := Scalar.indexCast arg10
  let c0_741 : Index := 0#32
  let c0_742 : Index := 0#32
  ![v985.toNat, 0, 0]
def k0_mult22 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_752 : BitVec 32 := 2048#32
  let v995 : BitVec 32 := Scalar.muli arg10 c2048_i32_752
  v995
def k0_off9 (i : grid0.Coords) (k0_t2 : Fin (k0_t2_loop i).trips) : Fin 3 → Nat :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let v1008 : Index := Scalar.indexCast arg10
  let c80_761 : Index := 80#32
  let c0_762 : Index := 0#32
  ![v1008.toNat, 80, 0]
def k0_mult23 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_772 : BitVec 32 := 2048#32
  let v1018 : BitVec 32 := Scalar.muli arg10 c2048_i32_772
  v1018
def k0_mult24 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_792 : BitVec 32 := 2048#32
  let v1041 : BitVec 32 := Scalar.muli arg10 c2048_i32_792
  v1041
def k0_mult25 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_812 : BitVec 32 := 2048#32
  let v1064 : BitVec 32 := Scalar.muli arg10 c2048_i32_812
  v1064
def k0_mult26 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_832 : BitVec 32 := 2048#32
  let v1087 : BitVec 32 := Scalar.muli arg10 c2048_i32_832
  v1087
def k0_mult27 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_852 : BitVec 32 := 2048#32
  let v1110 : BitVec 32 := Scalar.muli arg10 c2048_i32_852
  v1110
def k0_mult28 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_872 : BitVec 32 := 2048#32
  let v1133 : BitVec 32 := Scalar.muli arg10 c2048_i32_872
  v1133
def k0_mult29 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_892 : BitVec 32 := 2048#32
  let v1156 : BitVec 32 := Scalar.muli arg10 c2048_i32_892
  v1156
def k0_mult30 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_912 : BitVec 32 := 2048#32
  let v1179 : BitVec 32 := Scalar.muli arg10 c2048_i32_912
  v1179
def k0_mult31 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_932 : BitVec 32 := 2048#32
  let v1202 : BitVec 32 := Scalar.muli arg10 c2048_i32_932
  v1202
def k0_mult32 (i : grid0.Coords) (k0_t2 : Fin (k0_t2_loop i).trips) : BitVec 32 :=
  let c0_i32_215 : BitVec 32 := 0#32
  let c1_i32_213 : BitVec 32 := 1#32
  let arg1 : BitVec 32 := BitVec.ofNat 32 (i 1).val
  let v256 : BitVec 32 := Scalar.muli c1_i32_213 arg1
  let v257 : BitVec 32 := Scalar.subi v256 c0_i32_215
  let c1_i32_216 : BitVec 32 := 1#32
  let v259 : BitVec 32 := Scalar.divsi v257 c1_i32_216
  let v260 : BitVec 32 := Scalar.muli v259 c1_i32_216
  let v261 : BitVec 32 := Scalar.addi c0_i32_215 v260
  let c1_i32_218 : BitVec 32 := 1#32
  let arg10 : BitVec 32 := Scf.iv v261 c1_i32_218 k0_t2
  let c2048_i32_952 : BitVec 32 := 2048#32
  let v1225 : BitVec 32 := Scalar.muli arg10 c2048_i32_952
  v1225
def k0_mult33 (i : grid0.Coords) : BitVec 32 :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let c2048_i32 : BitVec 32 := 2048#32
  let v262 : BitVec 32 := Scalar.muli v1 c2048_i32
  v262
def k0_off10 (i : grid0.Coords) : Fin 2 → Nat :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let c2048_i32 : BitVec 32 := 2048#32
  let v262 : BitVec 32 := Scalar.muli v1 c2048_i32
  let v263 : BitVec 32 := v262
  let v264 : Index := Scalar.indexCast v263
  let c0_219 : Index := 0#32
  ![v264.toNat, 0]
def k0_mult34 (i : grid0.Coords) : BitVec 32 :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let c2048_i32_225 : BitVec 32 := 2048#32
  let v275 : BitVec 32 := Scalar.muli v3 c2048_i32_225
  v275
def k0_off11 (i : grid0.Coords) : Fin 2 → Nat :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let c2048_i32_225 : BitVec 32 := 2048#32
  let v275 : BitVec 32 := Scalar.muli v3 c2048_i32_225
  let v276 : BitVec 32 := v275
  let v277 : Index := Scalar.indexCast v276
  let c128 : Index := 128#32
  ![v277.toNat, 128]
def k0_mult35 (i : grid0.Coords) : BitVec 32 :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let c2048_i32_231 : BitVec 32 := 2048#32
  let v288 : BitVec 32 := Scalar.muli v5 c2048_i32_231
  v288
def k0_off12 (i : grid0.Coords) : Fin 2 → Nat :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let c2048_i32_231 : BitVec 32 := 2048#32
  let v288 : BitVec 32 := Scalar.muli v5 c2048_i32_231
  let v289 : BitVec 32 := v288
  let v290 : Index := Scalar.indexCast v289
  let c0_232 : Index := 0#32
  ![v290.toNat, 0]
def k0_mult36 (i : grid0.Coords) : BitVec 32 :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let c2048_i32_237 : BitVec 32 := 2048#32
  let v301 : BitVec 32 := Scalar.muli v7 c2048_i32_237
  v301
def k0_off13 (i : grid0.Coords) : Fin 2 → Nat :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let c2048_i32_237 : BitVec 32 := 2048#32
  let v301 : BitVec 32 := Scalar.muli v7 c2048_i32_237
  let v302 : BitVec 32 := v301
  let v303 : Index := Scalar.indexCast v302
  let c128_238 : Index := 128#32
  ![v303.toNat, 128]
def k0_mult37 (i : grid0.Coords) : BitVec 32 :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let c2048_i32_248 : BitVec 32 := 2048#32
  let v321 : BitVec 32 := Scalar.muli v9 c2048_i32_248
  v321
def k0_off14 (i : grid0.Coords) : Fin 2 → Nat :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let c2048_i32_248 : BitVec 32 := 2048#32
  let v321 : BitVec 32 := Scalar.muli v9 c2048_i32_248
  let v322 : BitVec 32 := v321
  let v323 : Index := Scalar.indexCast v322
  let c0_249 : Index := 0#32
  ![v323.toNat, 0]
def k0_off15 (i : grid0.Coords) : Fin 3 → Nat :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let v341 : Index := Scalar.indexCast v1
  let c0_258 : Index := 0#32
  let c0_259 : Index := 0#32
  ![v341.toNat, 0, 0]
def k0_mult38 (i : grid0.Coords) : BitVec 32 :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let c2048_i32_269 : BitVec 32 := 2048#32
  let v351 : BitVec 32 := Scalar.muli v11 c2048_i32_269
  v351
def k0_off16 (i : grid0.Coords) : Fin 2 → Nat :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let c2048_i32_269 : BitVec 32 := 2048#32
  let v351 : BitVec 32 := Scalar.muli v11 c2048_i32_269
  let v352 : BitVec 32 := v351
  let v353 : Index := Scalar.indexCast v352
  let c128_270 : Index := 128#32
  ![v353.toNat, 128]
def k0_off17 (i : grid0.Coords) : Fin 3 → Nat :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let v371 : Index := Scalar.indexCast v3
  let c80 : Index := 80#32
  let c0_280 : Index := 0#32
  ![v371.toNat, 80, 0]
def k0_mult39 (i : grid0.Coords) : BitVec 32 :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let c2048_i32_290 : BitVec 32 := 2048#32
  let v381 : BitVec 32 := Scalar.muli v13 c2048_i32_290
  v381
def k0_off18 (i : grid0.Coords) : Fin 2 → Nat :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let c2048_i32_290 : BitVec 32 := 2048#32
  let v381 : BitVec 32 := Scalar.muli v13 c2048_i32_290
  let v382 : BitVec 32 := v381
  let v383 : Index := Scalar.indexCast v382
  let c0_291 : Index := 0#32
  ![v383.toNat, 0]
def k0_off19 (i : grid0.Coords) : Fin 3 → Nat :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let v401 : Index := Scalar.indexCast v5
  let c0_300 : Index := 0#32
  let c0_301 : Index := 0#32
  ![v401.toNat, 0, 0]
def k0_mult40 (i : grid0.Coords) : BitVec 32 :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let c2048_i32_311 : BitVec 32 := 2048#32
  let v411 : BitVec 32 := Scalar.muli v15 c2048_i32_311
  v411
def k0_off20 (i : grid0.Coords) : Fin 2 → Nat :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let c2048_i32_311 : BitVec 32 := 2048#32
  let v411 : BitVec 32 := Scalar.muli v15 c2048_i32_311
  let v412 : BitVec 32 := v411
  let v413 : Index := Scalar.indexCast v412
  let c128_312 : Index := 128#32
  ![v413.toNat, 128]
def k0_off21 (i : grid0.Coords) : Fin 3 → Nat :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let v431 : Index := Scalar.indexCast v7
  let c80_322 : Index := 80#32
  let c0_323 : Index := 0#32
  ![v431.toNat, 80, 0]
def k0_mult41 (i : grid0.Coords) : BitVec 32 :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let c2048_i32_333 : BitVec 32 := 2048#32
  let v441 : BitVec 32 := Scalar.muli v17 c2048_i32_333
  v441
def k0_off22 (i : grid0.Coords) : Fin 2 → Nat :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let c2048_i32_333 : BitVec 32 := 2048#32
  let v441 : BitVec 32 := Scalar.muli v17 c2048_i32_333
  let v442 : BitVec 32 := v441
  let v443 : Index := Scalar.indexCast v442
  let c0_334 : Index := 0#32
  ![v443.toNat, 0]
def k0_off23 (i : grid0.Coords) : Fin 3 → Nat :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let v461 : Index := Scalar.indexCast v9
  let c0_343 : Index := 0#32
  let c0_344 : Index := 0#32
  ![v461.toNat, 0, 0]
def k0_mult42 (i : grid0.Coords) : BitVec 32 :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let c2048_i32_354 : BitVec 32 := 2048#32
  let v471 : BitVec 32 := Scalar.muli v19 c2048_i32_354
  v471
def k0_off24 (i : grid0.Coords) : Fin 2 → Nat :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let c2048_i32_354 : BitVec 32 := 2048#32
  let v471 : BitVec 32 := Scalar.muli v19 c2048_i32_354
  let v472 : BitVec 32 := v471
  let v473 : Index := Scalar.indexCast v472
  let c128_355 : Index := 128#32
  ![v473.toNat, 128]
def k0_off25 (i : grid0.Coords) : Fin 3 → Nat :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let v491 : Index := Scalar.indexCast v11
  let c80_365 : Index := 80#32
  let c0_366 : Index := 0#32
  ![v491.toNat, 80, 0]
def k0_mult43 (i : grid0.Coords) : BitVec 32 :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let c2048_i32_376 : BitVec 32 := 2048#32
  let v501 : BitVec 32 := Scalar.muli v21 c2048_i32_376
  v501
def k0_off26 (i : grid0.Coords) : Fin 2 → Nat :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let c2048_i32_376 : BitVec 32 := 2048#32
  let v501 : BitVec 32 := Scalar.muli v21 c2048_i32_376
  let v502 : BitVec 32 := v501
  let v503 : Index := Scalar.indexCast v502
  let c0_377 : Index := 0#32
  ![v503.toNat, 0]
def k0_off27 (i : grid0.Coords) : Fin 3 → Nat :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let v521 : Index := Scalar.indexCast v13
  let c0_386 : Index := 0#32
  let c0_387 : Index := 0#32
  ![v521.toNat, 0, 0]
def k0_mult44 (i : grid0.Coords) : BitVec 32 :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let c2048_i32_397 : BitVec 32 := 2048#32
  let v531 : BitVec 32 := Scalar.muli v23 c2048_i32_397
  v531
def k0_off28 (i : grid0.Coords) : Fin 2 → Nat :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let c2048_i32_397 : BitVec 32 := 2048#32
  let v531 : BitVec 32 := Scalar.muli v23 c2048_i32_397
  let v532 : BitVec 32 := v531
  let v533 : Index := Scalar.indexCast v532
  let c128_398 : Index := 128#32
  ![v533.toNat, 128]
def k0_off29 (i : grid0.Coords) : Fin 3 → Nat :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let v551 : Index := Scalar.indexCast v15
  let c80_408 : Index := 80#32
  let c0_409 : Index := 0#32
  ![v551.toNat, 80, 0]
def k0_mult45 (i : grid0.Coords) : BitVec 32 :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let c2048_i32_419 : BitVec 32 := 2048#32
  let v561 : BitVec 32 := Scalar.muli v25 c2048_i32_419
  v561
def k0_off30 (i : grid0.Coords) : Fin 2 → Nat :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let c2048_i32_419 : BitVec 32 := 2048#32
  let v561 : BitVec 32 := Scalar.muli v25 c2048_i32_419
  let v562 : BitVec 32 := v561
  let v563 : Index := Scalar.indexCast v562
  let c0_420 : Index := 0#32
  ![v563.toNat, 0]
def k0_off31 (i : grid0.Coords) : Fin 3 → Nat :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let v581 : Index := Scalar.indexCast v17
  let c0_429 : Index := 0#32
  let c0_430 : Index := 0#32
  ![v581.toNat, 0, 0]
def k0_mult46 (i : grid0.Coords) : BitVec 32 :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let c2048_i32_440 : BitVec 32 := 2048#32
  let v591 : BitVec 32 := Scalar.muli v27 c2048_i32_440
  v591
def k0_off32 (i : grid0.Coords) : Fin 2 → Nat :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let c2048_i32_440 : BitVec 32 := 2048#32
  let v591 : BitVec 32 := Scalar.muli v27 c2048_i32_440
  let v592 : BitVec 32 := v591
  let v593 : Index := Scalar.indexCast v592
  let c128_441 : Index := 128#32
  ![v593.toNat, 128]
def k0_off33 (i : grid0.Coords) : Fin 3 → Nat :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let v611 : Index := Scalar.indexCast v19
  let c80_451 : Index := 80#32
  let c0_452 : Index := 0#32
  ![v611.toNat, 80, 0]
def k0_mult47 (i : grid0.Coords) : BitVec 32 :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let c2048_i32_462 : BitVec 32 := 2048#32
  let v621 : BitVec 32 := Scalar.muli v29 c2048_i32_462
  v621
def k0_off34 (i : grid0.Coords) : Fin 2 → Nat :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let c2048_i32_462 : BitVec 32 := 2048#32
  let v621 : BitVec 32 := Scalar.muli v29 c2048_i32_462
  let v622 : BitVec 32 := v621
  let v623 : Index := Scalar.indexCast v622
  let c0_463 : Index := 0#32
  ![v623.toNat, 0]
def k0_off35 (i : grid0.Coords) : Fin 3 → Nat :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let v641 : Index := Scalar.indexCast v21
  let c0_472 : Index := 0#32
  let c0_473 : Index := 0#32
  ![v641.toNat, 0, 0]
def k0_mult48 (i : grid0.Coords) : BitVec 32 :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let c2048_i32_483 : BitVec 32 := 2048#32
  let v651 : BitVec 32 := Scalar.muli v31 c2048_i32_483
  v651
def k0_off36 (i : grid0.Coords) : Fin 2 → Nat :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let c2048_i32_483 : BitVec 32 := 2048#32
  let v651 : BitVec 32 := Scalar.muli v31 c2048_i32_483
  let v652 : BitVec 32 := v651
  let v653 : Index := Scalar.indexCast v652
  let c128_484 : Index := 128#32
  ![v653.toNat, 128]
def k0_off37 (i : grid0.Coords) : Fin 3 → Nat :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let v671 : Index := Scalar.indexCast v23
  let c80_494 : Index := 80#32
  let c0_495 : Index := 0#32
  ![v671.toNat, 80, 0]
def k0_off38 (i : grid0.Coords) : Fin 3 → Nat :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let v688 : Index := Scalar.indexCast v25
  let c0_509 : Index := 0#32
  let c0_510 : Index := 0#32
  ![v688.toNat, 0, 0]
def k0_off39 (i : grid0.Coords) : Fin 3 → Nat :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let v705 : Index := Scalar.indexCast v27
  let c80_524 : Index := 80#32
  let c0_525 : Index := 0#32
  ![v705.toNat, 80, 0]
def k0_off40 (i : grid0.Coords) : Fin 3 → Nat :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let v722 : Index := Scalar.indexCast v29
  let c0_539 : Index := 0#32
  let c0_540 : Index := 0#32
  ![v722.toNat, 0, 0]
def k0_off41 (i : grid0.Coords) : Fin 3 → Nat :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let v732 : Index := Scalar.indexCast v31
  let c80_550 : Index := 80#32
  let c0_551 : Index := 0#32
  ![v732.toNat, 80, 0]
@[reducible] def k0_t3_loop (i : grid0.Coords) : Scf.Loop 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_872 : BitVec 32 := 1#32
  ⟨c0_i32_870, v1074, c1_i32_872⟩
def k0_mult49 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1306 : BitVec 32 := 2048#32
  let v1747 : BitVec 32 := Scalar.muli arg10 c2048_i32_1306
  v1747
def k0_off42 (i : grid0.Coords) (k0_t3 : Fin (k0_t3_loop i).trips) : Fin 2 → Nat :=
  let c0_i32_870 : BitVec 32 := 0#32
  let c1_i32_872 : BitVec 32 := 1#32
  let arg10 : BitVec 32 := Scf.iv c0_i32_870 c1_i32_872 k0_t3
  let c2048_i32_1306 : BitVec 32 := 2048#32
  let v1747 : BitVec 32 := Scalar.muli arg10 c2048_i32_1306
  let v1748 : BitVec 32 := v1747
  let v1749 : Index := Scalar.indexCast v1748
  let c0_1307 : Index := 0#32
  ![v1749.toNat, 0]
def k0_mult50 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1311 : BitVec 32 := 2048#32
  let v1753 : BitVec 32 := Scalar.muli arg10 c2048_i32_1311
  v1753
def k0_off43 (i : grid0.Coords) (k0_t3 : Fin (k0_t3_loop i).trips) : Fin 2 → Nat :=
  let c0_i32_870 : BitVec 32 := 0#32
  let c1_i32_872 : BitVec 32 := 1#32
  let arg10 : BitVec 32 := Scf.iv c0_i32_870 c1_i32_872 k0_t3
  let c2048_i32_1311 : BitVec 32 := 2048#32
  let v1753 : BitVec 32 := Scalar.muli arg10 c2048_i32_1311
  let v1754 : BitVec 32 := v1753
  let v1755 : Index := Scalar.indexCast v1754
  let c128_1312 : Index := 128#32
  ![v1755.toNat, 128]
def k0_mult51 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1316 : BitVec 32 := 2048#32
  let v1759 : BitVec 32 := Scalar.muli arg10 c2048_i32_1316
  v1759
def k0_mult52 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1321 : BitVec 32 := 2048#32
  let v1765 : BitVec 32 := Scalar.muli arg10 c2048_i32_1321
  v1765
def k0_mult53 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1335 : BitVec 32 := 2048#32
  let v1788 : BitVec 32 := Scalar.muli arg10 c2048_i32_1335
  v1788
def k0_off44 (i : grid0.Coords) (k0_t3 : Fin (k0_t3_loop i).trips) : Fin 3 → Nat :=
  let c0_i32_870 : BitVec 32 := 0#32
  let c1_i32_872 : BitVec 32 := 1#32
  let arg10 : BitVec 32 := Scf.iv c0_i32_870 c1_i32_872 k0_t3
  let v1811 : Index := Scalar.indexCast arg10
  let c0_1349 : Index := 0#32
  let c0_1350 : Index := 0#32
  ![v1811.toNat, 0, 0]
def k0_mult54 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1360 : BitVec 32 := 2048#32
  let v1823 : BitVec 32 := Scalar.muli arg10 c2048_i32_1360
  v1823
def k0_off45 (i : grid0.Coords) (k0_t3 : Fin (k0_t3_loop i).trips) : Fin 3 → Nat :=
  let c0_i32_870 : BitVec 32 := 0#32
  let c1_i32_872 : BitVec 32 := 1#32
  let arg10 : BitVec 32 := Scf.iv c0_i32_870 c1_i32_872 k0_t3
  let v1846 : Index := Scalar.indexCast arg10
  let c80_1374 : Index := 80#32
  let c0_1375 : Index := 0#32
  ![v1846.toNat, 80, 0]
def k0_mult55 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1385 : BitVec 32 := 2048#32
  let v1858 : BitVec 32 := Scalar.muli arg10 c2048_i32_1385
  v1858
def k0_mult56 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1410 : BitVec 32 := 2048#32
  let v1893 : BitVec 32 := Scalar.muli arg10 c2048_i32_1410
  v1893
def k0_mult57 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1435 : BitVec 32 := 2048#32
  let v1928 : BitVec 32 := Scalar.muli arg10 c2048_i32_1435
  v1928
def k0_mult58 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1460 : BitVec 32 := 2048#32
  let v1963 : BitVec 32 := Scalar.muli arg10 c2048_i32_1460
  v1963
def k0_mult59 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1485 : BitVec 32 := 2048#32
  let v1998 : BitVec 32 := Scalar.muli arg10 c2048_i32_1485
  v1998
def k0_mult60 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1510 : BitVec 32 := 2048#32
  let v2033 : BitVec 32 := Scalar.muli arg10 c2048_i32_1510
  v2033
def k0_mult61 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1535 : BitVec 32 := 2048#32
  let v2068 : BitVec 32 := Scalar.muli arg10 c2048_i32_1535
  v2068
def k0_mult62 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1560 : BitVec 32 := 2048#32
  let v2103 : BitVec 32 := Scalar.muli arg10 c2048_i32_1560
  v2103
def k0_mult63 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1585 : BitVec 32 := 2048#32
  let v2138 : BitVec 32 := Scalar.muli arg10 c2048_i32_1585
  v2138
def k0_mult64 (i : grid0.Coords) (k0_t3 : Fin (k0_t3_loop i).trips) : BitVec 32 :=
  let c0_i32_870 : BitVec 32 := 0#32
  let c1_i32_872 : BitVec 32 := 1#32
  let arg10 : BitVec 32 := Scf.iv c0_i32_870 c1_i32_872 k0_t3
  let c2048_i32_1610 : BitVec 32 := 2048#32
  let v2173 : BitVec 32 := Scalar.muli arg10 c2048_i32_1610
  v2173
@[reducible] def k0_t4_loop (i : grid0.Coords) : Scf.Loop 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let v1071 : BitVec 32 := Scalar.addi c0_i32_870 v1070
  let c1_i32_873 : BitVec 32 := 1#32
  ⟨v1074, v1071, c1_i32_873⟩
def k0_mult65 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1306 : BitVec 32 := 2048#32
  let v1747 : BitVec 32 := Scalar.muli arg10 c2048_i32_1306
  v1747
def k0_off46 (i : grid0.Coords) (k0_t4 : Fin (k0_t4_loop i).trips) : Fin 2 → Nat :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1306 : BitVec 32 := 2048#32
  let v1747 : BitVec 32 := Scalar.muli arg10 c2048_i32_1306
  let v1748 : BitVec 32 := v1747
  let v1749 : Index := Scalar.indexCast v1748
  let c0_1307 : Index := 0#32
  ![v1749.toNat, 0]
def k0_mult66 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1311 : BitVec 32 := 2048#32
  let v1753 : BitVec 32 := Scalar.muli arg10 c2048_i32_1311
  v1753
def k0_off47 (i : grid0.Coords) (k0_t4 : Fin (k0_t4_loop i).trips) : Fin 2 → Nat :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1311 : BitVec 32 := 2048#32
  let v1753 : BitVec 32 := Scalar.muli arg10 c2048_i32_1311
  let v1754 : BitVec 32 := v1753
  let v1755 : Index := Scalar.indexCast v1754
  let c128_1312 : Index := 128#32
  ![v1755.toNat, 128]
def k0_mult67 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1316 : BitVec 32 := 2048#32
  let v1759 : BitVec 32 := Scalar.muli arg10 c2048_i32_1316
  v1759
def k0_mult68 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1321 : BitVec 32 := 2048#32
  let v1765 : BitVec 32 := Scalar.muli arg10 c2048_i32_1321
  v1765
def k0_mult69 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1335 : BitVec 32 := 2048#32
  let v1788 : BitVec 32 := Scalar.muli arg10 c2048_i32_1335
  v1788
def k0_off48 (i : grid0.Coords) (k0_t4 : Fin (k0_t4_loop i).trips) : Fin 3 → Nat :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let v1811 : Index := Scalar.indexCast arg10
  let c0_1349 : Index := 0#32
  let c0_1350 : Index := 0#32
  ![v1811.toNat, 0, 0]
def k0_mult70 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1360 : BitVec 32 := 2048#32
  let v1823 : BitVec 32 := Scalar.muli arg10 c2048_i32_1360
  v1823
def k0_off49 (i : grid0.Coords) (k0_t4 : Fin (k0_t4_loop i).trips) : Fin 3 → Nat :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let v1846 : Index := Scalar.indexCast arg10
  let c80_1374 : Index := 80#32
  let c0_1375 : Index := 0#32
  ![v1846.toNat, 80, 0]
def k0_mult71 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1385 : BitVec 32 := 2048#32
  let v1858 : BitVec 32 := Scalar.muli arg10 c2048_i32_1385
  v1858
def k0_mult72 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1410 : BitVec 32 := 2048#32
  let v1893 : BitVec 32 := Scalar.muli arg10 c2048_i32_1410
  v1893
def k0_mult73 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1435 : BitVec 32 := 2048#32
  let v1928 : BitVec 32 := Scalar.muli arg10 c2048_i32_1435
  v1928
def k0_mult74 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1460 : BitVec 32 := 2048#32
  let v1963 : BitVec 32 := Scalar.muli arg10 c2048_i32_1460
  v1963
def k0_mult75 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1485 : BitVec 32 := 2048#32
  let v1998 : BitVec 32 := Scalar.muli arg10 c2048_i32_1485
  v1998
def k0_mult76 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1510 : BitVec 32 := 2048#32
  let v2033 : BitVec 32 := Scalar.muli arg10 c2048_i32_1510
  v2033
def k0_mult77 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1535 : BitVec 32 := 2048#32
  let v2068 : BitVec 32 := Scalar.muli arg10 c2048_i32_1535
  v2068
def k0_mult78 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1560 : BitVec 32 := 2048#32
  let v2103 : BitVec 32 := Scalar.muli arg10 c2048_i32_1560
  v2103
def k0_mult79 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1585 : BitVec 32 := 2048#32
  let v2138 : BitVec 32 := Scalar.muli arg10 c2048_i32_1585
  v2138
def k0_mult80 (i : grid0.Coords) (k0_t4 : Fin (k0_t4_loop i).trips) : BitVec 32 :=
  let c0_i32_870 : BitVec 32 := 0#32
  let c1_i32_868 : BitVec 32 := 1#32
  let arg1 : BitVec 32 := BitVec.ofNat 32 (i 1).val
  let v1069 : BitVec 32 := Scalar.muli c1_i32_868 arg1
  let v1070 : BitVec 32 := Scalar.subi v1069 c0_i32_870
  let c1_i32_871 : BitVec 32 := 1#32
  let v1072 : BitVec 32 := Scalar.divsi v1070 c1_i32_871
  let v1073 : BitVec 32 := Scalar.muli v1072 c1_i32_871
  let v1074 : BitVec 32 := Scalar.addi c0_i32_870 v1073
  let c1_i32_873 : BitVec 32 := 1#32
  let arg10 : BitVec 32 := Scf.iv v1074 c1_i32_873 k0_t4
  let c2048_i32_1610 : BitVec 32 := 2048#32
  let v2173 : BitVec 32 := Scalar.muli arg10 c2048_i32_1610
  v2173
def k0_mult81 (i : grid0.Coords) : BitVec 32 :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let c2048_i32_874 : BitVec 32 := 2048#32
  let v1075 : BitVec 32 := Scalar.muli v1 c2048_i32_874
  v1075
def k0_off50 (i : grid0.Coords) : Fin 2 → Nat :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let c2048_i32_874 : BitVec 32 := 2048#32
  let v1075 : BitVec 32 := Scalar.muli v1 c2048_i32_874
  let v1076 : BitVec 32 := v1075
  let v1077 : Index := Scalar.indexCast v1076
  let c0_875 : Index := 0#32
  ![v1077.toNat, 0]
def k0_mult82 (i : grid0.Coords) : BitVec 32 :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let c2048_i32_881 : BitVec 32 := 2048#32
  let v1088 : BitVec 32 := Scalar.muli v3 c2048_i32_881
  v1088
def k0_off51 (i : grid0.Coords) : Fin 2 → Nat :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let c2048_i32_881 : BitVec 32 := 2048#32
  let v1088 : BitVec 32 := Scalar.muli v3 c2048_i32_881
  let v1089 : BitVec 32 := v1088
  let v1090 : Index := Scalar.indexCast v1089
  let c128_882 : Index := 128#32
  ![v1090.toNat, 128]
def k0_mult83 (i : grid0.Coords) : BitVec 32 :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let c2048_i32_888 : BitVec 32 := 2048#32
  let v1101 : BitVec 32 := Scalar.muli v5 c2048_i32_888
  v1101
def k0_off52 (i : grid0.Coords) : Fin 2 → Nat :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let c2048_i32_888 : BitVec 32 := 2048#32
  let v1101 : BitVec 32 := Scalar.muli v5 c2048_i32_888
  let v1102 : BitVec 32 := v1101
  let v1103 : Index := Scalar.indexCast v1102
  let c0_889 : Index := 0#32
  ![v1103.toNat, 0]
def k0_mult84 (i : grid0.Coords) : BitVec 32 :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let c2048_i32_895 : BitVec 32 := 2048#32
  let v1114 : BitVec 32 := Scalar.muli v7 c2048_i32_895
  v1114
def k0_off53 (i : grid0.Coords) : Fin 2 → Nat :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let c2048_i32_895 : BitVec 32 := 2048#32
  let v1114 : BitVec 32 := Scalar.muli v7 c2048_i32_895
  let v1115 : BitVec 32 := v1114
  let v1116 : Index := Scalar.indexCast v1115
  let c128_896 : Index := 128#32
  ![v1116.toNat, 128]
def k0_mult85 (i : grid0.Coords) : BitVec 32 :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let c2048_i32_911 : BitVec 32 := 2048#32
  let v1144 : BitVec 32 := Scalar.muli v9 c2048_i32_911
  v1144
def k0_off54 (i : grid0.Coords) : Fin 2 → Nat :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let c2048_i32_911 : BitVec 32 := 2048#32
  let v1144 : BitVec 32 := Scalar.muli v9 c2048_i32_911
  let v1145 : BitVec 32 := v1144
  let v1146 : Index := Scalar.indexCast v1145
  let c0_912 : Index := 0#32
  ![v1146.toNat, 0]
def k0_off55 (i : grid0.Coords) : Fin 3 → Nat :=
  let c1_i32 : BitVec 32 := 1#32
  let arg1 : BitVec 32 := BitVec.ofNat 32 (i 1).val
  let v0 : BitVec 32 := Scalar.muli c1_i32 arg1
  let c0_i32 : BitVec 32 := 0#32
  let v1 : BitVec 32 := Scalar.addi v0 c0_i32
  let v1174 : Index := Scalar.indexCast v1
  let c0_927 : Index := 0#32
  let c0_928 : Index := 0#32
  ![v1174.toNat, 0, 0]
def k0_mult86 (i : grid0.Coords) : BitVec 32 :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let c2048_i32_938 : BitVec 32 := 2048#32
  let v1186 : BitVec 32 := Scalar.muli v11 c2048_i32_938
  v1186
def k0_off56 (i : grid0.Coords) : Fin 2 → Nat :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let c2048_i32_938 : BitVec 32 := 2048#32
  let v1186 : BitVec 32 := Scalar.muli v11 c2048_i32_938
  let v1187 : BitVec 32 := v1186
  let v1188 : Index := Scalar.indexCast v1187
  let c128_939 : Index := 128#32
  ![v1188.toNat, 128]
def k0_off57 (i : grid0.Coords) : Fin 3 → Nat :=
  let c1_i32_0 : BitVec 32 := 1#32
  let arg1 : BitVec 32 := BitVec.ofNat 32 (i 1).val
  let v2 : BitVec 32 := Scalar.muli c1_i32_0 arg1
  let c0_i32_1 : BitVec 32 := 0#32
  let v3 : BitVec 32 := Scalar.addi v2 c0_i32_1
  let v1216 : Index := Scalar.indexCast v3
  let c80_954 : Index := 80#32
  let c0_955 : Index := 0#32
  ![v1216.toNat, 80, 0]
def k0_mult87 (i : grid0.Coords) : BitVec 32 :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let c2048_i32_965 : BitVec 32 := 2048#32
  let v1228 : BitVec 32 := Scalar.muli v13 c2048_i32_965
  v1228
def k0_off58 (i : grid0.Coords) : Fin 2 → Nat :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let c2048_i32_965 : BitVec 32 := 2048#32
  let v1228 : BitVec 32 := Scalar.muli v13 c2048_i32_965
  let v1229 : BitVec 32 := v1228
  let v1230 : Index := Scalar.indexCast v1229
  let c0_966 : Index := 0#32
  ![v1230.toNat, 0]
def k0_off59 (i : grid0.Coords) : Fin 3 → Nat :=
  let c1_i32_2 : BitVec 32 := 1#32
  let arg1 : BitVec 32 := BitVec.ofNat 32 (i 1).val
  let v4 : BitVec 32 := Scalar.muli c1_i32_2 arg1
  let c0_i32_3 : BitVec 32 := 0#32
  let v5 : BitVec 32 := Scalar.addi v4 c0_i32_3
  let v1258 : Index := Scalar.indexCast v5
  let c0_981 : Index := 0#32
  let c0_982 : Index := 0#32
  ![v1258.toNat, 0, 0]
def k0_mult88 (i : grid0.Coords) : BitVec 32 :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let c2048_i32_992 : BitVec 32 := 2048#32
  let v1270 : BitVec 32 := Scalar.muli v15 c2048_i32_992
  v1270
def k0_off60 (i : grid0.Coords) : Fin 2 → Nat :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let c2048_i32_992 : BitVec 32 := 2048#32
  let v1270 : BitVec 32 := Scalar.muli v15 c2048_i32_992
  let v1271 : BitVec 32 := v1270
  let v1272 : Index := Scalar.indexCast v1271
  let c128_993 : Index := 128#32
  ![v1272.toNat, 128]
def k0_off61 (i : grid0.Coords) : Fin 3 → Nat :=
  let c1_i32_4 : BitVec 32 := 1#32
  let arg1 : BitVec 32 := BitVec.ofNat 32 (i 1).val
  let v6 : BitVec 32 := Scalar.muli c1_i32_4 arg1
  let c0_i32_5 : BitVec 32 := 0#32
  let v7 : BitVec 32 := Scalar.addi v6 c0_i32_5
  let v1300 : Index := Scalar.indexCast v7
  let c80_1008 : Index := 80#32
  let c0_1009 : Index := 0#32
  ![v1300.toNat, 80, 0]
def k0_mult89 (i : grid0.Coords) : BitVec 32 :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let c2048_i32_1019 : BitVec 32 := 2048#32
  let v1312 : BitVec 32 := Scalar.muli v17 c2048_i32_1019
  v1312
def k0_off62 (i : grid0.Coords) : Fin 2 → Nat :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let c2048_i32_1019 : BitVec 32 := 2048#32
  let v1312 : BitVec 32 := Scalar.muli v17 c2048_i32_1019
  let v1313 : BitVec 32 := v1312
  let v1314 : Index := Scalar.indexCast v1313
  let c0_1020 : Index := 0#32
  ![v1314.toNat, 0]
def k0_off63 (i : grid0.Coords) : Fin 3 → Nat :=
  let c1_i32_6 : BitVec 32 := 1#32
  let arg1 : BitVec 32 := BitVec.ofNat 32 (i 1).val
  let v8 : BitVec 32 := Scalar.muli c1_i32_6 arg1
  let c0_i32_7 : BitVec 32 := 0#32
  let v9 : BitVec 32 := Scalar.addi v8 c0_i32_7
  let v1342 : Index := Scalar.indexCast v9
  let c0_1035 : Index := 0#32
  let c0_1036 : Index := 0#32
  ![v1342.toNat, 0, 0]
def k0_mult90 (i : grid0.Coords) : BitVec 32 :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let c2048_i32_1046 : BitVec 32 := 2048#32
  let v1354 : BitVec 32 := Scalar.muli v19 c2048_i32_1046
  v1354
def k0_off64 (i : grid0.Coords) : Fin 2 → Nat :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let c2048_i32_1046 : BitVec 32 := 2048#32
  let v1354 : BitVec 32 := Scalar.muli v19 c2048_i32_1046
  let v1355 : BitVec 32 := v1354
  let v1356 : Index := Scalar.indexCast v1355
  let c128_1047 : Index := 128#32
  ![v1356.toNat, 128]
def k0_off65 (i : grid0.Coords) : Fin 3 → Nat :=
  let c1_i32_8 : BitVec 32 := 1#32
  let arg1 : BitVec 32 := BitVec.ofNat 32 (i 1).val
  let v10 : BitVec 32 := Scalar.muli c1_i32_8 arg1
  let c0_i32_9 : BitVec 32 := 0#32
  let v11 : BitVec 32 := Scalar.addi v10 c0_i32_9
  let v1384 : Index := Scalar.indexCast v11
  let c80_1062 : Index := 80#32
  let c0_1063 : Index := 0#32
  ![v1384.toNat, 80, 0]
def k0_mult91 (i : grid0.Coords) : BitVec 32 :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let c2048_i32_1073 : BitVec 32 := 2048#32
  let v1396 : BitVec 32 := Scalar.muli v21 c2048_i32_1073
  v1396
def k0_off66 (i : grid0.Coords) : Fin 2 → Nat :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let c2048_i32_1073 : BitVec 32 := 2048#32
  let v1396 : BitVec 32 := Scalar.muli v21 c2048_i32_1073
  let v1397 : BitVec 32 := v1396
  let v1398 : Index := Scalar.indexCast v1397
  let c0_1074 : Index := 0#32
  ![v1398.toNat, 0]
def k0_off67 (i : grid0.Coords) : Fin 3 → Nat :=
  let c1_i32_10 : BitVec 32 := 1#32
  let arg1 : BitVec 32 := BitVec.ofNat 32 (i 1).val
  let v12 : BitVec 32 := Scalar.muli c1_i32_10 arg1
  let c0_i32_11 : BitVec 32 := 0#32
  let v13 : BitVec 32 := Scalar.addi v12 c0_i32_11
  let v1426 : Index := Scalar.indexCast v13
  let c0_1089 : Index := 0#32
  let c0_1090 : Index := 0#32
  ![v1426.toNat, 0, 0]
def k0_mult92 (i : grid0.Coords) : BitVec 32 :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let c2048_i32_1100 : BitVec 32 := 2048#32
  let v1438 : BitVec 32 := Scalar.muli v23 c2048_i32_1100
  v1438
def k0_off68 (i : grid0.Coords) : Fin 2 → Nat :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let c2048_i32_1100 : BitVec 32 := 2048#32
  let v1438 : BitVec 32 := Scalar.muli v23 c2048_i32_1100
  let v1439 : BitVec 32 := v1438
  let v1440 : Index := Scalar.indexCast v1439
  let c128_1101 : Index := 128#32
  ![v1440.toNat, 128]
def k0_off69 (i : grid0.Coords) : Fin 3 → Nat :=
  let c1_i32_12 : BitVec 32 := 1#32
  let arg1 : BitVec 32 := BitVec.ofNat 32 (i 1).val
  let v14 : BitVec 32 := Scalar.muli c1_i32_12 arg1
  let c0_i32_13 : BitVec 32 := 0#32
  let v15 : BitVec 32 := Scalar.addi v14 c0_i32_13
  let v1468 : Index := Scalar.indexCast v15
  let c80_1116 : Index := 80#32
  let c0_1117 : Index := 0#32
  ![v1468.toNat, 80, 0]
def k0_mult93 (i : grid0.Coords) : BitVec 32 :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let c2048_i32_1127 : BitVec 32 := 2048#32
  let v1480 : BitVec 32 := Scalar.muli v25 c2048_i32_1127
  v1480
def k0_off70 (i : grid0.Coords) : Fin 2 → Nat :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let c2048_i32_1127 : BitVec 32 := 2048#32
  let v1480 : BitVec 32 := Scalar.muli v25 c2048_i32_1127
  let v1481 : BitVec 32 := v1480
  let v1482 : Index := Scalar.indexCast v1481
  let c0_1128 : Index := 0#32
  ![v1482.toNat, 0]
def k0_off71 (i : grid0.Coords) : Fin 3 → Nat :=
  let c1_i32_14 : BitVec 32 := 1#32
  let arg1 : BitVec 32 := BitVec.ofNat 32 (i 1).val
  let v16 : BitVec 32 := Scalar.muli c1_i32_14 arg1
  let c0_i32_15 : BitVec 32 := 0#32
  let v17 : BitVec 32 := Scalar.addi v16 c0_i32_15
  let v1510 : Index := Scalar.indexCast v17
  let c0_1143 : Index := 0#32
  let c0_1144 : Index := 0#32
  ![v1510.toNat, 0, 0]
def k0_mult94 (i : grid0.Coords) : BitVec 32 :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let c2048_i32_1154 : BitVec 32 := 2048#32
  let v1522 : BitVec 32 := Scalar.muli v27 c2048_i32_1154
  v1522
def k0_off72 (i : grid0.Coords) : Fin 2 → Nat :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let c2048_i32_1154 : BitVec 32 := 2048#32
  let v1522 : BitVec 32 := Scalar.muli v27 c2048_i32_1154
  let v1523 : BitVec 32 := v1522
  let v1524 : Index := Scalar.indexCast v1523
  let c128_1155 : Index := 128#32
  ![v1524.toNat, 128]
def k0_off73 (i : grid0.Coords) : Fin 3 → Nat :=
  let c1_i32_16 : BitVec 32 := 1#32
  let arg1 : BitVec 32 := BitVec.ofNat 32 (i 1).val
  let v18 : BitVec 32 := Scalar.muli c1_i32_16 arg1
  let c0_i32_17 : BitVec 32 := 0#32
  let v19 : BitVec 32 := Scalar.addi v18 c0_i32_17
  let v1552 : Index := Scalar.indexCast v19
  let c80_1170 : Index := 80#32
  let c0_1171 : Index := 0#32
  ![v1552.toNat, 80, 0]
def k0_mult95 (i : grid0.Coords) : BitVec 32 :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let c2048_i32_1181 : BitVec 32 := 2048#32
  let v1564 : BitVec 32 := Scalar.muli v29 c2048_i32_1181
  v1564
def k0_off74 (i : grid0.Coords) : Fin 2 → Nat :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let c2048_i32_1181 : BitVec 32 := 2048#32
  let v1564 : BitVec 32 := Scalar.muli v29 c2048_i32_1181
  let v1565 : BitVec 32 := v1564
  let v1566 : Index := Scalar.indexCast v1565
  let c0_1182 : Index := 0#32
  ![v1566.toNat, 0]
def k0_off75 (i : grid0.Coords) : Fin 3 → Nat :=
  let c1_i32_18 : BitVec 32 := 1#32
  let arg1 : BitVec 32 := BitVec.ofNat 32 (i 1).val
  let v20 : BitVec 32 := Scalar.muli c1_i32_18 arg1
  let c0_i32_19 : BitVec 32 := 0#32
  let v21 : BitVec 32 := Scalar.addi v20 c0_i32_19
  let v1594 : Index := Scalar.indexCast v21
  let c0_1197 : Index := 0#32
  let c0_1198 : Index := 0#32
  ![v1594.toNat, 0, 0]
def k0_mult96 (i : grid0.Coords) : BitVec 32 :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let c2048_i32_1208 : BitVec 32 := 2048#32
  let v1606 : BitVec 32 := Scalar.muli v31 c2048_i32_1208
  v1606
def k0_off76 (i : grid0.Coords) : Fin 2 → Nat :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let c2048_i32_1208 : BitVec 32 := 2048#32
  let v1606 : BitVec 32 := Scalar.muli v31 c2048_i32_1208
  let v1607 : BitVec 32 := v1606
  let v1608 : Index := Scalar.indexCast v1607
  let c128_1209 : Index := 128#32
  ![v1608.toNat, 128]
def k0_off77 (i : grid0.Coords) : Fin 3 → Nat :=
  let c1_i32_20 : BitVec 32 := 1#32
  let arg1 : BitVec 32 := BitVec.ofNat 32 (i 1).val
  let v22 : BitVec 32 := Scalar.muli c1_i32_20 arg1
  let c0_i32_21 : BitVec 32 := 0#32
  let v23 : BitVec 32 := Scalar.addi v22 c0_i32_21
  let v1636 : Index := Scalar.indexCast v23
  let c80_1224 : Index := 80#32
  let c0_1225 : Index := 0#32
  ![v1636.toNat, 80, 0]
def k0_off78 (i : grid0.Coords) : Fin 3 → Nat :=
  let c1_i32_22 : BitVec 32 := 1#32
  let arg1 : BitVec 32 := BitVec.ofNat 32 (i 1).val
  let v24 : BitVec 32 := Scalar.muli c1_i32_22 arg1
  let c0_i32_23 : BitVec 32 := 0#32
  let v25 : BitVec 32 := Scalar.addi v24 c0_i32_23
  let v1665 : Index := Scalar.indexCast v25
  let c0_1244 : Index := 0#32
  let c0_1245 : Index := 0#32
  ![v1665.toNat, 0, 0]
def k0_off79 (i : grid0.Coords) : Fin 3 → Nat :=
  let c1_i32_24 : BitVec 32 := 1#32
  let arg1 : BitVec 32 := BitVec.ofNat 32 (i 1).val
  let v26 : BitVec 32 := Scalar.muli c1_i32_24 arg1
  let c0_i32_25 : BitVec 32 := 0#32
  let v27 : BitVec 32 := Scalar.addi v26 c0_i32_25
  let v1694 : Index := Scalar.indexCast v27
  let c80_1264 : Index := 80#32
  let c0_1265 : Index := 0#32
  ![v1694.toNat, 80, 0]
def k0_off80 (i : grid0.Coords) : Fin 3 → Nat :=
  let c1_i32_26 : BitVec 32 := 1#32
  let arg1 : BitVec 32 := BitVec.ofNat 32 (i 1).val
  let v28 : BitVec 32 := Scalar.muli c1_i32_26 arg1
  let c0_i32_27 : BitVec 32 := 0#32
  let v29 : BitVec 32 := Scalar.addi v28 c0_i32_27
  let v1723 : Index := Scalar.indexCast v29
  let c0_1284 : Index := 0#32
  let c0_1285 : Index := 0#32
  ![v1723.toNat, 0, 0]
def k0_off81 (i : grid0.Coords) : Fin 3 → Nat :=
  let c1_i32_28 : BitVec 32 := 1#32
  let arg1 : BitVec 32 := BitVec.ofNat 32 (i 1).val
  let v30 : BitVec 32 := Scalar.muli c1_i32_28 arg1
  let c0_i32_29 : BitVec 32 := 0#32
  let v31 : BitVec 32 := Scalar.addi v30 c0_i32_29
  let v1735 : Index := Scalar.indexCast v31
  let c80_1295 : Index := 80#32
  let c0_1296 : Index := 0#32
  ![v1735.toNat, 80, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x160x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S1024x16384 : Shape := ⟨2, ![1024, 16384]⟩
abbrev S16384x1024 : Shape := ⟨2, ![16384, 1024]⟩
abbrev S8x640x2048 : Shape := ⟨3, ![8, 640, 2048]⟩
abbrev S4x8x16384 : Shape := ⟨3, ![4, 8, 16384]⟩
abbrev S8x128 : Shape := ⟨2, ![8, 128]⟩
abbrev S8x128x16384 : Shape := ⟨3, ![8, 128, 16384]⟩
abbrev S16384x8x128 : Shape := ⟨3, ![16384, 8, 128]⟩
abbrev S8x8x80x2048 : Shape := ⟨4, ![8, 8, 80, 2048]⟩
abbrev S8x2048x8x80 : Shape := ⟨4, ![8, 2048, 8, 80]⟩
abbrev S16384x8x80 : Shape := ⟨3, ![16384, 8, 80]⟩
abbrev S16384x8x64 : Shape := ⟨3, ![16384, 8, 64]⟩
abbrev S16384 : Shape := ⟨1, ![16384]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x512 : Shape := ⟨2, ![16384, 512]⟩

abbrev nBuf : Space → Nat
  | .hbm => 49
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S8x640x2048, .bf16⟩
  | .hbm, ⟨3, _⟩ => ⟨S4x8x16384, .f32⟩
  | .hbm, ⟨4, _⟩ => ⟨S8x128, .f32⟩
  | .hbm, ⟨5, _⟩ => ⟨S1024x16384, .f32⟩
  | .hbm, ⟨6, _⟩ => ⟨S8x128x16384, .f32⟩
  | .hbm, ⟨7, _⟩ => ⟨S16384x1024, .f32⟩
  | .hbm, ⟨8, _⟩ => ⟨S16384x8x128, .f32⟩
  | .hbm, ⟨9, _⟩ => ⟨S8x640x2048, .f32⟩
  | .hbm, ⟨10, _⟩ => ⟨S8x8x80x2048, .f32⟩
  | .hbm, ⟨11, _⟩ => ⟨S8x2048x8x80, .f32⟩
  | .hbm, ⟨12, _⟩ => ⟨S16384x8x80, .f32⟩
  | .hbm, ⟨13, _⟩ => ⟨S16384x8x64, .f32⟩
  | .hbm, ⟨14, _⟩ => ⟨S16384, .i32⟩
  | .hbm, ⟨15, _⟩ => ⟨S8x16384x16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x16384x16384, .f32⟩
  | .hbm, ⟨20, _⟩ => ⟨S8x16384x16384, .f32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S8x16384x16384, .i1⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384x1, .f32⟩
  | .hbm, ⟨43, _⟩ => ⟨S8x16384x16384, .f32⟩
  | .hbm, ⟨44, _⟩ => ⟨S8x16384x16384, .f32⟩
  | .hbm, ⟨45, _⟩ => ⟨S8x64x16384, .f32⟩
  | .hbm, ⟨46, _⟩ => ⟨S16384x8x64, .f32⟩
  | .hbm, ⟨47, _⟩ => ⟨S16384x512, .f32⟩
  | .hbm, ⟨48, _⟩ => ⟨S16384x512, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Ffn.lean ====
abbrev S1x16384x1024 : Shape := ⟨3, ![1, 16384, 1024]⟩
abbrev S16384x512 : Shape := ⟨2, ![16384, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x4104 : Shape := ⟨2, ![1024, 4104]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S16384x1024 : Shape := ⟨2, ![16384, 1024]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 38
  | .vmem => 19
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x2048, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1024x4104, .f32⟩
  | .hbm, ⟨15, _⟩ => ⟨S1024x4104, .bf16⟩
  | .hbm, ⟨16, _⟩ => ⟨S1024x2048, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S2048, .f32⟩
  | .hbm, ⟨23, _⟩ => ⟨S1x2048, .f32⟩
  | .hbm, ⟨24, _⟩ => ⟨S512x1024, .f32⟩
  | .hbm, ⟨25, _⟩ => ⟨S512x1024, .bf16⟩
  | .hbm, ⟨26, _⟩ => ⟨S512x1024, .f32⟩
  | .hbm, ⟨27, _⟩ => ⟨S512x1024, .bf16⟩
  | .hbm, ⟨28, _⟩ => ⟨S1024x1024, .f32⟩
  | .hbm, ⟨29, _⟩ => ⟨S1024x1024, .bf16⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S16384x1024, .f32⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnRefIdeal.lean ====
abbrev S1x16384x1024 : Shape := ⟨3, ![1, 16384, 1024]⟩
abbrev S16384x512 : Shape := ⟨2, ![16384, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1x16384x512 : Shape := ⟨3, ![1, 16384, 512]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x4104 : Shape := ⟨2, ![1024, 4104]⟩
abbrev S1x16384x4104 : Shape := ⟨3, ![1, 16384, 4104]⟩
abbrev S1x16384x2048 : Shape := ⟨3, ![1, 16384, 2048]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x16384x2816 : Shape := ⟨3, ![1, 16384, 2816]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x2048, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S16384x512, .f32⟩
  | .hbm, ⟨15, _⟩ => ⟨S1x16384x512, .f32⟩
  | .hbm, ⟨16, _⟩ => ⟨S16384x512, .f32⟩
  | .hbm, ⟨17, _⟩ => ⟨S1x16384x512, .f32⟩
  | .hbm, ⟨18, _⟩ => ⟨S1024, .f32⟩
  | .hbm, ⟨19, _⟩ => ⟨S1x16384x1024, .f32⟩
  | .hbm, ⟨20, _⟩ => ⟨S_, .f32⟩
  | .hbm, ⟨21, _⟩ => ⟨S1x16384, .f32⟩
  | .hbm, ⟨22, _⟩ => ⟨S1x16384x1, .f32⟩
  | .hbm, ⟨23, _⟩ => ⟨S_, .f32⟩
  | .hbm, ⟨24, _⟩ => ⟨S1x16384x1, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S1x16384x1, .f32⟩
  | .hbm, ⟨30, _⟩ => ⟨S1x16384x1024, .f32⟩
  | .hbm, ⟨31, _⟩ => ⟨S1x16384x1024, .f32⟩
  | .hbm, ⟨32, _⟩ => ⟨S1x1x1024, .f32⟩
  | .hbm, ⟨33, _⟩ => ⟨S1x16384x1024, .f32⟩
  | .hbm, ⟨34, _⟩ => ⟨S1x16384x1024, .f32⟩
  | .hbm, ⟨35, _⟩ => ⟨S1024x4104, .f32⟩
  | .hbm, ⟨36, _⟩ => ⟨S1x16384x4104, .f32⟩
  | .hbm, ⟨37, _⟩ => ⟨S1x16384x2048, .f32⟩
  | .hbm, ⟨38, _⟩ => ⟨S2048, .f32⟩
  | .hbm, ⟨39, _⟩ => ⟨S1x1x2048, .f32⟩
  | .hbm, ⟨40, _⟩ => ⟨S1x16384x2048, .f32⟩
  | .hbm, ⟨41, _⟩ => ⟨S1x16384x2048, .f32⟩
  | .hbm, ⟨42, _⟩ => ⟨S1x16384x2048, .f32⟩
  | .hbm, ⟨43, _⟩ => ⟨S1x16384x2048, .f32⟩
  | .hbm, ⟨44, _⟩ => ⟨S_, .f32⟩
  | .hbm, ⟨45, _⟩ => ⟨S1x16384x2048, .f32⟩
  | .hbm, ⟨46, _⟩ => ⟨S1x16384x2048, .f32⟩
  | .hbm, ⟨47, _⟩ => ⟨S_, .f32⟩
  | .hbm, ⟨48, _⟩ => ⟨S1x16384x2048, .f32⟩
  | .hbm, ⟨49, _⟩ => ⟨S1x16384x2048, .f32⟩
  | .hbm, ⟨50, _⟩ => ⟨S1x16384x1024, .f32⟩
  | .hbm, ⟨51, _⟩ => ⟨S1x16384x1024, .f32⟩
  | .hbm, ⟨52, _⟩ => ⟨S512x1024, .f32⟩
  | .hbm, ⟨53, _⟩ => ⟨S1x16384x1024, .f32⟩
  | .hbm, ⟨54, _⟩ => ⟨S1x16384x1024, .f32⟩
  | .hbm, ⟨55, _⟩ => ⟨S512x1024, .f32⟩
  | .hbm, ⟨56, _⟩ => ⟨S1x16384x1024, .f32⟩
  | .hbm, ⟨57, _⟩ => ⟨S1x16384x1024, .f32⟩
  | .hbm, ⟨58, _⟩ => ⟨S1x16384x1024, .f32⟩
  | .hbm, ⟨59, _⟩ => ⟨S1024x1024, .f32⟩
  | .hbm, ⟨60, _⟩ => ⟨S1x16384x1024, .f32⟩
  | .hbm, ⟨61, _⟩ => ⟨S1x16384x1024, .f32⟩
  | .hbm, ⟨62, _⟩ => ⟨S1024, .f32⟩
  | .hbm, ⟨63, _⟩ => ⟨S1x16384x1024, .f32⟩
  | .hbm, ⟨64, _⟩ => ⟨S_, .f32⟩
  | .hbm, ⟨65, _⟩ => ⟨S1x16384, .f32⟩
  | .hbm, ⟨66, _⟩ => ⟨S1x16384x1, .f32⟩
  | .hbm, ⟨67, _⟩ => ⟨S_, .f32⟩
  | .hbm, ⟨68, _⟩ => ⟨S1x16384x1, .f32⟩
  | .hbm, ⟨69, _⟩ => ⟨S1x16384x1, .f32⟩
  | .hbm, ⟨70, _⟩ => ⟨S_, .f32⟩
  | .hbm, ⟨71, _⟩ => ⟨S1x16384x1, .f32⟩
  | .hbm, ⟨72, _⟩ => ⟨S1x16384x1, .f32⟩
  | .hbm, ⟨73, _⟩ => ⟨S1x16384x1, .f32⟩
  | .hbm, ⟨74, _⟩ => ⟨S1x16384x1024, .f32⟩
  | .hbm, ⟨75, _⟩ => ⟨S1x16384x1024, .f32⟩
  | .hbm, ⟨76, _⟩ => ⟨S1x1x1024, .f32⟩
  | .hbm, ⟨77, _⟩ => ⟨S1x16384x1024, .f32⟩
  | .hbm, ⟨78, _⟩ => ⟨S1x16384x1024, .f32⟩
  | .hbm, ⟨79, _⟩ => ⟨S1024x2816, .f32⟩
  | .hbm, ⟨80, _⟩ => ⟨S1024x2816, .f32⟩
  | .hbm, ⟨81, _⟩ => ⟨S2816x1024, .f32⟩
  | .hbm, ⟨82, _⟩ => ⟨S1x16384x2816, .f32⟩
  | .hbm, ⟨83, _⟩ => ⟨S1x16384x2816, .f32⟩
  | .hbm, ⟨84, _⟩ => ⟨S1x16384x2816, .f32⟩
  | .hbm, ⟨85, _⟩ => ⟨S_, .f32⟩
  | .hbm, ⟨86, _⟩ => ⟨S1x16384x2816, .f32⟩
  | .hbm, ⟨87, _⟩ => ⟨S1x16384x2816, .f32⟩
  | .hbm, ⟨88, _⟩ => ⟨S_, .f32⟩
  | .hbm, ⟨89, _⟩ => ⟨S1x16384x2816, .f32⟩
  | .hbm, ⟨90, _⟩ => ⟨S1x16384x2816, .f32⟩
  | .hbm, ⟨91, _⟩ => ⟨S1x16384x2816, .f32⟩
  | .hbm, ⟨92, _⟩ => ⟨S1x16384x2816, .f32⟩
  | .hbm, ⟨93, _⟩ => ⟨S1x16384x2816, .f32⟩
  | .hbm, ⟨94, _⟩ => ⟨S1x16384x1024, .f32⟩
  | .hbm, ⟨95, _⟩ => ⟨S1x16384x1024, .f32⟩
  | .hbm, ⟨96, _⟩ => ⟨S1x16384x1024, .f32⟩
  | .hbm, ⟨97, _⟩ => ⟨S_, .f32⟩
  | .hbm, ⟨98, _⟩ => ⟨S1x16384, .f32⟩
  | .hbm, ⟨99, _⟩ => ⟨S1x16384x1, .f32⟩
  | .hbm, ⟨100, _⟩ => ⟨S_, .f32⟩
  | .hbm, ⟨101, _⟩ => ⟨S1x16384x1, .f32⟩
  | .hbm, ⟨102, _⟩ => ⟨S1x16384x1, .f32⟩
  | .hbm, ⟨103, _⟩ => ⟨S_, .f32⟩
  | .hbm, ⟨104, _⟩ => ⟨S1x16384x1, .f32⟩
  | .hbm, ⟨105, _⟩ => ⟨S1x16384x1, .f32⟩
  | .hbm, ⟨106, _⟩ => ⟨S1x16384x1, .f32⟩
  | .hbm, ⟨107, _⟩ => ⟨S1x16384x1024, .f32⟩
  | .hbm, ⟨108, _⟩ => ⟨S1x16384x1024, .f32⟩
  | .hbm, ⟨109, _⟩ => ⟨S1x1x1024, .f32⟩
  | .hbm, ⟨110, _⟩ => ⟨S1x16384x1024, .f32⟩
  | .hbm, ⟨111, _⟩ => ⟨S1x16384x1024, .f32⟩
  | .hbm, ⟨112, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== InprojS.lean ====
abbrev S32x32x1024 : Shape := ⟨3, ![32, 32, 1024]⟩
abbrev S1x1024 : Shape := ⟨2, ![1, 1024]⟩
abbrev S1x1024x4104 : Shape := ⟨3, ![1, 1024, 4104]⟩
abbrev S1x8 : Shape := ⟨2, ![1, 8]⟩
abbrev S1024x4104 : Shape := ⟨2, ![1024, 4104]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S16x1024 : Shape := ⟨2, ![16, 1024]⟩
abbrev S8 : Shape := ⟨1, ![8]⟩
abbrev S8x1 : Shape := ⟨2, ![8, 1]⟩
abbrev S8x128 : Shape := ⟨2, ![8, 128]⟩
abbrev S1024 : Shape := ⟨1, ![1024]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S512x8 : Shape := ⟨2, ![512, 8]⟩
abbrev S8x512 : Shape := ⟨2, ![8, 512]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S16x512 : Shape := ⟨2, ![16, 512]⟩

abbrev nBuf : Space → Nat
  | .hbm => 29
  | .vmem => 20
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x4104, .f32⟩
  | .hbm, ⟨3, _⟩ => ⟨S1x8, .f32⟩
  | .hbm, ⟨4, _⟩ => ⟨S1024x4104, .f32⟩
  | .hbm, ⟨5, _⟩ => ⟨S1024x4104, .bf16⟩
  | .hbm, ⟨6, _⟩ => ⟨S1024x2048, .bf16⟩
  | .hbm, ⟨7, _⟩ => ⟨S1024x8, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S8x1024, .bf16⟩
  | .hbm, ⟨12, _⟩ => ⟨S_, .i32⟩
  | .hbm, ⟨13, _⟩ => ⟨S_, .bf16⟩
  | .hbm, ⟨14, _⟩ => ⟨S16x1024, .bf16⟩
  | .hbm, ⟨15, _⟩ => ⟨S8, .f32⟩
  | .hbm, ⟨16, _⟩ => ⟨S1x8, .f32⟩
  | .hbm, ⟨17, _⟩ => ⟨S8, .f32⟩
  | .hbm, ⟨18, _⟩ => ⟨S8x1, .f32⟩
  | .hbm, ⟨19, _⟩ => ⟨S8x128, .f32⟩
  | .hbm, ⟨20, _⟩ => ⟨S1024, .f32⟩
  | .hbm, ⟨21, _⟩ => ⟨S1x1024, .f32⟩
  | .hbm, ⟨22, _⟩ => ⟨S1024x1024, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x8, .f32⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S16x1024, .bf16⟩
  | .local _ .vmem, ⟨6, _⟩ => ⟨S1x8, .f32⟩
  | .local _ .vmem, ⟨7, _⟩ => ⟨S8x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x8, .f32⟩
  | .local _ .vmem, ⟨17, _⟩ => ⟨S512x8, .f32⟩
  | .local _ .vmem, ⟨18, _⟩ => ⟨S8x512, .f32⟩
  | .local _ .vmem, ⟨19, _⟩ => ⟨S8x512, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojSRefIdeal.lean ====
abbrev S32x32x1024 : Shape := ⟨3, ![32, 32, 1024]⟩
abbrev S1x1024 : Shape := ⟨2, ![1, 1024]⟩
abbrev S1x1024x4104 : Shape := ⟨3, ![1, 1024, 4104]⟩
abbrev S1x8 : Shape := ⟨2, ![1, 8]⟩
abbrev S1024 : Shape := ⟨1, ![1024]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S1024x4104 : Shape := ⟨2, ![1024, 4104]⟩
abbrev S32x32x4104 : Shape := ⟨3, ![32, 32, 4104]⟩
abbrev S32x32x512 : Shape := ⟨3, ![32, 32, 512]⟩
abbrev S32x32x8 : Shape := ⟨3, ![32, 32, 8]⟩
abbrev S32x32x2048 : Shape := ⟨3, ![32, 32, 2048]⟩
abbrev S8 : Shape := ⟨1, ![8]⟩
abbrev S1x1x8 : Shape := ⟨3, ![1, 1, 8]⟩
abbrev S1024x512 : Shape := ⟨2, ![1024, 512]⟩
abbrev S1024x8 : Shape := ⟨2, ![1024, 8]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x4104, .f32⟩
  | .hbm, ⟨3, _⟩ => ⟨S1x8, .f32⟩
  | .hbm, ⟨4, _⟩ => ⟨S1024, .f32⟩
  | .hbm, ⟨5, _⟩ => ⟨S32x32x1024, .f32⟩
  | .hbm, ⟨6, _⟩ => ⟨S_, .f32⟩
  | .hbm, ⟨7, _⟩ => ⟨S32x32, .f32⟩
  | .hbm, ⟨8, _⟩ => ⟨S32x32x1, .f32⟩
  | .hbm, ⟨9, _⟩ => ⟨S_, .f32⟩
  | .hbm, ⟨10, _⟩ => ⟨S32x32x1, .f32⟩
  | .hbm, ⟨11, _⟩ => ⟨S32x32x1, .f32⟩
  | .hbm, ⟨12, _⟩ => ⟨S_, .f32⟩
  | .hbm, ⟨13, _⟩ => ⟨S32x32x1, .f32⟩
  | .hbm, ⟨14, _⟩ => ⟨S32x32x1, .f32⟩
  | .hbm, ⟨15, _⟩ => ⟨S32x32x1, .f32⟩
  | .hbm, ⟨16, _⟩ => ⟨S32x32x1024, .f32⟩
  | .hbm, ⟨17, _⟩ => ⟨S32x32x1024, .f32⟩
  | .hbm, ⟨18, _⟩ => ⟨S1x1x1024, .f32⟩
  | .hbm, ⟨19, _⟩ => ⟨S32x32x1024, .f32⟩
  | .hbm, ⟨20, _⟩ => ⟨S32x32x1024, .f32⟩
  | .hbm, ⟨21, _⟩ => ⟨S1024x4104, .f32⟩
  | .hbm, ⟨22, _⟩ => ⟨S32x32x4104, .f32⟩
  | .hbm, ⟨23, _⟩ => ⟨S32x32x512, .f32⟩
  | .hbm, ⟨24, _⟩ => ⟨S32x32x512, .f32⟩
  | .hbm, ⟨25, _⟩ => ⟨S32x32x512, .f32⟩
  | .hbm, ⟨26, _⟩ => ⟨S32x32x512, .f32⟩
  | .hbm, ⟨27, _⟩ => ⟨S32x32x8, .f32⟩
  | .hbm, ⟨28, _⟩ => ⟨S32x32x2048, .f32⟩
  | .hbm, ⟨29, _⟩ => ⟨S8, .f32⟩
  | .hbm, ⟨30, _⟩ => ⟨S1x1x8, .f32⟩
  | .hbm, ⟨31, _⟩ => ⟨S32x32x8, .f32⟩
  | .hbm, ⟨32, _⟩ => ⟨S32x32x8, .f32⟩
  | .hbm, ⟨33, _⟩ => ⟨S32x32x8, .f32⟩
  | .hbm, ⟨34, _⟩ => ⟨S_, .f32⟩
  | .hbm, ⟨35, _⟩ => ⟨S32x32x8, .f32⟩
  | .hbm, ⟨36, _⟩ => ⟨S32x32x8, .f32⟩
  | .hbm, ⟨37, _⟩ => ⟨S32x32x8, .f32⟩
  | .hbm, ⟨38, _⟩ => ⟨S32x32x8, .f32⟩
  | .hbm, ⟨39, _⟩ => ⟨S32x32x8, .i1⟩
  | .hbm, ⟨40, _⟩ => ⟨S32x32x8, .f32⟩
  | .hbm, ⟨41, _⟩ => ⟨S32x32x8, .f32⟩
  | .hbm, ⟨42, _⟩ => ⟨S32x32x8, .f32⟩
  | .hbm, ⟨43, _⟩ => ⟨S32x32x8, .f32⟩
  | .hbm, ⟨44, _⟩ => ⟨S32x32x8, .f32⟩
  | .hbm, ⟨45, _⟩ => ⟨S32x32x8, .f32⟩
  | .hbm, ⟨46, _⟩ => ⟨S32x32x8, .f32⟩
  | .hbm, ⟨47, _⟩ => ⟨S32x32x8, .f32⟩
  | .hbm, ⟨48, _⟩ => ⟨S32x32x8, .f32⟩
  | .hbm, ⟨49, _⟩ => ⟨S1024x512, .f32⟩
  | .hbm, ⟨50, _⟩ => ⟨S1024x512, .f32⟩
  | .hbm, ⟨51, _⟩ => ⟨S_, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .f32⟩
  | .hbm, ⟨56, _⟩ => ⟨S1024x8, .f32⟩
  | .hbm, ⟨57, _⟩ => ⟨S1024x8, .f32⟩
  | .hbm, ⟨58, _⟩ => ⟨S8x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== FfnS.lean ====
abbrev S32x32x1024 : Shape := ⟨3, ![32, 32, 1024]⟩
abbrev S1024x512 : Shape := ⟨2, ![1024, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x4104 : Shape := ⟨2, ![1024, 4104]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 38
  | .vmem => 19
  | .smem => 0
  | _ => 0

abbrev bufTy : (tb : Table) → Fin (tcTables nBuf tb) → BufTy
  | .hbm, ⟨0, _⟩ => ⟨S32x32x1024, .f32⟩
  | .hbm, ⟨1, _⟩ => ⟨S1024x512, .bf16⟩
  | .hbm, ⟨2, _⟩ => ⟨S1024x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x2048, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1024x4104, .f32⟩
  | .hbm, ⟨15, _⟩ => ⟨S1024x4104, .bf16⟩
  | .hbm, ⟨16, _⟩ => ⟨S1024x2048, .bf16⟩
  | .hbm, ⟨17, _⟩ => ⟨S1024, .f32⟩
  | .hbm, ⟨18, _⟩ => ⟨S1x1024, .f32⟩
  | .hbm, ⟨19, _⟩ => ⟨S2048, .f32⟩
  | .hbm, ⟨20, _⟩ => ⟨S1x2048, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024x2816, .f32⟩
  | .hbm, ⟨30, _⟩ => ⟨S1024x2816, .bf16⟩
  | .hbm, ⟨31, _⟩ => ⟨S1024x2816, .f32⟩
  | .hbm, ⟨32, _⟩ => ⟨S1024x2816, .bf16⟩
  | .hbm, ⟨33, _⟩ => ⟨S2816x1024, .f32⟩
  | .hbm, ⟨34, _⟩ => ⟨S2816x1024, .bf16⟩
  | .hbm, ⟨35, _⟩ => ⟨S1x1024, .f32⟩
  | .hbm, ⟨36, _⟩ => ⟨S1024x1024, .f32⟩
  | .hbm, ⟨37, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnSRefIdeal.lean ====
abbrev S32x32x1024 : Shape := ⟨3, ![32, 32, 1024]⟩
abbrev S1024x512 : Shape := ⟨2, ![1024, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S32x32x512 : Shape := ⟨3, ![32, 32, 512]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S1024x4104 : Shape := ⟨2, ![1024, 4104]⟩
abbrev S32x32x4104 : Shape := ⟨3, ![32, 32, 4104]⟩
abbrev S32x32x2048 : Shape := ⟨3, ![32, 32, 2048]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S32x32x2816 : Shape := ⟨3, ![32, 32, 2816]⟩

abbrev nBuf : Space → Nat
  | .hbm => 113
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1024x512, .bf16⟩
  | .hbm, ⟨2, _⟩ => ⟨S1024x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x2048, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1024x512, .f32⟩
  | .hbm, ⟨15, _⟩ => ⟨S32x32x512, .f32⟩
  | .hbm, ⟨16, _⟩ => ⟨S1024x512, .f32⟩
  | .hbm, ⟨17, _⟩ => ⟨S32x32x512, .f32⟩
  | .hbm, ⟨18, _⟩ => ⟨S1024, .f32⟩
  | .hbm, ⟨19, _⟩ => ⟨S32x32x1024, .f32⟩
  | .hbm, ⟨20, _⟩ => ⟨S_, .f32⟩
  | .hbm, ⟨21, _⟩ => ⟨S32x32, .f32⟩
  | .hbm, ⟨22, _⟩ => ⟨S32x32x1, .f32⟩
  | .hbm, ⟨23, _⟩ => ⟨S_, .f32⟩
  | .hbm, ⟨24, _⟩ => ⟨S32x32x1, .f32⟩
  | .hbm, ⟨25, _⟩ => ⟨S32x32x1, .f32⟩
  | .hbm, ⟨26, _⟩ => ⟨S_, .f32⟩
  | .hbm, ⟨27, _⟩ => ⟨S32x32x1, .f32⟩
  | .hbm, ⟨28, _⟩ => ⟨S32x32x1, .f32⟩
  | .hbm, ⟨29, _⟩ => ⟨S32x32x1, .f32⟩
  | .hbm, ⟨30, _⟩ => ⟨S32x32x1024, .f32⟩
  | .hbm, ⟨31, _⟩ => ⟨S32x32x1024, .f32⟩
  | .hbm, ⟨32, _⟩ => ⟨S1x1x1024, .f32⟩
  | .hbm, ⟨33, _⟩ => ⟨S32x32x1024, .f32⟩
  | .hbm, ⟨34, _⟩ => ⟨S32x32x1024, .f32⟩
  | .hbm, ⟨35, _⟩ => ⟨S1024x4104, .f32⟩
  | .hbm, ⟨36, _⟩ => ⟨S32x32x4104, .f32⟩
  | .hbm, ⟨37, _⟩ => ⟨S32x32x2048, .f32⟩
  | .hbm, ⟨38, _⟩ => ⟨S2048, .f32⟩
  | .hbm, ⟨39, _⟩ => ⟨S1x1x2048, .f32⟩
  | .hbm, ⟨40, _⟩ => ⟨S32x32x2048, .f32⟩
  | .hbm, ⟨41, _⟩ => ⟨S32x32x2048, .f32⟩
  | .hbm, ⟨42, _⟩ => ⟨S32x32x2048, .f32⟩
  | .hbm, ⟨43, _⟩ => ⟨S32x32x2048, .f32⟩
  | .hbm, ⟨44, _⟩ => ⟨S_, .f32⟩
  | .hbm, ⟨45, _⟩ => ⟨S32x32x2048, .f32⟩
  | .hbm, ⟨46, _⟩ => ⟨S32x32x2048, .f32⟩
  | .hbm, ⟨47, _⟩ => ⟨S_, .f32⟩
  | .hbm, ⟨48, _⟩ => ⟨S32x32x2048, .f32⟩
  | .hbm, ⟨49, _⟩ => ⟨S32x32x2048, .f32⟩
  | .hbm, ⟨50, _⟩ => ⟨S32x32x1024, .f32⟩
  | .hbm, ⟨51, _⟩ => ⟨S32x32x1024, .f32⟩
  | .hbm, ⟨52, _⟩ => ⟨S512x1024, .f32⟩
  | .hbm, ⟨53, _⟩ => ⟨S32x32x1024, .f32⟩
  | .hbm, ⟨54, _⟩ => ⟨S32x32x1024, .f32⟩
  | .hbm, ⟨55, _⟩ => ⟨S512x1024, .f32⟩
  | .hbm, ⟨56, _⟩ => ⟨S32x32x1024, .f32⟩
  | .hbm, ⟨57, _⟩ => ⟨S32x32x1024, .f32⟩
  | .hbm, ⟨58, _⟩ => ⟨S32x32x1024, .f32⟩
  | .hbm, ⟨59, _⟩ => ⟨S1024x1024, .f32⟩
  | .hbm, ⟨60, _⟩ => ⟨S32x32x1024, .f32⟩
  | .hbm, ⟨61, _⟩ => ⟨S32x32x1024, .f32⟩
  | .hbm, ⟨62, _⟩ => ⟨S1024, .f32⟩
  | .hbm, ⟨63, _⟩ => ⟨S32x32x1024, .f32⟩
  | .hbm, ⟨64, _⟩ => ⟨S_, .f32⟩
  | .hbm, ⟨65, _⟩ => ⟨S32x32, .f32⟩
  | .hbm, ⟨66, _⟩ => ⟨S32x32x1, .f32⟩
  | .hbm, ⟨67, _⟩ => ⟨S_, .f32⟩
  | .hbm, ⟨68, _⟩ => ⟨S32x32x1, .f32⟩
  | .hbm, ⟨69, _⟩ => ⟨S32x32x1, .f32⟩
  | .hbm, ⟨70, _⟩ => ⟨S_, .f32⟩
  | .hbm, ⟨71, _⟩ => ⟨S32x32x1, .f32⟩
  | .hbm, ⟨72, _⟩ => ⟨S32x32x1, .f32⟩
  | .hbm, ⟨73, _⟩ => ⟨S32x32x1, .f32⟩
  | .hbm, ⟨74, _⟩ => ⟨S32x32x1024, .f32⟩
  | .hbm, ⟨75, _⟩ => ⟨S32x32x1024, .f32⟩
  | .hbm, ⟨76, _⟩ => ⟨S1x1x1024, .f32⟩
  | .hbm, ⟨77, _⟩ => ⟨S32x32x1024, .f32⟩
  | .hbm, ⟨78, _⟩ => ⟨S32x32x1024, .f32⟩
  | .hbm, ⟨79, _⟩ => ⟨S1024x2816, .f32⟩
  | .hbm, ⟨80, _⟩ => ⟨S1024x2816, .f32⟩
  | .hbm, ⟨81, _⟩ => ⟨S2816x1024, .f32⟩
  | .hbm, ⟨82, _⟩ => ⟨S32x32x2816, .f32⟩
  | .hbm, ⟨83, _⟩ => ⟨S32x32x2816, .f32⟩
  | .hbm, ⟨84, _⟩ => ⟨S32x32x2816, .f32⟩
  | .hbm, ⟨85, _⟩ => ⟨S_, .f32⟩
  | .hbm, ⟨86, _⟩ => ⟨S32x32x2816, .f32⟩
  | .hbm, ⟨87, _⟩ => ⟨S32x32x2816, .f32⟩
  | .hbm, ⟨88, _⟩ => ⟨S_, .f32⟩
  | .hbm, ⟨89, _⟩ => ⟨S32x32x2816, .f32⟩
  | .hbm, ⟨90, _⟩ => ⟨S32x32x2816, .f32⟩
  | .hbm, ⟨91, _⟩ => ⟨S32x32x2816, .f32⟩
  | .hbm, ⟨92, _⟩ => ⟨S32x32x2816, .f32⟩
  | .hbm, ⟨93, _⟩ => ⟨S32x32x2816, .f32⟩
  | .hbm, ⟨94, _⟩ => ⟨S32x32x1024, .f32⟩
  | .hbm, ⟨95, _⟩ => ⟨S32x32x1024, .f32⟩
  | .hbm, ⟨96, _⟩ => ⟨S32x32x1024, .f32⟩
  | .hbm, ⟨97, _⟩ => ⟨S_, .f32⟩
  | .hbm, ⟨98, _⟩ => ⟨S32x32, .f32⟩
  | .hbm, ⟨99, _⟩ => ⟨S32x32x1, .f32⟩
  | .hbm, ⟨100, _⟩ => ⟨S_, .f32⟩
  | .hbm, ⟨101, _⟩ => ⟨S32x32x1, .f32⟩
  | .hbm, ⟨102, _⟩ => ⟨S32x32x1, .f32⟩
  | .hbm, ⟨103, _⟩ => ⟨S_, .f32⟩
  | .hbm, ⟨104, _⟩ => ⟨S32x32x1, .f32⟩
  | .hbm, ⟨105, _⟩ => ⟨S32x32x1, .f32⟩
  | .hbm, ⟨106, _⟩ => ⟨S32x32x1, .f32⟩
  | .hbm, ⟨107, _⟩ => ⟨S32x32x1024, .f32⟩
  | .hbm, ⟨108, _⟩ => ⟨S32x32x1024, .f32⟩
  | .hbm, ⟨109, _⟩ => ⟨S1x1x1024, .f32⟩
  | .hbm, ⟨110, _⟩ => ⟨S32x32x1024, .f32⟩
  | .hbm, ⟨111, _⟩ => ⟨S32x32x1024, .f32⟩
  | .hbm, ⟨112, _⟩ => ⟨S1024x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Proof.AttnMath.lean ====
module

public import Idealize.ShloMosaic.PureOps.Ideal
public import Idealize.ShloMosaic.Lib.Pointwise

@[expose] public section

/-! The state of one column of queries after some keys: a maximum (or bound) and the sums of the values with the weights
relative to it. A step over a block of keys keeps the state good, whichever way the block's maximum is taken, and the
quotient of the sums no longer depends on the maximum. -/

noncomputable section

namespace Cert.AttnMath

open Idealize.ShloMosaic

/-- A non-negative number distributes over a sum. -/
theorem mul_sum' {ι : Type} (a : ℝ) (ha : 0 ≤ a) (s : Finset ι) (f : ι → EReal) :
    (a : EReal) * ∑ k ∈ s, f k = ∑ k ∈ s, (a : EReal) * f k := by
  classical
  induction s using Finset.induction with
  | empty => simp
  | insert x s hx ih =>
    rw [Finset.sum_insert hx, Finset.sum_insert hx, EReal.left_distrib_of_nonneg_of_ne_top (by exact_mod_cast ha) (EReal.coe_ne_top a), ih]

theorem sum_mul' {ι : Type} (a : ℝ) (ha : 0 ≤ a) (s : Finset ι) (f : ι → EReal) :
    (∑ k ∈ s, f k) * (a : EReal) = ∑ k ∈ s, f k * (a : EReal) := by
  rw [mul_comm, mul_sum' a ha]; exact Finset.sum_congr rfl fun k _ => mul_comm _ _

/-- A sum of real numbers. -/
theorem coe_sum' {ι : Type} (s : Finset ι) (f : ι → ℝ) : ((∑ k ∈ s, f k : ℝ) : EReal) = ∑ k ∈ s, (f k : EReal) := by
  classical
  induction s using Finset.induction with
  | empty => simp
  | insert x s hx ih => rw [Finset.sum_insert hx, Finset.sum_insert hx, EReal.coe_add, ih]

/-- The state at the maximum `m`: every sum is over the first `n` keys, with the weights relative to `m`. -/
def At (st : ℕ → ℝ) (V : Fin 80 → ℕ → EReal) (n : ℕ) (m : ℝ) (A : Fin 80 → EReal) : Prop :=
  ∀ r, A r = ∑ k ∈ Finset.range n, V r k * ((Real.rpow 2 (st k - m) : ℝ) : EReal)

/-- A good state: nothing seen yet, or the sums at some real maximum. -/
def Good (st : ℕ → ℝ) (V : Fin 80 → ℕ → EReal) (n : ℕ) (M : EReal) (A : Fin 80 → EReal) : Prop :=
  (n = 0 ∧ M = ⊥ ∧ ∀ r, A r = 0) ∨ ∃ m : ℝ, M = m ∧ At st V n m A

/-- The masked sum over a block of keys, at a real maximum. -/
theorem block_sum {w : ℕ} (st : ℕ → ℝ) (V : ℕ → EReal) (n o : ℕ) (ho : o < w) (x : Fin w → EReal) (v : Fin w → EReal)
    (hx : ∀ l, x l = if l.1 ≤ o then ((st (n + l.1) : ℝ) : EReal) else ⊥) (hv : ∀ l, v l = V (n + l.1)) (m : ℝ) :
    ∑ l, v l * Ideal.exp2 (x l - (m : EReal)) = ∑ k ∈ Finset.range (o + 1), V (n + k) * ((Real.rpow 2 (st (n + k) - m) : ℝ) : EReal) := by
  have h1 : ∀ l : Fin w, v l * Ideal.exp2 (x l - (m : EReal))
      = (fun k : ℕ => if k ≤ o then V (n + k) * ((Real.rpow 2 (st (n + k) - m) : ℝ) : EReal) else 0) l.1 := by
    intro l
    rw [hx l, hv l]
    by_cases h : l.1 ≤ o
    · simp only [if_pos h]
      rw [← EReal.coe_sub, Ideal.exp2_coe]
    · simp only [if_neg h]
      rw [EReal.bot_sub, Ideal.exp2_bot, mul_zero]
  rw [Finset.sum_congr rfl fun l _ => h1 l, Fin.sum_univ_eq_sum_range (fun k : ℕ => if k ≤ o then V (n + k) * ((Real.rpow 2 (st (n + k) - m) : ℝ) : EReal) else 0) w]
  rw [← Finset.sum_subset (s₁ := Finset.range (o + 1))]
  · exact Finset.sum_congr rfl fun k hk => if_pos (by have := Finset.mem_range.mp hk; omega)
  · intro k hk; have := Finset.mem_range.mp hk; exact Finset.mem_range.mpr (by omega)
  · intro k _ hk; exact if_neg fun h => hk (Finset.mem_range.mpr (by omega))

/-- A step under a given real bound. -/
theorem stepB {w : ℕ} {st : ℕ → ℝ} {V : Fin 80 → ℕ → EReal} {n : ℕ} {m : ℝ} {A A' : Fin 80 → EReal} (h : At st V n m A) (o : ℕ) (ho : o < w)
    (x : Fin w → EReal) (v : Fin 80 → Fin w → EReal)
    (hx : ∀ l, x l = if l.1 ≤ o then ((st (n + l.1) : ℝ) : EReal) else ⊥) (hv : ∀ r l, v r l = V r (n + l.1))
    (hA : ∀ r, A' r = A r + ∑ l, v r l * Ideal.exp2 (x l - (m : EReal))) : At st V (n + (o + 1)) m A' := by
  intro r
  rw [hA r, h r, block_sum st (V r) n o ho x (v r) hx (hv r) m, Finset.sum_range_add _ n (o + 1)]

/-- The maximum of a block of scores with at least one key in sight is a real number. -/
theorem sup_real {w : ℕ} (st : ℕ → ℝ) (n o : ℕ) (ho : o < w) (x : Fin w → EReal)
    (hx : ∀ l, x l = if l.1 ≤ o then ((st (n + l.1) : ℝ) : EReal) else ⊥) : ∃ μ : ℝ, Finset.univ.sup x = (μ : EReal) := by
  have hw : 0 < w := by omega
  have h0 : ((st (n + 0) : ℝ) : EReal) ≤ Finset.univ.sup x := by
    have h1 := Finset.le_sup (f := x) (Finset.mem_univ (⟨0, hw⟩ : Fin w))
    rwa [hx ⟨0, hw⟩, if_pos (Nat.zero_le o)] at h1
  have ht : Finset.univ.sup x < ⊤ := by
    rw [Finset.sup_lt_iff (by simp)]
    intro l _
    rw [hx l]
    split
    · exact EReal.coe_lt_top _
    · simp
  have hb : Finset.univ.sup x ≠ ⊥ := fun e => by
    rw [e] at h0; exact absurd (le_bot_iff.mp h0) (EReal.coe_ne_bot _)
  exact ⟨_, (EReal.coe_toReal ht.ne hb).symm⟩

/-- A step under the running maximum. -/
theorem stepR {w : ℕ} {st : ℕ → ℝ} {V : Fin 80 → ℕ → EReal} {n : ℕ} {M M' : EReal} {A A' : Fin 80 → EReal} (h : Good st V n M A) (o : ℕ) (ho : o < w)
    (x : Fin w → EReal) (v : Fin 80 → Fin w → EReal)
    (hx : ∀ l, x l = if l.1 ≤ o then ((st (n + l.1) : ℝ) : EReal) else ⊥) (hv : ∀ r l, v r l = V r (n + l.1))
    (hM : M' = max M (Finset.univ.sup x))
    (hA : ∀ r, A' r = Ideal.exp2 (M - M') * A r + ∑ l, v r l * Ideal.exp2 (x l - M')) : Good st V (n + (o + 1)) M' A' := by
  obtain ⟨μ, hμ⟩ := sup_real st n o ho x hx
  right
  rcases h with ⟨hn, hb, h0⟩ | ⟨m, hm, h⟩
  · have e : M' = (μ : EReal) := by rw [hM, hb, hμ]; exact max_eq_right bot_le
    refine ⟨μ, e, fun r => ?_⟩
    rw [hA r, h0 r, mul_zero, zero_add, e, block_sum st (V r) n o ho x (v r) hx (hv r) μ, hn, Finset.sum_range_add _ 0 (o + 1)]
    simp
  · have e : M' = ((max m μ : ℝ) : EReal) := by rw [hM, hm, hμ]; exact (EReal.coe_strictMono.monotone.map_max).symm
    refine ⟨max m μ, e, fun r => ?_⟩
    rw [hA r, h r, e, hm, block_sum st (V r) n o ho x (v r) hx (hv r) _, Finset.sum_range_add _ n (o + 1)]
    congr 1
    rw [← EReal.coe_sub, Ideal.exp2_coe, mul_sum' (Real.rpow 2 (m - max m μ)) (Real.rpow_nonneg (by norm_num) _)]
    refine Finset.sum_congr rfl fun k _ => ?_
    rw [mul_comm, mul_assoc, ← EReal.coe_mul]
    congr 2
    show (2:ℝ) ^ (st k - m) * (2:ℝ) ^ (m - max m μ) = (2:ℝ) ^ (st k - max m μ)
    rw [← Real.rpow_add (by norm_num)]
    congr 1; ring

/-- The quotient of a good state's sums by its sum of weights: the weights may be taken relative to nothing. -/
theorem quotient {st : ℕ → ℝ} {V : Fin 80 → ℕ → EReal} {n : ℕ} {m : ℝ} {A : Fin 80 → EReal} (h : At st V n m A) (hn : 0 < n) (q : Fin 80)
    (hq : ∀ k, k < n → V q k = 1) (r : Fin 80) :
    Ideal.div (A r) (A q) = ∑ k ∈ Finset.range n, V r k * ((Real.rpow 2 (st k) / ∑ k ∈ Finset.range n, Real.rpow 2 (st k) : ℝ) : EReal) := by
  have hW : 0 < ∑ k ∈ Finset.range n, Real.rpow 2 (st k) :=
    Finset.sum_pos (fun k _ => Real.rpow_pos_of_pos (by norm_num) _) ⟨0, Finset.mem_range.mpr hn⟩
  have hp : ∀ k, Real.rpow 2 (st k - m) = Real.rpow 2 (st k) * (2:ℝ) ^ (-m) := fun k => by
    show (2:ℝ) ^ (st k - m) = (2:ℝ) ^ (st k) * (2:ℝ) ^ (-m)
    rw [← Real.rpow_add (by norm_num), sub_eq_add_neg]
  have hz : (0:ℝ) < (2:ℝ) ^ (-m) := Real.rpow_pos_of_pos (by norm_num) _
  have eq : A q = (((∑ k ∈ Finset.range n, Real.rpow 2 (st k)) * (2:ℝ) ^ (-m) : ℝ) : EReal) := by
    rw [h q, Finset.sum_mul, coe_sum']
    refine Finset.sum_congr rfl fun k hk => ?_
    rw [hq k (Finset.mem_range.mp hk), one_mul, hp k]
  rw [eq, Ideal.div_coe (mul_pos hW hz).ne', h r, sum_mul' _ (by positivity)]
  refine Finset.sum_congr rfl fun k _ => ?_
  rw [mul_assoc, ← EReal.coe_mul]
  congr 2
  rw [hp k]
  field_simp

end Cert.AttnMath

end
-- ==== Proof.AttnSpec.lean ====
module

public import Idealize.ShloMosaic.PureOps.Ideal
public import Idealize.ShloMosaic.Lib.Pointwise

@[expose] public section

/-! Causal attention over the extended reals: what both programs compute, of the packed queries, keys and values. -/

noncomputable section

namespace Cert.AttnSpec

open Idealize.ShloMosaic

/-- An entry of the queries: a channel, a position. -/
def qA (x : (⟨2, ![1024, 16384]⟩ : Shape).Idx → EReal) (d col : ℕ) : EReal := if h : d < 1024 ∧ col < 16384 then x (ix2 ⟨d, h.1⟩ ⟨col, h.2⟩) else 0
/-- An entry of the keys: a position, a channel. -/
def kA (x : (⟨2, ![16384, 1024]⟩ : Shape).Idx → EReal) (key d : ℕ) : EReal := if h : key < 16384 ∧ d < 1024 then x (ix2 ⟨key, h.1⟩ ⟨d, h.2⟩) else 0
/-- An entry of the values: a row of the slab of 640, a position. -/
def vA (x : (⟨3, ![8, 640, 2048]⟩ : Shape).Idx → EReal) (r key : ℕ) : EReal :=
  if h : r < 640 ∧ key < 16384 then x (ix3 ⟨key / 2048, by omega⟩ ⟨r, h.1⟩ ⟨key % 2048, by omega⟩) else 0

/-- The score of a key for a query, in a head. -/
def score (Q : ℕ → ℕ → EReal) (K : ℕ → ℕ → EReal) (h q k : ℕ) : ℝ := (∑ d : Fin 128, K k (128 * h + d.1) * Q (128 * h + d.1) q).toReal

/-- The result at a query and a column: a head's values at the keys up to the query, weighed. -/
def attn (Q : ℕ → ℕ → EReal) (K : ℕ → ℕ → EReal) (V : ℕ → ℕ → EReal) (q l : ℕ) : EReal :=
  ∑ k ∈ Finset.range (q + 1), V (80 * (l / 64) + l % 64) k *
    ((Real.rpow 2 (score Q K (l / 64) q k) / ∑ k ∈ Finset.range (q + 1), Real.rpow 2 (score Q K (l / 64) q k) : ℝ) : EReal)

theorem real_sum {n : ℕ} (f : Fin n → EReal) (hf : ∀ i, ∃ r : ℝ, f i = (r : EReal)) : ∃ r : ℝ, ∑ i, f i = (r : EReal) := by
  choose g hg using hf
  refine ⟨∑ i, g i, ?_⟩
  rw [Finset.sum_congr rfl fun i _ => hg i]
  exact (map_sum (⟨⟨((↑) : ℝ → EReal), rfl⟩, fun a b => EReal.coe_add a b⟩ : ℝ →+ EReal) g Finset.univ).symm

/-- Of real queries and keys the score is the sum of products itself. -/
theorem score_coe {Q K : ℕ → ℕ → EReal} (hQ : ∀ d q, ∃ r : ℝ, Q d q = (r : EReal)) (hK : ∀ k d, ∃ r : ℝ, K k d = (r : EReal)) (h q k : ℕ) :
    ∑ d : Fin 128, K k (128 * h + d.1) * Q (128 * h + d.1) q = ((score Q K h q k : ℝ) : EReal) := by
  obtain ⟨r, hr⟩ := real_sum (fun d : Fin 128 => K k (128 * h + d.1) * Q (128 * h + d.1) q) fun d => by
    obtain ⟨a, ha⟩ := hK k (128 * h + d.1)
    obtain ⟨b, hb⟩ := hQ (128 * h + d.1) q
    exact ⟨a * b, by rw [ha, hb, EReal.coe_mul]⟩
  unfold score
  rw [hr, EReal.toReal_coe]

theorem qA_real {x : (⟨2, ![1024, 16384]⟩ : Shape).Idx → EReal} (hx : ∀ j, ∃ r : ℝ, x j = (r : EReal)) (d q : ℕ) : ∃ r : ℝ, qA x d q = (r : EReal) := by
  unfold qA
  split
  · exact hx _
  · exact ⟨0, rfl⟩

theorem kA_real {x : (⟨2, ![16384, 1024]⟩ : Shape).Idx → EReal} (hx : ∀ j, ∃ r : ℝ, x j = (r : EReal)) (k d : ℕ) : ∃ r : ℝ, kA x k d = (r : EReal) := by
  unfold kA
  split
  · exact hx _
  · exact ⟨0, rfl⟩

end Cert.AttnSpec

end
-- ==== Proof.AttnOps.lean ====
module

public import proofs.«01_k».proof.Proof.Gen.AttnIdeal
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

theorem bottom_word : Ideal.ofBits .f32 0xFF800000#32 = ⊥ := by
  simp [Ideal.ofBits, Ideal.ieee]

theorem fold_max {n : ℕ} (f : Fin n → EReal) : Finset.fold max (Ideal.ofBits .f32 0xFF800000#32) f Finset.univ = Finset.univ.sup f := by
  rw [bottom_word]; rfl

theorem mask_word : (Named.named (F := Ideal) κ "mask" 0xF149F2CA#32 : Ideal .f32) = (⊥ : EReal) := rfl

/-- A comparison of two small row and column numbers, as a choice. -/
theorem choose {a b o : ℕ} (ha : a < 2 ^ 20) (hb : b < 2 ^ 20) (ho : o < 2 ^ 20) (x y : EReal) :
    Scalar.select (IntOp.cmpi .sle (BitVec.ofNat 32 a) (IntOp.addi (BitVec.ofNat 32 b) (BitVec.ofNat 32 o))) x y = if a ≤ o + b then x else y := by
  have e : IntOp.addi (BitVec.ofNat 32 b) (BitVec.ofNat 32 o) = BitVec.ofNat 32 (o + b) := by
    unfold IntOp.addi; rw [← BitVec.ofNat_add, Nat.add_comm]
  rw [e, WordCmp.cmpi_sle_ofNat (by norm_num; omega) (by norm_num; omega)]
  by_cases h : a ≤ o + b
  · simp [h, Scalar.select]
  · simp [h, Scalar.select]

/-- The first row of a block of maxima. -/
def row0 (mb : Vec Ideal S1x1x8x256 .f32) : FVec Ideal S1x256 .f32 :=
  extractStridedSlice S1x256 ![0, 0] (shapeCast S8x256 mb shapeCasts_S1x1x8x256_S8x256) slices_S8x256_o0_0_S1x256

theorem row0_at (mb : Vec Ideal S1x1x8x256 .f32) (c : Fin 256) : row0 mb (ix2 0 c) = mb (ix4 0 0 0 c) := by
  pointwise [row0]

/-- A row of maxima as a block. -/
def asBlock (m : FVec Ideal S1x256 .f32) : FVec Ideal S1x1x8x256 .f32 :=
  shapeCast S1x1x8x256 (broadcastTo S8x256 (shapeCast S1x256 m shapeCasts_S1x256_S1x256) broadcasts_S1x256_S8x256) shapeCasts_S8x256_S1x1x8x256

theorem asBlock_at (m : FVec Ideal S1x256 .f32) (a : Fin 8) (c : Fin 256) : asBlock m (ix4 0 0 a c) = m (ix2 0 c) := by
  pointwise [asBlock]

end Cert.AttnOps

end
-- ==== Proof.AttnOps256.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 256 keys. -/
def sc256 (kb : Vec Ideal S256x128 .bf16) (qb : Vec Ideal S128x256 .bf16) : FVec Ideal S256x256 .f32 :=
  matmul (φ₁ := .bf16) (φ₂ := .bf16) dot_S256x128_S128x256_S256x256_1_0_0_1_n_n none kb qb (constant S256x256 .f32 0x00000000#32)

theorem sc256_at (kb : Vec Ideal S256x128 .bf16) (qb : Vec Ideal S128x256 .bf16) (l : Fin 256) (c : Fin 256) :
    sc256 kb qb (ix2 l c) = ∑ d : Fin 128, kb (ix2 l d) * qb (ix2 d c) := by
  pointwise [sc256]

/-- The causal mask on the scores of 256 keys. -/
def mk256 (st : FVec Ideal S256x256 .f32) : FVec Ideal S256x256 .f32 :=
  select (cmpi .sle (iota .tc S256x256 32 [0] iota_S256x256_d0_w32) (addi (iota .tc S256x256 32 [1] iota_S256x256_d1_w32) (broadcast S256x256 0#32)))
    st (broadcast S256x256 (Named.named (F := Ideal) κ "mask" 0xF149F2CA#32))

theorem mk256_at (st : FVec Ideal S256x256 .f32) (l : Fin 256) (c : Fin 256) :
    mk256 st (ix2 l c) = if l.1 ≤ 0 + c.1 then st (ix2 l c) else ⊥ := by
  pointwise [mk256]
  rw [mask_word]
  have e := choose (a := l.1) (b := c.1) (o := 0) (by omega) (by omega) (by omega) (st (ix2 l c)) ⊥
  simpa only [Nat.zero_add] using e

/-- The weights under a given bound. -/
def eB256 (st : FVec Ideal S256x256 .f32) (mb : Vec Ideal S1x1x8x256 .f32) : FVec Ideal S256x256 .bf16 :=
  truncf .bf16 (exp2 (subf st (broadcastTo S256x256 (row0 mb) broadcasts_S1x256_S256x256))) bitsLt_bf16_f32

/-- The running maximum. -/
def mN256 (st : FVec Ideal S256x256 .f32) (mb : Vec Ideal S1x1x8x256 .f32) : FVec Ideal S1x256 .f32 :=
  maximumf (row0 mb) (shapeCast S1x256 (multiReduction .maximumf [0] S256 st 0xFF800000#32 reduces_S256x256_S256 (.inl rfl) rfl) shapeCasts_S256_S1x256)

/-- The weights under the running maximum. -/
def eR256 (st : FVec Ideal S256x256 .f32) (mb : Vec Ideal S1x1x8x256 .f32) : FVec Ideal S256x256 .bf16 :=
  truncf .bf16 (exp2 (subf st (broadcastTo S256x256 (mN256 st mb) broadcasts_S1x256_S256x256))) bitsLt_bf16_f32

/-- The values' sum with the weights. -/
def pv256 (vb : Vec Ideal S1x80x256 .bf16) (p : FVec Ideal S256x256 .bf16) : FVec Ideal S80x256 .f32 :=
  matmul (φ₁ := .bf16) (φ₂ := .bf16) dot_S80x256_S256x256_S80x256_1_0_0_1_n_n none (shapeCast S80x256 vb shapeCasts_S1x80x256_S80x256) p (constant S80x256 .f32 0x00000000#32)

/-- The accumulator's step under a given bound. -/
def aB256 (st : FVec Ideal S256x256 .f32) (mb : Vec Ideal S1x1x8x256 .f32) (vb : Vec Ideal S1x80x256 .bf16) (ab : Vec Ideal S1x1x80x256 .f32) : FVec Ideal S1x1x80x256 .f32 :=
  shapeCast S1x1x80x256 (addf (shapeCast S80x256 ab shapeCasts_S1x1x80x256_S80x256) (pv256 vb (eB256 st mb))) shapeCasts_S80x256_S1x1x80x256

/-- The accumulator's step under the running maximum. -/
def aR256 (st : FVec Ideal S256x256 .f32) (mb : Vec Ideal S1x1x8x256 .f32) (vb : Vec Ideal S1x80x256 .bf16) (ab : Vec Ideal S1x1x80x256 .f32) : FVec Ideal S1x1x80x256 .f32 :=
  shapeCast S1x1x80x256 (addf (mulf (broadcastTo S80x256 (exp2 (subf (row0 mb) (mN256 st mb))) broadcasts_S1x256_S80x256) (shapeCast S80x256 ab shapeCasts_S1x1x80x256_S80x256)) (pv256 vb (eR256 st mb))) shapeCasts_S80x256_S1x1x80x256

theorem aB256_at (st : FVec Ideal S256x256 .f32) (mb : Vec Ideal S1x1x8x256 .f32) (vb : Vec Ideal S1x80x256 .bf16) (ab : Vec Ideal S1x1x80x256 .f32) (r : Fin 80) (c : Fin 256) :
    aB256 st mb vb ab (ix4 0 0 r c) = ab (ix4 0 0 r c) + ∑ l : Fin 256, vb (ix3 0 r l) * Ideal.exp2 (st (ix2 l c) - mb (ix4 0 0 0 c)) := by
  pointwise [aB256, pv256, eB256, row0_at]
  rfl

theorem mN256_at (st : FVec Ideal S256x256 .f32) (mb : Vec Ideal S1x1x8x256 .f32) (c : Fin 256) :
    mN256 st mb (ix2 0 c) = max (mb (ix4 0 0 0 c)) (Finset.univ.sup fun l : Fin 256 => st (ix2 l c)) := by
  pointwise [mN256, row0_at]
  rw [fold_max]

theorem aR256_at (st : FVec Ideal S256x256 .f32) (mb : Vec Ideal S1x1x8x256 .f32) (vb : Vec Ideal S1x80x256 .bf16) (ab : Vec Ideal S1x1x80x256 .f32) (r : Fin 80) (c : Fin 256) :
    aR256 st mb vb ab (ix4 0 0 r c) = Ideal.exp2 (mb (ix4 0 0 0 c) - mN256 st mb (ix2 0 c)) * ab (ix4 0 0 r c)
      + ∑ l : Fin 256, vb (ix3 0 r l) * Ideal.exp2 (st (ix2 l c) - mN256 st mb (ix2 0 c)) := by
  pointwise [aR256, pv256, eR256, row0_at]
  rfl

end Cert.AttnOps

end
-- ==== Proof.AttnOps512.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 512 keys. -/
def sc512 (kb : Vec Ideal S512x128 .bf16) (qb : Vec Ideal S128x256 .bf16) : FVec Ideal S512x256 .f32 :=
  matmul (φ₁ := .bf16) (φ₂ := .bf16) dot_S512x128_S128x256_S512x256_1_0_0_1_n_n none kb qb (constant S512x256 .f32 0x00000000#32)

theorem sc512_at (kb : Vec Ideal S512x128 .bf16) (qb : Vec Ideal S128x256 .bf16) (l : Fin 512) (c : Fin 256) :
    sc512 kb qb (ix2 l c) = ∑ d : Fin 128, kb (ix2 l d) * qb (ix2 d c) := by
  pointwise [sc512]

/-- The causal mask on the scores of 512 keys. -/
def mk512 (st : FVec Ideal S512x256 .f32) : FVec Ideal S512x256 .f32 :=
  select (cmpi .sle (iota .tc S512x256 32 [0] iota_S512x256_d0_w32) (addi (iota .tc S512x256 32 [1] iota_S512x256_d1_w32) (broadcast S512x256 256#32)))
    st (broadcast S512x256 (Named.named (F := Ideal) κ "mask" 0xF149F2CA#32))

theorem mk512_at (st : FVec Ideal S512x256 .f32) (l : Fin 512) (c : Fin 256) :
    mk512 st (ix2 l c) = if l.1 ≤ 256 + c.1 then st (ix2 l c) else ⊥ := by
  pointwise [mk512]
  rw [mask_word]
  have e := choose (a := l.1) (b := c.1) (o := 256) (by omega) (by omega) (by omega) (st (ix2 l c)) ⊥
  exact e

/-- The weights under a given bound. -/
def eB512 (st : FVec Ideal S512x256 .f32) (mb : Vec Ideal S1x1x8x256 .f32) : FVec Ideal S512x256 .bf16 :=
  truncf .bf16 (exp2 (subf st (broadcastTo S512x256 (row0 mb) broadcasts_S1x256_S512x256))) bitsLt_bf16_f32

/-- The running maximum. -/
def mN512 (st : FVec Ideal S512x256 .f32) (mb : Vec Ideal S1x1x8x256 .f32) : FVec Ideal S1x256 .f32 :=
  maximumf (row0 mb) (shapeCast S1x256 (multiReduction .maximumf [0] S256 st 0xFF800000#32 reduces_S512x256_S256 (.inl rfl) rfl) shapeCasts_S256_S1x256)

/-- The weights under the running maximum. -/
def eR512 (st : FVec Ideal S512x256 .f32) (mb : Vec Ideal S1x1x8x256 .f32) : FVec Ideal S512x256 .bf16 :=
  truncf .bf16 (exp2 (subf st (broadcastTo S512x256 (mN512 st mb) broadcasts_S1x256_S512x256))) bitsLt_bf16_f32

/-- The values' sum with the weights. -/
def pv512 (vb : Vec Ideal S1x80x512 .bf16) (p : FVec Ideal S512x256 .bf16) : FVec Ideal S80x256 .f32 :=
  matmul (φ₁ := .bf16) (φ₂ := .bf16) dot_S80x512_S512x256_S80x256_1_0_0_1_n_n none (shapeCast S80x512 vb shapeCasts_S1x80x512_S80x512) p (constant S80x256 .f32 0x00000000#32)

/-- The accumulator's step under a given bound. -/
def aB512 (st : FVec Ideal S512x256 .f32) (mb : Vec Ideal S1x1x8x256 .f32) (vb : Vec Ideal S1x80x512 .bf16) (ab : Vec Ideal S1x1x80x256 .f32) : FVec Ideal S1x1x80x256 .f32 :=
  shapeCast S1x1x80x256 (addf (shapeCast S80x256 ab shapeCasts_S1x1x80x256_S80x256) (pv512 vb (eB512 st mb))) shapeCasts_S80x256_S1x1x80x256

/-- The accumulator's step under the running maximum. -/
def aR512 (st : FVec Ideal S512x256 .f32) (mb : Vec Ideal S1x1x8x256 .f32) (vb : Vec Ideal S1x80x512 .bf16) (ab : Vec Ideal S1x1x80x256 .f32) : FVec Ideal S1x1x80x256 .f32 :=
  shapeCast S1x1x80x256 (addf (mulf (broadcastTo S80x256 (exp2 (subf (row0 mb) (mN512 st mb))) broadcasts_S1x256_S80x256) (shapeCast S80x256 ab shapeCasts_S1x1x80x256_S80x256)) (pv512 vb (eR512 st mb))) shapeCasts_S80x256_S1x1x80x256

theorem aB512_at (st : FVec Ideal S512x256 .f32) (mb : Vec Ideal S1x1x8x256 .f32) (vb : Vec Ideal S1x80x512 .bf16) (ab : Vec Ideal S1x1x80x256 .f32) (r : Fin 80) (c : Fin 256) :
    aB512 st mb vb ab (ix4 0 0 r c) = ab (ix4 0 0 r c) + ∑ l : Fin 512, vb (ix3 0 r l) * Ideal.exp2 (st (ix2 l c) - mb (ix4 0 0 0 c)) := by
  pointwise [aB512, pv512, eB512, row0_at]
  rfl

theorem mN512_at (st : FVec Ideal S512x256 .f32) (mb : Vec Ideal S1x1x8x256 .f32) (c : Fin 256) :
    mN512 st mb (ix2 0 c) = max (mb (ix4 0 0 0 c)) (Finset.univ.sup fun l : Fin 512 => st (ix2 l c)) := by
  pointwise [mN512, row0_at]
  rw [fold_max]

theorem aR512_at (st : FVec Ideal S512x256 .f32) (mb : Vec Ideal S1x1x8x256 .f32) (vb : Vec Ideal S1x80x512 .bf16) (ab : Vec Ideal S1x1x80x256 .f32) (r : Fin 80) (c : Fin 256) :
    aR512 st mb vb ab (ix4 0 0 r c) = Ideal.exp2 (mb (ix4 0 0 0 c) - mN512 st mb (ix2 0 c)) * ab (ix4 0 0 r c)
      + ∑ l : Fin 512, vb (ix3 0 r l) * Ideal.exp2 (st (ix2 l c) - mN512 st mb (ix2 0 c)) := by
  pointwise [aR512, pv512, eR512, row0_at]
  rfl

end Cert.AttnOps

end
-- ==== Proof.AttnOps768.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 768 keys. -/
def sc768 (kb : Vec Ideal S768x128 .bf16) (qb : Vec Ideal S128x256 .bf16) : FVec Ideal S768x256 .f32 :=
  matmul (φ₁ := .bf16) (φ₂ := .bf16) dot_S768x128_S128x256_S768x256_1_0_0_1_n_n none kb qb (constant S768x256 .f32 0x00000000#32)

theorem sc768_at (kb : Vec Ideal S768x128 .bf16) (qb : Vec Ideal S128x256 .bf16) (l : Fin 768) (c : Fin 256) :
    sc768 kb qb (ix2 l c) = ∑ d : Fin 128, kb (ix2 l d) * qb (ix2 d c) := by
  pointwise [sc768]

/-- The causal mask on the scores of 768 keys. -/
def mk768 (st : FVec Ideal S768x256 .f32) : FVec Ideal S768x256 .f32 :=
  select (cmpi .sle (iota .tc S768x256 32 [0] iota_S768x256_d0_w32) (addi (iota .tc S768x256 32 [1] iota_S768x256_d1_w32) (broadcast S768x256 512#32)))
    st (broadcast S768x256 (Named.named (F := Ideal) κ "mask" 0xF149F2CA#32))

theorem mk768_at (st : FVec Ideal S768x256 .f32) (l : Fin 768) (c : Fin 256) :
    mk768 st (ix2 l c) = if l.1 ≤ 512 + c.1 then st (ix2 l c) else ⊥ := by
  pointwise [mk768]
  rw [mask_word]
  have e := choose (a := l.1) (b := c.1) (o := 512) (by omega) (by omega) (by omega) (st (ix2 l c)) ⊥
  exact e

/-- The weights under a given bound. -/
def eB768 (st : FVec Ideal S768x256 .f32) (mb : Vec Ideal S1x1x8x256 .f32) : FVec Ideal S768x256 .bf16 :=
  truncf .bf16 (exp2 (subf st (broadcastTo S768x256 (row0 mb) broadcasts_S1x256_S768x256))) bitsLt_bf16_f32

/-- The running maximum. -/
def mN768 (st : FVec Ideal S768x256 .f32) (mb : Vec Ideal S1x1x8x256 .f32) : FVec Ideal S1x256 .f32 :=
  maximumf (row0 mb) (shapeCast S1x256 (multiReduction .maximumf [0] S256 st 0xFF800000#32 reduces_S768x256_S256 (.inl rfl) rfl) shapeCasts_S256_S1x256)

/-- The weights under the running maximum. -/
def eR768 (st : FVec Ideal S768x256 .f32) (mb : Vec Ideal S1x1x8x256 .f32) : FVec Ideal S768x256 .bf16 :=
  truncf .bf16 (exp2 (subf st (broadcastTo S768x256 (mN768 st mb) broadcasts_S1x256_S768x256))) bitsLt_bf16_f32

/-- The values' sum with the weights. -/
def pv768 (vb : Vec Ideal S1x80x768 .bf16) (p : FVec Ideal S768x256 .bf16) : FVec Ideal S80x256 .f32 :=
  matmul (φ₁ := .bf16) (φ₂ := .bf16) dot_S80x768_S768x256_S80x256_1_0_0_1_n_n none (shapeCast S80x768 vb shapeCasts_S1x80x768_S80x768) p (constant S80x256 .f32 0x00000000#32)

/-- The accumulator's step under a given bound. -/
def aB768 (st : FVec Ideal S768x256 .f32) (mb : Vec Ideal S1x1x8x256 .f32) (vb : Vec Ideal S1x80x768 .bf16) (ab : Vec Ideal S1x1x80x256 .f32) : FVec Ideal S1x1x80x256 .f32 :=
  shapeCast S1x1x80x256 (addf (shapeCast S80x256 ab shapeCasts_S1x1x80x256_S80x256) (pv768 vb (eB768 st mb))) shapeCasts_S80x256_S1x1x80x256

/-- The accumulator's step under the running maximum. -/
def aR768 (st : FVec Ideal S768x256 .f32) (mb : Vec Ideal S1x1x8x256 .f32) (vb : Vec Ideal S1x80x768 .bf16) (ab : Vec Ideal S1x1x80x256 .f32) : FVec Ideal S1x1x80x256 .f32 :=
  shapeCast S1x1x80x256 (addf (mulf (broadcastTo S80x256 (exp2 (subf (row0 mb) (mN768 st mb))) broadcasts_S1x256_S80x256) (shapeCast S80x256 ab shapeCasts_S1x1x80x256_S80x256)) (pv768 vb (eR768 st mb))) shapeCasts_S80x256_S1x1x80x256

theorem aB768_at (st : FVec Ideal S768x256 .f32) (mb : Vec Ideal S1x1x8x256 .f32) (vb : Vec Ideal S1x80x768 .bf16) (ab : Vec Ideal S1x1x80x256 .f32) (r : Fin 80) (c : Fin 256) :
    aB768 st mb vb ab (ix4 0 0 r c) = ab (ix4 0 0 r c) + ∑ l : Fin 768, vb (ix3 0 r l) * Ideal.exp2 (st (ix2 l c) - mb (ix4 0 0 0 c)) := by
  pointwise [aB768, pv768, eB768, row0_at]
  rfl

theorem mN768_at (st : FVec Ideal S768x256 .f32) (mb : Vec Ideal S1x1x8x256 .f32) (c : Fin 256) :
    mN768 st mb (ix2 0 c) = max (mb (ix4 0 0 0 c)) (Finset.univ.sup fun l : Fin 768 => st (ix2 l c)) := by
  pointwise [mN768, row0_at]
  rw [fold_max]

theorem aR768_at (st : FVec Ideal S768x256 .f32) (mb : Vec Ideal S1x1x8x256 .f32) (vb : Vec Ideal S1x80x768 .bf16) (ab : Vec Ideal S1x1x80x256 .f32) (r : Fin 80) (c : Fin 256) :
    aR768 st mb vb ab (ix4 0 0 r c) = Ideal.exp2 (mb (ix4 0 0 0 c) - mN768 st mb (ix2 0 c)) * ab (ix4 0 0 r c)
      + ∑ l : Fin 768, vb (ix3 0 r l) * Ideal.exp2 (st (ix2 l c) - mN768 st mb (ix2 0 c)) := by
  pointwise [aR768, pv768, eR768, row0_at]
  rfl

end Cert.AttnOps

end
-- ==== Proof.AttnOps1024.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 1024 keys. -/
def sc1024 (kb : Vec Ideal S1024x128 .bf16) (qb : Vec Ideal S128x256 .bf16) : FVec Ideal S1024x256 .f32 :=
  matmul (φ₁ := .bf16) (φ₂ := .bf16) dot_S1024x128_S128x256_S1024x256_1_0_0_1_n_n none kb qb (constant S1024x256 .f32 0x00000000#32)

theorem sc1024_at (kb : Vec Ideal S1024x128 .bf16) (qb : Vec Ideal S128x256 .bf16) (l : Fin 1024) (c : Fin 256) :
    sc1024 kb qb (ix2 l c) = ∑ d : Fin 128, kb (ix2 l d) * qb (ix2 d c) := by
  pointwise [sc1024]

/-- The causal mask on the scores of 1024 keys. -/
def mk1024 (st : FVec Ideal S1024x256 .f32) : FVec Ideal S1024x256 .f32 :=
  select (cmpi .sle (iota .tc S1024x256 32 [0] iota_S1024x256_d0_w32) (addi (iota .tc S1024x256 32 [1] iota_S1024x256_d1_w32) (broadcast S1024x256 768#32)))
    st (broadcast S1024x256 (Named.named (F := Ideal) κ "mask" 0xF149F2CA#32))

theorem mk1024_at (st : FVec Ideal S1024x256 .f32) (l : Fin 1024) (c : Fin 256) :
    mk1024 st (ix2 l c) = if l.1 ≤ 768 + c.1 then st (ix2 l c) else ⊥ := by
  pointwise [mk1024]
  rw [mask_word]
  have e := choose (a := l.1) (b := c.1) (o := 768) (by omega) (by omega) (by omega) (st (ix2 l c)) ⊥
  exact e

/-- The weights under a given bound. -/
def eB1024 (st : FVec Ideal S1024x256 .f32) (mb : Vec Ideal S1x1x8x256 .f32) : FVec Ideal S1024x256 .bf16 :=
  truncf .bf16 (exp2 (subf st (broadcastTo S1024x256 (row0 mb) broadcasts_S1x256_S1024x256))) bitsLt_bf16_f32

/-- The running maximum. -/
def mN1024 (st : FVec Ideal S1024x256 .f32) (mb : Vec Ideal S1x1x8x256 .f32) : FVec Ideal S1x256 .f32 :=
  maximumf (row0 mb) (shapeCast S1x256 (multiReduction .maximumf [0] S256 st 0xFF800000#32 reduces_S1024x256_S256 (.inl rfl) rfl) shapeCasts_S256_S1x256)

/-- The weights under the running maximum. -/
def eR1024 (st : FVec Ideal S1024x256 .f32) (mb : Vec Ideal S1x1x8x256 .f32) : FVec Ideal S1024x256 .bf16 :=
  truncf .bf16 (exp2 (subf st (broadcastTo S1024x256 (mN1024 st mb) broadcasts_S1x256_S1024x256))) bitsLt_bf16_f32

/-- The values' sum with the weights. -/
def pv1024 (vb : Vec Ideal S1x80x1024 .bf16) (p : FVec Ideal S1024x256 .bf16) : FVec Ideal S80x256 .f32 :=
  matmul (φ₁ := .bf16) (φ₂ := .bf16) dot_S80x1024_S1024x256_S80x256_1_0_0_1_n_n none (shapeCast S80x1024 vb shapeCasts_S1x80x1024_S80x1024) p (constant S80x256 .f32 0x00000000#32)

/-- The accumulator's step under a given bound. -/
def aB1024 (st : FVec Ideal S1024x256 .f32) (mb : Vec Ideal S1x1x8x256 .f32) (vb : Vec Ideal S1x80x1024 .bf16) (ab : Vec Ideal S1x1x80x256 .f32) : FVec Ideal S1x1x80x256 .f32 :=
  shapeCast S1x1x80x256 (addf (shapeCast S80x256 ab shapeCasts_S1x1x80x256_S80x256) (pv1024 vb (eB1024 st mb))) shapeCasts_S80x256_S1x1x80x256

/-- The accumulator's step under the running maximum. -/
def aR1024 (st : FVec Ideal S1024x256 .f32) (mb : Vec Ideal S1x1x8x256 .f32) (vb : Vec Ideal S1x80x1024 .bf16) (ab : Vec Ideal S1x1x80x256 .f32) : FVec Ideal S1x1x80x256 .f32 :=
  shapeCast S1x1x80x256 (addf (mulf (broadcastTo S80x256 (exp2 (subf (row0 mb) (mN1024 st mb))) broadcasts_S1x256_S80x256) (shapeCast S80x256 ab shapeCasts_S1x1x80x256_S80x256)) (pv1024 vb (eR1024 st mb))) shapeCasts_S80x256_S1x1x80x256

theorem aB1024_at (st : FVec Ideal S1024x256 .f32) (mb : Vec Ideal S1x1x8x256 .f32) (vb : Vec Ideal S1x80x1024 .bf16) (ab : Vec Ideal S1x1x80x256 .f32) (r : Fin 80) (c : Fin 256) :
    aB1024 st mb vb ab (ix4 0 0 r c) = ab (ix4 0 0 r c) + ∑ l : Fin 1024, vb (ix3 0 r l) * Ideal.exp2 (st (ix2 l c) - mb (ix4 0 0 0 c)) := by
  pointwise [aB1024, pv1024, eB1024, row0_at]
  rfl

theorem mN1024_at (st : FVec Ideal S1024x256 .f32) (mb : Vec Ideal S1x1x8x256 .f32) (c : Fin 256) :
    mN1024 st mb (ix2 0 c) = max (mb (ix4 0 0 0 c)) (Finset.univ.sup fun l : Fin 1024 => st (ix2 l c)) := by
  pointwise [mN1024, row0_at]
  rw [fold_max]

theorem aR1024_at (st : FVec Ideal S1024x256 .f32) (mb : Vec Ideal S1x1x8x256 .f32) (vb : Vec Ideal S1x80x1024 .bf16) (ab : Vec Ideal S1x1x80x256 .f32) (r : Fin 80) (c : Fin 256) :
    aR1024 st mb vb ab (ix4 0 0 r c) = Ideal.exp2 (mb (ix4 0 0 0 c) - mN1024 st mb (ix2 0 c)) * ab (ix4 0 0 r c)
      + ∑ l : Fin 1024, vb (ix3 0 r l) * Ideal.exp2 (st (ix2 l c) - mN1024 st mb (ix2 0 c)) := by
  pointwise [aR1024, pv1024, eR1024, row0_at]
  rfl

end Cert.AttnOps

end
-- ==== Proof.AttnOps1280.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 1280 keys. -/
def sc1280 (kb : Vec Ideal S1280x128 .bf16) (qb : Vec Ideal S128x256 .bf16) : FVec Ideal S1280x256 .f32 :=
  matmul (φ₁ := .bf16) (φ₂ := .bf16) dot_S1280x128_S128x256_S1280x256_1_0_0_1_n_n none kb qb (constant S1280x256 .f32 0x00000000#32)

theorem sc1280_at (kb : Vec Ideal S1280x128 .bf16) (qb : Vec Ideal S128x256 .bf16) (l : Fin 1280) (c : Fin 256) :
    sc1280 kb qb (ix2 l c) = ∑ d : Fin 128, kb (ix2 l d) * qb (ix2 d c) := by
  pointwise [sc1280]

/-- The causal mask on the scores of 1280 keys. -/
def mk1280 (st : FVec Ideal S1280x256 .f32) : FVec Ideal S1280x256 .f32 :=
  select (cmpi .sle (iota .tc S1280x256 32 [0] iota_S1280x256_d0_w32) (addi (iota .tc S1280x256 32 [1] iota_S1280x256_d1_w32) (broadcast S1280x256 1024#32)))
    st (broadcast S1280x256 (Named.named (F := Ideal) κ "mask" 0xF149F2CA#32))

theorem mk1280_at (st : FVec Ideal S1280x256 .f32) (l : Fin 1280) (c : Fin 256) :
    mk1280 st (ix2 l c) = if l.1 ≤ 1024 + c.1 then st (ix2 l c) else ⊥ := by
  pointwise [mk1280]
  rw [mask_word]
  have e := choose (a := l.1) (b := c.1) (o := 1024) (by omega) (by omega) (by omega) (st (ix2 l c)) ⊥
  exact e

/-- The weights under a given bound. -/
def eB1280 (st : FVec Ideal S1280x256 .f32) (mb : Vec Ideal S1x1x8x256 .f32) : FVec Ideal S1280x256 .bf16 :=
  truncf .bf16 (exp2 (subf st (broadcastTo S1280x256 (row0 mb) broadcasts_S1x256_S1280x256))) bitsLt_bf16_f32

/-- The running maximum. -/
def mN1280 (st : FVec Ideal S1280x256 .f32) (mb : Vec Ideal S1x1x8x256 .f32) : FVec Ideal S1x256 .f32 :=
  maximumf (row0 mb) (shapeCast S1x256 (multiReduction .maximumf [0] S256 st 0xFF800000#32 reduces_S1280x256_S256 (.inl rfl) rfl) shapeCasts_S256_S1x256)

/-- The weights under the running maximum. -/
def eR1280 (st : FVec Ideal S1280x256 .f32) (mb : Vec Ideal S1x1x8x256 .f32) : FVec Ideal S1280x256 .bf16 :=
  truncf .bf16 (exp2 (subf st (broadcastTo S1280x256 (mN1280 st mb) broadcasts_S1x256_S1280x256))) bitsLt_bf16_f32

/-- The values' sum with the weights. -/
def pv1280 (vb : Vec Ideal S1x80x1280 .bf16) (p : FVec Ideal S1280x256 .bf16) : FVec Ideal S80x256 .f32 :=
  matmul (φ₁ := .bf16) (φ₂ := .bf16) dot_S80x1280_S1280x256_S80x256_1_0_0_1_n_n none (shapeCast S80x1280 vb shapeCasts_S1x80x1280_S80x1280) p (constant S80x256 .f32 0x00000000#32)

/-- The accumulator's step under a given bound. -/
def aB1280 (st : FVec Ideal S1280x256 .f32) (mb : Vec Ideal S1x1x8x256 .f32) (vb : Vec Ideal S1x80x1280 .bf16) (ab : Vec Ideal S1x1x80x256 .f32) : FVec Ideal S1x1x80x256 .f32 :=
  shapeCast S1x1x80x256 (addf (shapeCast S80x256 ab shapeCasts_S1x1x80x256_S80x256) (pv1280 vb (eB1280 st mb))) shapeCasts_S80x256_S1x1x80x256

/-- The accumulator's step under the running maximum. -/
def aR1280 (st : FVec Ideal S1280x256 .f32) (mb : Vec Ideal S1x1x8x256 .f32) (vb : Vec Ideal S1x80x1280 .bf16) (ab : Vec Ideal S1x1x80x256 .f32) : FVec Ideal S1x1x80x256 .f32 :=
  shapeCast S1x1x80x256 (addf (mulf (broadcastTo S80x256 (exp2 (subf (row0 mb) (mN1280 st mb))) broadcasts_S1x256_S80x256) (shapeCast S80x256 ab shapeCasts_S1x1x80x256_S80x256)) (pv1280 vb (eR1280 st mb))) shapeCasts_S80x256_S1x1x80x256

theorem aB1280_at (st : FVec Ideal S1280x256 .f32) (mb : Vec Ideal S1x1x8x256 .f32) (vb : Vec Ideal S1x80x1280 .bf16) (ab : Vec Ideal S1x1x80x256 .f32) (r : Fin 80) (c : Fin 256) :
    aB1280 st mb vb ab (ix4 0 0 r c) = ab (ix4 0 0 r c) + ∑ l : Fin 1280, vb (ix3 0 r l) * Ideal.exp2 (st (ix2 l c) - mb (ix4 0 0 0 c)) := by
  pointwise [aB1280, pv1280, eB1280, row0_at]
  rfl

theorem mN1280_at (st : FVec Ideal S1280x256 .f32) (mb : Vec Ideal S1x1x8x256 .f32) (c : Fin 256) :
    mN1280 st mb (ix2 0 c) = max (mb (ix4 0 0 0 c)) (Finset.univ.sup fun l : Fin 1280 => st (ix2 l c)) := by
  pointwise [mN1280, row0_at]
  rw [fold_max]

theorem aR1280_at (st : FVec Ideal S1280x256 .f32) (mb : Vec Ideal S1x1x8x256 .f32) (vb : Vec Ideal S1x80x1280 .bf16) (ab : Vec Ideal S1x1x80x256 .f32) (r : Fin 80) (c : Fin 256) :
    aR1280 st mb vb ab (ix4 0 0 r c) = Ideal.exp2 (mb (ix4 0 0 0 c) - mN1280 st mb (ix2 0 c)) * ab (ix4 0 0 r c)
      + ∑ l : Fin 1280, vb (ix3 0 r l) * Ideal.exp2 (st (ix2 l c) - mN1280 st mb (ix2 0 c)) := by
  pointwise [aR1280, pv1280, eR1280, row0_at]
  rfl

end Cert.AttnOps

end
-- ==== Proof.AttnOps1536.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 1536 keys. -/
def sc1536 (kb : Vec Ideal S1536x128 .bf16) (qb : Vec Ideal S128x256 .bf16) : FVec Ideal S1536x256 .f32 :=
  matmul (φ₁ := .bf16) (φ₂ := .bf16) dot_S1536x128_S128x256_S1536x256_1_0_0_1_n_n none kb qb (constant S1536x256 .f32 0x00000000#32)

theorem sc1536_at (kb : Vec Ideal S1536x128 .bf16) (qb : Vec Ideal S128x256 .bf16) (l : Fin 1536) (c : Fin 256) :
    sc1536 kb qb (ix2 l c) = ∑ d : Fin 128, kb (ix2 l d) * qb (ix2 d c) := by
  pointwise [sc1536]

/-- The causal mask on the scores of 1536 keys. -/
def mk1536 (st : FVec Ideal S1536x256 .f32) : FVec Ideal S1536x256 .f32 :=
  select (cmpi .sle (iota .tc S1536x256 32 [0] iota_S1536x256_d0_w32) (addi (iota .tc S1536x256 32 [1] iota_S1536x256_d1_w32) (broadcast S1536x256 1280#32)))
    st (broadcast S1536x256 (Named.named (F := Ideal) κ "mask" 0xF149F2CA#32))

theorem mk1536_at (st : FVec Ideal S1536x256 .f32) (l : Fin 1536) (c : Fin 256) :
    mk1536 st (ix2 l c) = if l.1 ≤ 1280 + c.1 then st (ix2 l c) else ⊥ := by
  pointwise [mk1536]
  rw [mask_word]
  have e := choose (a := l.1) (b := c.1) (o := 1280) (by omega) (by omega) (by omega) (st (ix2 l c)) ⊥
  exact e

/-- The weights under a given bound. -/
def eB1536 (st : FVec Ideal S1536x256 .f32) (mb : Vec Ideal S1x1x8x256 .f32) : FVec Ideal S1536x256 .bf16 :=
  truncf .bf16 (exp2 (subf st (broadcastTo S1536x256 (row0 mb) broadcasts_S1x256_S1536x256))) bitsLt_bf16_f32

/-- The running maximum. -/
def mN1536 (st : FVec Ideal S1536x256 .f32) (mb : Vec Ideal S1x1x8x256 .f32) : FVec Ideal S1x256 .f32 :=
  maximumf (row0 mb) (shapeCast S1x256 (multiReduction .maximumf [0] S256 st 0xFF800000#32 reduces_S1536x256_S256 (.inl rfl) rfl) shapeCasts_S256_S1x256)

/-- The weights under the running maximum. -/
def eR1536 (st : FVec Ideal S1536x256 .f32) (mb : Vec Ideal S1x1x8x256 .f32) : FVec Ideal S1536x256 .bf16 :=
  truncf .bf16 (exp2 (subf st (broadcastTo S1536x256 (mN1536 st mb) broadcasts_S1x256_S1536x256))) bitsLt_bf16_f32

/-- The values' sum with the weights. -/
def pv1536 (vb : Vec Ideal S1x80x1536 .bf16) (p : FVec Ideal S1536x256 .bf16) : FVec Ideal S80x256 .f32 :=
  matmul (φ₁ := .bf16) (φ₂ := .bf16) dot_S80x1536_S1536x256_S80x256_1_0_0_1_n_n none (shapeCast S80x1536 vb shapeCasts_S1x80x1536_S80x1536) p (constant S80x256 .f32 0x00000000#32)

/-- The accumulator's step under a given bound. -/
def aB1536 (st : FVec Ideal S1536x256 .f32) (mb : Vec Ideal S1x1x8x256 .f32) (vb : Vec Ideal S1x80x1536 .bf16) (ab : Vec Ideal S1x1x80x256 .f32) : FVec Ideal S1x1x80x256 .f32 :=
  shapeCast S1x1x80x256 (addf (shapeCast S80x256 ab shapeCasts_S1x1x80x256_S80x256) (pv1536 vb (eB1536 st mb))) shapeCasts_S80x256_S1x1x80x256

/-- The accumulator's step under the running maximum. -/
def aR1536 (st : FVec Ideal S1536x256 .f32) (mb : Vec Ideal S1x1x8x256 .f32) (vb : Vec Ideal S1x80x1536 .bf16) (ab : Vec Ideal S1x1x80x256 .f32) : FVec Ideal S1x1x80x256 .f32 :=
  shapeCast S1x1x80x256 (addf (mulf (broadcastTo S80x256 (exp2 (subf (row0 mb) (mN1536 st mb))) broadcasts_S1x256_S80x256) (shapeCast S80x256 ab shapeCasts_S1x1x80x256_S80x256)) (pv1536 vb (eR1536 st mb))) shapeCasts_S80x256_S1x1x80x256

theorem aB1536_at (st : FVec Ideal S1536x256 .f32) (mb : Vec Ideal S1x1x8x256 .f32) (vb : Vec Ideal S1x80x1536 .bf16) (ab : Vec Ideal S1x1x80x256 .f32) (r : Fin 80) (c : Fin 256) :
    aB1536 st mb vb ab (ix4 0 0 r c) = ab (ix4 0 0 r c) + ∑ l : Fin 1536, vb (ix3 0 r l) * Ideal.exp2 (st (ix2 l c) - mb (ix4 0 0 0 c)) := by
  pointwise [aB1536, pv1536, eB1536, row0_at]
  rfl

theorem mN1536_at (st : FVec Ideal S1536x256 .f32) (mb : Vec Ideal S1x1x8x256 .f32) (c : Fin 256) :
    mN1536 st mb (ix2 0 c) = max (mb (ix4 0 0 0 c)) (Finset.univ.sup fun l : Fin 1536 => st (ix2 l c)) := by
  pointwise [mN1536, row0_at]
  rw [fold_max]

theorem aR1536_at (st : FVec Ideal S1536x256 .f32) (mb : Vec Ideal S1x1x8x256 .f32) (vb : Vec Ideal S1x80x1536 .bf16) (ab : Vec Ideal S1x1x80x256 .f32) (r : Fin 80) (c : Fin 256) :
    aR1536 st mb vb ab (ix4 0 0 r c) = Ideal.exp2 (mb (ix4 0 0 0 c) - mN1536 st mb (ix2 0 c)) * ab (ix4 0 0 r c)
      + ∑ l : Fin 1536, vb (ix3 0 r l) * Ideal.exp2 (st (ix2 l c) - mN1536 st mb (ix2 0 c)) := by
  pointwise [aR1536, pv1536, eR1536, row0_at]
  rfl

end Cert.AttnOps

end
-- ==== Proof.AttnOps1792.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 1792 keys. -/
def sc1792 (kb : Vec Ideal S1792x128 .bf16) (qb : Vec Ideal S128x256 .bf16) : FVec Ideal S1792x256 .f32 :=
  matmul (φ₁ := .bf16) (φ₂ := .bf16) dot_S1792x128_S128x256_S1792x256_1_0_0_1_n_n none kb qb (constant S1792x256 .f32 0x00000000#32)

theorem sc1792_at (kb : Vec Ideal S1792x128 .bf16) (qb : Vec Ideal S128x256 .bf16) (l : Fin 1792) (c : Fin 256) :
    sc1792 kb qb (ix2 l c) = ∑ d : Fin 128, kb (ix2 l d) * qb (ix2 d c) := by
  pointwise [sc1792]

/-- The causal mask on the scores of 1792 keys. -/
def mk1792 (st : FVec Ideal S1792x256 .f32) : FVec Ideal S1792x256 .f32 :=
  select (cmpi .sle (iota .tc S1792x256 32 [0] iota_S1792x256_d0_w32) (addi (iota .tc S1792x256 32 [1] iota_S1792x256_d1_w32) (broadcast S1792x256 1536#32)))
    st (broadcast S1792x256 (Named.named (F := Ideal) κ "mask" 0xF149F2CA#32))

theorem mk1792_at (st : FVec Ideal S1792x256 .f32) (l : Fin 1792) (c : Fin 256) :
    mk1792 st (ix2 l c) = if l.1 ≤ 1536 + c.1 then st (ix2 l c) else ⊥ := by
  pointwise [mk1792]
  rw [mask_word]
  have e := choose (a := l.1) (b := c.1) (o := 1536) (by omega) (by omega) (by omega) (st (ix2 l c)) ⊥
  exact e

/-- The weights under a given bound. -/
def eB1792 (st : FVec Ideal S1792x256 .f32) (mb : Vec Ideal S1x1x8x256 .f32) : FVec Ideal S1792x256 .bf16 :=
  truncf .bf16 (exp2 (subf st (broadcastTo S1792x256 (row0 mb) broadcasts_S1x256_S1792x256))) bitsLt_bf16_f32

/-- The running maximum. -/
def mN1792 (st : FVec Ideal S1792x256 .f32) (mb : Vec Ideal S1x1x8x256 .f32) : FVec Ideal S1x256 .f32 :=
  maximumf (row0 mb) (shapeCast S1x256 (multiReduction .maximumf [0] S256 st 0xFF800000#32 reduces_S1792x256_S256 (.inl rfl) rfl) shapeCasts_S256_S1x256)

/-- The weights under the running maximum. -/
def eR1792 (st : FVec Ideal S1792x256 .f32) (mb : Vec Ideal S1x1x8x256 .f32) : FVec Ideal S1792x256 .bf16 :=
  truncf .bf16 (exp2 (subf st (broadcastTo S1792x256 (mN1792 st mb) broadcasts_S1x256_S1792x256))) bitsLt_bf16_f32

/-- The values' sum with the weights. -/
def pv1792 (vb : Vec Ideal S1x80x1792 .bf16) (p : FVec Ideal S1792x256 .bf16) : FVec Ideal S80x256 .f32 :=
  matmul (φ₁ := .bf16) (φ₂ := .bf16) dot_S80x1792_S1792x256_S80x256_1_0_0_1_n_n none (shapeCast S80x1792 vb shapeCasts_S1x80x1792_S80x1792) p (constant S80x256 .f32 0x00000000#32)

/-- The accumulator's step under a given bound. -/
def aB1792 (st : FVec Ideal S1792x256 .f32) (mb : Vec Ideal S1x1x8x256 .f32) (vb : Vec Ideal S1x80x1792 .bf16) (ab : Vec Ideal S1x1x80x256 .f32) : FVec Ideal S1x1x80x256 .f32 :=
  shapeCast S1x1x80x256 (addf (shapeCast S80x256 ab shapeCasts_S1x1x80x256_S80x256) (pv1792 vb (eB1792 st mb))) shapeCasts_S80x256_S1x1x80x256

/-- The accumulator's step under the running maximum. -/
def aR1792 (st : FVec Ideal S1792x256 .f32) (mb : Vec Ideal S1x1x8x256 .f32) (vb : Vec Ideal S1x80x1792 .bf16) (ab : Vec Ideal S1x1x80x256 .f32) : FVec Ideal S1x1x80x256 .f32 :=
  shapeCast S1x1x80x256 (addf (mulf (broadcastTo S80x256 (exp2 (subf (row0 mb) (mN1792 st mb))) broadcasts_S1x256_S80x256) (shapeCast S80x256 ab shapeCasts_S1x1x80x256_S80x256)) (pv1792 vb (eR1792 st mb))) shapeCasts_S80x256_S1x1x80x256

theorem aB1792_at (st : FVec Ideal S1792x256 .f32) (mb : Vec Ideal S1x1x8x256 .f32) (vb : Vec Ideal S1x80x1792 .bf16) (ab : Vec Ideal S1x1x80x256 .f32) (r : Fin 80) (c : Fin 256) :
    aB1792 st mb vb ab (ix4 0 0 r c) = ab (ix4 0 0 r c) + ∑ l : Fin 1792, vb (ix3 0 r l) * Ideal.exp2 (st (ix2 l c) - mb (ix4 0 0 0 c)) := by
  pointwise [aB1792, pv1792, eB1792, row0_at]
  rfl

theorem mN1792_at (st : FVec Ideal S1792x256 .f32) (mb : Vec Ideal S1x1x8x256 .f32) (c : Fin 256) :
    mN1792 st mb (ix2 0 c) = max (mb (ix4 0 0 0 c)) (Finset.univ.sup fun l : Fin 1792 => st (ix2 l c)) := by
  pointwise [mN1792, row0_at]
  rw [fold_max]

theorem aR1792_at (st : FVec Ideal S1792x256 .f32) (mb : Vec Ideal S1x1x8x256 .f32) (vb : Vec Ideal S1x80x1792 .bf16) (ab : Vec Ideal S1x1x80x256 .f32) (r : Fin 80) (c : Fin 256) :
    aR1792 st mb vb ab (ix4 0 0 r c) = Ideal.exp2 (mb (ix4 0 0 0 c) - mN1792 st mb (ix2 0 c)) * ab (ix4 0 0 r c)
      + ∑ l : Fin 1792, vb (ix3 0 r l) * Ideal.exp2 (st (ix2 l c) - mN1792 st mb (ix2 0 c)) := by
  pointwise [aR1792, pv1792, eR1792, row0_at]
  rfl

end Cert.AttnOps

end
-- ==== Proof.AttnOps2048.lean ====
module

public import proofs.«01_k».proof.Proof.AttnOps
public import Idealize.ShloMosaic.Lib.Pointwise
public import Idealize.ShloMosaic.Lib.WordCmp

@[expose] public section

set_option maxRecDepth 16384

/-! The stages of one chain of the kernel, as functions of the blocks they read, and what each is element by element: the
scores of a block of keys, the causal mask, the weights under a bound, the running maximum, and the accumulators. -/

noncomputable section

namespace Cert.AttnOps

open Cert.AttnIdeal Cert.AttnIdeal.Gen Idealize.ShloMosaic

/-- The scores of 2048 keys. -/
def sc2048 (kb : Vec Ideal S2048x128 .bf16) (qb : Vec Ideal S128x256 .bf16) : FVec Ideal S2048x256 .f32 :=
  matmul (φ₁ := .bf16) (φ₂ := .bf16) dot_S2048x128_S128x256_S2048x256_1_0_0_1_n_n none kb qb (constant S2048x256 .f32 0x00000000#32)

theorem sc2048_at (kb : Vec Ideal S2048x128 .bf16) (qb : Vec Ideal S128x256 .bf16) (l : Fin 2048) (c : Fin 256) :
    sc2048 kb qb (ix2 l c) = ∑ d : Fin 128, kb (ix2 l d) * qb (ix2 d c) := by
  pointwise [sc2048]

/-- The causal mask on the scores of 2048 keys. -/
def mk2048 (st : FVec Ideal S2048x256 .f32) : FVec Ideal S2048x256 .f32 :=
  select (cmpi .sle (iota .tc S2048x256 32 [0] iota_S2048x256_d0_w32) (addi (iota .tc S2048x256 32 [1] iota_S2048x256_d1_w32) (broadcast S2048x256 1792#32)))
    st (broadcast S2048x256 (Named.named (F := Ideal) κ "mask" 0xF149F2CA#32))

theorem mk2048_at (st : FVec Ideal S2048x256 .f32) (l : Fin 2048) (c : Fin 256) :
    mk2048 st (ix2 l c) = if l.1 ≤ 1792 + c.1 then st (ix2 l c) else ⊥ := by
  pointwise [mk2048]
  rw [mask_word]
  have e := choose (a := l.1) (b := c.1) (o := 1792) (by omega) (by omega) (by omega) (st (ix2 l c)) ⊥
  exact e

/-- The weights under a given bound. -/
def eB2048 (st : FVec Ideal S2048x256 .f32) (mb : Vec Ideal S1x1x8x256 .f32) : FVec Ideal S2048x256 .bf16 :=
  truncf .bf16 (exp2 (subf st (broadcastTo S2048x256 (row0 mb) broadcasts_S1x256_S2048x256))) bitsLt_bf16_f32

/-- The running maximum. -/
def mN2048 (st : FVec Ideal S2048x256 .f32) (mb : Vec Ideal S1x1x8x256 .f32) : FVec Ideal S1x256 .f32 :=
  maximumf (row0 mb) (shapeCast S1x256 (multiReduction .maximumf [0] S256 st 0xFF800000#32 reduces_S2048x256_S256 (.inl rfl) rfl) shapeCasts_S256_S1x256)

/-- The weights under the running maximum. -/
def eR2048 (st : FVec Ideal S2048x256 .f32) (mb : Vec Ideal S1x1x8x256 .f32) : FVec Ideal S2048x256 .bf16 :=
  truncf .bf16 (exp2 (subf st (broadcastTo S2048x256 (mN2048 st mb) broadcasts_S1x256_S2048x256))) bitsLt_bf16_f32

/-- The values' sum with the weights. -/
def pv2048 (vb : Vec Ideal S1x80x2048 .bf16) (p : FVec Ideal S2048x256 .bf16) : FVec Ideal S80x256 .f32 :=
  matmul (φ₁ := .bf16) (φ₂ := .bf16) dot_S80x2048_S2048x256_S80x256_1_0_0_1_n_n none (shapeCast S80x2048 vb shapeCasts_S1x80x2048_S80x2048) p (constant S80x256 .f32 0x00000000#32)

/-- The accumulator's step under a given bound. -/
def aB2048 (st : FVec Ideal S2048x256 .f32) (mb : Vec Ideal S1x1x8x256 .f32) (vb : Vec Ideal S1x80x2048 .bf16) (ab : Vec Ideal S1x1x80x256 .f32) : FVec Ideal S1x1x80x256 .f32 :=
  shapeCast S1x1x80x256 (addf (shapeCast S80x256 ab shapeCasts_S1x1x80x256_S80x256) (pv2048 vb (eB2048 st mb))) shapeCasts_S80x256_S1x1x80x256

/-- The accumulator's step under the running maximum. -/
def aR2048 (st : FVec Ideal S2048x256 .f32) (mb : Vec Ideal S1x1x8x256 .f32) (vb : Vec Ideal S1x80x2048 .bf16) (ab : Vec Ideal S1x1x80x256 .f32) : FVec Ideal S1x1x80x256 .f32 :=
  shapeCast S1x1x80x256 (addf (mulf (broadcastTo S80x256 (exp2 (subf (row0 mb) (mN2048 st mb))) broadcasts_S1x256_S80x256) (shapeCast S80x256 ab shapeCasts_S1x1x80x256_S80x256)) (pv2048 vb (eR2048 st mb))) shapeCasts_S80x256_S1x1x80x256

theorem aB2048_at (st : FVec Ideal S2048x256 .f32) (mb : Vec Ideal S1x1x8x256 .f32) (vb : Vec Ideal S1x80x2048 .bf16) (ab : Vec Ideal S1x1x80x256 .f32) (r : Fin 80) (c : Fin 256) :
    aB2048 st mb vb ab (ix4 0 0 r c) = ab (ix4 0 0 r c) + ∑ l : Fin 2048, vb (ix3 0 r l) * Ideal.exp2 (st (ix2 l c) - mb (ix4 0 0 0 c)) := by
  pointwise [aB2048, pv2048, eB2048, row0_at]
  rfl

theorem mN2048_at (st : FVec Ideal S2048x256 .f32) (mb : Vec Ideal S1x1x8x256 .f32) (c : Fin 256) :
    mN2048 st mb (ix2 0 c) = max (mb (ix4 0 0 0 c)) (Finset.univ.sup fun l : Fin 2048 => st (ix2 l c)) := by
  pointwise [mN2048, row0_at]
  rw [fold_max]

theorem aR2048_at (st : FVec Ideal S2048x256 .f32) (mb : Vec Ideal S1x1x8x256 .f32) (vb : Vec Ideal S1x80x2048 .bf16) (ab : Vec Ideal S1x1x80x256 .f32) (r : Fin 80) (c : Fin 256) :
    aR2048 st mb vb ab (ix4 0 0 r c) = Ideal.exp2 (mb (ix4 0 0 0 c) - mN2048 st mb (ix2 0 c)) * ab (ix4 0 0 r c)
      + ∑ l : Fin 2048, vb (ix3 0 r l) * Ideal.exp2 (st (ix2 l c) - mN2048 st mb (ix2 0 c)) := by
  pointwise [aR2048, pv2048, eR2048, row0_at]
  rfl

end Cert.AttnOps

end
-- ==== Proof.AttnTile.lean ====
module

public import proofs.«01_k».proof.Proof.AttnMath
public import proofs.«01_k».proof.Proof.AttnOps256
public import proofs.«01_k».proof.Proof.AttnOps512
public import proofs.«01_k».proof.Proof.AttnOps768
public import proofs.«01_k».proof.Proof.AttnOps1024
public import proofs.«01_k».proof.Proof.AttnOps1280
public import proofs.«01_k».proof.Proof.AttnOps1536
public import proofs.«01_k».proof.Proof.AttnOps1792
public import proofs.«01_k».proof.Proof.AttnOps2048
public import Idealize.ShloMosaic.Lib.Pipeline.FrameBody
public import Idealize.ShloMosaic.Lib.Pipeline.ValueKit

@[expose] public section

set_option maxRecDepth 16384

/-! The kernel's loads and its two scratch buffers, tile by tile: what a load reads of an input, what the last write of a
tile leaves in it, and that a chain's step keeps the state of its tile good. -/

noncomputable section

namespace Cert.AttnTile

open Cert.AttnIdeal Cert.AttnIdeal.Gen Idealize.ShloMosaic Cert.AttnOps Cert.AttnMath

/-- An entry of the queries' block. -/
def qAt (x0 : Vec Ideal S256x2048 .bf16) (d col : ℕ) : EReal := if h : d < 256 ∧ col < 2048 then x0 (ix2 ⟨d, h.1⟩ ⟨col, h.2⟩) else 0
/-- An entry of the keys' block. -/
def kAt (x1 : Vec Ideal S16384x256 .bf16) (key d : ℕ) : EReal := if h : key < 16384 ∧ d < 256 then x1 (ix2 ⟨key, h.1⟩ ⟨d, h.2⟩) else 0
/-- An entry of the values' block. -/
def vAt (x2 : Vec Ideal S8x160x2048 .bf16) (r key : ℕ) : EReal :=
  if h : r < 160 ∧ key < 16384 then x2 (ix3 ⟨key / 2048, by omega⟩ ⟨r, h.1⟩ ⟨key % 2048, by omega⟩) else 0

/-- A load of queries. -/
theorem ldQ (arg2 : Memref sig .tc .vmem S256x2048 .bf16) (harg2 : arg2.IsWhole) (x0 : Vec Ideal S256x2048 .bf16) (o : Fin 2 → ℕ) (a b : ℕ) (ho : o = ![a, b])
    (h : ∀ k, o k + S128x256.size k ≤ S256x2048.size k) (d : Fin 128) (c : Fin 256) :
    View.readAt (Elt Ideal) arg2.view (Rect.unit (s := S256x2048) o S128x256.size h).toLoadRect (harg2.unread x0) (ix2 d c) = qAt x0 (a + d.1) (b + c.1) := by
  subst ho
  have h0 : a + 128 ≤ 256 := h 0
  have h1 : b + 256 ≤ 2048 := h 1
  rw [View.readAt_eq_ld, Memref.IsWhole.read_unread]; unfold qAt; rw [dif_pos ⟨by omega, by omega⟩]
  pointwise

/-- A load of 256 keys. -/
theorem ldK256 (arg3 : Memref sig .tc .vmem S16384x256 .bf16) (harg3 : arg3.IsWhole) (x1 : Vec Ideal S16384x256 .bf16) (o : Fin 2 → ℕ) (a b : ℕ) (ho : o = ![a, b])
    (h : ∀ k, o k + S256x128.size k ≤ S16384x256.size k) (l : Fin 256) (d : Fin 128) :
    View.readAt (Elt Ideal) arg3.view (Rect.unit (s := S16384x256) o S256x128.size h).toLoadRect (harg3.unread x1) (ix2 l d) = kAt x1 (a + l.1) (b + d.1) := by
  subst ho
  have h0 : a + 256 ≤ 16384 := h 0
  have h1 : b + 128 ≤ 256 := h 1
  rw [View.readAt_eq_ld, Memref.IsWhole.read_unread]; unfold kAt; rw [dif_pos ⟨by omega, by omega⟩]
  pointwise

/-- A load of 256 keys' values. -/
theorem ldV256 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x256.size k ≤ S8x160x2048.size k) (r : Fin 80) (l : Fin 256) :
    View.readAt (Elt Ideal) arg4.view (Rect.unit (s := S8x160x2048) o S1x80x256.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 512 keys. -/
theorem ldK512 (arg3 : Memref sig .tc .vmem S16384x256 .bf16) (harg3 : arg3.IsWhole) (x1 : Vec Ideal S16384x256 .bf16) (o : Fin 2 → ℕ) (a b : ℕ) (ho : o = ![a, b])
    (h : ∀ k, o k + S512x128.size k ≤ S16384x256.size k) (l : Fin 512) (d : Fin 128) :
    View.readAt (Elt Ideal) arg3.view (Rect.unit (s := S16384x256) o S512x128.size h).toLoadRect (harg3.unread x1) (ix2 l d) = kAt x1 (a + l.1) (b + d.1) := by
  subst ho
  have h0 : a + 512 ≤ 16384 := h 0
  have h1 : b + 128 ≤ 256 := h 1
  rw [View.readAt_eq_ld, Memref.IsWhole.read_unread]; unfold kAt; rw [dif_pos ⟨by omega, by omega⟩]
  pointwise

/-- A load of 512 keys' values. -/
theorem ldV512 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x512.size k ≤ S8x160x2048.size k) (r : Fin 80) (l : Fin 512) :
    View.readAt (Elt Ideal) arg4.view (Rect.unit (s := S8x160x2048) o S1x80x512.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 768 keys. -/
theorem ldK768 (arg3 : Memref sig .tc .vmem S16384x256 .bf16) (harg3 : arg3.IsWhole) (x1 : Vec Ideal S16384x256 .bf16) (o : Fin 2 → ℕ) (a b : ℕ) (ho : o = ![a, b])
    (h : ∀ k, o k + S768x128.size k ≤ S16384x256.size k) (l : Fin 768) (d : Fin 128) :
    View.readAt (Elt Ideal) arg3.view (Rect.unit (s := S16384x256) o S768x128.size h).toLoadRect (harg3.unread x1) (ix2 l d) = kAt x1 (a + l.1) (b + d.1) := by
  subst ho
  have h0 : a + 768 ≤ 16384 := h 0
  have h1 : b + 128 ≤ 256 := h 1
  rw [View.readAt_eq_ld, Memref.IsWhole.read_unread]; unfold kAt; rw [dif_pos ⟨by omega, by omega⟩]
  pointwise

/-- A load of 768 keys' values. -/
theorem ldV768 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x768.size k ≤ S8x160x2048.size k) (r : Fin 80) (l : Fin 768) :
    View.readAt (Elt Ideal) arg4.view (Rect.unit (s := S8x160x2048) o S1x80x768.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 1024 keys. -/
theorem ldK1024 (arg3 : Memref sig .tc .vmem S16384x256 .bf16) (harg3 : arg3.IsWhole) (x1 : Vec Ideal S16384x256 .bf16) (o : Fin 2 → ℕ) (a b : ℕ) (ho : o = ![a, b])
    (h : ∀ k, o k + S1024x128.size k ≤ S16384x256.size k) (l : Fin 1024) (d : Fin 128) :
    View.readAt (Elt Ideal) arg3.view (Rect.unit (s := S16384x256) o S1024x128.size h).toLoadRect (harg3.unread x1) (ix2 l d) = kAt x1 (a + l.1) (b + d.1) := by
  subst ho
  have h0 : a + 1024 ≤ 16384 := h 0
  have h1 : b + 128 ≤ 256 := h 1
  rw [View.readAt_eq_ld, Memref.IsWhole.read_unread]; unfold kAt; rw [dif_pos ⟨by omega, by omega⟩]
  pointwise

/-- A load of 1024 keys' values. -/
theorem ldV1024 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x1024.size k ≤ S8x160x2048.size k) (r : Fin 80) (l : Fin 1024) :
    View.readAt (Elt Ideal) arg4.view (Rect.unit (s := S8x160x2048) o S1x80x1024.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 1280 keys. -/
theorem ldK1280 (arg3 : Memref sig .tc .vmem S16384x256 .bf16) (harg3 : arg3.IsWhole) (x1 : Vec Ideal S16384x256 .bf16) (o : Fin 2 → ℕ) (a b : ℕ) (ho : o = ![a, b])
    (h : ∀ k, o k + S1280x128.size k ≤ S16384x256.size k) (l : Fin 1280) (d : Fin 128) :
    View.readAt (Elt Ideal) arg3.view (Rect.unit (s := S16384x256) o S1280x128.size h).toLoadRect (harg3.unread x1) (ix2 l d) = kAt x1 (a + l.1) (b + d.1) := by
  subst ho
  have h0 : a + 1280 ≤ 16384 := h 0
  have h1 : b + 128 ≤ 256 := h 1
  rw [View.readAt_eq_ld, Memref.IsWhole.read_unread]; unfold kAt; rw [dif_pos ⟨by omega, by omega⟩]
  pointwise

/-- A load of 1280 keys' values. -/
theorem ldV1280 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x1280.size k ≤ S8x160x2048.size k) (r : Fin 80) (l : Fin 1280) :
    View.readAt (Elt Ideal) arg4.view (Rect.unit (s := S8x160x2048) o S1x80x1280.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 1536 keys. -/
theorem ldK1536 (arg3 : Memref sig .tc .vmem S16384x256 .bf16) (harg3 : arg3.IsWhole) (x1 : Vec Ideal S16384x256 .bf16) (o : Fin 2 → ℕ) (a b : ℕ) (ho : o = ![a, b])
    (h : ∀ k, o k + S1536x128.size k ≤ S16384x256.size k) (l : Fin 1536) (d : Fin 128) :
    View.readAt (Elt Ideal) arg3.view (Rect.unit (s := S16384x256) o S1536x128.size h).toLoadRect (harg3.unread x1) (ix2 l d) = kAt x1 (a + l.1) (b + d.1) := by
  subst ho
  have h0 : a + 1536 ≤ 16384 := h 0
  have h1 : b + 128 ≤ 256 := h 1
  rw [View.readAt_eq_ld, Memref.IsWhole.read_unread]; unfold kAt; rw [dif_pos ⟨by omega, by omega⟩]
  pointwise

/-- A load of 1536 keys' values. -/
theorem ldV1536 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x1536.size k ≤ S8x160x2048.size k) (r : Fin 80) (l : Fin 1536) :
    View.readAt (Elt Ideal) arg4.view (Rect.unit (s := S8x160x2048) o S1x80x1536.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 1792 keys. -/
theorem ldK1792 (arg3 : Memref sig .tc .vmem S16384x256 .bf16) (harg3 : arg3.IsWhole) (x1 : Vec Ideal S16384x256 .bf16) (o : Fin 2 → ℕ) (a b : ℕ) (ho : o = ![a, b])
    (h : ∀ k, o k + S1792x128.size k ≤ S16384x256.size k) (l : Fin 1792) (d : Fin 128) :
    View.readAt (Elt Ideal) arg3.view (Rect.unit (s := S16384x256) o S1792x128.size h).toLoadRect (harg3.unread x1) (ix2 l d) = kAt x1 (a + l.1) (b + d.1) := by
  subst ho
  have h0 : a + 1792 ≤ 16384 := h 0
  have h1 : b + 128 ≤ 256 := h 1
  rw [View.readAt_eq_ld, Memref.IsWhole.read_unread]; unfold kAt; rw [dif_pos ⟨by omega, by omega⟩]
  pointwise

/-- A load of 1792 keys' values. -/
theorem ldV1792 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x1792.size k ≤ S8x160x2048.size k) (r : Fin 80) (l : Fin 1792) :
    View.readAt (Elt Ideal) arg4.view (Rect.unit (s := S8x160x2048) o S1x80x1792.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

/-- A load of 2048 keys. -/
theorem ldK2048 (arg3 : Memref sig .tc .vmem S16384x256 .bf16) (harg3 : arg3.IsWhole) (x1 : Vec Ideal S16384x256 .bf16) (o : Fin 2 → ℕ) (a b : ℕ) (ho : o = ![a, b])
    (h : ∀ k, o k + S2048x128.size k ≤ S16384x256.size k) (l : Fin 2048) (d : Fin 128) :
    View.readAt (Elt Ideal) arg3.view (Rect.unit (s := S16384x256) o S2048x128.size h).toLoadRect (harg3.unread x1) (ix2 l d) = kAt x1 (a + l.1) (b + d.1) := by
  subst ho
  have h0 : a + 2048 ≤ 16384 := h 0
  have h1 : b + 128 ≤ 256 := h 1
  rw [View.readAt_eq_ld, Memref.IsWhole.read_unread]; unfold kAt; rw [dif_pos ⟨by omega, by omega⟩]
  pointwise

/-- A load of 2048 keys' values. -/
theorem ldV2048 (arg4 : Memref sig .tc .vmem S8x160x2048 .bf16) (harg4 : arg4.IsWhole) (x2 : Vec Ideal S8x160x2048 .bf16) (o : Fin 3 → ℕ) (q b : ℕ) (ho : o = ![q, b, 0])
    (h : ∀ k, o k + S1x80x2048.size k ≤ S8x160x2048.size k) (r : Fin 80) (l : Fin 2048) :
    View.readAt (Elt Ideal) arg4.view (Rect.unit (s := S8x160x2048) o S1x80x2048.size h).toLoadRect (harg4.unread x2) (ix3 0 r l) = vAt x2 (b + r.1) (2048 * q + l.1) := by
  subst ho
  have h0 : q + 1 ≤ 8 := h 0
  have h1 : b + 80 ≤ 160 := h 1
  rw [View.readAt_eq_ld, Memref.IsWhole.read_unread]; unfold vAt; rw [dif_pos ⟨by omega, by omega⟩]
  pointwise
  congr 1
  funext k
  fin_cases k
  · exact Fin.ext (show q + 0 = (2048 * q + l.1) / 2048 by omega)
  · rfl
  · exact Fin.ext (show l.1 = (2048 * q + l.1) % 2048 by omega)

theorem embM (e : Fin 2) (s : Fin 8) (o : Fin 4 → ℕ) (ho : o = ![e.1, s.1, 0, 0]) (h : ∀ k, o k + S1x1x8x256.size k ≤ S2x8x8x256.size k) (r : Fin 8) (c : Fin 256) :
    (Rect.unit (s := S2x8x8x256) o S1x1x8x256.size h).emb (ix4 0 0 r c) = ix4 e s r c := by
  subst ho
  funext k
  fin_cases k
  · exact Fin.ext (show e.1 + 1 * 0 = e.1 by omega)
  · exact Fin.ext (show s.1 + 1 * 0 = s.1 by omega)
  · exact Fin.ext (show 0 + 1 * r.1 = r.1 by omega)
  · exact Fin.ext (show 0 + 1 * c.1 = c.1 by omega)

/-- The tile written last holds what was written, -/
theorem sameM (e : Fin 2) (s : Fin 8) (o : Fin 4 → ℕ) (ho : o = ![e.1, s.1, 0, 0]) (h : ∀ k, o k + S1x1x8x256.size k ≤ S2x8x8x256.size k) (P : FVec Ideal S1x1x8x256 .f32)
    (L : List (View.Piece (Elt Ideal) S2x8x8x256 .f32)) (r : Fin 8) (c : Fin 256) :
    View.canon (Val := Elt Ideal) (⟨Rect.unit (s := S2x8x8x256) o S1x1x8x256.size h, P⟩ :: L) (ix4 e s r c) = P (ix4 0 0 r c) := by
  rw [← embM e s o ho h r c]; exact View.canon_cons_emb (Rect.unit (s := S2x8x8x256) o S1x1x8x256.size h) P L (ix4 0 0 r c)

/-- and every other tile what it held. -/
theorem otherM (e e' : Fin 2) (s s' : Fin 8) (hne : ¬ (e' = e ∧ s' = s)) (o : Fin 4 → ℕ) (ho : o = ![e.1, s.1, 0, 0]) (h : ∀ k, o k + S1x1x8x256.size k ≤ S2x8x8x256.size k) (P : FVec Ideal S1x1x8x256 .f32)
    (L : List (View.Piece (Elt Ideal) S2x8x8x256 .f32)) (r : Fin 8) (c : Fin 256) :
    View.canon (Val := Elt Ideal) (⟨Rect.unit (s := S2x8x8x256) o S1x1x8x256.size h, P⟩ :: L) (ix4 e' s' r c) = View.canon (Val := Elt Ideal) L (ix4 e' s' r c) := by
  refine View.canon_cons_of_not_mem _ L fun hm => hne ?_
  obtain ⟨x, hx⟩ := (Rect.unit (s := S2x8x8x256) o S1x1x8x256.size h).exists_idx_of_mem hm
  subst ho
  have e0 : e.1 + 1 * (x 0).1 = e'.1 := congrArg (fun i : S2x8x8x256.Idx => (i 0).1) hx
  have e1 : s.1 + 1 * (x 1).1 = s'.1 := congrArg (fun i : S2x8x8x256.Idx => (i 1).1) hx
  have b0 : (x 0).1 < 1 := (x 0).2
  have b1 : (x 1).1 < 1 := (x 1).2
  exact ⟨Fin.ext (by omega), Fin.ext (by omega)⟩

/-- A load of a tile after some writes. -/
theorem covM (arg : Memref sig .tc .vmem S2x8x8x256 .f32) (e : Fin 2) (s : Fin 8) (o : Fin 4 → ℕ) (ho : o = ![e.1, s.1, 0, 0]) (h : ∀ k, o k + S1x1x8x256.size k ≤ S2x8x8x256.size k)
    (L : List (View.Piece (Elt Ideal) S2x8x8x256 .f32)) (r : Fin 8) (c : Fin 256) :
    arg.view.readCov (Val := Elt Ideal) L (Rect.unit (s := S2x8x8x256) o S1x1x8x256.size h).toLoadRect (ix4 0 0 r c) = View.canon (Val := Elt Ideal) L (ix4 e s r c) := by
  rw [View.readCov_eq_canon', ← embM e s o ho h r c]; rfl

theorem covM' (arg : Memref sig .tc .vmem S2x8x8x256 .f32) (e : Fin 2) (s : Fin 8) (o : Fin 4 → ℕ) (ho : o = ![e.1, s.1, 0, 0]) (h : ∀ k, o k + S1x1x8x256.size k ≤ S2x8x8x256.size k)
    (L : List (View.Piece (Elt Ideal) S2x8x8x256 .f32)) (r : Fin 8) (c : Fin 256) :
    View.readAt (Elt Ideal) arg.view (Rect.unit (s := S2x8x8x256) o S1x1x8x256.size h).toLoadRect (arg.view.writes (Elt Ideal) arg.view.junk L) (ix4 0 0 r c) = View.canon (Val := Elt Ideal) L (ix4 e s r c) :=
  covM arg e s o ho h L r c

/-- The first tiles, in the order of the writes, all have a property. -/
def DoneM (Q : EReal → Prop) (b : ℕ) (L : List (View.Piece (Elt Ideal) S2x8x8x256 .f32)) : Prop :=
  ∀ (e : Fin 2) (s : Fin 8) (r : Fin 8) (c : Fin 256), 8 * e.1 + s.1 < b → Q (View.canon (Val := Elt Ideal) L (ix4 e s r c))

theorem DoneM.step {Q : EReal → Prop} {b : ℕ} {L : List (View.Piece (Elt Ideal) S2x8x8x256 .f32)} (hL : DoneM Q b L) (e : Fin 2) (s : Fin 8) (hb : 8 * e.1 + s.1 = b)
    {o : Fin 4 → ℕ} (ho : o = ![e.1, s.1, 0, 0]) {h : ∀ k, o k + S1x1x8x256.size k ≤ S2x8x8x256.size k} {P : FVec Ideal S1x1x8x256 .f32}
    (hP : ∀ (r : Fin 8) (c : Fin 256), Q (P (ix4 0 0 r c))) :
    DoneM Q (b + 1) (⟨Rect.unit (s := S2x8x8x256) o S1x1x8x256.size h, P⟩ :: L) := fun e' s' r c hlt => by
  by_cases hs : e' = e ∧ s' = s
  · obtain ⟨rfl, rfl⟩ := hs
    rw [sameM e' s' o ho]; exact hP r c
  · rw [otherM e e' s s' hs o ho]
    refine hL e' s' r c ?_
    have : ¬ (e'.1 = e.1 ∧ s'.1 = s.1) := fun hh => hs ⟨Fin.ext hh.1, Fin.ext hh.2⟩
    have := s.2; have := s'.2; have := e.2; have := e'.2
    omega

theorem embA (e : Fin 2) (s : Fin 8) (o : Fin 4 → ℕ) (ho : o = ![e.1, s.1, 0, 0]) (h : ∀ k, o k + S1x1x80x256.size k ≤ S2x8x80x256.size k) (r : Fin 80) (c : Fin 256) :
    (Rect.unit (s := S2x8x80x256) o S1x1x80x256.size h).emb (ix4 0 0 r c) = ix4 e s r c := by
  subst ho
  funext k
  fin_cases k
  · exact Fin.ext (show e.1 + 1 * 0 = e.1 by omega)
  · exact Fin.ext (show s.1 + 1 * 0 = s.1 by omega)
  · exact Fin.ext (show 0 + 1 * r.1 = r.1 by omega)
  · exact Fin.ext (show 0 + 1 * c.1 = c.1 by omega)

/-- The tile written last holds what was written, -/
theorem sameA (e : Fin 2) (s : Fin 8) (o : Fin 4 → ℕ) (ho : o = ![e.1, s.1, 0, 0]) (h : ∀ k, o k + S1x1x80x256.size k ≤ S2x8x80x256.size k) (P : FVec Ideal S1x1x80x256 .f32)
    (L : List (View.Piece (Elt Ideal) S2x8x80x256 .f32)) (r : Fin 80) (c : Fin 256) :
    View.canon (Val := Elt Ideal) (⟨Rect.unit (s := S2x8x80x256) o S1x1x80x256.size h, P⟩ :: L) (ix4 e s r c) = P (ix4 0 0 r c) := by
  rw [← embA e s o ho h r c]; exact View.canon_cons_emb (Rect.unit (s := S2x8x80x256) o S1x1x80x256.size h) P L (ix4 0 0 r c)

/-- and every other tile what it held. -/
theorem otherA (e e' : Fin 2) (s s' : Fin 8) (hne : ¬ (e' = e ∧ s' = s)) (o : Fin 4 → ℕ) (ho : o = ![e.1, s.1, 0, 0]) (h : ∀ k, o k + S1x1x80x256.size k ≤ S2x8x80x256.size k) (P : FVec Ideal S1x1x80x256 .f32)
    (L : List (View.Piece (Elt Ideal) S2x8x80x256 .f32)) (r : Fin 80) (c : Fin 256) :
    View.canon (Val := Elt Ideal) (⟨Rect.unit (s := S2x8x80x256) o S1x1x80x256.size h, P⟩ :: L) (ix4 e' s' r c) = View.canon (Val := Elt Ideal) L (ix4 e' s' r c) := by
  refine View.canon_cons_of_not_mem _ L fun hm => hne ?_
  obtain ⟨x, hx⟩ := (Rect.unit (s := S2x8x80x256) o S1x1x80x256.size h).exists_idx_of_mem hm
  subst ho
  have e0 : e.1 + 1 * (x 0).1 = e'.1 := congrArg (fun i : S2x8x80x256.Idx => (i 0).1) hx
  have e1 : s.1 + 1 * (x 1).1 = s'.1 := congrArg (fun i : S2x8x80x256.Idx => (i 1).1) hx
  have b0 : (x 0).1 < 1 := (x 0).2
  have b1 : (x 1).1 < 1 := (x 1).2
  exact ⟨Fin.ext (by omega), Fin.ext (by omega)⟩

/-- A load of a tile after some writes. -/
theorem covA (arg : Memref sig .tc .vmem S2x8x80x256 .f32) (e : Fin 2) (s : Fin 8) (o : Fin 4 → ℕ) (ho : o = ![e.1, s.1, 0, 0]) (h : ∀ k, o k + S1x1x80x256.size k ≤ S2x8x80x256.size k)
    (L : List (View.Piece (Elt Ideal) S2x8x80x256 .f32)) (r : Fin 80) (c : Fin 256) :
    arg.view.readCov (Val := Elt Ideal) L (Rect.unit (s := S2x8x80x256) o S1x1x80x256.size h).toLoadRect (ix4 0 0 r c) = View.canon (Val := Elt Ideal) L (ix4 e s r c) := by
  rw [View.readCov_eq_canon', ← embA e s o ho h r c]; rfl

theorem covA' (arg : Memref sig .tc .vmem S2x8x80x256 .f32) (e : Fin 2) (s : Fin 8) (o : Fin 4 → ℕ) (ho : o = ![e.1, s.1, 0, 0]) (h : ∀ k, o k + S1x1x80x256.size k ≤ S2x8x80x256.size k)
    (L : List (View.Piece (Elt Ideal) S2x8x80x256 .f32)) (r : Fin 80) (c : Fin 256) :
    View.readAt (Elt Ideal) arg.view (Rect.unit (s := S2x8x80x256) o S1x1x80x256.size h).toLoadRect (arg.view.writes (Elt Ideal) arg.view.junk L) (ix4 0 0 r c) = View.canon (Val := Elt Ideal) L (ix4 e s r c) :=
  covA arg e s o ho h L r c

/-- The first tiles, in the order of the writes, all have a property. -/
def DoneA (Q : EReal → Prop) (b : ℕ) (L : List (View.Piece (Elt Ideal) S2x8x80x256 .f32)) : Prop :=
  ∀ (e : Fin 2) (s : Fin 8) (r : Fin 80) (c : Fin 256), 8 * e.1 + s.1 < b → Q (View.canon (Val := Elt Ideal) L (ix4 e s r c))

theorem DoneA.step {Q : EReal → Prop} {b : ℕ} {L : List (View.Piece (Elt Ideal) S2x8x80x256 .f32)} (hL : DoneA Q b L) (e : Fin 2) (s : Fin 8) (hb : 8 * e.1 + s.1 = b)
    {o : Fin 4 → ℕ} (ho : o = ![e.1, s.1, 0, 0]) {h : ∀ k, o k + S1x1x80x256.size k ≤ S2x8x80x256.size k} {P : FVec Ideal S1x1x80x256 .f32}
    (hP : ∀ (r : Fin 80) (c : Fin 256), Q (P (ix4 0 0 r c))) :
    DoneA Q (b + 1) (⟨Rect.unit (s := S2x8x80x256) o S1x1x80x256.size h, P⟩ :: L) := fun e' s' r c hlt => by
  by_cases hs : e' = e ∧ s' = s
  · obtain ⟨rfl, rfl⟩ := hs
    rw [sameA e' s' o ho]; exact hP r c
  · rw [otherA e e' s s' hs o ho]
    refine hL e' s' r c ?_
    have : ¬ (e'.1 = e.1 ∧ s'.1 = s.1) := fun hh => hs ⟨Fin.ext hh.1, Fin.ext hh.2⟩
    have := s.2; have := s'.2; have := e.2; have := e'.2
    omega

/-- The number of keys taken up, when the first tiles have been stepped on. -/
def prog (f g : Fin 2 → Fin 8 → Fin 256 → ℕ) (b : ℕ) (e : Fin 2) (s : Fin 8) (c : Fin 256) : ℕ := if 2 * s.1 + e.1 < b then g e s c else f e s c

theorem prog_zero (f g : Fin 2 → Fin 8 → Fin 256 → ℕ) : prog f g 0 = f := by
  funext e s c; exact if_neg (by omega)
theorem prog_all (f g : Fin 2 → Fin 8 → Fin 256 → ℕ) : prog f g 16 = g := by
  funext e s c; have := e.2; have := s.2; exact if_pos (by omega)

/-- Every tile's accumulator is good at the bound `m`. -/
def InvB (st : Fin 2 → Fin 8 → Fin 256 → ℕ → ℝ) (V : Fin 2 → Fin 80 → ℕ → EReal) (m : Fin 2 → Fin 8 → Fin 256 → ℝ) (n : Fin 2 → Fin 8 → Fin 256 → ℕ)
    (L : List (View.Piece (Elt Ideal) S2x8x80x256 .f32)) : Prop :=
  ∀ e s c, At (st e s c) (V e) (n e s c) (m e s c) (fun r => View.canon (Val := Elt Ideal) L (ix4 e s r c))

/-- Every tile's running maximum and accumulator are good. -/
def InvR (st : Fin 2 → Fin 8 → Fin 256 → ℕ → ℝ) (V : Fin 2 → Fin 80 → ℕ → EReal) (n : Fin 2 → Fin 8 → Fin 256 → ℕ)
    (K : List (View.Piece (Elt Ideal) S2x8x8x256 .f32)) (L : List (View.Piece (Elt Ideal) S2x8x80x256 .f32)) : Prop :=
  ∀ e s c, Good (st e s c) (V e) (n e s c) (View.canon (Val := Elt Ideal) K (ix4 e s 0 c)) (fun r => View.canon (Val := Elt Ideal) L (ix4 e s r c))

theorem InvB.step {st : Fin 2 → Fin 8 → Fin 256 → ℕ → ℝ} {V : Fin 2 → Fin 80 → ℕ → EReal} {m : Fin 2 → Fin 8 → Fin 256 → ℝ} {f g : Fin 2 → Fin 8 → Fin 256 → ℕ} {b : ℕ}
    {L : List (View.Piece (Elt Ideal) S2x8x80x256 .f32)} (hL : InvB st V m (prog f g b) L) (e : Fin 2) (s : Fin 8) (hb : 2 * s.1 + e.1 = b)
    {o : Fin 4 → ℕ} (ho : o = ![e.1, s.1, 0, 0]) {h : ∀ k, o k + S1x1x80x256.size k ≤ S2x8x80x256.size k} {P : FVec Ideal S1x1x80x256 .f32}
    (hP : ∀ c : Fin 256, At (st e s c) (V e) (g e s c) (m e s c) (fun r => P (ix4 0 0 r c))) :
    InvB st V m (prog f g (b + 1)) (⟨Rect.unit (s := S2x8x80x256) o S1x1x80x256.size h, P⟩ :: L) := fun e' s' c => by
  by_cases hs : e' = e ∧ s' = s
  · obtain ⟨rfl, rfl⟩ := hs
    have e1 : prog f g (b + 1) e' s' c = g e' s' c := if_pos (by omega)
    have e2 := fun r => sameA e' s' o ho h P L r c
    rw [e1, funext e2]; exact hP c
  · have e1 : prog f g (b + 1) e' s' c = prog f g b e' s' c := by
      have : ¬ (e'.1 = e.1 ∧ s'.1 = s.1) := fun hh => hs ⟨Fin.ext hh.1, Fin.ext hh.2⟩
      have := e.2; have := e'.2
      unfold prog
      by_cases hl : 2 * s'.1 + e'.1 < b
      · rw [if_pos hl, if_pos (by omega)]
      · rw [if_neg hl, if_neg (by omega)]
    have e2 := fun r => otherA e e' s s' hs o ho h P L r c
    rw [e1, funext e2]; exact hL e' s' c

theorem InvR.step {st : Fin 2 → Fin 8 → Fin 256 → ℕ → ℝ} {V : Fin 2 → Fin 80 → ℕ → EReal} {f g : Fin 2 → Fin 8 → Fin 256 → ℕ} {b : ℕ}
    {K : List (View.Piece (Elt Ideal) S2x8x8x256 .f32)} {L : List (View.Piece (Elt Ideal) S2x8x80x256 .f32)} (hL : InvR st V (prog f g b) K L) (e : Fin 2) (s : Fin 8) (hb : 2 * s.1 + e.1 = b)
    {o' : Fin 4 → ℕ} (ho' : o' = ![e.1, s.1, 0, 0]) {h' : ∀ k, o' k + S1x1x8x256.size k ≤ S2x8x8x256.size k} {M : FVec Ideal S1x1x8x256 .f32}
    {o : Fin 4 → ℕ} (ho : o = ![e.1, s.1, 0, 0]) {h : ∀ k, o k + S1x1x80x256.size k ≤ S2x8x80x256.size k} {P : FVec Ideal S1x1x80x256 .f32}
    (hP : ∀ c : Fin 256, Good (st e s c) (V e) (g e s c) (M (ix4 0 0 0 c)) (fun r => P (ix4 0 0 r c))) :
    InvR st V (prog f g (b + 1)) (⟨Rect.unit (s := S2x8x8x256) o' S1x1x8x256.size h', M⟩ :: K) (⟨Rect.unit (s := S2x8x80x256) o S1x1x80x256.size h, P⟩ :: L) := fun e' s' c => by
  by_cases hs : e' = e ∧ s' = s
  · obtain ⟨rfl, rfl⟩ := hs
    have e1 : prog f g (b + 1) e' s' c = g e' s' c := if_pos (by omega)
    have e2 := fun r => sameA e' s' o ho h P L r c
    rw [e1, funext e2, sameM e' s' o' ho' h' M K 0 c]; exact hP c
  · have e1 : prog f g (b + 1) e' s' c = prog f g b e' s' c := by
      have : ¬ (e'.1 = e.1 ∧ s'.1 = s.1) := fun hh => hs ⟨Fin.ext hh.1, Fin.ext hh.2⟩
      have := e.2; have := e'.2
      unfold prog
      by_cases hl : 2 * s'.1 + e'.1 < b
      · rw [if_pos hl, if_pos (by omega)]
      · rw [if_neg hl, if_neg (by omega)]
    have e2 := fun r => otherA e e' s s' hs o ho h P L r c
    rw [e1, funext e2, otherM e e' s s' hs o' ho' h' M K 0 c]; exact hL e' s' c

/-- Before its step a tile has taken up what it had. -/
theorem InvB.before {st : Fin 2 → Fin 8 → Fin 256 → ℕ → ℝ} {V : Fin 2 → Fin 80 → ℕ → EReal} {m : Fin 2 → Fin 8 → Fin 256 → ℝ} {f g : Fin 2 → Fin 8 → Fin 256 → ℕ} {b : ℕ}
    {L : List (View.Piece (Elt Ideal) S2x8x80x256 .f32)} (hL : InvB st V m (prog f g b) L) (e : Fin 2) (s : Fin 8) (hb : 2 * s.1 + e.1 = b) (c : Fin 256) :
    At (st e s c) (V e) (f e s c) (m e s c) (fun r => View.canon (Val := Elt Ideal) L (ix4 e s r c)) := by
  have e1 : prog f g b e s c = f e s c := if_neg (by omega)
  rw [← e1]; exact hL e s c

theorem InvR.before {st : Fin 2 → Fin 8 → Fin 256 → ℕ → ℝ} {V : Fin 2 → Fin 80 → ℕ → EReal} {f g : Fin 2 → Fin 8 → Fin 256 → ℕ} {b : ℕ}
    {K : List (View.Piece (Elt Ideal) S2x8x8x256 .f32)} {L : List (View.Piece (Elt Ideal) S2x8x80x256 .f32)} (hL : InvR st V (prog f g b) K L) (e : Fin 2) (s : Fin 8) (hb : 2 * s.1 + e.1 = b) (c : Fin 256) :
    Good (st e s c) (V e) (f e s c) (View.canon (Val := Elt Ideal) K (ix4 e s 0 c)) (fun r => View.canon (Val := Elt Ideal) L (ix4 e s r c)) := by
  have e1 : prog f g b e s c = f e s c := if_neg (by omega)
  rw [← e1]; exact hL e s c

theorem tBm256 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S256x128 .bf16} {qb : Vec Ideal S128x256 .bf16} {mb : Vec Ideal S1x1x8x256 .f32} {vb : Vec Ideal S1x80x256 .bf16} {ab : Vec Ideal S1x1x80x256 .f32} (hP : P = aB256 (mk256 (sc256 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 256 ≤ 16384)
    (hk : ∀ (l : Fin 256) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 256), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (0 + c.1 + 1)) (m c) (fun r => P (ix4 0 0 r c)) := by
  have hsc : ∀ l : Fin 256, sc256 kb qb (ix2 l c) = ((st c (b0 + l.1) : ℝ) : EReal) := fun l => by
    rw [sc256_at, ← hs c (b0 + l.1) (by have := l.2; omega)]
    exact Finset.sum_congr rfl fun d _ => by rw [hk, hq]
  refine stepB (h c) (0 + c.1) (by have := c.2; omega) (fun l => (mk256 (sc256 kb qb)) (ix2 l c)) (fun r l => vb (ix3 0 r l)) (fun l => ?_) hv (fun r => ?_)
  · show (mk256 (sc256 kb qb)) (ix2 l c) = _
    rw [mk256_at, hsc]
  · rw [hP, aB256_at, ha, hm]

theorem tRm256 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S256x128 .bf16} {qb : Vec Ideal S128x256 .bf16} {mb : Vec Ideal S1x1x8x256 .f32} {vb : Vec Ideal S1x80x256 .bf16} {ab : Vec Ideal S1x1x80x256 .f32} (hQ : Q = asBlock (mN256 (mk256 (sc256 kb qb)) mb)) (hP : P = aR256 (mk256 (sc256 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 256 ≤ 16384)
    (hk : ∀ (l : Fin 256) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 256), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (0 + c.1 + 1)) (Q (ix4 0 0 0 c)) (fun r => P (ix4 0 0 r c)) := by
  have hsc : ∀ l : Fin 256, sc256 kb qb (ix2 l c) = ((st c (b0 + l.1) : ℝ) : EReal) := fun l => by
    rw [sc256_at, ← hs c (b0 + l.1) (by have := l.2; omega)]
    exact Finset.sum_congr rfl fun d _ => by rw [hk, hq]
  refine stepR (h c) (0 + c.1) (by have := c.2; omega) (fun l => (mk256 (sc256 kb qb)) (ix2 l c)) (fun r l => vb (ix3 0 r l)) (fun l => ?_) hv ?_ (fun r => ?_)
  · show (mk256 (sc256 kb qb)) (ix2 l c) = _
    rw [mk256_at, hsc]
  · rw [hQ, asBlock_at, mN256_at, hm]
  · rw [hP, aR256_at, hQ, asBlock_at, ha, hm]

theorem tBm512 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S512x128 .bf16} {qb : Vec Ideal S128x256 .bf16} {mb : Vec Ideal S1x1x8x256 .f32} {vb : Vec Ideal S1x80x512 .bf16} {ab : Vec Ideal S1x1x80x256 .f32} (hP : P = aB512 (mk512 (sc512 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 512 ≤ 16384)
    (hk : ∀ (l : Fin 512) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 512), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (256 + c.1 + 1)) (m c) (fun r => P (ix4 0 0 r c)) := by
  have hsc : ∀ l : Fin 512, sc512 kb qb (ix2 l c) = ((st c (b0 + l.1) : ℝ) : EReal) := fun l => by
    rw [sc512_at, ← hs c (b0 + l.1) (by have := l.2; omega)]
    exact Finset.sum_congr rfl fun d _ => by rw [hk, hq]
  refine stepB (h c) (256 + c.1) (by have := c.2; omega) (fun l => (mk512 (sc512 kb qb)) (ix2 l c)) (fun r l => vb (ix3 0 r l)) (fun l => ?_) hv (fun r => ?_)
  · show (mk512 (sc512 kb qb)) (ix2 l c) = _
    rw [mk512_at, hsc]
  · rw [hP, aB512_at, ha, hm]

theorem tRm512 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S512x128 .bf16} {qb : Vec Ideal S128x256 .bf16} {mb : Vec Ideal S1x1x8x256 .f32} {vb : Vec Ideal S1x80x512 .bf16} {ab : Vec Ideal S1x1x80x256 .f32} (hQ : Q = asBlock (mN512 (mk512 (sc512 kb qb)) mb)) (hP : P = aR512 (mk512 (sc512 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 512 ≤ 16384)
    (hk : ∀ (l : Fin 512) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 512), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (256 + c.1 + 1)) (Q (ix4 0 0 0 c)) (fun r => P (ix4 0 0 r c)) := by
  have hsc : ∀ l : Fin 512, sc512 kb qb (ix2 l c) = ((st c (b0 + l.1) : ℝ) : EReal) := fun l => by
    rw [sc512_at, ← hs c (b0 + l.1) (by have := l.2; omega)]
    exact Finset.sum_congr rfl fun d _ => by rw [hk, hq]
  refine stepR (h c) (256 + c.1) (by have := c.2; omega) (fun l => (mk512 (sc512 kb qb)) (ix2 l c)) (fun r l => vb (ix3 0 r l)) (fun l => ?_) hv ?_ (fun r => ?_)
  · show (mk512 (sc512 kb qb)) (ix2 l c) = _
    rw [mk512_at, hsc]
  · rw [hQ, asBlock_at, mN512_at, hm]
  · rw [hP, aR512_at, hQ, asBlock_at, ha, hm]

theorem tBm768 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S768x128 .bf16} {qb : Vec Ideal S128x256 .bf16} {mb : Vec Ideal S1x1x8x256 .f32} {vb : Vec Ideal S1x80x768 .bf16} {ab : Vec Ideal S1x1x80x256 .f32} (hP : P = aB768 (mk768 (sc768 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 768 ≤ 16384)
    (hk : ∀ (l : Fin 768) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 768), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (512 + c.1 + 1)) (m c) (fun r => P (ix4 0 0 r c)) := by
  have hsc : ∀ l : Fin 768, sc768 kb qb (ix2 l c) = ((st c (b0 + l.1) : ℝ) : EReal) := fun l => by
    rw [sc768_at, ← hs c (b0 + l.1) (by have := l.2; omega)]
    exact Finset.sum_congr rfl fun d _ => by rw [hk, hq]
  refine stepB (h c) (512 + c.1) (by have := c.2; omega) (fun l => (mk768 (sc768 kb qb)) (ix2 l c)) (fun r l => vb (ix3 0 r l)) (fun l => ?_) hv (fun r => ?_)
  · show (mk768 (sc768 kb qb)) (ix2 l c) = _
    rw [mk768_at, hsc]
  · rw [hP, aB768_at, ha, hm]

theorem tRm768 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S768x128 .bf16} {qb : Vec Ideal S128x256 .bf16} {mb : Vec Ideal S1x1x8x256 .f32} {vb : Vec Ideal S1x80x768 .bf16} {ab : Vec Ideal S1x1x80x256 .f32} (hQ : Q = asBlock (mN768 (mk768 (sc768 kb qb)) mb)) (hP : P = aR768 (mk768 (sc768 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 768 ≤ 16384)
    (hk : ∀ (l : Fin 768) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 768), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (512 + c.1 + 1)) (Q (ix4 0 0 0 c)) (fun r => P (ix4 0 0 r c)) := by
  have hsc : ∀ l : Fin 768, sc768 kb qb (ix2 l c) = ((st c (b0 + l.1) : ℝ) : EReal) := fun l => by
    rw [sc768_at, ← hs c (b0 + l.1) (by have := l.2; omega)]
    exact Finset.sum_congr rfl fun d _ => by rw [hk, hq]
  refine stepR (h c) (512 + c.1) (by have := c.2; omega) (fun l => (mk768 (sc768 kb qb)) (ix2 l c)) (fun r l => vb (ix3 0 r l)) (fun l => ?_) hv ?_ (fun r => ?_)
  · show (mk768 (sc768 kb qb)) (ix2 l c) = _
    rw [mk768_at, hsc]
  · rw [hQ, asBlock_at, mN768_at, hm]
  · rw [hP, aR768_at, hQ, asBlock_at, ha, hm]

theorem tBm1024 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S1024x128 .bf16} {qb : Vec Ideal S128x256 .bf16} {mb : Vec Ideal S1x1x8x256 .f32} {vb : Vec Ideal S1x80x1024 .bf16} {ab : Vec Ideal S1x1x80x256 .f32} (hP : P = aB1024 (mk1024 (sc1024 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1024 ≤ 16384)
    (hk : ∀ (l : Fin 1024) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1024), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (768 + c.1 + 1)) (m c) (fun r => P (ix4 0 0 r c)) := by
  have hsc : ∀ l : Fin 1024, sc1024 kb qb (ix2 l c) = ((st c (b0 + l.1) : ℝ) : EReal) := fun l => by
    rw [sc1024_at, ← hs c (b0 + l.1) (by have := l.2; omega)]
    exact Finset.sum_congr rfl fun d _ => by rw [hk, hq]
  refine stepB (h c) (768 + c.1) (by have := c.2; omega) (fun l => (mk1024 (sc1024 kb qb)) (ix2 l c)) (fun r l => vb (ix3 0 r l)) (fun l => ?_) hv (fun r => ?_)
  · show (mk1024 (sc1024 kb qb)) (ix2 l c) = _
    rw [mk1024_at, hsc]
  · rw [hP, aB1024_at, ha, hm]

theorem tRm1024 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S1024x128 .bf16} {qb : Vec Ideal S128x256 .bf16} {mb : Vec Ideal S1x1x8x256 .f32} {vb : Vec Ideal S1x80x1024 .bf16} {ab : Vec Ideal S1x1x80x256 .f32} (hQ : Q = asBlock (mN1024 (mk1024 (sc1024 kb qb)) mb)) (hP : P = aR1024 (mk1024 (sc1024 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1024 ≤ 16384)
    (hk : ∀ (l : Fin 1024) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1024), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (768 + c.1 + 1)) (Q (ix4 0 0 0 c)) (fun r => P (ix4 0 0 r c)) := by
  have hsc : ∀ l : Fin 1024, sc1024 kb qb (ix2 l c) = ((st c (b0 + l.1) : ℝ) : EReal) := fun l => by
    rw [sc1024_at, ← hs c (b0 + l.1) (by have := l.2; omega)]
    exact Finset.sum_congr rfl fun d _ => by rw [hk, hq]
  refine stepR (h c) (768 + c.1) (by have := c.2; omega) (fun l => (mk1024 (sc1024 kb qb)) (ix2 l c)) (fun r l => vb (ix3 0 r l)) (fun l => ?_) hv ?_ (fun r => ?_)
  · show (mk1024 (sc1024 kb qb)) (ix2 l c) = _
    rw [mk1024_at, hsc]
  · rw [hQ, asBlock_at, mN1024_at, hm]
  · rw [hP, aR1024_at, hQ, asBlock_at, ha, hm]

theorem tBm1280 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S1280x128 .bf16} {qb : Vec Ideal S128x256 .bf16} {mb : Vec Ideal S1x1x8x256 .f32} {vb : Vec Ideal S1x80x1280 .bf16} {ab : Vec Ideal S1x1x80x256 .f32} (hP : P = aB1280 (mk1280 (sc1280 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1280 ≤ 16384)
    (hk : ∀ (l : Fin 1280) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1280), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (1024 + c.1 + 1)) (m c) (fun r => P (ix4 0 0 r c)) := by
  have hsc : ∀ l : Fin 1280, sc1280 kb qb (ix2 l c) = ((st c (b0 + l.1) : ℝ) : EReal) := fun l => by
    rw [sc1280_at, ← hs c (b0 + l.1) (by have := l.2; omega)]
    exact Finset.sum_congr rfl fun d _ => by rw [hk, hq]
  refine stepB (h c) (1024 + c.1) (by have := c.2; omega) (fun l => (mk1280 (sc1280 kb qb)) (ix2 l c)) (fun r l => vb (ix3 0 r l)) (fun l => ?_) hv (fun r => ?_)
  · show (mk1280 (sc1280 kb qb)) (ix2 l c) = _
    rw [mk1280_at, hsc]
  · rw [hP, aB1280_at, ha, hm]

theorem tRm1280 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S1280x128 .bf16} {qb : Vec Ideal S128x256 .bf16} {mb : Vec Ideal S1x1x8x256 .f32} {vb : Vec Ideal S1x80x1280 .bf16} {ab : Vec Ideal S1x1x80x256 .f32} (hQ : Q = asBlock (mN1280 (mk1280 (sc1280 kb qb)) mb)) (hP : P = aR1280 (mk1280 (sc1280 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1280 ≤ 16384)
    (hk : ∀ (l : Fin 1280) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1280), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (1024 + c.1 + 1)) (Q (ix4 0 0 0 c)) (fun r => P (ix4 0 0 r c)) := by
  have hsc : ∀ l : Fin 1280, sc1280 kb qb (ix2 l c) = ((st c (b0 + l.1) : ℝ) : EReal) := fun l => by
    rw [sc1280_at, ← hs c (b0 + l.1) (by have := l.2; omega)]
    exact Finset.sum_congr rfl fun d _ => by rw [hk, hq]
  refine stepR (h c) (1024 + c.1) (by have := c.2; omega) (fun l => (mk1280 (sc1280 kb qb)) (ix2 l c)) (fun r l => vb (ix3 0 r l)) (fun l => ?_) hv ?_ (fun r => ?_)
  · show (mk1280 (sc1280 kb qb)) (ix2 l c) = _
    rw [mk1280_at, hsc]
  · rw [hQ, asBlock_at, mN1280_at, hm]
  · rw [hP, aR1280_at, hQ, asBlock_at, ha, hm]

theorem tBm1536 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S1536x128 .bf16} {qb : Vec Ideal S128x256 .bf16} {mb : Vec Ideal S1x1x8x256 .f32} {vb : Vec Ideal S1x80x1536 .bf16} {ab : Vec Ideal S1x1x80x256 .f32} (hP : P = aB1536 (mk1536 (sc1536 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1536 ≤ 16384)
    (hk : ∀ (l : Fin 1536) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1536), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (1280 + c.1 + 1)) (m c) (fun r => P (ix4 0 0 r c)) := by
  have hsc : ∀ l : Fin 1536, sc1536 kb qb (ix2 l c) = ((st c (b0 + l.1) : ℝ) : EReal) := fun l => by
    rw [sc1536_at, ← hs c (b0 + l.1) (by have := l.2; omega)]
    exact Finset.sum_congr rfl fun d _ => by rw [hk, hq]
  refine stepB (h c) (1280 + c.1) (by have := c.2; omega) (fun l => (mk1536 (sc1536 kb qb)) (ix2 l c)) (fun r l => vb (ix3 0 r l)) (fun l => ?_) hv (fun r => ?_)
  · show (mk1536 (sc1536 kb qb)) (ix2 l c) = _
    rw [mk1536_at, hsc]
  · rw [hP, aB1536_at, ha, hm]

theorem tRm1536 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S1536x128 .bf16} {qb : Vec Ideal S128x256 .bf16} {mb : Vec Ideal S1x1x8x256 .f32} {vb : Vec Ideal S1x80x1536 .bf16} {ab : Vec Ideal S1x1x80x256 .f32} (hQ : Q = asBlock (mN1536 (mk1536 (sc1536 kb qb)) mb)) (hP : P = aR1536 (mk1536 (sc1536 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1536 ≤ 16384)
    (hk : ∀ (l : Fin 1536) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1536), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (1280 + c.1 + 1)) (Q (ix4 0 0 0 c)) (fun r => P (ix4 0 0 r c)) := by
  have hsc : ∀ l : Fin 1536, sc1536 kb qb (ix2 l c) = ((st c (b0 + l.1) : ℝ) : EReal) := fun l => by
    rw [sc1536_at, ← hs c (b0 + l.1) (by have := l.2; omega)]
    exact Finset.sum_congr rfl fun d _ => by rw [hk, hq]
  refine stepR (h c) (1280 + c.1) (by have := c.2; omega) (fun l => (mk1536 (sc1536 kb qb)) (ix2 l c)) (fun r l => vb (ix3 0 r l)) (fun l => ?_) hv ?_ (fun r => ?_)
  · show (mk1536 (sc1536 kb qb)) (ix2 l c) = _
    rw [mk1536_at, hsc]
  · rw [hQ, asBlock_at, mN1536_at, hm]
  · rw [hP, aR1536_at, hQ, asBlock_at, ha, hm]

theorem tBm1792 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S1792x128 .bf16} {qb : Vec Ideal S128x256 .bf16} {mb : Vec Ideal S1x1x8x256 .f32} {vb : Vec Ideal S1x80x1792 .bf16} {ab : Vec Ideal S1x1x80x256 .f32} (hP : P = aB1792 (mk1792 (sc1792 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1792 ≤ 16384)
    (hk : ∀ (l : Fin 1792) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1792), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (1536 + c.1 + 1)) (m c) (fun r => P (ix4 0 0 r c)) := by
  have hsc : ∀ l : Fin 1792, sc1792 kb qb (ix2 l c) = ((st c (b0 + l.1) : ℝ) : EReal) := fun l => by
    rw [sc1792_at, ← hs c (b0 + l.1) (by have := l.2; omega)]
    exact Finset.sum_congr rfl fun d _ => by rw [hk, hq]
  refine stepB (h c) (1536 + c.1) (by have := c.2; omega) (fun l => (mk1792 (sc1792 kb qb)) (ix2 l c)) (fun r l => vb (ix3 0 r l)) (fun l => ?_) hv (fun r => ?_)
  · show (mk1792 (sc1792 kb qb)) (ix2 l c) = _
    rw [mk1792_at, hsc]
  · rw [hP, aB1792_at, ha, hm]

theorem tRm1792 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S1792x128 .bf16} {qb : Vec Ideal S128x256 .bf16} {mb : Vec Ideal S1x1x8x256 .f32} {vb : Vec Ideal S1x80x1792 .bf16} {ab : Vec Ideal S1x1x80x256 .f32} (hQ : Q = asBlock (mN1792 (mk1792 (sc1792 kb qb)) mb)) (hP : P = aR1792 (mk1792 (sc1792 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 1792 ≤ 16384)
    (hk : ∀ (l : Fin 1792) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 1792), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (1536 + c.1 + 1)) (Q (ix4 0 0 0 c)) (fun r => P (ix4 0 0 r c)) := by
  have hsc : ∀ l : Fin 1792, sc1792 kb qb (ix2 l c) = ((st c (b0 + l.1) : ℝ) : EReal) := fun l => by
    rw [sc1792_at, ← hs c (b0 + l.1) (by have := l.2; omega)]
    exact Finset.sum_congr rfl fun d _ => by rw [hk, hq]
  refine stepR (h c) (1536 + c.1) (by have := c.2; omega) (fun l => (mk1792 (sc1792 kb qb)) (ix2 l c)) (fun r l => vb (ix3 0 r l)) (fun l => ?_) hv ?_ (fun r => ?_)
  · show (mk1792 (sc1792 kb qb)) (ix2 l c) = _
    rw [mk1792_at, hsc]
  · rw [hQ, asBlock_at, mN1792_at, hm]
  · rw [hP, aR1792_at, hQ, asBlock_at, ha, hm]

theorem tBm2048 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S2048x128 .bf16} {qb : Vec Ideal S128x256 .bf16} {mb : Vec Ideal S1x1x8x256 .f32} {vb : Vec Ideal S1x80x2048 .bf16} {ab : Vec Ideal S1x1x80x256 .f32} (hP : P = aB2048 (mk2048 (sc2048 kb qb)) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 2048 ≤ 16384)
    (hk : ∀ (l : Fin 2048) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 2048), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + (1792 + c.1 + 1)) (m c) (fun r => P (ix4 0 0 r c)) := by
  have hsc : ∀ l : Fin 2048, sc2048 kb qb (ix2 l c) = ((st c (b0 + l.1) : ℝ) : EReal) := fun l => by
    rw [sc2048_at, ← hs c (b0 + l.1) (by have := l.2; omega)]
    exact Finset.sum_congr rfl fun d _ => by rw [hk, hq]
  refine stepB (h c) (1792 + c.1) (by have := c.2; omega) (fun l => (mk2048 (sc2048 kb qb)) (ix2 l c)) (fun r l => vb (ix3 0 r l)) (fun l => ?_) hv (fun r => ?_)
  · show (mk2048 (sc2048 kb qb)) (ix2 l c) = _
    rw [mk2048_at, hsc]
  · rw [hP, aB2048_at, ha, hm]

theorem tRm2048 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S2048x128 .bf16} {qb : Vec Ideal S128x256 .bf16} {mb : Vec Ideal S1x1x8x256 .f32} {vb : Vec Ideal S1x80x2048 .bf16} {ab : Vec Ideal S1x1x80x256 .f32} (hQ : Q = asBlock (mN2048 (mk2048 (sc2048 kb qb)) mb)) (hP : P = aR2048 (mk2048 (sc2048 kb qb)) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 2048 ≤ 16384)
    (hk : ∀ (l : Fin 2048) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 2048), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + (1792 + c.1 + 1)) (Q (ix4 0 0 0 c)) (fun r => P (ix4 0 0 r c)) := by
  have hsc : ∀ l : Fin 2048, sc2048 kb qb (ix2 l c) = ((st c (b0 + l.1) : ℝ) : EReal) := fun l => by
    rw [sc2048_at, ← hs c (b0 + l.1) (by have := l.2; omega)]
    exact Finset.sum_congr rfl fun d _ => by rw [hk, hq]
  refine stepR (h c) (1792 + c.1) (by have := c.2; omega) (fun l => (mk2048 (sc2048 kb qb)) (ix2 l c)) (fun r l => vb (ix3 0 r l)) (fun l => ?_) hv ?_ (fun r => ?_)
  · show (mk2048 (sc2048 kb qb)) (ix2 l c) = _
    rw [mk2048_at, hsc]
  · rw [hQ, asBlock_at, mN2048_at, hm]
  · rw [hP, aR2048_at, hQ, asBlock_at, ha, hm]

theorem tBu2048 {x0 : Vec Ideal S256x2048 .bf16} {x1 : Vec Ideal S16384x256 .bf16} {st : Fin 256 → ℕ → ℝ} {V : Fin 80 → ℕ → EReal} {m : Fin 256 → ℝ} {A : Fin 256 → Fin 80 → EReal} {P : FVec Ideal S1x1x80x256 .f32}
    (e : Fin 2) (s : Fin 8) (b0 : ℕ)
    {kb : Vec Ideal S2048x128 .bf16} {qb : Vec Ideal S128x256 .bf16} {mb : Vec Ideal S1x1x8x256 .f32} {vb : Vec Ideal S1x80x2048 .bf16} {ab : Vec Ideal S1x1x80x256 .f32} (hP : P = aB2048 (sc2048 kb qb) mb vb ab)
    (h : ∀ c, At (st c) V b0 (m c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 2048 ≤ 16384)
    (hk : ∀ (l : Fin 2048) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 2048), vb (ix3 0 r l) = V r (b0 + l.1))
    (hm : ∀ c : Fin 256, mb (ix4 0 0 0 c) = ((m c : ℝ) : EReal)) (ha : ∀ (r : Fin 80) (c : Fin 256), ab (ix4 0 0 r c) = A c r) (c : Fin 256) :
    At (st c) V (b0 + 2048) (m c) (fun r => P (ix4 0 0 r c)) := by
  have hsc : ∀ l : Fin 2048, sc2048 kb qb (ix2 l c) = ((st c (b0 + l.1) : ℝ) : EReal) := fun l => by
    rw [sc2048_at, ← hs c (b0 + l.1) (by have := l.2; omega)]
    exact Finset.sum_congr rfl fun d _ => by rw [hk, hq]
  refine stepB (h c) (2047) (by have := c.2; omega) (fun l => (sc2048 kb qb) (ix2 l c)) (fun r l => vb (ix3 0 r l)) (fun l => ?_) hv (fun r => ?_)
  · show (sc2048 kb qb) (ix2 l c) = _
    rw [hsc, if_pos (by have := l.2; omega)]
  · rw [hP, aB2048_at, ha, hm]

theorem tRu2048 {x0 : Vec Ideal S256x2048 .bf16} {x1 : Vec Ideal S16384x256 .bf16} {st : Fin 256 → ℕ → ℝ} {V : Fin 80 → ℕ → EReal} {M : Fin 256 → EReal} {A : Fin 256 → Fin 80 → EReal} {Q : FVec Ideal S1x1x8x256 .f32} {P : FVec Ideal S1x1x80x256 .f32}
    (e : Fin 2) (s : Fin 8) (b0 : ℕ)
    {kb : Vec Ideal S2048x128 .bf16} {qb : Vec Ideal S128x256 .bf16} {mb : Vec Ideal S1x1x8x256 .f32} {vb : Vec Ideal S1x80x2048 .bf16} {ab : Vec Ideal S1x1x80x256 .f32} (hQ : Q = asBlock (mN2048 (sc2048 kb qb) mb)) (hP : P = aR2048 (sc2048 kb qb) mb vb ab)
    (h : ∀ c, Good (st c) V b0 (M c) (A c)) (hs : ∀ (c : Fin 256) (key : ℕ), key < 16384 → ∑ d : Fin 128, kAt x1 key (128 * e.1 + d.1) * qAt x0 (128 * e.1 + d.1) (256 * s.1 + c.1) = ((st c key : ℝ) : EReal))
    (hb : b0 + 2048 ≤ 16384)
    (hk : ∀ (l : Fin 2048) (d : Fin 128), kb (ix2 l d) = kAt x1 (b0 + l.1) (128 * e.1 + d.1)) (hq : ∀ (d : Fin 128) (c : Fin 256), qb (ix2 d c) = qAt x0 (128 * e.1 + d.1) (256 * s.1 + c.1))
    (hv : ∀ (r : Fin 80) (l : Fin 2048), vb (ix3 0 r l) = V r (b0 + l.1))
    (hm : ∀ c : Fin 256, mb (ix4 0 0 0 c) = M c) (ha : ∀ (r : Fin 80) (c : Fin 256), ab (ix4 0 0 r c) = A c r) (c : Fin 256) :
    Good (st c) V (b0 + 2048) (Q (ix4 0 0 0 c)) (fun r => P (ix4 0 0 r c)) := by
  have hsc : ∀ l : Fin 2048, sc2048 kb qb (ix2 l c) = ((st c (b0 + l.1) : ℝ) : EReal) := fun l => by
    rw [sc2048_at, ← hs c (b0 + l.1) (by have := l.2; omega)]
    exact Finset.sum_congr rfl fun d _ => by rw [hk, hq]
  refine stepR (h c) (2047) (by have := c.2; omega) (fun l => (sc2048 kb qb) (ix2 l c)) (fun r l => vb (ix3 0 r l)) (fun l => ?_) hv ?_ (fun r => ?_)
  · show (sc2048 kb qb) (ix2 l c) = _
    rw [hsc, if_pos (by have := l.2; omega)]
  · rw [hQ, asBlock_at, mN2048_at, hm]
  · rw [hP, aR2048_at, hQ, asBlock_at, ha, hm]

end Cert.AttnTile

end
-- ==== Proof.AttnIdealBody.lean ====
module

public import proofs.«01_k».proof.Proof.Gen.AttnIdeal.Frame
public import proofs.«01_k».proof.Proof.Gen.AttnIdeal.Loops
public import Idealize.ShloMosaic.Lib.Tactic
public import Idealize.ShloMosaic.Lib.LoopRemainder
public import Idealize.ShloMosaic.Lib.Pipeline.Kit
public import Idealize.ShloMosaic.Lib.Pipeline.DatRel

@[expose] public section

set_option maxRecDepth 16384

noncomputable section

namespace Cert.AttnIdealBody

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000

/-- The bounded pass's loop over the earlier key blocks: its trips read no word of the enclosing body, so the generated
    invariant is taken at fixed words. -/
@[sl_loop] def loopB (c : Dev nD) (E : Set ℕ) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (Xa : BufTy.Contents (Elt F) arg2.view.ty) (Xb : BufTy.Contents (Elt F) arg3.view.ty) (Xc : BufTy.Contents (Elt F) arg4.view.ty) (X8 : BufTy.Contents (Elt F) arg8.view.ty) (X9 : BufTy.Contents (Elt F) arg9.view.ty) :=
  loopInv_k0_t1 (F := F) Variants.none c none E i arg2 harg2 arg3 harg3 arg4 harg4 arg5 harg5 arg6 harg6 arg7 harg7 arg8 harg8 arg9 harg9 0#32 0#32 (constant S1x1 .f32 0x00000000#32) (constant S8x256 .f32 0x00000000#32) Xa Xb Xc X8 X9

/-- The running pass's loop over the earlier key blocks, likewise. -/
@[sl_loop] def loopR (c : Dev nD) (E : Set ℕ) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (Xa : BufTy.Contents (Elt F) arg2.view.ty) (Xb : BufTy.Contents (Elt F) arg3.view.ty) (Xc : BufTy.Contents (Elt F) arg4.view.ty) (X8 : BufTy.Contents (Elt F) arg8.view.ty) (X9 : BufTy.Contents (Elt F) arg9.view.ty) :=
  loopInv_k0_t3 (F := F) Variants.none c none E i arg2 harg2 arg3 harg3 arg4 harg4 arg5 harg5 arg6 harg6 arg7 harg7 arg8 harg8 arg9 harg9 0#32 0#32 0#32 Xa Xb Xc X8 X9

set_option maxHeartbeats 40000000 in
/-- The body at any grid point, from its windows' and its scratch buffers' contents: it runs to its end, the inputs as they
    were, and the output's buffer at one of two contents, by whether the smallest row sum is too small: a statement, the
    contents where it holds and the contents where it doesn't. -/
@[irreducible] def bodyRun (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) :
    { p : BitVec 1 × BufTy.Contents (Elt F) arg7.view.ty × BufTy.Contents (Elt F) arg7.view.ty //
      ∀ (E : Set ℕ) (X5 : BufTy.Contents (Elt F) arg7.view.ty) (X6 : BufTy.Contents (Elt F) arg8.view.ty) (X7 : BufTy.Contents (Elt F) arg9.view.ty) (G : sProp 𝕄) (K : PUnit → sProp 𝕄)
      (R : BufTy.Contents (Elt F) arg7.view.ty → Prop) (_ : p.1 = 1#1 → R p.2.1) (_ : ¬ p.1 = 1#1 → R p.2.2)
      (_ : ∀ Z Z8 Z9, R Z → (iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg6.view.loc (c : Thread nD τ) ↦[arg6.view.set]{fullShare} X4) ∗ (arg7.view.loc (c : Thread nD τ) ↦[arg7.view.set]{fullShare} Z) ∗ (arg8.view.loc (c : Thread nD τ) ↦[arg8.view.set]{fullShare} Z8) ∗ (arg9.view.loc (c : Thread nD τ) ↦[arg9.view.set]{fullShare} Z9) ∗ G) ⊢ K ⟨⟩)),
      iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg6.view.loc (c : Thread nD τ) ↦[arg6.view.set]{fullShare} X4) ∗ (arg7.view.loc (c : Thread nD τ) ↦[arg7.view.set]{fullShare} X5) ∗ (arg8.view.loc (c : Thread nD τ) ↦[arg8.view.set]{fullShare} X6) ∗ (arg9.view.loc (c : Thread nD τ) ↦[arg9.view.set]{fullShare} X7) ∗ G)
      ⊢ wp frame (wpE (defs₀ (F := F)) Variants.none c none) E (cc0_attn_prompt i arg2 harg2 arg3 harg3 arg4 harg4 arg5 harg5 arg6 harg6 arg7 harg7 arg8 harg8 arg9 harg9) K } :=
  ⟨(_, _, _), fun E X5 X6 X7 G K R hR hS hK => by
    simp only [cc0_attn_prompt_eq_skeleton]; unfold cc0_attn_prompt_skel
    iintro ⟨H0, H1, H2, H3, H4, H5, H6, H7, Hk⟩
    sl_exec_parts!
    split
    case' isTrue hc =>
      sl_exec_parts!
      sl_step
      iapply (hK _ _ _ ?_)
      any_goals
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact Hk
      any_goals
        show R _
        have h1 := hR hc
        exact h1
    case' isFalse hc =>
      sl_exec_parts!
      sl_step
      iapply (hK _ _ _ ?_)
      any_goals
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact Hk
      any_goals
        show R _
        have h1 := hS hc
        exact h1⟩

open Classical in
/-- The contents the body leaves the output's buffer at. -/
def outZ (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) : BufTy.Contents (Elt F) arg7.view.ty :=
  if (bodyRun c i arg2 harg2 arg3 harg3 arg4 harg4 arg5 harg5 arg6 harg6 arg7 harg7 arg8 harg8 arg9 harg9 X0 X1 X2 X3 X4).1.1 = 1#1 then (bodyRun c i arg2 harg2 arg3 harg3 arg4 harg4 arg5 harg5 arg6 harg6 arg7 harg7 arg8 harg8 arg9 harg9 X0 X1 X2 X3 X4).1.2.1 else (bodyRun c i arg2 harg2 arg3 harg3 arg4 harg4 arg5 harg5 arg6 harg6 arg7 harg7 arg8 harg8 arg9 harg9 X0 X1 X2 X3 X4).1.2.2

theorem outZ_of (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) :
    ((bodyRun c i arg2 harg2 arg3 harg3 arg4 harg4 arg5 harg5 arg6 harg6 arg7 harg7 arg8 harg8 arg9 harg9 X0 X1 X2 X3 X4).1.1 = 1#1 → (bodyRun c i arg2 harg2 arg3 harg3 arg4 harg4 arg5 harg5 arg6 harg6 arg7 harg7 arg8 harg8 arg9 harg9 X0 X1 X2 X3 X4).1.2.1 = outZ c i arg2 harg2 arg3 harg3 arg4 harg4 arg5 harg5 arg6 harg6 arg7 harg7 arg8 harg8 arg9 harg9 X0 X1 X2 X3 X4)
      ∧ (¬ (bodyRun c i arg2 harg2 arg3 harg3 arg4 harg4 arg5 harg5 arg6 harg6 arg7 harg7 arg8 harg8 arg9 harg9 X0 X1 X2 X3 X4).1.1 = 1#1 → (bodyRun c i arg2 harg2 arg3 harg3 arg4 harg4 arg5 harg5 arg6 harg6 arg7 harg7 arg8 harg8 arg9 harg9 X0 X1 X2 X3 X4).1.2.2 = outZ c i arg2 harg2 arg3 harg3 arg4 harg4 arg5 harg5 arg6 harg6 arg7 harg7 arg8 harg8 arg9 harg9 X0 X1 X2 X3 X4) := by
  unfold outZ
  exact ⟨fun h => (if_pos h).symm, fun h => (if_neg h).symm⟩

end Cert.AttnIdealBody

end
-- ==== Proof.AttnBnd.lean ====
module

public import proofs.«01_k».proof.Proof.AttnMath
public import proofs.«01_k».proof.Proof.AttnTile
public import proofs.«01_k».proof.Proof.AttnIdealBody

@[expose] public section

set_option maxRecDepth 16384

/-! The bounded pass: with a real bound in every tile, each trip over an earlier block of keys and each step over the
block on the diagonal keep every tile's accumulator good. -/

noncomputable section

namespace Cert.AttnBnd

open Cert.AttnIdeal Cert.AttnIdeal.Gen Idealize.ShloMosaic Cert.AttnOps Cert.AttnMath

open Cert.AttnTile Cert.AttnIdealBody

set_option maxHeartbeats 4000000

theorem trips (i : grid0.Coords) : Scf.trips (k0_t1_loop i).lb (k0_t1_loop i).ub (k0_t1_loop i).st = (i 1).1 := by revert i; decide +kernel
theorem toff2 : ∀ (i : grid0.Coords) (k : Fin (k0_t1_loop i).trips), k0_off2 i k = ![2048 * k.1, 0] := by decide +kernel
theorem toff3 : ∀ (i : grid0.Coords) (k : Fin (k0_t1_loop i).trips), k0_off3 i k = ![2048 * k.1, 128] := by decide +kernel
theorem toff4 : ∀ (i : grid0.Coords) (k : Fin (k0_t1_loop i).trips), k0_off4 i k = ![k.1, 0, 0] := by decide +kernel
theorem toff5 : ∀ (i : grid0.Coords) (k : Fin (k0_t1_loop i).trips), k0_off5 i k = ![k.1, 80, 0] := by decide +kernel

theorem off10 (i : grid0.Coords) : k0_off10 i = ![2048 * (i 1).1, 0] := by revert i; decide +kernel
theorem off15 (i : grid0.Coords) : k0_off15 i = ![(i 1).1, 0, 0] := by revert i; decide +kernel
theorem off11 (i : grid0.Coords) : k0_off11 i = ![2048 * (i 1).1, 128] := by revert i; decide +kernel
theorem off17 (i : grid0.Coords) : k0_off17 i = ![(i 1).1, 80, 0] := by revert i; decide +kernel
theorem off12 (i : grid0.Coords) : k0_off12 i = ![2048 * (i 1).1, 0] := by revert i; decide +kernel
theorem off19 (i : grid0.Coords) : k0_off19 i = ![(i 1).1, 0, 0] := by revert i; decide +kernel
theorem off13 (i : grid0.Coords) : k0_off13 i = ![2048 * (i 1).1, 128] := by revert i; decide +kernel
theorem off21 (i : grid0.Coords) : k0_off21 i = ![(i 1).1, 80, 0] := by revert i; decide +kernel
theorem off14 (i : grid0.Coords) : k0_off14 i = ![2048 * (i 1).1, 0] := by revert i; decide +kernel
theorem off23 (i : grid0.Coords) : k0_off23 i = ![(i 1).1, 0, 0] := by revert i; decide +kernel
theorem off16 (i : grid0.Coords) : k0_off16 i = ![2048 * (i 1).1, 128] := by revert i; decide +kernel
theorem off25 (i : grid0.Coords) : k0_off25 i = ![(i 1).1, 80, 0] := by revert i; decide +kernel
theorem off18 (i : grid0.Coords) : k0_off18 i = ![2048 * (i 1).1, 0] := by revert i; decide +kernel
theorem off27 (i : grid0.Coords) : k0_off27 i = ![(i 1).1, 0, 0] := by revert i; decide +kernel
theorem off20 (i : grid0.Coords) : k0_off20 i = ![2048 * (i 1).1, 128] := by revert i; decide +kernel
theorem off29 (i : grid0.Coords) : k0_off29 i = ![(i 1).1, 80, 0] := by revert i; decide +kernel
theorem off22 (i : grid0.Coords) : k0_off22 i = ![2048 * (i 1).1, 0] := by revert i; decide +kernel
theorem off31 (i : grid0.Coords) : k0_off31 i = ![(i 1).1, 0, 0] := by revert i; decide +kernel
theorem off24 (i : grid0.Coords) : k0_off24 i = ![2048 * (i 1).1, 128] := by revert i; decide +kernel
theorem off33 (i : grid0.Coords) : k0_off33 i = ![(i 1).1, 80, 0] := by revert i; decide +kernel
theorem off26 (i : grid0.Coords) : k0_off26 i = ![2048 * (i 1).1, 0] := by revert i; decide +kernel
theorem off35 (i : grid0.Coords) : k0_off35 i = ![(i 1).1, 0, 0] := by revert i; decide +kernel
theorem off28 (i : grid0.Coords) : k0_off28 i = ![2048 * (i 1).1, 128] := by revert i; decide +kernel
theorem off37 (i : grid0.Coords) : k0_off37 i = ![(i 1).1, 80, 0] := by revert i; decide +kernel
theorem off30 (i : grid0.Coords) : k0_off30 i = ![2048 * (i 1).1, 0] := by revert i; decide +kernel
theorem off38 (i : grid0.Coords) : k0_off38 i = ![(i 1).1, 0, 0] := by revert i; decide +kernel
theorem off32 (i : grid0.Coords) : k0_off32 i = ![2048 * (i 1).1, 128] := by revert i; decide +kernel
theorem off39 (i : grid0.Coords) : k0_off39 i = ![(i 1).1, 80, 0] := by revert i; decide +kernel
theorem off34 (i : grid0.Coords) : k0_off34 i = ![2048 * (i 1).1, 0] := by revert i; decide +kernel
theorem off40 (i : grid0.Coords) : k0_off40 i = ![(i 1).1, 0, 0] := by revert i; decide +kernel
theorem off36 (i : grid0.Coords) : k0_off36 i = ![2048 * (i 1).1, 128] := by revert i; decide +kernel
theorem off41 (i : grid0.Coords) : k0_off41 i = ![(i 1).1, 80, 0] := by revert i; decide +kernel

section
variable (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
  (x0 : Vec Ideal S256x2048 .bf16) (x1 : Vec Ideal S16384x256 .bf16) (x2 : Vec Ideal S8x160x2048 .bf16) (x3 : Vec Ideal S1x8x2048 .f32) (x4 : Vec Ideal S8x128 .f32)
  (st : Fin 2 → Fin 8 → Fin 256 → ℕ → ℝ)
  (hs : ∀ e s c key, key < 16384 → ∑ d : Fin 128, kAt x1 key (128 * (e : Fin 2).1 + d.1) * qAt x0 (128 * e.1 + d.1) (256 * (s : Fin 8).1 + (c : Fin 256).1) = ((st e s c key : ℝ) : EReal))
  (m : Fin 2 → Fin 8 → Fin 256 → ℝ)
include hs

/-- One trip over an earlier block of keys. -/
theorem trip {K : List (View.Piece (Elt Ideal) S2x8x8x256 .f32)} {L : List (View.Piece (Elt Ideal) S2x8x80x256 .f32)} (k : Fin (k0_t1_loop i).trips)
    (hM : ∀ e s c, View.canon (Val := Elt Ideal) K (ix4 e s 0 c) = ((m e s c : ℝ) : EReal))
    (h : InvB st (fun e r key => vAt x2 (80 * e.1 + r.1) key) m (fun _ _ _ => 2048 * k.1) L) :
    InvB st (fun e r key => vAt x2 (80 * e.1 + r.1) key) m (fun _ _ _ => 2048 * k.1 + 2048)
      (tripL_k0_t1 (F := Ideal) Variants.none c none i arg2 harg2 arg3 harg3 arg4 harg4 arg5 harg5 arg6 harg6 arg7 harg7 arg8 harg8 arg9 harg9 0#32 0#32 (constant S1x1 .f32 0x00000000#32) (constant S8x256 .f32 0x00000000#32) (harg2.unread x0) (harg3.unread x1) (harg4.unread x2) (arg8.view.writes (Elt Ideal) arg8.view.junk K) k (arg9.view.writes (Elt Ideal) arg9.view.junk L) ++ L) := by
  have hk : k.1 < (i 1).1 := lt_of_lt_of_eq k.2 (trips i)
  have hi : (i 1).1 < 8 := (i 1).2
  have hb : 2048 * k.1 + 2048 ≤ 16384 := by omega
  rw [← prog_all (fun _ _ _ => 2048 * k.1) (fun _ _ _ => 2048 * k.1 + 2048)]
  unfold tripL_k0_t1 trip_k0_t1
  dsimp only [List.cons_append, List.nil_append]
  refine InvB.step (b := 15) ?_ 1 7 rfl rfl (tBu2048 (x0 := x0) (x1 := x1) 1 7 (2048 * k.1) rfl (fun c => h 1 7 c) (fun c key hk => hs 1 7 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 7 _ rfl _ _ 0 c).trans (hM 1 7 c)) (fun r c => covA' arg9 1 7 _ rfl _ _ r c))
  refine InvB.step (b := 14) ?_ 0 7 rfl rfl (tBu2048 (x0 := x0) (x1 := x1) 0 7 (2048 * k.1) rfl (fun c => h 0 7 c) (fun c key hk => hs 0 7 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 7 _ rfl _ _ 0 c).trans (hM 0 7 c)) (fun r c => covA' arg9 0 7 _ rfl _ _ r c))
  refine InvB.step (b := 13) ?_ 1 6 rfl rfl (tBu2048 (x0 := x0) (x1 := x1) 1 6 (2048 * k.1) rfl (fun c => h 1 6 c) (fun c key hk => hs 1 6 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 6 _ rfl _ _ 0 c).trans (hM 1 6 c)) (fun r c => covA' arg9 1 6 _ rfl _ _ r c))
  refine InvB.step (b := 12) ?_ 0 6 rfl rfl (tBu2048 (x0 := x0) (x1 := x1) 0 6 (2048 * k.1) rfl (fun c => h 0 6 c) (fun c key hk => hs 0 6 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 6 _ rfl _ _ 0 c).trans (hM 0 6 c)) (fun r c => covA' arg9 0 6 _ rfl _ _ r c))
  refine InvB.step (b := 11) ?_ 1 5 rfl rfl (tBu2048 (x0 := x0) (x1 := x1) 1 5 (2048 * k.1) rfl (fun c => h 1 5 c) (fun c key hk => hs 1 5 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 5 _ rfl _ _ 0 c).trans (hM 1 5 c)) (fun r c => covA' arg9 1 5 _ rfl _ _ r c))
  refine InvB.step (b := 10) ?_ 0 5 rfl rfl (tBu2048 (x0 := x0) (x1 := x1) 0 5 (2048 * k.1) rfl (fun c => h 0 5 c) (fun c key hk => hs 0 5 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 5 _ rfl _ _ 0 c).trans (hM 0 5 c)) (fun r c => covA' arg9 0 5 _ rfl _ _ r c))
  refine InvB.step (b := 9) ?_ 1 4 rfl rfl (tBu2048 (x0 := x0) (x1 := x1) 1 4 (2048 * k.1) rfl (fun c => h 1 4 c) (fun c key hk => hs 1 4 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 4 _ rfl _ _ 0 c).trans (hM 1 4 c)) (fun r c => covA' arg9 1 4 _ rfl _ _ r c))
  refine InvB.step (b := 8) ?_ 0 4 rfl rfl (tBu2048 (x0 := x0) (x1 := x1) 0 4 (2048 * k.1) rfl (fun c => h 0 4 c) (fun c key hk => hs 0 4 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 4 _ rfl _ _ 0 c).trans (hM 0 4 c)) (fun r c => covA' arg9 0 4 _ rfl _ _ r c))
  refine InvB.step (b := 7) ?_ 1 3 rfl rfl (tBu2048 (x0 := x0) (x1 := x1) 1 3 (2048 * k.1) rfl (fun c => h 1 3 c) (fun c key hk => hs 1 3 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 3 _ rfl _ _ 0 c).trans (hM 1 3 c)) (fun r c => covA' arg9 1 3 _ rfl _ _ r c))
  refine InvB.step (b := 6) ?_ 0 3 rfl rfl (tBu2048 (x0 := x0) (x1 := x1) 0 3 (2048 * k.1) rfl (fun c => h 0 3 c) (fun c key hk => hs 0 3 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 3 _ rfl _ _ 0 c).trans (hM 0 3 c)) (fun r c => covA' arg9 0 3 _ rfl _ _ r c))
  refine InvB.step (b := 5) ?_ 1 2 rfl rfl (tBu2048 (x0 := x0) (x1 := x1) 1 2 (2048 * k.1) rfl (fun c => h 1 2 c) (fun c key hk => hs 1 2 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 2 _ rfl _ _ 0 c).trans (hM 1 2 c)) (fun r c => covA' arg9 1 2 _ rfl _ _ r c))
  refine InvB.step (b := 4) ?_ 0 2 rfl rfl (tBu2048 (x0 := x0) (x1 := x1) 0 2 (2048 * k.1) rfl (fun c => h 0 2 c) (fun c key hk => hs 0 2 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 2 _ rfl _ _ 0 c).trans (hM 0 2 c)) (fun r c => covA' arg9 0 2 _ rfl _ _ r c))
  refine InvB.step (b := 3) ?_ 1 1 rfl rfl (tBu2048 (x0 := x0) (x1 := x1) 1 1 (2048 * k.1) rfl (fun c => h 1 1 c) (fun c key hk => hs 1 1 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 1 _ rfl _ _ 0 c).trans (hM 1 1 c)) (fun r c => covA' arg9 1 1 _ rfl _ _ r c))
  refine InvB.step (b := 2) ?_ 0 1 rfl rfl (tBu2048 (x0 := x0) (x1 := x1) 0 1 (2048 * k.1) rfl (fun c => h 0 1 c) (fun c key hk => hs 0 1 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 1 _ rfl _ _ 0 c).trans (hM 0 1 c)) (fun r c => covA' arg9 0 1 _ rfl _ _ r c))
  refine InvB.step (b := 1) ?_ 1 0 rfl rfl (tBu2048 (x0 := x0) (x1 := x1) 1 0 (2048 * k.1) rfl (fun c => h 1 0 c) (fun c key hk => hs 1 0 c key hk) hb
    (fun l d => ldK2048 arg3 harg3 x1 _ _ _ (toff3 i k) _ l d) (fun d c => ldQ arg2 harg2 x0 _ _ _ rfl _ d c) (fun r l => ldV2048 arg4 harg4 x2 _ _ _ (toff5 i k) _ r l)
    (fun c => (covM' arg8 1 0 _ rfl _ _ 0 c).trans (hM 1 0 c)) (fun r c => covA' arg9 1 0 _ rfl _ _ r c))
  refine InvB.step (b := 0) ?_ 0 0 rfl rfl (tBu2048 (x0 := x0) (x1 := x1) 0 0 (2048 * k.1) rfl (fun c => h 0 0 c) (fun c key hk => hs 0 0 c key hk) hb
    (fun l d => ldK2048 arg3 harg3 x1 _ _ _ (toff2 i k) _ l d) (fun d c => ldQ arg2 harg2 x0 _ _ _ rfl _ d c) (fun r l => ldV2048 arg4 harg4 x2 _ _ _ (toff4 i k) _ r l)
    (fun c => (covM' arg8 0 0 _ rfl _ _ 0 c).trans (hM 0 0 c)) (fun r c => covA' arg9 0 0 _ rfl _ _ r c))
  rw [prog_zero]; exact h

/-- The trips over all earlier blocks. -/
theorem loop (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (fun _ _ _ => 0) bodyRun.sl.H7_16) (n : ℕ) (hn : n ≤ (i 1).1) :
    InvB st (fun e r key => vAt x2 (80 * e.1 + r.1) key) m (fun _ _ _ => 2048 * n) (pb_k0_t1 (F := Ideal) Variants.none c none i arg2 harg2 arg3 harg3 arg4 harg4 arg5 harg5 arg6 harg6 arg7 harg7 arg8 harg8 arg9 harg9 0#32 0#32 (constant S1x1 .f32 0x00000000#32) (constant S8x256 .f32 0x00000000#32) (harg2.unread x0) (harg3.unread x1) (harg4.unread x2) (arg8.view.writes (Elt Ideal) arg8.view.junk (bodyRun.sl.H6_16 i arg5 arg6 (harg5.unread x3) (harg6.unread x4))) (arg9.view.writes (Elt Ideal) arg9.view.junk bodyRun.sl.H7_16) n ++ bodyRun.sl.H7_16) := by
  induction n with
  | zero => rw [pb_k0_t1.eq_1, List.nil_append]; exact h
  | succ n ih =>
    have hlt : n < (k0_t1_loop i).trips := lt_of_lt_of_eq (by omega) (trips i).symm
    rw [show n + 1 = (⟨n, hlt⟩ : Fin (k0_t1_loop i).trips).val + 1 from rfl, pb_k0_t1_succ, List.append_assoc, ← View.writes_append]
    have t := trip c i arg2 harg2 arg3 harg3 arg4 harg4 arg5 harg5 arg6 harg6 arg7 harg7 arg8 harg8 arg9 harg9 x0 x1 x2 st hs m ⟨n, hlt⟩ hM (ih (by omega))
    exact t

theorem b1 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 0) (pb_k0_t1 (F := Ideal) Variants.none c none i arg2 harg2 arg3 harg3 arg4 harg4 arg5 harg5 arg6 harg6 arg7 harg7 arg8 harg8 arg9 harg9 0#32 0#32 (constant S1x1 .f32 0x00000000#32) (constant S8x256 .f32 0x00000000#32) (harg2.unread x0) (harg3.unread x1) (harg4.unread x2) (arg8.view.writes (Elt Ideal) arg8.view.junk (bodyRun.sl.H6_16 i arg5 arg6 (harg5.unread x3) (harg6.unread x4))) (arg9.view.writes (Elt Ideal) arg9.view.junk bodyRun.sl.H7_16) (Scf.trips (k0_t1_loop i).lb (k0_t1_loop i).ub (k0_t1_loop i).st) ++ bodyRun.sl.H7_16)) :
    InvB st (fun e r key => vAt x2 (80 * e.1 + r.1) key) m (prog (fun _ _ _ => 2048 * (i 1).1) (fun _ s c => 2048 * (i 1).1 + (256 * s.1 + c.1 + 1)) 1) (bodyRun.sl.H7_1_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 0 rfl rfl (tBm256 (x0 := x0) (x1 := x1) 0 0 (2048 * (i 1).1) rfl (fun c => h.before 0 0 rfl c) (fun c key hk => hs 0 0 c key hk) (by omega)
    (fun l d => ldK256 arg3 harg3 x1 _ _ _ (off10 i) _ l d) (fun d c => ldQ arg2 harg2 x0 _ _ _ rfl _ d c) (fun r l => ldV256 arg4 harg4 x2 _ _ _ (off15 i) _ r l)
    (fun c => (covM arg8 0 0 _ rfl _ _ 0 c).trans (hM 0 0 c)) (fun r c => covA arg9 0 0 _ rfl _ _ r c))

theorem b2 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 1) (bodyRun.sl.H7_1_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 2) (bodyRun.sl.H7_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 0 rfl rfl (tBm256 (x0 := x0) (x1 := x1) 1 0 (2048 * (i 1).1) rfl (fun c => h.before 1 0 rfl c) (fun c key hk => hs 1 0 c key hk) (by omega)
    (fun l d => ldK256 arg3 harg3 x1 _ _ _ (off11 i) _ l d) (fun d c => ldQ arg2 harg2 x0 _ _ _ rfl _ d c) (fun r l => ldV256 arg4 harg4 x2 _ _ _ (off17 i) _ r l)
    (fun c => (covM arg8 1 0 _ rfl _ _ 0 c).trans (hM 1 0 c)) (fun r c => covA arg9 1 0 _ rfl _ _ r c))

theorem b3 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 2) (bodyRun.sl.H7_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 3) (bodyRun.sl.H7_3_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 1 rfl rfl (tBm512 (x0 := x0) (x1 := x1) 0 1 (2048 * (i 1).1) rfl (fun c => h.before 0 1 rfl c) (fun c key hk => hs 0 1 c key hk) (by omega)
    (fun l d => ldK512 arg3 harg3 x1 _ _ _ (off12 i) _ l d) (fun d c => ldQ arg2 harg2 x0 _ _ _ rfl _ d c) (fun r l => ldV512 arg4 harg4 x2 _ _ _ (off19 i) _ r l)
    (fun c => (covM arg8 0 1 _ rfl _ _ 0 c).trans (hM 0 1 c)) (fun r c => covA arg9 0 1 _ rfl _ _ r c))

theorem b4 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 3) (bodyRun.sl.H7_3_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 4) (bodyRun.sl.H7_4 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 1 rfl rfl (tBm512 (x0 := x0) (x1 := x1) 1 1 (2048 * (i 1).1) rfl (fun c => h.before 1 1 rfl c) (fun c key hk => hs 1 1 c key hk) (by omega)
    (fun l d => ldK512 arg3 harg3 x1 _ _ _ (off13 i) _ l d) (fun d c => ldQ arg2 harg2 x0 _ _ _ rfl _ d c) (fun r l => ldV512 arg4 harg4 x2 _ _ _ (off21 i) _ r l)
    (fun c => (covM arg8 1 1 _ rfl _ _ 0 c).trans (hM 1 1 c)) (fun r c => covA arg9 1 1 _ rfl _ _ r c))

theorem b5 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 4) (bodyRun.sl.H7_4 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 5) (bodyRun.sl.H7_5 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 2 rfl rfl (tBm768 (x0 := x0) (x1 := x1) 0 2 (2048 * (i 1).1) rfl (fun c => h.before 0 2 rfl c) (fun c key hk => hs 0 2 c key hk) (by omega)
    (fun l d => ldK768 arg3 harg3 x1 _ _ _ (off14 i) _ l d) (fun d c => ldQ arg2 harg2 x0 _ _ _ rfl _ d c) (fun r l => ldV768 arg4 harg4 x2 _ _ _ (off23 i) _ r l)
    (fun c => (covM arg8 0 2 _ rfl _ _ 0 c).trans (hM 0 2 c)) (fun r c => covA arg9 0 2 _ rfl _ _ r c))

theorem b6 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 5) (bodyRun.sl.H7_5 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 6) (bodyRun.sl.H7_6_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 2 rfl rfl (tBm768 (x0 := x0) (x1 := x1) 1 2 (2048 * (i 1).1) rfl (fun c => h.before 1 2 rfl c) (fun c key hk => hs 1 2 c key hk) (by omega)
    (fun l d => ldK768 arg3 harg3 x1 _ _ _ (off16 i) _ l d) (fun d c => ldQ arg2 harg2 x0 _ _ _ rfl _ d c) (fun r l => ldV768 arg4 harg4 x2 _ _ _ (off25 i) _ r l)
    (fun c => (covM arg8 1 2 _ rfl _ _ 0 c).trans (hM 1 2 c)) (fun r c => covA arg9 1 2 _ rfl _ _ r c))

theorem b7 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 6) (bodyRun.sl.H7_6_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 7) (bodyRun.sl.H7_7 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 3 rfl rfl (tBm1024 (x0 := x0) (x1 := x1) 0 3 (2048 * (i 1).1) rfl (fun c => h.before 0 3 rfl c) (fun c key hk => hs 0 3 c key hk) (by omega)
    (fun l d => ldK1024 arg3 harg3 x1 _ _ _ (off18 i) _ l d) (fun d c => ldQ arg2 harg2 x0 _ _ _ rfl _ d c) (fun r l => ldV1024 arg4 harg4 x2 _ _ _ (off27 i) _ r l)
    (fun c => (covM arg8 0 3 _ rfl _ _ 0 c).trans (hM 0 3 c)) (fun r c => covA arg9 0 3 _ rfl _ _ r c))

theorem b8 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 7) (bodyRun.sl.H7_7 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 8) (bodyRun.sl.H7_8_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 3 rfl rfl (tBm1024 (x0 := x0) (x1 := x1) 1 3 (2048 * (i 1).1) rfl (fun c => h.before 1 3 rfl c) (fun c key hk => hs 1 3 c key hk) (by omega)
    (fun l d => ldK1024 arg3 harg3 x1 _ _ _ (off20 i) _ l d) (fun d c => ldQ arg2 harg2 x0 _ _ _ rfl _ d c) (fun r l => ldV1024 arg4 harg4 x2 _ _ _ (off29 i) _ r l)
    (fun c => (covM arg8 1 3 _ rfl _ _ 0 c).trans (hM 1 3 c)) (fun r c => covA arg9 1 3 _ rfl _ _ r c))

theorem b9 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 8) (bodyRun.sl.H7_8_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 9) (bodyRun.sl.H7_9 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 4 rfl rfl (tBm1280 (x0 := x0) (x1 := x1) 0 4 (2048 * (i 1).1) rfl (fun c => h.before 0 4 rfl c) (fun c key hk => hs 0 4 c key hk) (by omega)
    (fun l d => ldK1280 arg3 harg3 x1 _ _ _ (off22 i) _ l d) (fun d c => ldQ arg2 harg2 x0 _ _ _ rfl _ d c) (fun r l => ldV1280 arg4 harg4 x2 _ _ _ (off31 i) _ r l)
    (fun c => (covM arg8 0 4 _ rfl _ _ 0 c).trans (hM 0 4 c)) (fun r c => covA arg9 0 4 _ rfl _ _ r c))

theorem b10 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 9) (bodyRun.sl.H7_9 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 10) (bodyRun.sl.H7_10_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 4 rfl rfl (tBm1280 (x0 := x0) (x1 := x1) 1 4 (2048 * (i 1).1)
    (kb := View.readAt (Elt Ideal) arg3.view (Rect.unit (s := S16384x256) (k0_off24 i) S1280x128.size (k0_off24_inb i)).toLoadRect (harg3.unread x1))
    (qb := View.readAt (Elt Ideal) arg2.view (Rect.unit (s := S256x2048) ![128, 1024] S128x256.size inb_S256x2048_S128x256_128_1024).toLoadRect (harg2.unread x0))
    (mb := arg8.view.readCov (bodyRun.sl.H6_16 i arg5 arg6 (harg5.unread x3) (harg6.unread x4)) (Rect.unit (s := S2x8x8x256) ![1, 4, 0, 0] S1x1x8x256.size inb_S2x8x8x256_S1x1x8x256_1_4_0_0).toLoadRect)
    (vb := View.readAt (Elt Ideal) arg4.view (Rect.unit (s := S8x160x2048) (k0_off33 i) S1x80x1280.size (k0_off33_inb i)).toLoadRect (harg4.unread x2))
    (ab := arg9.view.readCov (bodyRun.sl.H7_9 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 4, 0, 0] S1x1x80x256.size inb_S2x8x80x256_S1x1x80x256_1_4_0_0).toLoadRect) rfl (fun c => h.before 1 4 rfl c) (fun c key hk => hs 1 4 c key hk) (by omega)
    (fun l d => ldK1280 arg3 harg3 x1 _ _ _ (off24 i) _ l d) (fun d c => ldQ arg2 harg2 x0 _ _ _ rfl _ d c) (fun r l => ldV1280 arg4 harg4 x2 _ _ _ (off33 i) _ r l)
    (fun c => (covM arg8 1 4 _ rfl _ _ 0 c).trans (hM 1 4 c)) (fun r c => covA arg9 1 4 _ rfl _ _ r c))

theorem b11 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 10) (bodyRun.sl.H7_10_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 11) (bodyRun.sl.H7_11 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 5 rfl rfl (tBm1536 (x0 := x0) (x1 := x1) 0 5 (2048 * (i 1).1) rfl (fun c => h.before 0 5 rfl c) (fun c key hk => hs 0 5 c key hk) (by omega)
    (fun l d => ldK1536 arg3 harg3 x1 _ _ _ (off26 i) _ l d) (fun d c => ldQ arg2 harg2 x0 _ _ _ rfl _ d c) (fun r l => ldV1536 arg4 harg4 x2 _ _ _ (off35 i) _ r l)
    (fun c => (covM arg8 0 5 _ rfl _ _ 0 c).trans (hM 0 5 c)) (fun r c => covA arg9 0 5 _ rfl _ _ r c))

theorem b12 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 11) (bodyRun.sl.H7_11 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 12) (bodyRun.sl.H7_12_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 5 rfl rfl (tBm1536 (x0 := x0) (x1 := x1) 1 5 (2048 * (i 1).1) rfl (fun c => h.before 1 5 rfl c) (fun c key hk => hs 1 5 c key hk) (by omega)
    (fun l d => ldK1536 arg3 harg3 x1 _ _ _ (off28 i) _ l d) (fun d c => ldQ arg2 harg2 x0 _ _ _ rfl _ d c) (fun r l => ldV1536 arg4 harg4 x2 _ _ _ (off37 i) _ r l)
    (fun c => (covM arg8 1 5 _ rfl _ _ 0 c).trans (hM 1 5 c)) (fun r c => covA arg9 1 5 _ rfl _ _ r c))

theorem b13 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 12) (bodyRun.sl.H7_12_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 13) (bodyRun.sl.H7_13 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 6 rfl rfl (tBm1792 (x0 := x0) (x1 := x1) 0 6 (2048 * (i 1).1) rfl (fun c => h.before 0 6 rfl c) (fun c key hk => hs 0 6 c key hk) (by omega)
    (fun l d => ldK1792 arg3 harg3 x1 _ _ _ (off30 i) _ l d) (fun d c => ldQ arg2 harg2 x0 _ _ _ rfl _ d c) (fun r l => ldV1792 arg4 harg4 x2 _ _ _ (off38 i) _ r l)
    (fun c => (covM arg8 0 6 _ rfl _ _ 0 c).trans (hM 0 6 c)) (fun r c => covA arg9 0 6 _ rfl _ _ r c))

theorem b14 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 13) (bodyRun.sl.H7_13 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 14) (bodyRun.sl.H7_14_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 6 rfl rfl (tBm1792 (x0 := x0) (x1 := x1) 1 6 (2048 * (i 1).1) rfl (fun c => h.before 1 6 rfl c) (fun c key hk => hs 1 6 c key hk) (by omega)
    (fun l d => ldK1792 arg3 harg3 x1 _ _ _ (off32 i) _ l d) (fun d c => ldQ arg2 harg2 x0 _ _ _ rfl _ d c) (fun r l => ldV1792 arg4 harg4 x2 _ _ _ (off39 i) _ r l)
    (fun c => (covM arg8 1 6 _ rfl _ _ 0 c).trans (hM 1 6 c)) (fun r c => covA arg9 1 6 _ rfl _ _ r c))

theorem b15 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 14) (bodyRun.sl.H7_14_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 15) (bodyRun.sl.H7_15 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 7 rfl rfl (tBm2048 (x0 := x0) (x1 := x1) 0 7 (2048 * (i 1).1) rfl (fun c => h.before 0 7 rfl c) (fun c key hk => hs 0 7 c key hk) (by omega)
    (fun l d => ldK2048 arg3 harg3 x1 _ _ _ (off34 i) _ l d) (fun d c => ldQ arg2 harg2 x0 _ _ _ rfl _ d c) (fun r l => ldV2048 arg4 harg4 x2 _ _ _ (off40 i) _ r l)
    (fun c => (covM arg8 0 7 _ rfl _ _ 0 c).trans (hM 0 7 c)) (fun r c => covA arg9 0 7 _ rfl _ _ r c))

theorem b16 (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (prog (fun _ _ _ => 2048 * (i 1).1) (fun _ s c => 2048 * (i 1).1 + (256 * s.1 + c.1 + 1)) 15) (bodyRun.sl.H7_15 c i arg2 harg2 arg3 harg3 arg4 harg4 arg5 harg5 arg6 harg6 arg7 harg7 arg8 harg8 arg9 harg9 (harg2.unread x0) (harg3.unread x1) (harg4.unread x2) (harg5.unread x3) (harg6.unread x4))) :
    InvB st (fun e r key => vAt x2 (80 * e.1 + r.1) key) m (prog (fun _ _ _ => 2048 * (i 1).1) (fun _ s c => 2048 * (i 1).1 + (256 * s.1 + c.1 + 1)) 16) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 7 rfl rfl (tBm2048 (x0 := x0) (x1 := x1) 1 7 (2048 * (i 1).1) rfl (fun c => h.before 1 7 rfl c) (fun c key hk => hs 1 7 c key hk) (by omega)
    (fun l d => ldK2048 arg3 harg3 x1 _ _ _ (off36 i) _ l d) (fun d c => ldQ arg2 harg2 x0 _ _ _ rfl _ d c) (fun r l => ldV2048 arg4 harg4 x2 _ _ _ (off41 i) _ r l)
    (fun c => (covM arg8 1 7 _ rfl _ _ 0 c).trans (hM 1 7 c)) (fun r c => covA arg9 1 7 _ rfl _ _ r c))

/-- The whole bounded pass. -/
theorem all (hM : ∀ e s c, View.canon (Val := Elt Ideal) (bodyRun.sl.H6_16 i arg5 arg6 (harg5.unread x3) (harg6.unread x4)) (ix4 e s 0 c) = ((m e s c : ℝ) : EReal))
    (h : InvB st (fun e r key => vAt x2 (80 * e.1 + r.1) key) m (fun _ _ _ => 0) bodyRun.sl.H7_16) :
    InvB st (fun e r key => vAt x2 (80 * e.1 + r.1) key) m (fun _ s c => 2048 * (i 1).1 + (256 * s.1 + c.1 + 1)) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) := by
  rw [← prog_all (fun _ _ _ => 2048 * (i 1).1) (fun _ s c => 2048 * (i 1).1 + (256 * s.1 + c.1 + 1))]
  refine b16 c i arg2 harg2 arg3 harg3 arg4 harg4 arg5 harg5 arg6 harg6 arg7 harg7 arg8 harg8 arg9 harg9 x0 x1 x2 x3 x4 st hs m hM ?_
  refine b15 c i arg2 harg2 arg3 harg3 arg4 harg4 arg5 harg5 arg6 harg6 arg7 harg7 arg8 harg8 arg9 harg9 x0 x1 x2 x3 x4 st hs m hM ?_
  refine b14 c i arg2 harg2 arg3 harg3 arg4 harg4 arg5 harg5 arg6 harg6 arg7 harg7 arg8 harg8 arg9 harg9 x0 x1 x2 x3 x4 st hs m hM ?_
  refine b13 c i arg2 harg2 arg3 harg3 arg4 harg4 arg5 harg5 arg6 harg6 arg7 harg7 arg8 harg8 arg9 harg9 x0 x1 x2 x3 x4 st hs m hM ?_
  refine b12 c i arg2 harg2 arg3 harg3 arg4 harg4 arg5 harg5 arg6 harg6 arg7 harg7 arg8 harg8 arg9 harg9 x0 x1 x2 x3 x4 st hs m hM ?_
  refine b11 c i arg2 harg2 arg3 harg3 arg4 harg4 arg5 harg5 arg6 harg6 arg7 harg7 arg8 harg8 arg9 harg9 x0 x1 x2 x3 x4 st hs m hM ?_
  refine b10 c i arg2 harg2 arg3 harg3 arg4 harg4 arg5 harg5 arg6 harg6 arg7 harg7 arg8 harg8 arg9 harg9 x0 x1 x2 x3 x4 st hs m hM ?_
  refine b9 c i arg2 harg2 arg3 harg3 arg4 harg4 arg5 harg5 arg6 harg6 arg7 harg7 arg8 harg8 arg9 harg9 x0 x1 x2 x3 x4 st hs m hM ?_
  refine b8 c i arg2 harg2 arg3 harg3 arg4 harg4 arg5 harg5 arg6 harg6 arg7 harg7 arg8 harg8 arg9 harg9 x0 x1 x2 x3 x4 st hs m hM ?_
  refine b7 c i arg2 harg2 arg3 harg3 arg4 harg4 arg5 harg5 arg6 harg6 arg7 harg7 arg8 harg8 arg9 harg9 x0 x1 x2 x3 x4 st hs m hM ?_
  refine b6 c i arg2 harg2 arg3 harg3 arg4 harg4 arg5 harg5 arg6 harg6 arg7 harg7 arg8 harg8 arg9 harg9 x0 x1 x2 x3 x4 st hs m hM ?_
  refine b5 c i arg2 harg2 arg3 harg3 arg4 harg4 arg5 harg5 arg6 harg6 arg7 harg7 arg8 harg8 arg9 harg9 x0 x1 x2 x3 x4 st hs m hM ?_
  refine b4 c i arg2 harg2 arg3 harg3 arg4 harg4 arg5 harg5 arg6 harg6 arg7 harg7 arg8 harg8 arg9 harg9 x0 x1 x2 x3 x4 st hs m hM ?_
  refine b3 c i arg2 harg2 arg3 harg3 arg4 harg4 arg5 harg5 arg6 harg6 arg7 harg7 arg8 harg8 arg9 harg9 x0 x1 x2 x3 x4 st hs m hM ?_
  refine b2 c i arg2 harg2 arg3 harg3 arg4 harg4 arg5 harg5 arg6 harg6 arg7 harg7 arg8 harg8 arg9 harg9 x0 x1 x2 x3 x4 st hs m hM ?_
  refine b1 c i arg2 harg2 arg3 harg3 arg4 harg4 arg5 harg5 arg6 harg6 arg7 harg7 arg8 harg8 arg9 harg9 x0 x1 x2 x3 x4 st hs m hM ?_
  rw [prog_zero, trips]
  exact loop c i arg2 harg2 arg3 harg3 arg4 harg4 arg5 harg5 arg6 harg6 arg7 harg7 arg8 harg8 arg9 harg9 x0 x1 x2 x3 x4 st hs m hM h (i 1).1 le_rfl

end

end Cert.AttnBnd

end
-- ==== Proof.AttnRun.lean ====
module

public import proofs.«01_k».proof.Proof.AttnMath
public import proofs.«01_k».proof.Proof.AttnTile
public import proofs.«01_k».proof.Proof.AttnIdealBody

@[expose] public section

set_option maxRecDepth 16384

/-! The running pass: each trip over an earlier block of keys and each step over the block on the diagonal keep every
tile's running maximum and accumulator good. -/

noncomputable section

namespace Cert.AttnRun

open Cert.AttnIdeal Cert.AttnIdeal.Gen Idealize.ShloMosaic Cert.AttnOps Cert.AttnMath

open Cert.AttnTile Cert.AttnIdealBody

set_option maxHeartbeats 4000000

theorem trips (i : grid0.Coords) : Scf.trips (k0_t3_loop i).lb (k0_t3_loop i).ub (k0_t3_loop i).st = (i 1).1 := by revert i; decide +kernel
theorem toff42 : ∀ (i : grid0.Coords) (k : Fin (k0_t3_loop i).trips), k0_off42 i k = ![2048 * k.1, 0] := by decide +kernel
theorem toff43 : ∀ (i : grid0.Coords) (k : Fin (k0_t3_loop i).trips), k0_off43 i k = ![2048 * k.1, 128] := by decide +kernel
theorem toff44 : ∀ (i : grid0.Coords) (k : Fin (k0_t3_loop i).trips), k0_off44 i k = ![k.1, 0, 0] := by decide +kernel
theorem toff45 : ∀ (i : grid0.Coords) (k : Fin (k0_t3_loop i).trips), k0_off45 i k = ![k.1, 80, 0] := by decide +kernel

theorem off50 (i : grid0.Coords) : k0_off50 i = ![2048 * (i 1).1, 0] := by revert i; decide +kernel
theorem off55 (i : grid0.Coords) : k0_off55 i = ![(i 1).1, 0, 0] := by revert i; decide +kernel
theorem off51 (i : grid0.Coords) : k0_off51 i = ![2048 * (i 1).1, 128] := by revert i; decide +kernel
theorem off57 (i : grid0.Coords) : k0_off57 i = ![(i 1).1, 80, 0] := by revert i; decide +kernel
theorem off52 (i : grid0.Coords) : k0_off52 i = ![2048 * (i 1).1, 0] := by revert i; decide +kernel
theorem off59 (i : grid0.Coords) : k0_off59 i = ![(i 1).1, 0, 0] := by revert i; decide +kernel
theorem off53 (i : grid0.Coords) : k0_off53 i = ![2048 * (i 1).1, 128] := by revert i; decide +kernel
theorem off61 (i : grid0.Coords) : k0_off61 i = ![(i 1).1, 80, 0] := by revert i; decide +kernel
theorem off54 (i : grid0.Coords) : k0_off54 i = ![2048 * (i 1).1, 0] := by revert i; decide +kernel
theorem off63 (i : grid0.Coords) : k0_off63 i = ![(i 1).1, 0, 0] := by revert i; decide +kernel
theorem off56 (i : grid0.Coords) : k0_off56 i = ![2048 * (i 1).1, 128] := by revert i; decide +kernel
theorem off65 (i : grid0.Coords) : k0_off65 i = ![(i 1).1, 80, 0] := by revert i; decide +kernel
theorem off58 (i : grid0.Coords) : k0_off58 i = ![2048 * (i 1).1, 0] := by revert i; decide +kernel
theorem off67 (i : grid0.Coords) : k0_off67 i = ![(i 1).1, 0, 0] := by revert i; decide +kernel
theorem off60 (i : grid0.Coords) : k0_off60 i = ![2048 * (i 1).1, 128] := by revert i; decide +kernel
theorem off69 (i : grid0.Coords) : k0_off69 i = ![(i 1).1, 80, 0] := by revert i; decide +kernel
theorem off62 (i : grid0.Coords) : k0_off62 i = ![2048 * (i 1).1, 0] := by revert i; decide +kernel
theorem off71 (i : grid0.Coords) : k0_off71 i = ![(i 1).1, 0, 0] := by revert i; decide +kernel
theorem off64 (i : grid0.Coords) : k0_off64 i = ![2048 * (i 1).1, 128] := by revert i; decide +kernel
theorem off73 (i : grid0.Coords) : k0_off73 i = ![(i 1).1, 80, 0] := by revert i; decide +kernel
theorem off66 (i : grid0.Coords) : k0_off66 i = ![2048 * (i 1).1, 0] := by revert i; decide +kernel
theorem off75 (i : grid0.Coords) : k0_off75 i = ![(i 1).1, 0, 0] := by revert i; decide +kernel
theorem off68 (i : grid0.Coords) : k0_off68 i = ![2048 * (i 1).1, 128] := by revert i; decide +kernel
theorem off77 (i : grid0.Coords) : k0_off77 i = ![(i 1).1, 80, 0] := by revert i; decide +kernel
theorem off70 (i : grid0.Coords) : k0_off70 i = ![2048 * (i 1).1, 0] := by revert i; decide +kernel
theorem off78 (i : grid0.Coords) : k0_off78 i = ![(i 1).1, 0, 0] := by revert i; decide +kernel
theorem off72 (i : grid0.Coords) : k0_off72 i = ![2048 * (i 1).1, 128] := by revert i; decide +kernel
theorem off79 (i : grid0.Coords) : k0_off79 i = ![(i 1).1, 80, 0] := by revert i; decide +kernel
theorem off74 (i : grid0.Coords) : k0_off74 i = ![2048 * (i 1).1, 0] := by revert i; decide +kernel
theorem off80 (i : grid0.Coords) : k0_off80 i = ![(i 1).1, 0, 0] := by revert i; decide +kernel
theorem off76 (i : grid0.Coords) : k0_off76 i = ![2048 * (i 1).1, 128] := by revert i; decide +kernel
theorem off81 (i : grid0.Coords) : k0_off81 i = ![(i 1).1, 80, 0] := by revert i; decide +kernel

section
variable (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
  (x0 : Vec Ideal S256x2048 .bf16) (x1 : Vec Ideal S16384x256 .bf16) (x2 : Vec Ideal S8x160x2048 .bf16) (x3 : Vec Ideal S1x8x2048 .f32) (x4 : Vec Ideal S8x128 .f32)
  (st : Fin 2 → Fin 8 → Fin 256 → ℕ → ℝ)
  (hs : ∀ e s c key, key < 16384 → ∑ d : Fin 128, kAt x1 key (128 * (e : Fin 2).1 + d.1) * qAt x0 (128 * e.1 + d.1) (256 * (s : Fin 8).1 + (c : Fin 256).1) = ((st e s c key : ℝ) : EReal))
include hs

/-- One trip over an earlier block of keys. -/
theorem trip {K : List (View.Piece (Elt Ideal) S2x8x8x256 .f32)} {L : List (View.Piece (Elt Ideal) S2x8x80x256 .f32)} (k : Fin (k0_t3_loop i).trips)
    (h : InvR st (fun e r key => vAt x2 (80 * e.1 + r.1) key) (fun _ _ _ => 2048 * k.1) K L) :
    InvR st (fun e r key => vAt x2 (80 * e.1 + r.1) key) (fun _ _ _ => 2048 * k.1 + 2048)
      ((tripL_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) k (arg8.view.writes (Elt Ideal) arg8.view.junk K) (arg9.view.writes (Elt Ideal) arg9.view.junk L)).1 ++ K) ((tripL_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) k (arg8.view.writes (Elt Ideal) arg8.view.junk K) (arg9.view.writes (Elt Ideal) arg9.view.junk L)).2 ++ L) := by
  have hk : k.1 < (i 1).1 := lt_of_lt_of_eq k.2 (trips i)
  have hi : (i 1).1 < 8 := (i 1).2
  have hb : 2048 * k.1 + 2048 ≤ 16384 := by omega
  rw [← prog_all (fun _ _ _ => 2048 * k.1) (fun _ _ _ => 2048 * k.1 + 2048)]
  unfold tripL_k0_t3 trip_k0_t3
  dsimp only [List.cons_append, List.nil_append]
  refine InvR.step (b := 15) ?_ 1 7 rfl rfl rfl (tRu2048 (x0 := x0) (x1 := x1) 1 7 (2048 * k.1) rfl rfl (fun c => h 1 7 c) (fun c key hk => hs 1 7 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 7 _ rfl _ _ 0 c) (fun r c => covA' arg9 1 7 _ rfl _ _ r c))
  refine InvR.step (b := 14) ?_ 0 7 rfl rfl rfl (tRu2048 (x0 := x0) (x1 := x1) 0 7 (2048 * k.1) rfl rfl (fun c => h 0 7 c) (fun c key hk => hs 0 7 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 7 _ rfl _ _ 0 c) (fun r c => covA' arg9 0 7 _ rfl _ _ r c))
  refine InvR.step (b := 13) ?_ 1 6 rfl rfl rfl (tRu2048 (x0 := x0) (x1 := x1) 1 6 (2048 * k.1) rfl rfl (fun c => h 1 6 c) (fun c key hk => hs 1 6 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 6 _ rfl _ _ 0 c) (fun r c => covA' arg9 1 6 _ rfl _ _ r c))
  refine InvR.step (b := 12) ?_ 0 6 rfl rfl rfl (tRu2048 (x0 := x0) (x1 := x1) 0 6 (2048 * k.1) rfl rfl (fun c => h 0 6 c) (fun c key hk => hs 0 6 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 6 _ rfl _ _ 0 c) (fun r c => covA' arg9 0 6 _ rfl _ _ r c))
  refine InvR.step (b := 11) ?_ 1 5 rfl rfl rfl (tRu2048 (x0 := x0) (x1 := x1) 1 5 (2048 * k.1) rfl rfl (fun c => h 1 5 c) (fun c key hk => hs 1 5 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 5 _ rfl _ _ 0 c) (fun r c => covA' arg9 1 5 _ rfl _ _ r c))
  refine InvR.step (b := 10) ?_ 0 5 rfl rfl rfl (tRu2048 (x0 := x0) (x1 := x1) 0 5 (2048 * k.1) rfl rfl (fun c => h 0 5 c) (fun c key hk => hs 0 5 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 5 _ rfl _ _ 0 c) (fun r c => covA' arg9 0 5 _ rfl _ _ r c))
  refine InvR.step (b := 9) ?_ 1 4 rfl rfl rfl (tRu2048 (x0 := x0) (x1 := x1) 1 4 (2048 * k.1) rfl rfl (fun c => h 1 4 c) (fun c key hk => hs 1 4 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 4 _ rfl _ _ 0 c) (fun r c => covA' arg9 1 4 _ rfl _ _ r c))
  refine InvR.step (b := 8) ?_ 0 4 rfl rfl rfl (tRu2048 (x0 := x0) (x1 := x1) 0 4 (2048 * k.1) rfl rfl (fun c => h 0 4 c) (fun c key hk => hs 0 4 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 4 _ rfl _ _ 0 c) (fun r c => covA' arg9 0 4 _ rfl _ _ r c))
  refine InvR.step (b := 7) ?_ 1 3 rfl rfl rfl (tRu2048 (x0 := x0) (x1 := x1) 1 3 (2048 * k.1) rfl rfl (fun c => h 1 3 c) (fun c key hk => hs 1 3 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 3 _ rfl _ _ 0 c) (fun r c => covA' arg9 1 3 _ rfl _ _ r c))
  refine InvR.step (b := 6) ?_ 0 3 rfl rfl rfl (tRu2048 (x0 := x0) (x1 := x1) 0 3 (2048 * k.1) rfl rfl (fun c => h 0 3 c) (fun c key hk => hs 0 3 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 3 _ rfl _ _ 0 c) (fun r c => covA' arg9 0 3 _ rfl _ _ r c))
  refine InvR.step (b := 5) ?_ 1 2 rfl rfl rfl (tRu2048 (x0 := x0) (x1 := x1) 1 2 (2048 * k.1) rfl rfl (fun c => h 1 2 c) (fun c key hk => hs 1 2 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 2 _ rfl _ _ 0 c) (fun r c => covA' arg9 1 2 _ rfl _ _ r c))
  refine InvR.step (b := 4) ?_ 0 2 rfl rfl rfl (tRu2048 (x0 := x0) (x1 := x1) 0 2 (2048 * k.1) rfl rfl (fun c => h 0 2 c) (fun c key hk => hs 0 2 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 2 _ rfl _ _ 0 c) (fun r c => covA' arg9 0 2 _ rfl _ _ r c))
  refine InvR.step (b := 3) ?_ 1 1 rfl rfl rfl (tRu2048 (x0 := x0) (x1 := x1) 1 1 (2048 * k.1) rfl rfl (fun c => h 1 1 c) (fun c key hk => hs 1 1 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 1 _ rfl _ _ 0 c) (fun r c => covA' arg9 1 1 _ rfl _ _ r c))
  refine InvR.step (b := 2) ?_ 0 1 rfl rfl rfl (tRu2048 (x0 := x0) (x1 := x1) 0 1 (2048 * k.1) rfl rfl (fun c => h 0 1 c) (fun c key hk => hs 0 1 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 1 _ rfl _ _ 0 c) (fun r c => covA' arg9 0 1 _ rfl _ _ r c))
  refine InvR.step (b := 1) ?_ 1 0 rfl rfl rfl (tRu2048 (x0 := x0) (x1 := x1) 1 0 (2048 * k.1) rfl rfl (fun c => h 1 0 c) (fun c key hk => hs 1 0 c key hk) hb
    (fun l d => ldK2048 arg3 harg3 x1 _ _ _ (toff43 i k) _ l d) (fun d c => ldQ arg2 harg2 x0 _ _ _ rfl _ d c) (fun r l => ldV2048 arg4 harg4 x2 _ _ _ (toff45 i k) _ r l)
    (fun c => covM' arg8 1 0 _ rfl _ _ 0 c) (fun r c => covA' arg9 1 0 _ rfl _ _ r c))
  refine InvR.step (b := 0) ?_ 0 0 rfl rfl rfl (tRu2048 (x0 := x0) (x1 := x1) 0 0 (2048 * k.1) rfl rfl (fun c => h 0 0 c) (fun c key hk => hs 0 0 c key hk) hb
    (fun l d => ldK2048 arg3 harg3 x1 _ _ _ (toff42 i k) _ l d) (fun d c => ldQ arg2 harg2 x0 _ _ _ rfl _ d c) (fun r l => ldV2048 arg4 harg4 x2 _ _ _ (toff44 i k) _ r l)
    (fun c => covM' arg8 0 0 _ rfl _ _ 0 c) (fun r c => covA' arg9 0 0 _ rfl _ _ r c))
  rw [prog_zero]; exact h

/-- The trips over all earlier blocks. -/
theorem loop (KB : List (View.Piece (Elt Ideal) S2x8x8x256 .f32)) (LB : List (View.Piece (Elt Ideal) S2x8x80x256 .f32))
    (h : InvR st (fun e r key => vAt x2 (80 * e.1 + r.1) key) (fun _ _ _ => 0) KB LB) (n : ℕ) (hn : n ≤ (i 1).1) :
    InvR st (fun e r key => vAt x2 (80 * e.1 + r.1) key) (fun _ _ _ => 2048 * n) ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk KB) (arg9.view.writes (Elt Ideal) arg9.view.junk LB) n).1 ++ KB) ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk KB) (arg9.view.writes (Elt Ideal) arg9.view.junk LB) n).2 ++ LB) := by
  induction n with
  | zero => rw [pb_k0_t3.eq_1]; dsimp only [List.nil_append]; exact h
  | succ n ih =>
    have hlt : n < (k0_t3_loop i).trips := lt_of_lt_of_eq (by omega) (trips i).symm
    rw [show n + 1 = (⟨n, hlt⟩ : Fin (k0_t3_loop i).trips).val + 1 from rfl, pb_k0_t3_succ]
    dsimp only
    rw [List.append_assoc, List.append_assoc, ← View.writes_append, ← View.writes_append]
    have t := trip c i arg2 harg2 arg3 harg3 arg4 harg4 arg5 harg5 arg6 harg6 arg7 harg7 arg8 harg8 arg9 harg9 x0 x1 x2 st hs ⟨n, hlt⟩ (ih (by omega))
    exact t

theorem r1 (h : InvR st (fun e r key => vAt x2 (80 * e.1 + r.1) key) (prog (fun _ _ _ => 2048 * (i 1).1) (fun _ s c => 2048 * (i 1).1 + (256 * s.1 + c.1 + 1)) 0) ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) (arg9.view.writes (Elt Ideal) arg9.view.junk (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) (Scf.trips (k0_t3_loop i).lb (k0_t3_loop i).ub (k0_t3_loop i).st)).1 ++ (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) (arg9.view.writes (Elt Ideal) arg9.view.junk (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) (Scf.trips (k0_t3_loop i).lb (k0_t3_loop i).ub (k0_t3_loop i).st)).2 ++ (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4)))) :
    InvR st (fun e r key => vAt x2 (80 * e.1 + r.1) key) (prog (fun _ _ _ => 2048 * (i 1).1) (fun _ s c => 2048 * (i 1).1 + (256 * s.1 + c.1 + 1)) 1) (bodyRun.sl.H6_1_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_1_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 0 rfl rfl rfl (tRm256 (x0 := x0) (x1 := x1) 0 0 (2048 * (i 1).1)
    (kb := View.readAt (Elt Ideal) arg3.view (Rect.unit (s := S16384x256) (k0_off50 i) S256x128.size (k0_off50_inb i)).toLoadRect (harg3.unread x1))
    (qb := View.readAt (Elt Ideal) arg2.view (Rect.unit (s := S256x2048) ![0, 0] S128x256.size inb_S256x2048_S128x256_0_0).toLoadRect (harg2.unread x0))
    (mb := arg8.view.readCov ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) (arg9.view.writes (Elt Ideal) arg9.view.junk (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) (Scf.trips (k0_t3_loop i).lb (k0_t3_loop i).ub (k0_t3_loop i).st)).1 ++ (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) (Rect.unit (s := S2x8x8x256) ![0, 0, 0, 0] S1x1x8x256.size inb_S2x8x8x256_S1x1x8x256_0_0_0_0).toLoadRect)
    (vb := View.readAt (Elt Ideal) arg4.view (Rect.unit (s := S8x160x2048) (k0_off55 i) S1x80x256.size (k0_off55_inb i)).toLoadRect (harg4.unread x2))
    (ab := arg9.view.readCov ((pb_k0_t3 (F := Ideal) Variants.none c none i arg2 harg2 arg3 harg3 arg4 harg4 arg5 harg5 arg6 harg6 arg7 harg7 arg8 harg8 arg9 harg9 0#32 0#32 0#32 (harg2.unread x0) (harg3.unread x1) (harg4.unread x2) (arg8.view.writes (Elt Ideal) arg8.view.junk (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))) (arg9.view.writes (Elt Ideal) arg9.view.junk (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) (Scf.trips (k0_t3_loop i).lb (k0_t3_loop i).ub (k0_t3_loop i).st)).2 ++ (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) (Rect.unit (s := S2x8x80x256) ![0, 0, 0, 0] S1x1x80x256.size inb_S2x8x80x256_S1x1x80x256_0_0_0_0).toLoadRect) rfl rfl (fun c => h.before 0 0 rfl c) (fun c key hk => hs 0 0 c key hk) (by omega)
    (fun l d => ldK256 arg3 harg3 x1 _ _ _ (off50 i) _ l d) (fun d c => ldQ arg2 harg2 x0 _ _ _ rfl _ d c) (fun r l => ldV256 arg4 harg4 x2 _ _ _ (off55 i) _ r l)
    (fun c => covM arg8 0 0 _ rfl _ _ 0 c) (fun r c => covA arg9 0 0 _ rfl _ _ r c))

theorem r2 (h : InvR st (fun e r key => vAt x2 (80 * e.1 + r.1) key) (prog (fun _ _ _ => 2048 * (i 1).1) (fun _ s c => 2048 * (i 1).1 + (256 * s.1 + c.1 + 1)) 1) (bodyRun.sl.H6_1_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_1_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 2) (bodyRun.sl.H6_2 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_2_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 0 rfl rfl rfl (tRm256 (x0 := x0) (x1 := x1) 1 0 (2048 * (i 1).1)
    (kb := View.readAt (Elt Ideal) arg3.view (Rect.unit (s := S16384x256) (k0_off51 i) S256x128.size (k0_off51_inb i)).toLoadRect (harg3.unread x1))
    (qb := View.readAt (Elt Ideal) arg2.view (Rect.unit (s := S256x2048) ![128, 0] S128x256.size inb_S256x2048_S128x256_128_0).toLoadRect (harg2.unread x0))
    (mb := arg8.view.readCov (bodyRun.sl.H6_1_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 0, 0, 0] S1x1x8x256.size inb_S2x8x8x256_S1x1x8x256_1_0_0_0).toLoadRect)
    (vb := View.readAt (Elt Ideal) arg4.view (Rect.unit (s := S8x160x2048) (k0_off57 i) S1x80x256.size (k0_off57_inb i)).toLoadRect (harg4.unread x2))
    (ab := arg9.view.readCov (bodyRun.sl.H7_1_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 0, 0, 0] S1x1x80x256.size inb_S2x8x80x256_S1x1x80x256_1_0_0_0).toLoadRect) rfl rfl (fun c => h.before 1 0 rfl c) (fun c key hk => hs 1 0 c key hk) (by omega)
    (fun l d => ldK256 arg3 harg3 x1 _ _ _ (off51 i) _ l d) (fun d c => ldQ arg2 harg2 x0 _ _ _ rfl _ d c) (fun r l => ldV256 arg4 harg4 x2 _ _ _ (off57 i) _ r l)
    (fun c => covM arg8 1 0 _ rfl _ _ 0 c) (fun r c => covA arg9 1 0 _ rfl _ _ r c))

theorem r3 (h : InvR st (fun e r key => vAt x2 (80 * e.1 + r.1) key) (prog (fun _ _ _ => 2048 * (i 1).1) (fun _ s c => 2048 * (i 1).1 + (256 * s.1 + c.1 + 1)) 2) (bodyRun.sl.H6_2 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_2_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 3) (bodyRun.sl.H6_3 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_3_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 1 rfl rfl rfl (tRm512 (x0 := x0) (x1 := x1) 0 1 (2048 * (i 1).1)
    (kb := View.readAt (Elt Ideal) arg3.view (Rect.unit (s := S16384x256) (k0_off52 i) S512x128.size (k0_off52_inb i)).toLoadRect (harg3.unread x1))
    (qb := View.readAt (Elt Ideal) arg2.view (Rect.unit (s := S256x2048) ![0, 256] S128x256.size inb_S256x2048_S128x256_0_256).toLoadRect (harg2.unread x0))
    (mb := arg8.view.readCov (bodyRun.sl.H6_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 1, 0, 0] S1x1x8x256.size inb_S2x8x8x256_S1x1x8x256_0_1_0_0).toLoadRect)
    (vb := View.readAt (Elt Ideal) arg4.view (Rect.unit (s := S8x160x2048) (k0_off59 i) S1x80x512.size (k0_off59_inb i)).toLoadRect (harg4.unread x2))
    (ab := arg9.view.readCov (bodyRun.sl.H7_2_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 1, 0, 0] S1x1x80x256.size inb_S2x8x80x256_S1x1x80x256_0_1_0_0).toLoadRect) rfl rfl (fun c => h.before 0 1 rfl c) (fun c key hk => hs 0 1 c key hk) (by omega)
    (fun l d => ldK512 arg3 harg3 x1 _ _ _ (off52 i) _ l d) (fun d c => ldQ arg2 harg2 x0 _ _ _ rfl _ d c) (fun r l => ldV512 arg4 harg4 x2 _ _ _ (off59 i) _ r l)
    (fun c => covM arg8 0 1 _ rfl _ _ 0 c) (fun r c => covA arg9 0 1 _ rfl _ _ r c))

theorem r4 (h : InvR st (fun e r key => vAt x2 (80 * e.1 + r.1) key) (prog (fun _ _ _ => 2048 * (i 1).1) (fun _ s c => 2048 * (i 1).1 + (256 * s.1 + c.1 + 1)) 3) (bodyRun.sl.H6_3 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_3_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 4) (bodyRun.sl.H6_4_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_4_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 1 rfl rfl rfl (tRm512 (x0 := x0) (x1 := x1) 1 1 (2048 * (i 1).1)
    (kb := View.readAt (Elt Ideal) arg3.view (Rect.unit (s := S16384x256) (k0_off53 i) S512x128.size (k0_off53_inb i)).toLoadRect (harg3.unread x1))
    (qb := View.readAt (Elt Ideal) arg2.view (Rect.unit (s := S256x2048) ![128, 256] S128x256.size inb_S256x2048_S128x256_128_256).toLoadRect (harg2.unread x0))
    (mb := arg8.view.readCov (bodyRun.sl.H6_3 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 1, 0, 0] S1x1x8x256.size inb_S2x8x8x256_S1x1x8x256_1_1_0_0).toLoadRect)
    (vb := View.readAt (Elt Ideal) arg4.view (Rect.unit (s := S8x160x2048) (k0_off61 i) S1x80x512.size (k0_off61_inb i)).toLoadRect (harg4.unread x2))
    (ab := arg9.view.readCov (bodyRun.sl.H7_3_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 1, 0, 0] S1x1x80x256.size inb_S2x8x80x256_S1x1x80x256_1_1_0_0).toLoadRect) rfl rfl (fun c => h.before 1 1 rfl c) (fun c key hk => hs 1 1 c key hk) (by omega)
    (fun l d => ldK512 arg3 harg3 x1 _ _ _ (off53 i) _ l d) (fun d c => ldQ arg2 harg2 x0 _ _ _ rfl _ d c) (fun r l => ldV512 arg4 harg4 x2 _ _ _ (off61 i) _ r l)
    (fun c => covM arg8 1 1 _ rfl _ _ 0 c) (fun r c => covA arg9 1 1 _ rfl _ _ r c))

theorem r5 (h : InvR st (fun e r key => vAt x2 (80 * e.1 + r.1) key) (prog (fun _ _ _ => 2048 * (i 1).1) (fun _ s c => 2048 * (i 1).1 + (256 * s.1 + c.1 + 1)) 4) (bodyRun.sl.H6_4_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_4_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 5) (bodyRun.sl.H6_5 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_5_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 2 rfl rfl rfl (tRm768 (x0 := x0) (x1 := x1) 0 2 (2048 * (i 1).1)
    (kb := View.readAt (Elt Ideal) arg3.view (Rect.unit (s := S16384x256) (k0_off54 i) S768x128.size (k0_off54_inb i)).toLoadRect (harg3.unread x1))
    (qb := View.readAt (Elt Ideal) arg2.view (Rect.unit (s := S256x2048) ![0, 512] S128x256.size inb_S256x2048_S128x256_0_512).toLoadRect (harg2.unread x0))
    (mb := arg8.view.readCov (bodyRun.sl.H6_4_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 2, 0, 0] S1x1x8x256.size inb_S2x8x8x256_S1x1x8x256_0_2_0_0).toLoadRect)
    (vb := View.readAt (Elt Ideal) arg4.view (Rect.unit (s := S8x160x2048) (k0_off63 i) S1x80x768.size (k0_off63_inb i)).toLoadRect (harg4.unread x2))
    (ab := arg9.view.readCov (bodyRun.sl.H7_4_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 2, 0, 0] S1x1x80x256.size inb_S2x8x80x256_S1x1x80x256_0_2_0_0).toLoadRect) rfl rfl (fun c => h.before 0 2 rfl c) (fun c key hk => hs 0 2 c key hk) (by omega)
    (fun l d => ldK768 arg3 harg3 x1 _ _ _ (off54 i) _ l d) (fun d c => ldQ arg2 harg2 x0 _ _ _ rfl _ d c) (fun r l => ldV768 arg4 harg4 x2 _ _ _ (off63 i) _ r l)
    (fun c => covM arg8 0 2 _ rfl _ _ 0 c) (fun r c => covA arg9 0 2 _ rfl _ _ r c))

theorem r6 (h : InvR st (fun e r key => vAt x2 (80 * e.1 + r.1) key) (prog (fun _ _ _ => 2048 * (i 1).1) (fun _ s c => 2048 * (i 1).1 + (256 * s.1 + c.1 + 1)) 5) (bodyRun.sl.H6_5 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_5_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 6) (bodyRun.sl.H6_6_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_6_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 2 rfl rfl rfl (tRm768 (x0 := x0) (x1 := x1) 1 2 (2048 * (i 1).1)
    (kb := View.readAt (Elt Ideal) arg3.view (Rect.unit (s := S16384x256) (k0_off56 i) S768x128.size (k0_off56_inb i)).toLoadRect (harg3.unread x1))
    (qb := View.readAt (Elt Ideal) arg2.view (Rect.unit (s := S256x2048) ![128, 512] S128x256.size inb_S256x2048_S128x256_128_512).toLoadRect (harg2.unread x0))
    (mb := arg8.view.readCov (bodyRun.sl.H6_5 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 2, 0, 0] S1x1x8x256.size inb_S2x8x8x256_S1x1x8x256_1_2_0_0).toLoadRect)
    (vb := View.readAt (Elt Ideal) arg4.view (Rect.unit (s := S8x160x2048) (k0_off65 i) S1x80x768.size (k0_off65_inb i)).toLoadRect (harg4.unread x2))
    (ab := arg9.view.readCov (bodyRun.sl.H7_5_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 2, 0, 0] S1x1x80x256.size inb_S2x8x80x256_S1x1x80x256_1_2_0_0).toLoadRect) rfl rfl (fun c => h.before 1 2 rfl c) (fun c key hk => hs 1 2 c key hk) (by omega)
    (fun l d => ldK768 arg3 harg3 x1 _ _ _ (off56 i) _ l d) (fun d c => ldQ arg2 harg2 x0 _ _ _ rfl _ d c) (fun r l => ldV768 arg4 harg4 x2 _ _ _ (off65 i) _ r l)
    (fun c => covM arg8 1 2 _ rfl _ _ 0 c) (fun r c => covA arg9 1 2 _ rfl _ _ r c))

theorem r7 (h : InvR st (fun e r key => vAt x2 (80 * e.1 + r.1) key) (prog (fun _ _ _ => 2048 * (i 1).1) (fun _ s c => 2048 * (i 1).1 + (256 * s.1 + c.1 + 1)) 6) (bodyRun.sl.H6_6_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_6_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 7) (bodyRun.sl.H6_7 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_7_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 3 rfl rfl rfl (tRm1024 (x0 := x0) (x1 := x1) 0 3 (2048 * (i 1).1)
    (kb := View.readAt (Elt Ideal) arg3.view (Rect.unit (s := S16384x256) (k0_off58 i) S1024x128.size (k0_off58_inb i)).toLoadRect (harg3.unread x1))
    (qb := View.readAt (Elt Ideal) arg2.view (Rect.unit (s := S256x2048) ![0, 768] S128x256.size inb_S256x2048_S128x256_0_768).toLoadRect (harg2.unread x0))
    (mb := arg8.view.readCov (bodyRun.sl.H6_6_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 3, 0, 0] S1x1x8x256.size inb_S2x8x8x256_S1x1x8x256_0_3_0_0).toLoadRect)
    (vb := View.readAt (Elt Ideal) arg4.view (Rect.unit (s := S8x160x2048) (k0_off67 i) S1x80x1024.size (k0_off67_inb i)).toLoadRect (harg4.unread x2))
    (ab := arg9.view.readCov (bodyRun.sl.H7_6_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 3, 0, 0] S1x1x80x256.size inb_S2x8x80x256_S1x1x80x256_0_3_0_0).toLoadRect) rfl rfl (fun c => h.before 0 3 rfl c) (fun c key hk => hs 0 3 c key hk) (by omega)
    (fun l d => ldK1024 arg3 harg3 x1 _ _ _ (off58 i) _ l d) (fun d c => ldQ arg2 harg2 x0 _ _ _ rfl _ d c) (fun r l => ldV1024 arg4 harg4 x2 _ _ _ (off67 i) _ r l)
    (fun c => covM arg8 0 3 _ rfl _ _ 0 c) (fun r c => covA arg9 0 3 _ rfl _ _ r c))

theorem r8 (h : InvR st (fun e r key => vAt x2 (80 * e.1 + r.1) key) (prog (fun _ _ _ => 2048 * (i 1).1) (fun _ s c => 2048 * (i 1).1 + (256 * s.1 + c.1 + 1)) 7) (bodyRun.sl.H6_7 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_7_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 8) (bodyRun.sl.H6_8_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_8_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 3 rfl rfl rfl (tRm1024 (x0 := x0) (x1 := x1) 1 3 (2048 * (i 1).1)
    (kb := View.readAt (Elt Ideal) arg3.view (Rect.unit (s := S16384x256) (k0_off60 i) S1024x128.size (k0_off60_inb i)).toLoadRect (harg3.unread x1))
    (qb := View.readAt (Elt Ideal) arg2.view (Rect.unit (s := S256x2048) ![128, 768] S128x256.size inb_S256x2048_S128x256_128_768).toLoadRect (harg2.unread x0))
    (mb := arg8.view.readCov (bodyRun.sl.H6_7 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 3, 0, 0] S1x1x8x256.size inb_S2x8x8x256_S1x1x8x256_1_3_0_0).toLoadRect)
    (vb := View.readAt (Elt Ideal) arg4.view (Rect.unit (s := S8x160x2048) (k0_off69 i) S1x80x1024.size (k0_off69_inb i)).toLoadRect (harg4.unread x2))
    (ab := arg9.view.readCov (bodyRun.sl.H7_7_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 3, 0, 0] S1x1x80x256.size inb_S2x8x80x256_S1x1x80x256_1_3_0_0).toLoadRect) rfl rfl (fun c => h.before 1 3 rfl c) (fun c key hk => hs 1 3 c key hk) (by omega)
    (fun l d => ldK1024 arg3 harg3 x1 _ _ _ (off60 i) _ l d) (fun d c => ldQ arg2 harg2 x0 _ _ _ rfl _ d c) (fun r l => ldV1024 arg4 harg4 x2 _ _ _ (off69 i) _ r l)
    (fun c => covM arg8 1 3 _ rfl _ _ 0 c) (fun r c => covA arg9 1 3 _ rfl _ _ r c))

theorem r9 (h : InvR st (fun e r key => vAt x2 (80 * e.1 + r.1) key) (prog (fun _ _ _ => 2048 * (i 1).1) (fun _ s c => 2048 * (i 1).1 + (256 * s.1 + c.1 + 1)) 8) (bodyRun.sl.H6_8_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_8_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 9) (bodyRun.sl.H6_9 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_9_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 4 rfl rfl rfl (tRm1280 (x0 := x0) (x1 := x1) 0 4 (2048 * (i 1).1)
    (kb := View.readAt (Elt Ideal) arg3.view (Rect.unit (s := S16384x256) (k0_off62 i) S1280x128.size (k0_off62_inb i)).toLoadRect (harg3.unread x1))
    (qb := View.readAt (Elt Ideal) arg2.view (Rect.unit (s := S256x2048) ![0, 1024] S128x256.size inb_S256x2048_S128x256_0_1024).toLoadRect (harg2.unread x0))
    (mb := arg8.view.readCov (bodyRun.sl.H6_8_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 4, 0, 0] S1x1x8x256.size inb_S2x8x8x256_S1x1x8x256_0_4_0_0).toLoadRect)
    (vb := View.readAt (Elt Ideal) arg4.view (Rect.unit (s := S8x160x2048) (k0_off71 i) S1x80x1280.size (k0_off71_inb i)).toLoadRect (harg4.unread x2))
    (ab := arg9.view.readCov (bodyRun.sl.H7_8_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 4, 0, 0] S1x1x80x256.size inb_S2x8x80x256_S1x1x80x256_0_4_0_0).toLoadRect) rfl rfl (fun c => h.before 0 4 rfl c) (fun c key hk => hs 0 4 c key hk) (by omega)
    (fun l d => ldK1280 arg3 harg3 x1 _ _ _ (off62 i) _ l d) (fun d c => ldQ arg2 harg2 x0 _ _ _ rfl _ d c) (fun r l => ldV1280 arg4 harg4 x2 _ _ _ (off71 i) _ r l)
    (fun c => covM arg8 0 4 _ rfl _ _ 0 c) (fun r c => covA arg9 0 4 _ rfl _ _ r c))

theorem r10 (h : InvR st (fun e r key => vAt x2 (80 * e.1 + r.1) key) (prog (fun _ _ _ => 2048 * (i 1).1) (fun _ s c => 2048 * (i 1).1 + (256 * s.1 + c.1 + 1)) 9) (bodyRun.sl.H6_9 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_9_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 10) (bodyRun.sl.H6_10_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_10_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 4 rfl rfl rfl (tRm1280 (x0 := x0) (x1 := x1) 1 4 (2048 * (i 1).1)
    (kb := View.readAt (Elt Ideal) arg3.view (Rect.unit (s := S16384x256) (k0_off64 i) S1280x128.size (k0_off64_inb i)).toLoadRect (harg3.unread x1))
    (qb := View.readAt (Elt Ideal) arg2.view (Rect.unit (s := S256x2048) ![128, 1024] S128x256.size inb_S256x2048_S128x256_128_1024).toLoadRect (harg2.unread x0))
    (mb := arg8.view.readCov (bodyRun.sl.H6_9 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 4, 0, 0] S1x1x8x256.size inb_S2x8x8x256_S1x1x8x256_1_4_0_0).toLoadRect)
    (vb := View.readAt (Elt Ideal) arg4.view (Rect.unit (s := S8x160x2048) (k0_off73 i) S1x80x1280.size (k0_off73_inb i)).toLoadRect (harg4.unread x2))
    (ab := arg9.view.readCov (bodyRun.sl.H7_9_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 4, 0, 0] S1x1x80x256.size inb_S2x8x80x256_S1x1x80x256_1_4_0_0).toLoadRect) rfl rfl (fun c => h.before 1 4 rfl c) (fun c key hk => hs 1 4 c key hk) (by omega)
    (fun l d => ldK1280 arg3 harg3 x1 _ _ _ (off64 i) _ l d) (fun d c => ldQ arg2 harg2 x0 _ _ _ rfl _ d c) (fun r l => ldV1280 arg4 harg4 x2 _ _ _ (off73 i) _ r l)
    (fun c => covM arg8 1 4 _ rfl _ _ 0 c) (fun r c => covA arg9 1 4 _ rfl _ _ r c))

theorem r11 (h : InvR st (fun e r key => vAt x2 (80 * e.1 + r.1) key) (prog (fun _ _ _ => 2048 * (i 1).1) (fun _ s c => 2048 * (i 1).1 + (256 * s.1 + c.1 + 1)) 10) (bodyRun.sl.H6_10_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_10_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 11) (bodyRun.sl.H6_11 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_11_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 5 rfl rfl rfl (tRm1536 (x0 := x0) (x1 := x1) 0 5 (2048 * (i 1).1)
    (kb := View.readAt (Elt Ideal) arg3.view (Rect.unit (s := S16384x256) (k0_off66 i) S1536x128.size (k0_off66_inb i)).toLoadRect (harg3.unread x1))
    (qb := View.readAt (Elt Ideal) arg2.view (Rect.unit (s := S256x2048) ![0, 1280] S128x256.size inb_S256x2048_S128x256_0_1280).toLoadRect (harg2.unread x0))
    (mb := arg8.view.readCov (bodyRun.sl.H6_10_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 5, 0, 0] S1x1x8x256.size inb_S2x8x8x256_S1x1x8x256_0_5_0_0).toLoadRect)
    (vb := View.readAt (Elt Ideal) arg4.view (Rect.unit (s := S8x160x2048) (k0_off75 i) S1x80x1536.size (k0_off75_inb i)).toLoadRect (harg4.unread x2))
    (ab := arg9.view.readCov (bodyRun.sl.H7_10_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 5, 0, 0] S1x1x80x256.size inb_S2x8x80x256_S1x1x80x256_0_5_0_0).toLoadRect) rfl rfl (fun c => h.before 0 5 rfl c) (fun c key hk => hs 0 5 c key hk) (by omega)
    (fun l d => ldK1536 arg3 harg3 x1 _ _ _ (off66 i) _ l d) (fun d c => ldQ arg2 harg2 x0 _ _ _ rfl _ d c) (fun r l => ldV1536 arg4 harg4 x2 _ _ _ (off75 i) _ r l)
    (fun c => covM arg8 0 5 _ rfl _ _ 0 c) (fun r c => covA arg9 0 5 _ rfl _ _ r c))

theorem r12 (h : InvR st (fun e r key => vAt x2 (80 * e.1 + r.1) key) (prog (fun _ _ _ => 2048 * (i 1).1) (fun _ s c => 2048 * (i 1).1 + (256 * s.1 + c.1 + 1)) 11) (bodyRun.sl.H6_11 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_11_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 12) (bodyRun.sl.H6_12_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_12_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 5 rfl rfl rfl (tRm1536 (x0 := x0) (x1 := x1) 1 5 (2048 * (i 1).1)
    (kb := View.readAt (Elt Ideal) arg3.view (Rect.unit (s := S16384x256) (k0_off68 i) S1536x128.size (k0_off68_inb i)).toLoadRect (harg3.unread x1))
    (qb := View.readAt (Elt Ideal) arg2.view (Rect.unit (s := S256x2048) ![128, 1280] S128x256.size inb_S256x2048_S128x256_128_1280).toLoadRect (harg2.unread x0))
    (mb := arg8.view.readCov (bodyRun.sl.H6_11 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 5, 0, 0] S1x1x8x256.size inb_S2x8x8x256_S1x1x8x256_1_5_0_0).toLoadRect)
    (vb := View.readAt (Elt Ideal) arg4.view (Rect.unit (s := S8x160x2048) (k0_off77 i) S1x80x1536.size (k0_off77_inb i)).toLoadRect (harg4.unread x2))
    (ab := arg9.view.readCov (bodyRun.sl.H7_11_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 5, 0, 0] S1x1x80x256.size inb_S2x8x80x256_S1x1x80x256_1_5_0_0).toLoadRect) rfl rfl (fun c => h.before 1 5 rfl c) (fun c key hk => hs 1 5 c key hk) (by omega)
    (fun l d => ldK1536 arg3 harg3 x1 _ _ _ (off68 i) _ l d) (fun d c => ldQ arg2 harg2 x0 _ _ _ rfl _ d c) (fun r l => ldV1536 arg4 harg4 x2 _ _ _ (off77 i) _ r l)
    (fun c => covM arg8 1 5 _ rfl _ _ 0 c) (fun r c => covA arg9 1 5 _ rfl _ _ r c))

theorem r13 (h : InvR st (fun e r key => vAt x2 (80 * e.1 + r.1) key) (prog (fun _ _ _ => 2048 * (i 1).1) (fun _ s c => 2048 * (i 1).1 + (256 * s.1 + c.1 + 1)) 12) (bodyRun.sl.H6_12_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_12_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 13) (bodyRun.sl.H6_13 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_13_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 6 rfl rfl rfl (tRm1792 (x0 := x0) (x1 := x1) 0 6 (2048 * (i 1).1)
    (kb := View.readAt (Elt Ideal) arg3.view (Rect.unit (s := S16384x256) (k0_off70 i) S1792x128.size (k0_off70_inb i)).toLoadRect (harg3.unread x1))
    (qb := View.readAt (Elt Ideal) arg2.view (Rect.unit (s := S256x2048) ![0, 1536] S128x256.size inb_S256x2048_S128x256_0_1536).toLoadRect (harg2.unread x0))
    (mb := arg8.view.readCov (bodyRun.sl.H6_12_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 6, 0, 0] S1x1x8x256.size inb_S2x8x8x256_S1x1x8x256_0_6_0_0).toLoadRect)
    (vb := View.readAt (Elt Ideal) arg4.view (Rect.unit (s := S8x160x2048) (k0_off78 i) S1x80x1792.size (k0_off78_inb i)).toLoadRect (harg4.unread x2))
    (ab := arg9.view.readCov (bodyRun.sl.H7_12_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 6, 0, 0] S1x1x80x256.size inb_S2x8x80x256_S1x1x80x256_0_6_0_0).toLoadRect) rfl rfl (fun c => h.before 0 6 rfl c) (fun c key hk => hs 0 6 c key hk) (by omega)
    (fun l d => ldK1792 arg3 harg3 x1 _ _ _ (off70 i) _ l d) (fun d c => ldQ arg2 harg2 x0 _ _ _ rfl _ d c) (fun r l => ldV1792 arg4 harg4 x2 _ _ _ (off78 i) _ r l)
    (fun c => covM arg8 0 6 _ rfl _ _ 0 c) (fun r c => covA arg9 0 6 _ rfl _ _ r c))

theorem r14 (h : InvR st (fun e r key => vAt x2 (80 * e.1 + r.1) key) (prog (fun _ _ _ => 2048 * (i 1).1) (fun _ s c => 2048 * (i 1).1 + (256 * s.1 + c.1 + 1)) 13) (bodyRun.sl.H6_13 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_13_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 14) (bodyRun.sl.H6_14_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_14_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 6 rfl rfl rfl (tRm1792 (x0 := x0) (x1 := x1) 1 6 (2048 * (i 1).1)
    (kb := View.readAt (Elt Ideal) arg3.view (Rect.unit (s := S16384x256) (k0_off72 i) S1792x128.size (k0_off72_inb i)).toLoadRect (harg3.unread x1))
    (qb := View.readAt (Elt Ideal) arg2.view (Rect.unit (s := S256x2048) ![128, 1536] S128x256.size inb_S256x2048_S128x256_128_1536).toLoadRect (harg2.unread x0))
    (mb := arg8.view.readCov (bodyRun.sl.H6_13 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 6, 0, 0] S1x1x8x256.size inb_S2x8x8x256_S1x1x8x256_1_6_0_0).toLoadRect)
    (vb := View.readAt (Elt Ideal) arg4.view (Rect.unit (s := S8x160x2048) (k0_off79 i) S1x80x1792.size (k0_off79_inb i)).toLoadRect (harg4.unread x2))
    (ab := arg9.view.readCov (bodyRun.sl.H7_13_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 6, 0, 0] S1x1x80x256.size inb_S2x8x80x256_S1x1x80x256_1_6_0_0).toLoadRect) rfl rfl (fun c => h.before 1 6 rfl c) (fun c key hk => hs 1 6 c key hk) (by omega)
    (fun l d => ldK1792 arg3 harg3 x1 _ _ _ (off72 i) _ l d) (fun d c => ldQ arg2 harg2 x0 _ _ _ rfl _ d c) (fun r l => ldV1792 arg4 harg4 x2 _ _ _ (off79 i) _ r l)
    (fun c => covM arg8 1 6 _ rfl _ _ 0 c) (fun r c => covA arg9 1 6 _ rfl _ _ r c))

theorem r15 (h : InvR st (fun e r key => vAt x2 (80 * e.1 + r.1) key) (prog (fun _ _ _ => 2048 * (i 1).1) (fun _ s c => 2048 * (i 1).1 + (256 * s.1 + c.1 + 1)) 14) (bodyRun.sl.H6_14_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_14_2 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 15) (bodyRun.sl.H6_15 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_15_1 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 0 7 rfl rfl rfl (tRm2048 (x0 := x0) (x1 := x1) 0 7 (2048 * (i 1).1)
    (kb := View.readAt (Elt Ideal) arg3.view (Rect.unit (s := S16384x256) (k0_off74 i) S2048x128.size (k0_off74_inb i)).toLoadRect (harg3.unread x1))
    (qb := View.readAt (Elt Ideal) arg2.view (Rect.unit (s := S256x2048) ![0, 1792] S128x256.size inb_S256x2048_S128x256_0_1792).toLoadRect (harg2.unread x0))
    (mb := arg8.view.readCov (bodyRun.sl.H6_14_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![0, 7, 0, 0] S1x1x8x256.size inb_S2x8x8x256_S1x1x8x256_0_7_0_0).toLoadRect)
    (vb := View.readAt (Elt Ideal) arg4.view (Rect.unit (s := S8x160x2048) (k0_off80 i) S1x80x2048.size (k0_off80_inb i)).toLoadRect (harg4.unread x2))
    (ab := arg9.view.readCov (bodyRun.sl.H7_14_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 7, 0, 0] S1x1x80x256.size inb_S2x8x80x256_S1x1x80x256_0_7_0_0).toLoadRect) rfl rfl (fun c => h.before 0 7 rfl c) (fun c key hk => hs 0 7 c key hk) (by omega)
    (fun l d => ldK2048 arg3 harg3 x1 _ _ _ (off74 i) _ l d) (fun d c => ldQ arg2 harg2 x0 _ _ _ rfl _ d c) (fun r l => ldV2048 arg4 harg4 x2 _ _ _ (off80 i) _ r l)
    (fun c => covM arg8 0 7 _ rfl _ _ 0 c) (fun r c => covA arg9 0 7 _ rfl _ _ r c))

theorem r16 (h : InvR st (fun e r key => vAt x2 (80 * e.1 + r.1) key) (prog (fun _ _ _ => 2048 * (i 1).1) (fun _ s c => 2048 * (i 1).1 + (256 * s.1 + c.1 + 1)) 15) (bodyRun.sl.H6_15 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_15_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (prog (fun _ _ _ => 2048 * (i 1).1) (fun _ s c => 2048 * (i 1).1 + (256 * s.1 + c.1 + 1)) 16) (bodyRun.sl.H6_16_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) :=
  have hi : (i 1).1 < 8 := (i 1).2
  h.step 1 7 rfl rfl rfl (tRm2048 (x0 := x0) (x1 := x1) 1 7 (2048 * (i 1).1)
    (kb := View.readAt (Elt Ideal) arg3.view (Rect.unit (s := S16384x256) (k0_off76 i) S2048x128.size (k0_off76_inb i)).toLoadRect (harg3.unread x1))
    (qb := View.readAt (Elt Ideal) arg2.view (Rect.unit (s := S256x2048) ![128, 1792] S128x256.size inb_S256x2048_S128x256_128_1792).toLoadRect (harg2.unread x0))
    (mb := arg8.view.readCov (bodyRun.sl.H6_15 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x8x256) ![1, 7, 0, 0] S1x1x8x256.size inb_S2x8x8x256_S1x1x8x256_1_7_0_0).toLoadRect)
    (vb := View.readAt (Elt Ideal) arg4.view (Rect.unit (s := S8x160x2048) (k0_off81 i) S1x80x2048.size (k0_off81_inb i)).toLoadRect (harg4.unread x2))
    (ab := arg9.view.readCov (bodyRun.sl.H7_15_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 7, 0, 0] S1x1x80x256.size inb_S2x8x80x256_S1x1x80x256_1_7_0_0).toLoadRect) rfl rfl (fun c => h.before 1 7 rfl c) (fun c key hk => hs 1 7 c key hk) (by omega)
    (fun l d => ldK2048 arg3 harg3 x1 _ _ _ (off76 i) _ l d) (fun d c => ldQ arg2 harg2 x0 _ _ _ rfl _ d c) (fun r l => ldV2048 arg4 harg4 x2 _ _ _ (off81 i) _ r l)
    (fun c => covM arg8 1 7 _ rfl _ _ 0 c) (fun r c => covA arg9 1 7 _ rfl _ _ r c))

/-- The whole running pass. -/
theorem all (h : InvR st (fun e r key => vAt x2 (80 * e.1 + r.1) key) (fun _ _ _ => 0) (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4)) (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4))) :
    InvR st (fun e r key => vAt x2 (80 * e.1 + r.1) key) (fun _ s c => 2048 * (i 1).1 + (256 * s.1 + c.1 + 1)) (bodyRun.sl.H6_16_1 c i arg2 harg2 arg3 harg3 arg4 harg4 arg5 harg5 arg6 harg6 arg7 harg7 arg8 harg8 arg9 harg9 (harg2.unread x0) (harg3.unread x1) (harg4.unread x2) (harg5.unread x3) (harg6.unread x4)) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) := by
  rw [← prog_all (fun _ _ _ => 2048 * (i 1).1) (fun _ s c => 2048 * (i 1).1 + (256 * s.1 + c.1 + 1))]
  refine r16 c i arg2 harg2 arg3 harg3 arg4 harg4 arg5 harg5 arg6 harg6 arg7 harg7 arg8 harg8 arg9 harg9 x0 x1 x2 x3 x4 st hs ?_
  refine r15 c i arg2 harg2 arg3 harg3 arg4 harg4 arg5 harg5 arg6 harg6 arg7 harg7 arg8 harg8 arg9 harg9 x0 x1 x2 x3 x4 st hs ?_
  refine r14 c i arg2 harg2 arg3 harg3 arg4 harg4 arg5 harg5 arg6 harg6 arg7 harg7 arg8 harg8 arg9 harg9 x0 x1 x2 x3 x4 st hs ?_
  refine r13 c i arg2 harg2 arg3 harg3 arg4 harg4 arg5 harg5 arg6 harg6 arg7 harg7 arg8 harg8 arg9 harg9 x0 x1 x2 x3 x4 st hs ?_
  refine r12 c i arg2 harg2 arg3 harg3 arg4 harg4 arg5 harg5 arg6 harg6 arg7 harg7 arg8 harg8 arg9 harg9 x0 x1 x2 x3 x4 st hs ?_
  refine r11 c i arg2 harg2 arg3 harg3 arg4 harg4 arg5 harg5 arg6 harg6 arg7 harg7 arg8 harg8 arg9 harg9 x0 x1 x2 x3 x4 st hs ?_
  refine r10 c i arg2 harg2 arg3 harg3 arg4 harg4 arg5 harg5 arg6 harg6 arg7 harg7 arg8 harg8 arg9 harg9 x0 x1 x2 x3 x4 st hs ?_
  refine r9 c i arg2 harg2 arg3 harg3 arg4 harg4 arg5 harg5 arg6 harg6 arg7 harg7 arg8 harg8 arg9 harg9 x0 x1 x2 x3 x4 st hs ?_
  refine r8 c i arg2 harg2 arg3 harg3 arg4 harg4 arg5 harg5 arg6 harg6 arg7 harg7 arg8 harg8 arg9 harg9 x0 x1 x2 x3 x4 st hs ?_
  refine r7 c i arg2 harg2 arg3 harg3 arg4 harg4 arg5 harg5 arg6 harg6 arg7 harg7 arg8 harg8 arg9 harg9 x0 x1 x2 x3 x4 st hs ?_
  refine r6 c i arg2 harg2 arg3 harg3 arg4 harg4 arg5 harg5 arg6 harg6 arg7 harg7 arg8 harg8 arg9 harg9 x0 x1 x2 x3 x4 st hs ?_
  refine r5 c i arg2 harg2 arg3 harg3 arg4 harg4 arg5 harg5 arg6 harg6 arg7 harg7 arg8 harg8 arg9 harg9 x0 x1 x2 x3 x4 st hs ?_
  refine r4 c i arg2 harg2 arg3 harg3 arg4 harg4 arg5 harg5 arg6 harg6 arg7 harg7 arg8 harg8 arg9 harg9 x0 x1 x2 x3 x4 st hs ?_
  refine r3 c i arg2 harg2 arg3 harg3 arg4 harg4 arg5 harg5 arg6 harg6 arg7 harg7 arg8 harg8 arg9 harg9 x0 x1 x2 x3 x4 st hs ?_
  refine r2 c i arg2 harg2 arg3 harg3 arg4 harg4 arg5 harg5 arg6 harg6 arg7 harg7 arg8 harg8 arg9 harg9 x0 x1 x2 x3 x4 st hs ?_
  refine r1 c i arg2 harg2 arg3 harg3 arg4 harg4 arg5 harg5 arg6 harg6 arg7 harg7 arg8 harg8 arg9 harg9 x0 x1 x2 x3 x4 st hs ?_
  rw [prog_zero, trips]
  exact loop c i arg2 harg2 arg3 harg3 arg4 harg4 arg5 harg5 arg6 harg6 arg7 harg7 arg8 harg8 arg9 harg9 x0 x1 x2 st hs _ _ h (i 1).1 le_rfl

end

end Cert.AttnRun

end
-- ==== Proof.AttnOut.lean ====
module

public import proofs.«01_k».proof.Proof.AttnMath
public import proofs.«01_k».proof.Proof.AttnTile
public import proofs.«01_k».proof.Proof.AttnIdealBody
public import proofs.«01_k».proof.Proof.AttnBnd
public import proofs.«01_k».proof.Proof.AttnRun

@[expose] public section

set_option maxRecDepth 16384

/-! The kernel's first bounds and maxima, and its last step, the quotients. -/

noncomputable section

namespace Cert.AttnOut

open Cert.AttnIdeal Cert.AttnIdeal.Gen Idealize.ShloMosaic Cert.AttnOps Cert.AttnMath

open Cert.AttnTile Cert.AttnIdealBody

set_option maxHeartbeats 4000000

/-- The bound of a tile: the queries' norms times the root of the largest key norm, times a constant a little over one. -/
def bound (v : Vec Ideal S1x1x256 .f32) (w : Vec Ideal S1x128 .f32) : FVec Ideal S1x1x8x256 .f32 :=
  asBlock (mulf (shapeCast S1x256 v shapeCasts_S1x1x256_S1x256)
    (broadcastTo S1x256 (mulf (sqrt (extractStridedSlice S1x1 ![0, 0] w slices_S1x128_o0_0_S1x1)) (broadcast S1x1 (FloatOps.ofBits .f32 1065418752#32))) broadcasts_S1x1_S1x256))

theorem bound_at (v : Vec Ideal S1x1x256 .f32) (w : Vec Ideal S1x128 .f32) (a : Fin 8) (c : Fin 256) :
    bound v w (ix4 0 0 a c) = v (ix3 0 0 c) * (Ideal.sqrt (w (ix2 0 0)) * Ideal.ofBits .f32 1065418752#32) := by
  unfold bound
  rw [asBlock_at]
  pointwise

theorem const_real : ∃ r : ℝ, Ideal.ofBits .f32 1065418752#32 = (r : EReal) := by
  exact ⟨129 / 128, by simp [Ideal.ofBits, Ideal.ieee]; rw [← EReal.coe_mul]; norm_num⟩

theorem bound_real {v : Vec Ideal S1x1x256 .f32} {w : Vec Ideal S1x128 .f32} (hv : ∀ c, ∃ r : ℝ, v (ix3 0 0 c) = (r : EReal))
    (hw : ∃ r : ℝ, 0 ≤ r ∧ w (ix2 0 0) = (r : EReal)) (a : Fin 8) (c : Fin 256) : ∃ r : ℝ, bound v w (ix4 0 0 a c) = (r : EReal) := by
  obtain ⟨p, hp⟩ := hv c
  obtain ⟨q, hq0, hq⟩ := hw
  obtain ⟨z, hz⟩ := const_real
  refine ⟨p * (Real.sqrt q * z), ?_⟩
  rw [bound_at, hp, hq, hz, EReal.coe_mul, EReal.coe_mul]
  congr 2
  exact if_neg (not_lt.2 hq0)

/-- The quotients of two tiles side by side, turned to rows. -/
def quot (a b : Vec Ideal S1x1x80x256 .f32) : FVec Ideal S256x128 .bf16 :=
  truncf .bf16 (transpose S256x128 [1, 0] (concatenate S128x256 0
    [⟨S64x256, divf (extractStridedSlice S64x256 ![0, 0] (shapeCast S80x256 a shapeCasts_S1x1x80x256_S80x256) slices_S80x256_o0_0_S64x256)
        (broadcastTo S64x256 (extractStridedSlice S1x256 ![64, 0] (shapeCast S80x256 a shapeCasts_S1x1x80x256_S80x256) slices_S80x256_o64_0_S1x256) broadcasts_S1x256_S64x256)⟩,
      ⟨S64x256, divf (extractStridedSlice S64x256 ![0, 0] (shapeCast S80x256 b shapeCasts_S1x1x80x256_S80x256) slices_S80x256_o0_0_S64x256)
        (broadcastTo S64x256 (extractStridedSlice S1x256 ![64, 0] (shapeCast S80x256 b shapeCasts_S1x1x80x256_S80x256) slices_S80x256_o64_0_S1x256) broadcasts_S1x256_S64x256)⟩]
    concatenates_S64x256_S64x256_S128x256_d0) transposes_S128x256_p1_0_S256x128) bitsLt_bf16_f32

theorem quot_lo (a b : Vec Ideal S1x1x80x256 .f32) (c : Fin 256) (d : Fin 64) :
    quot a b (ix2 c ⟨d.1, by omega⟩) = Ideal.div (a (ix4 0 0 ⟨d.1, by omega⟩ c)) (a (ix4 0 0 64 c)) := by
  pointwise [quot]

theorem quot_hi (a b : Vec Ideal S1x1x80x256 .f32) (c : Fin 256) (d : Fin 64) :
    quot a b (ix2 c ⟨64 + d.1, by omega⟩) = Ideal.div (b (ix4 0 0 ⟨d.1, by omega⟩ c)) (b (ix4 0 0 64 c)) := by
  pointwise [quot]

/-- A property of the first blocks of rows of the output. -/
def DoneO (G : Fin 8 → Fin 256 → Fin 128 → EReal) (b : ℕ) (L : List (View.Piece (Elt Ideal) S2048x128 .bf16)) : Prop :=
  ∀ (s : Fin 8) (c : Fin 256) (l : Fin 128), s.1 < b → View.canon (Val := Elt Ideal) L (ix2 ⟨256 * s.1 + c.1, by omega⟩ l) = G s c l

theorem embO (s : Fin 8) (o : Fin 2 → ℕ) (ho : o = ![256 * s.1, 0]) (h : ∀ k, o k + S256x128.size k ≤ S2048x128.size k) (c : Fin 256) (l : Fin 128) :
    (Rect.unit (s := S2048x128) o S256x128.size h).emb (ix2 c l) = ix2 ⟨256 * s.1 + c.1, by omega⟩ l := by
  subst ho
  funext k
  fin_cases k
  · exact Fin.ext (show 256 * s.1 + 1 * c.1 = 256 * s.1 + c.1 by omega)
  · exact Fin.ext (show 0 + 1 * l.1 = l.1 by omega)

theorem DoneO.step {G : Fin 8 → Fin 256 → Fin 128 → EReal} {b : ℕ} {L : List (View.Piece (Elt Ideal) S2048x128 .bf16)} (hL : DoneO G b L) (s : Fin 8) (hb : s.1 = b)
    {o : Fin 2 → ℕ} (ho : o = ![256 * s.1, 0]) {h : ∀ k, o k + S256x128.size k ≤ S2048x128.size k} {P : FVec Ideal S256x128 .bf16}
    (hP : ∀ (c : Fin 256) (l : Fin 128), P (ix2 c l) = G s c l) :
    DoneO G (b + 1) (⟨Rect.unit (s := S2048x128) o S256x128.size h, P⟩ :: L) := fun s' c l hlt => by
  by_cases hs : s' = s
  · obtain rfl := hs
    rw [← embO s' o ho h c l]
    exact (View.canon_cons_emb (Rect.unit (s := S2048x128) o S256x128.size h) P L (ix2 c l)).trans (hP c l)
  · refine (View.canon_cons_of_not_mem _ L fun hm => hs ?_).trans (hL s' c l ?_)
    · obtain ⟨x, hx⟩ := (Rect.unit (s := S2048x128) o S256x128.size h).exists_idx_of_mem hm
      subst ho
      have e0 : 256 * s.1 + 1 * (x 0).1 = 256 * s'.1 + c.1 := congrArg (fun i : S2048x128.Idx => (i 0).1) hx
      have b0 : (x 0).1 < 256 := (x 0).2
      have := c.2
      exact Fin.ext (by omega)
    · have : s'.1 ≠ s.1 := fun hh => hs (Fin.ext hh)
      omega

/-- The result at a query: its keys' values weighed by the powers of two of their scores, over the sum of the powers. -/
def att (st : ℕ → ℝ) (V : Fin 80 → ℕ → EReal) (n : ℕ) (r : Fin 80) : EReal :=
  ∑ k ∈ Finset.range n, V r k * ((Real.rpow 2 (st k) / ∑ k ∈ Finset.range n, Real.rpow 2 (st k) : ℝ) : EReal)

/-- The result in a column of the output: sixty-four columns for each of the two heads. -/
def attO (st : Fin 2 → Fin 8 → Fin 256 → ℕ → ℝ) (V : Fin 2 → Fin 80 → ℕ → EReal) (n : Fin 2 → Fin 8 → Fin 256 → ℕ) (s : Fin 8) (c : Fin 256) (l : Fin 128) : EReal :=
  att (st ⟨l.1 / 64, by omega⟩ s c) (V ⟨l.1 / 64, by omega⟩) (n ⟨l.1 / 64, by omega⟩ s c) ⟨l.1 % 64, by omega⟩

/-- Where the accumulators are good, the quotients are the result. -/
theorem quot_att {st : Fin 2 → Fin 8 → Fin 256 → ℕ → ℝ} {V : Fin 2 → Fin 80 → ℕ → EReal} {n : Fin 2 → Fin 8 → Fin 256 → ℕ} {s : Fin 8}
    {a b : Vec Ideal S1x1x80x256 .f32} (hn : ∀ e c, 0 < n e s c) (hV : ∀ e c, ∀ k < n e s c, V e 64 k = 1)
    (ha : ∀ c, ∃ m, At (st 0 s c) (V 0) (n 0 s c) m (fun r => a (ix4 0 0 r c))) (hb : ∀ c, ∃ m, At (st 1 s c) (V 1) (n 1 s c) m (fun r => b (ix4 0 0 r c)))
    (c : Fin 256) (l : Fin 128) : quot a b (ix2 c l) = attO st V n s c l := by
  by_cases h : l.1 < 64
  · obtain ⟨m, hm⟩ := ha c
    have e := quot_lo a b c ⟨l.1, h⟩
    have e' := quotient hm (hn 0 c) 64 (hV 0 c) ⟨l.1, by omega⟩
    refine e.trans (e'.trans ?_)
    have i0 : (⟨l.1 / 64, by omega⟩ : Fin 2) = 0 := Fin.ext (show l.1 / 64 = 0 by omega)
    have i1 : (⟨l.1 % 64, by omega⟩ : Fin 80) = ⟨l.1, by omega⟩ := Fin.ext (show l.1 % 64 = l.1 by omega)
    unfold attO att
    rw [i0, i1]
  · obtain ⟨m, hm⟩ := hb c
    have e := quot_hi a b c ⟨l.1 - 64, by omega⟩
    have e' := quotient hm (hn 1 c) 64 (hV 1 c) ⟨l.1 - 64, by omega⟩
    have el : (⟨64 + (l.1 - 64), by omega⟩ : Fin 128) = l := Fin.ext (show 64 + (l.1 - 64) = l.1 by omega)
    rw [el] at e
    refine e.trans (e'.trans ?_)
    have i0 : (⟨l.1 / 64, by omega⟩ : Fin 2) = 1 := Fin.ext (show l.1 / 64 = 1 by omega)
    have i1 : (⟨l.1 % 64, by omega⟩ : Fin 80) = ⟨l.1 - 64, by omega⟩ := Fin.ext (show l.1 % 64 = l.1 - 64 by omega)
    unfold attO att
    rw [i0, i1]

/-- The accumulators start at zero. -/
theorem zero0 : DoneA (fun x => x = 0) 16 bodyRun.sl.H7_16 := by
  have z : ∀ (r : Fin 80) (c : Fin 256), (shapeCast S1x1x80x256 (broadcast S80x256 (FloatOps.ofBits (F := Ideal) .f32 0x00000000#32)) shapeCasts_S80x256_S1x1x80x256 : FVec Ideal S1x1x80x256 .f32) (ix4 0 0 r c) = 0 := fun r c => by
    pointwise
  refine DoneA.step ?_ 1 7 rfl rfl (fun r c => z r c)
  refine DoneA.step ?_ 1 6 rfl rfl (fun r c => z r c)
  refine DoneA.step ?_ 1 5 rfl rfl (fun r c => z r c)
  refine DoneA.step ?_ 1 4 rfl rfl (fun r c => z r c)
  refine DoneA.step ?_ 1 3 rfl rfl (fun r c => z r c)
  refine DoneA.step ?_ 1 2 rfl rfl (fun r c => z r c)
  refine DoneA.step ?_ 1 1 rfl rfl (fun r c => z r c)
  refine DoneA.step ?_ 1 0 rfl rfl (fun r c => z r c)
  refine DoneA.step ?_ 0 7 rfl rfl (fun r c => z r c)
  refine DoneA.step ?_ 0 6 rfl rfl (fun r c => z r c)
  refine DoneA.step ?_ 0 5 rfl rfl (fun r c => z r c)
  refine DoneA.step ?_ 0 4 rfl rfl (fun r c => z r c)
  refine DoneA.step ?_ 0 3 rfl rfl (fun r c => z r c)
  refine DoneA.step ?_ 0 2 rfl rfl (fun r c => z r c)
  refine DoneA.step ?_ 0 1 rfl rfl (fun r c => z r c)
  refine DoneA.step ?_ 0 0 rfl rfl (fun r c => z r c)
  exact fun e s r c h => absurd h (by omega)

section
variable (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
  (x0 : Vec Ideal S256x2048 .bf16) (x1 : Vec Ideal S16384x256 .bf16) (x2 : Vec Ideal S8x160x2048 .bf16) (x3 : Vec Ideal S1x8x2048 .f32) (x4 : Vec Ideal S8x128 .f32)
  (st : Fin 2 → Fin 8 → Fin 256 → ℕ → ℝ)
  (hs : ∀ e s c key, key < 16384 → ∑ d : Fin 128, kAt x1 key (128 * (e : Fin 2).1 + d.1) * qAt x0 (128 * e.1 + d.1) (256 * (s : Fin 8).1 + (c : Fin 256).1) = ((st e s c key : ℝ) : EReal))

/-- The first bounds are real. -/
theorem bounds (hx3 : ∀ j, ∃ r : ℝ, x3 j = (r : EReal)) (hx4 : ∀ j, ∃ r : ℝ, 0 ≤ r ∧ x4 j = (r : EReal)) :
    DoneM (fun x => ∃ r : ℝ, x = (r : EReal)) 16 (bodyRun.sl.H6_16 i arg5 arg6 (harg5.unread x3) (harg6.unread x4)) := by
  have l3 : ∀ (o : Fin 3 → ℕ) (h : ∀ k, o k + S1x1x256.size k ≤ S1x8x2048.size k) (j : Fin 256), ∃ r : ℝ,
      View.readAt (Elt Ideal) arg5.view (Rect.unit (s := S1x8x2048) o S1x1x256.size h).toLoadRect (harg5.unread x3) (ix3 0 0 j) = (r : EReal) := fun o h j => by
    rw [View.readAt_eq_ld, Memref.IsWhole.read_unread]; exact hx3 _
  have l4 : ∀ (o : Fin 2 → ℕ) (h : ∀ k, o k + S1x128.size k ≤ S8x128.size k), ∃ r : ℝ, 0 ≤ r ∧
      View.readAt (Elt Ideal) arg6.view (Rect.unit (s := S8x128) o S1x128.size h).toLoadRect (harg6.unread x4) (ix2 0 0) = (r : EReal) := fun o h => by
    rw [View.readAt_eq_ld, Memref.IsWhole.read_unread]; exact hx4 _
  refine DoneM.step ?_ 1 7 rfl rfl (fun r c => bound_real (fun j => l3 ![0, 1, 1792] _ j) (l4 (k0_off1 i 1#32) _) r c)
  refine DoneM.step ?_ 1 6 rfl rfl (fun r c => bound_real (fun j => l3 ![0, 1, 1536] _ j) (l4 (k0_off1 i 1#32) _) r c)
  refine DoneM.step ?_ 1 5 rfl rfl (fun r c => bound_real (fun j => l3 ![0, 1, 1280] _ j) (l4 (k0_off1 i 1#32) _) r c)
  refine DoneM.step ?_ 1 4 rfl rfl (fun r c => bound_real (fun j => l3 ![0, 1, 1024] _ j) (l4 (k0_off1 i 1#32) _) r c)
  refine DoneM.step ?_ 1 3 rfl rfl (fun r c => bound_real (fun j => l3 ![0, 1, 768] _ j) (l4 (k0_off1 i 1#32) _) r c)
  refine DoneM.step ?_ 1 2 rfl rfl (fun r c => bound_real (fun j => l3 ![0, 1, 512] _ j) (l4 (k0_off1 i 1#32) _) r c)
  refine DoneM.step ?_ 1 1 rfl rfl (fun r c => bound_real (fun j => l3 ![0, 1, 256] _ j) (l4 (k0_off1 i 1#32) _) r c)
  refine DoneM.step ?_ 1 0 rfl rfl (fun r c => bound_real (fun j => l3 ![0, 1, 0] _ j) (l4 (k0_off1 i 1#32) _) r c)
  refine DoneM.step ?_ 0 7 rfl rfl (fun r c => bound_real (fun j => l3 ![0, 0, 1792] _ j) (l4 (k0_off1 i 0#32) _) r c)
  refine DoneM.step ?_ 0 6 rfl rfl (fun r c => bound_real (fun j => l3 ![0, 0, 1536] _ j) (l4 (k0_off1 i 0#32) _) r c)
  refine DoneM.step ?_ 0 5 rfl rfl (fun r c => bound_real (fun j => l3 ![0, 0, 1280] _ j) (l4 (k0_off1 i 0#32) _) r c)
  refine DoneM.step ?_ 0 4 rfl rfl (fun r c => bound_real (fun j => l3 ![0, 0, 1024] _ j) (l4 (k0_off1 i 0#32) _) r c)
  refine DoneM.step ?_ 0 3 rfl rfl (fun r c => bound_real (fun j => l3 ![0, 0, 768] _ j) (l4 (k0_off1 i 0#32) _) r c)
  refine DoneM.step ?_ 0 2 rfl rfl (fun r c => bound_real (fun j => l3 ![0, 0, 512] _ j) (l4 (k0_off1 i 0#32) _) r c)
  refine DoneM.step ?_ 0 1 rfl rfl (fun r c => bound_real (fun j => l3 ![0, 0, 256] _ j) (l4 (k0_off1 i 0#32) _) r c)
  refine DoneM.step ?_ 0 0 rfl rfl (fun r c => bound_real (fun j => l3 ![0, 0, 0] _ j) (l4 (k0_off1 i 0#32) _) r c)
  exact fun e s r c h => absurd h (by omega)

/-- The running maxima start at minus infinity and the accumulators at zero. -/
theorem bottoms : DoneM (fun x => x = ⊥) 16 (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4)) := by
  have z : ∀ (r : Fin 8) (c : Fin 256), k0_pay373 (F := Ideal) (ix4 0 0 r c) = ⊥ := fun r c => by
    pointwise [k0_pay373]
    rfl
  refine DoneM.step ?_ 1 7 rfl rfl (fun r c => z r c)
  refine DoneM.step ?_ 1 6 rfl rfl (fun r c => z r c)
  refine DoneM.step ?_ 1 5 rfl rfl (fun r c => z r c)
  refine DoneM.step ?_ 1 4 rfl rfl (fun r c => z r c)
  refine DoneM.step ?_ 1 3 rfl rfl (fun r c => z r c)
  refine DoneM.step ?_ 1 2 rfl rfl (fun r c => z r c)
  refine DoneM.step ?_ 1 1 rfl rfl (fun r c => z r c)
  refine DoneM.step ?_ 1 0 rfl rfl (fun r c => z r c)
  refine DoneM.step ?_ 0 7 rfl rfl (fun r c => z r c)
  refine DoneM.step ?_ 0 6 rfl rfl (fun r c => z r c)
  refine DoneM.step ?_ 0 5 rfl rfl (fun r c => z r c)
  refine DoneM.step ?_ 0 4 rfl rfl (fun r c => z r c)
  refine DoneM.step ?_ 0 3 rfl rfl (fun r c => z r c)
  refine DoneM.step ?_ 0 2 rfl rfl (fun r c => z r c)
  refine DoneM.step ?_ 0 1 rfl rfl (fun r c => z r c)
  refine DoneM.step ?_ 0 0 rfl rfl (fun r c => z r c)
  exact fun e s r c h => absurd h (by omega)

theorem zeros : DoneA (fun x => x = 0) 16 (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4)) := by
  have z : ∀ (r : Fin 80) (c : Fin 256), k0_pay374 (F := Ideal) (ix4 0 0 r c) = 0 := fun r c => by
    pointwise [k0_pay374]
  refine DoneA.step ?_ 1 7 rfl rfl (fun r c => z r c)
  refine DoneA.step ?_ 1 6 rfl rfl (fun r c => z r c)
  refine DoneA.step ?_ 1 5 rfl rfl (fun r c => z r c)
  refine DoneA.step ?_ 1 4 rfl rfl (fun r c => z r c)
  refine DoneA.step ?_ 1 3 rfl rfl (fun r c => z r c)
  refine DoneA.step ?_ 1 2 rfl rfl (fun r c => z r c)
  refine DoneA.step ?_ 1 1 rfl rfl (fun r c => z r c)
  refine DoneA.step ?_ 1 0 rfl rfl (fun r c => z r c)
  refine DoneA.step ?_ 0 7 rfl rfl (fun r c => z r c)
  refine DoneA.step ?_ 0 6 rfl rfl (fun r c => z r c)
  refine DoneA.step ?_ 0 5 rfl rfl (fun r c => z r c)
  refine DoneA.step ?_ 0 4 rfl rfl (fun r c => z r c)
  refine DoneA.step ?_ 0 3 rfl rfl (fun r c => z r c)
  refine DoneA.step ?_ 0 2 rfl rfl (fun r c => z r c)
  refine DoneA.step ?_ 0 1 rfl rfl (fun r c => z r c)
  refine DoneA.step ?_ 0 0 rfl rfl (fun r c => z r c)
  exact fun e s r c h => absurd h (by omega)

include hs

/-- The accumulators of the bounded pass. -/
theorem bnd (hx3 : ∀ j, ∃ r : ℝ, x3 j = (r : EReal)) (hx4 : ∀ j, ∃ r : ℝ, 0 ≤ r ∧ x4 j = (r : EReal)) (e : Fin 2) (s : Fin 8) (t : Fin 256) :
    ∃ m, At (st e s t) ((fun e r key => vAt x2 (80 * e.1 + r.1) key) e) ((fun _ s c => 2048 * (i 1).1 + (256 * s.1 + c.1 + 1)) e s t) m (fun r => View.canon (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (ix4 e s r t)) := by
  have hb := bounds i arg5 harg5 arg6 harg6 x3 x4 hx3 hx4
  choose m hm using fun e s c => hb e s 0 c (by omega)
  have h0 : InvB st (fun e r key => vAt x2 (80 * e.1 + r.1) key) m (fun _ _ _ => 0) bodyRun.sl.H7_16 := by
    intro e s c r
    have hz : View.canon (Val := Elt Ideal) bodyRun.sl.H7_16 (ix4 e s r c) = 0 := zero0 e s r c (by omega)
    rw [Finset.sum_range_zero]
    exact hz
  have h1 := Cert.AttnBnd.all c i arg2 harg2 arg3 harg3 arg4 harg4 arg5 harg5 arg6 harg6 arg7 harg7 arg8 harg8 arg9 harg9 x0 x1 x2 x3 x4 st hs m hm h0
  exact ⟨m e s t, h1 e s t⟩

/-- The accumulators of the running pass. -/
theorem run (e : Fin 2) (s : Fin 8) (t : Fin 256) :
    ∃ m, At (st e s t) ((fun e r key => vAt x2 (80 * e.1 + r.1) key) e) ((fun _ s c => 2048 * (i 1).1 + (256 * s.1 + c.1 + 1)) e s t) m (fun r => View.canon (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (ix4 e s r t)) := by
  have h0 : InvR st (fun e r key => vAt x2 (80 * e.1 + r.1) key) (fun _ _ _ => 0) (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4))
      (⟨Rect.unit (s := S2x8x80x256) ![1, 7, 0, 0] S1x1x80x256.size inb_S2x8x80x256_S1x1x80x256_1_7_0_0, k0_pay374 (F := Ideal)⟩ :: bodyRun.sl.H7_31_1 c i arg2 harg2 arg3 harg3 arg4 harg4 arg5 harg5 arg6 harg6 arg7 harg7 arg8 harg8 arg9 harg9 (harg2.unread x0) (harg3.unread x1) (harg4.unread x2) (harg5.unread x3) (harg6.unread x4)) := by
    intro e s t
    have hb : View.canon (Val := Elt Ideal) (⟨Rect.unit (s := S2x8x8x256) ![1, 7, 0, 0] S1x1x8x256.size inb_S2x8x8x256_S1x1x8x256_1_7_0_0, k0_pay373 (F := Ideal)⟩ :: bodyRun.sl.H6_31_1 i arg5 arg6 (harg5.unread x3) (harg6.unread x4)) (ix4 e s 0 t) = ⊥ :=
      bottoms i arg5 harg5 arg6 harg6 x3 x4 e s 0 t (by omega)
    have hz := fun r => zeros c i arg2 harg2 arg3 harg3 arg4 harg4 arg5 harg5 arg6 harg6 arg7 harg7 arg8 harg8 arg9 harg9 x0 x1 x2 x3 x4 e s r t (by omega)
    exact Or.inl ⟨rfl, hb, hz⟩
  have h1 := Cert.AttnRun.all c i arg2 harg2 arg3 harg3 arg4 harg4 arg5 harg5 arg6 harg6 arg7 harg7 arg8 harg8 arg9 harg9 x0 x1 x2 x3 x4 st hs h0
  have hp : 0 < (fun _ s c => 2048 * (i 1).1 + (256 * s.1 + c.1 + 1)) e s t := by simp only; omega
  rcases h1 e s t with ⟨h, _⟩ | ⟨m, _, h⟩
  · rw [h] at hp; exact absurd hp (lt_irrefl 0)
  · exact ⟨m, h⟩

/-- What the bounded pass leaves in the output. -/
theorem outB (hx3 : ∀ j, ∃ r : ℝ, x3 j = (r : EReal)) (hx4 : ∀ j, ∃ r : ℝ, 0 ≤ r ∧ x4 j = (r : EReal))
    (hV : ∀ (e : Fin 2) (k : ℕ), k < 16384 → vAt x2 (80 * e.1 + 64) k = 1) : DoneO (attO st (fun e r key => vAt x2 (80 * e.1 + r.1) key) (fun _ s c => 2048 * (i 1).1 + (256 * s.1 + c.1 + 1))) 8 (bodyRun.sl.H5_8_1 c i arg2 harg2 arg3 harg3 arg4 harg4 arg5 harg5 arg6 harg6 arg7 harg7 arg8 harg8 arg9 harg9 (harg2.unread x0) (harg3.unread x1) (harg4.unread x2) (harg5.unread x3) (harg6.unread x4)) := by
  have hi : (i 1).1 < 8 := (i 1).2
  have H := bnd c i arg2 harg2 arg3 harg3 arg4 harg4 arg5 harg5 arg6 harg6 arg7 harg7 arg8 harg8 arg9 harg9 x0 x1 x2 x3 x4 st hs hx3 hx4
  have hn : ∀ (s : Fin 8) (e : Fin 2) (t : Fin 256), 0 < (fun _ s c => 2048 * (i 1).1 + (256 * s.1 + c.1 + 1)) e s t := fun s e t => by simp only; omega
  have hv : ∀ (s : Fin 8) (e : Fin 2) (t : Fin 256) (k : ℕ), k < (fun _ s c => 2048 * (i 1).1 + (256 * s.1 + c.1 + 1)) e s t → vAt x2 (80 * e.1 + 64) k = 1 := fun s e t k hk => by
    have hs' := s.2; have ht := t.2
    exact hV e k (by simp only at hk; omega)
  refine DoneO.step ?_ 7 rfl rfl (fun t l => quot_att (V := (fun e r key => vAt x2 (80 * e.1 + r.1) key)) (n := (fun _ s c => 2048 * (i 1).1 + (256 * s.1 + c.1 + 1))) (s := 7) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 7, 0, 0] S1x1x80x256.size inb_S2x8x80x256_S1x1x80x256_0_7_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 7, 0, 0] S1x1x80x256.size inb_S2x8x80x256_S1x1x80x256_1_7_0_0).toLoadRect)) (hn 7) (hv 7)
    (fun t => ?_) (fun t => ?_) t l)
  rotate_left
  · obtain ⟨m, hm⟩ := H 0 7 t
    refine ⟨m, fun r => ?_⟩
    exact (covA arg9 0 7 _ rfl _ _ r t).trans (hm r)
  · obtain ⟨m, hm⟩ := H 1 7 t
    refine ⟨m, fun r => ?_⟩
    exact (covA arg9 1 7 _ rfl _ _ r t).trans (hm r)
  refine DoneO.step ?_ 6 rfl rfl (fun t l => quot_att (V := (fun e r key => vAt x2 (80 * e.1 + r.1) key)) (n := (fun _ s c => 2048 * (i 1).1 + (256 * s.1 + c.1 + 1))) (s := 6) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 6, 0, 0] S1x1x80x256.size inb_S2x8x80x256_S1x1x80x256_0_6_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 6, 0, 0] S1x1x80x256.size inb_S2x8x80x256_S1x1x80x256_1_6_0_0).toLoadRect)) (hn 6) (hv 6)
    (fun t => ?_) (fun t => ?_) t l)
  rotate_left
  · obtain ⟨m, hm⟩ := H 0 6 t
    refine ⟨m, fun r => ?_⟩
    exact (covA arg9 0 6 _ rfl _ _ r t).trans (hm r)
  · obtain ⟨m, hm⟩ := H 1 6 t
    refine ⟨m, fun r => ?_⟩
    exact (covA arg9 1 6 _ rfl _ _ r t).trans (hm r)
  refine DoneO.step ?_ 5 rfl rfl (fun t l => quot_att (V := (fun e r key => vAt x2 (80 * e.1 + r.1) key)) (n := (fun _ s c => 2048 * (i 1).1 + (256 * s.1 + c.1 + 1))) (s := 5) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 5, 0, 0] S1x1x80x256.size inb_S2x8x80x256_S1x1x80x256_0_5_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 5, 0, 0] S1x1x80x256.size inb_S2x8x80x256_S1x1x80x256_1_5_0_0).toLoadRect)) (hn 5) (hv 5)
    (fun t => ?_) (fun t => ?_) t l)
  rotate_left
  · obtain ⟨m, hm⟩ := H 0 5 t
    refine ⟨m, fun r => ?_⟩
    exact (covA arg9 0 5 _ rfl _ _ r t).trans (hm r)
  · obtain ⟨m, hm⟩ := H 1 5 t
    refine ⟨m, fun r => ?_⟩
    exact (covA arg9 1 5 _ rfl _ _ r t).trans (hm r)
  refine DoneO.step ?_ 4 rfl rfl (fun t l => quot_att (V := (fun e r key => vAt x2 (80 * e.1 + r.1) key)) (n := (fun _ s c => 2048 * (i 1).1 + (256 * s.1 + c.1 + 1))) (s := 4) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 4, 0, 0] S1x1x80x256.size inb_S2x8x80x256_S1x1x80x256_0_4_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 4, 0, 0] S1x1x80x256.size inb_S2x8x80x256_S1x1x80x256_1_4_0_0).toLoadRect)) (hn 4) (hv 4)
    (fun t => ?_) (fun t => ?_) t l)
  rotate_left
  · obtain ⟨m, hm⟩ := H 0 4 t
    refine ⟨m, fun r => ?_⟩
    exact (covA arg9 0 4 _ rfl _ _ r t).trans (hm r)
  · obtain ⟨m, hm⟩ := H 1 4 t
    refine ⟨m, fun r => ?_⟩
    exact (covA arg9 1 4 _ rfl _ _ r t).trans (hm r)
  refine DoneO.step ?_ 3 rfl rfl (fun t l => quot_att (V := (fun e r key => vAt x2 (80 * e.1 + r.1) key)) (n := (fun _ s c => 2048 * (i 1).1 + (256 * s.1 + c.1 + 1))) (s := 3) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 3, 0, 0] S1x1x80x256.size inb_S2x8x80x256_S1x1x80x256_0_3_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 3, 0, 0] S1x1x80x256.size inb_S2x8x80x256_S1x1x80x256_1_3_0_0).toLoadRect)) (hn 3) (hv 3)
    (fun t => ?_) (fun t => ?_) t l)
  rotate_left
  · obtain ⟨m, hm⟩ := H 0 3 t
    refine ⟨m, fun r => ?_⟩
    exact (covA arg9 0 3 _ rfl _ _ r t).trans (hm r)
  · obtain ⟨m, hm⟩ := H 1 3 t
    refine ⟨m, fun r => ?_⟩
    exact (covA arg9 1 3 _ rfl _ _ r t).trans (hm r)
  refine DoneO.step ?_ 2 rfl rfl (fun t l => quot_att (V := (fun e r key => vAt x2 (80 * e.1 + r.1) key)) (n := (fun _ s c => 2048 * (i 1).1 + (256 * s.1 + c.1 + 1))) (s := 2) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 2, 0, 0] S1x1x80x256.size inb_S2x8x80x256_S1x1x80x256_0_2_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 2, 0, 0] S1x1x80x256.size inb_S2x8x80x256_S1x1x80x256_1_2_0_0).toLoadRect)) (hn 2) (hv 2)
    (fun t => ?_) (fun t => ?_) t l)
  rotate_left
  · obtain ⟨m, hm⟩ := H 0 2 t
    refine ⟨m, fun r => ?_⟩
    exact (covA arg9 0 2 _ rfl _ _ r t).trans (hm r)
  · obtain ⟨m, hm⟩ := H 1 2 t
    refine ⟨m, fun r => ?_⟩
    exact (covA arg9 1 2 _ rfl _ _ r t).trans (hm r)
  refine DoneO.step ?_ 1 rfl rfl (fun t l => quot_att (V := (fun e r key => vAt x2 (80 * e.1 + r.1) key)) (n := (fun _ s c => 2048 * (i 1).1 + (256 * s.1 + c.1 + 1))) (s := 1) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 1, 0, 0] S1x1x80x256.size inb_S2x8x80x256_S1x1x80x256_0_1_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 1, 0, 0] S1x1x80x256.size inb_S2x8x80x256_S1x1x80x256_1_1_0_0).toLoadRect)) (hn 1) (hv 1)
    (fun t => ?_) (fun t => ?_) t l)
  rotate_left
  · obtain ⟨m, hm⟩ := H 0 1 t
    refine ⟨m, fun r => ?_⟩
    exact (covA arg9 0 1 _ rfl _ _ r t).trans (hm r)
  · obtain ⟨m, hm⟩ := H 1 1 t
    refine ⟨m, fun r => ?_⟩
    exact (covA arg9 1 1 _ rfl _ _ r t).trans (hm r)
  refine DoneO.step ?_ 0 rfl rfl (fun t l => quot_att (V := (fun e r key => vAt x2 (80 * e.1 + r.1) key)) (n := (fun _ s c => 2048 * (i 1).1 + (256 * s.1 + c.1 + 1))) (s := 0) (a := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 0, 0, 0] S1x1x80x256.size inb_S2x8x80x256_S1x1x80x256_0_0_0_0).toLoadRect))
    (b := (arg9.view.readCov (Val := Elt Ideal) (bodyRun.sl.H7_16_1 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 0, 0, 0] S1x1x80x256.size inb_S2x8x80x256_S1x1x80x256_1_0_0_0).toLoadRect)) (hn 0) (hv 0)
    (fun t => ?_) (fun t => ?_) t l)
  rotate_left
  · obtain ⟨m, hm⟩ := H 0 0 t
    refine ⟨m, fun r => ?_⟩
    exact (covA arg9 0 0 _ rfl _ _ r t).trans (hm r)
  · obtain ⟨m, hm⟩ := H 1 0 t
    refine ⟨m, fun r => ?_⟩
    exact (covA arg9 1 0 _ rfl _ _ r t).trans (hm r)
  exact fun s c l h => absurd h (by omega)

/-- What the running pass leaves in the output. -/
theorem outR
    (hV : ∀ (e : Fin 2) (k : ℕ), k < 16384 → vAt x2 (80 * e.1 + 64) k = 1) : DoneO (attO st (fun e r key => vAt x2 (80 * e.1 + r.1) key) (fun _ s c => 2048 * (i 1).1 + (256 * s.1 + c.1 + 1))) 8 (bodyRun.sl.H5_8 c i arg2 harg2 arg3 harg3 arg4 harg4 arg5 harg5 arg6 harg6 arg7 harg7 arg8 harg8 arg9 harg9 (harg2.unread x0) (harg3.unread x1) (harg4.unread x2) (harg5.unread x3) (harg6.unread x4)) := by
  have hi : (i 1).1 < 8 := (i 1).2
  have H := run c i arg2 harg2 arg3 harg3 arg4 harg4 arg5 harg5 arg6 harg6 arg7 harg7 arg8 harg8 arg9 harg9 x0 x1 x2 x3 x4 st hs
  have hn : ∀ (s : Fin 8) (e : Fin 2) (t : Fin 256), 0 < (fun _ s c => 2048 * (i 1).1 + (256 * s.1 + c.1 + 1)) e s t := fun s e t => by simp only; omega
  have hv : ∀ (s : Fin 8) (e : Fin 2) (t : Fin 256) (k : ℕ), k < (fun _ s c => 2048 * (i 1).1 + (256 * s.1 + c.1 + 1)) e s t → vAt x2 (80 * e.1 + 64) k = 1 := fun s e t k hk => by
    have hs' := s.2; have ht := t.2
    exact hV e k (by simp only at hk; omega)
  refine DoneO.step ?_ 7 rfl rfl (fun t l => quot_att (V := (fun e r key => vAt x2 (80 * e.1 + r.1) key)) (n := (fun _ s c => 2048 * (i 1).1 + (256 * s.1 + c.1 + 1))) (s := 7) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 7, 0, 0] S1x1x80x256.size inb_S2x8x80x256_S1x1x80x256_0_7_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 7, 0, 0] S1x1x80x256.size inb_S2x8x80x256_S1x1x80x256_1_7_0_0).toLoadRect)) (hn 7) (hv 7)
    (fun t => ?_) (fun t => ?_) t l)
  rotate_left
  · obtain ⟨m, hm⟩ := H 0 7 t
    refine ⟨m, fun r => ?_⟩
    exact (covA arg9 0 7 _ rfl _ _ r t).trans (hm r)
  · obtain ⟨m, hm⟩ := H 1 7 t
    refine ⟨m, fun r => ?_⟩
    exact (covA arg9 1 7 _ rfl _ _ r t).trans (hm r)
  refine DoneO.step ?_ 6 rfl rfl (fun t l => quot_att (V := (fun e r key => vAt x2 (80 * e.1 + r.1) key)) (n := (fun _ s c => 2048 * (i 1).1 + (256 * s.1 + c.1 + 1))) (s := 6) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 6, 0, 0] S1x1x80x256.size inb_S2x8x80x256_S1x1x80x256_0_6_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 6, 0, 0] S1x1x80x256.size inb_S2x8x80x256_S1x1x80x256_1_6_0_0).toLoadRect)) (hn 6) (hv 6)
    (fun t => ?_) (fun t => ?_) t l)
  rotate_left
  · obtain ⟨m, hm⟩ := H 0 6 t
    refine ⟨m, fun r => ?_⟩
    exact (covA arg9 0 6 _ rfl _ _ r t).trans (hm r)
  · obtain ⟨m, hm⟩ := H 1 6 t
    refine ⟨m, fun r => ?_⟩
    exact (covA arg9 1 6 _ rfl _ _ r t).trans (hm r)
  refine DoneO.step ?_ 5 rfl rfl (fun t l => quot_att (V := (fun e r key => vAt x2 (80 * e.1 + r.1) key)) (n := (fun _ s c => 2048 * (i 1).1 + (256 * s.1 + c.1 + 1))) (s := 5) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 5, 0, 0] S1x1x80x256.size inb_S2x8x80x256_S1x1x80x256_0_5_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 5, 0, 0] S1x1x80x256.size inb_S2x8x80x256_S1x1x80x256_1_5_0_0).toLoadRect)) (hn 5) (hv 5)
    (fun t => ?_) (fun t => ?_) t l)
  rotate_left
  · obtain ⟨m, hm⟩ := H 0 5 t
    refine ⟨m, fun r => ?_⟩
    exact (covA arg9 0 5 _ rfl _ _ r t).trans (hm r)
  · obtain ⟨m, hm⟩ := H 1 5 t
    refine ⟨m, fun r => ?_⟩
    exact (covA arg9 1 5 _ rfl _ _ r t).trans (hm r)
  refine DoneO.step ?_ 4 rfl rfl (fun t l => quot_att (V := (fun e r key => vAt x2 (80 * e.1 + r.1) key)) (n := (fun _ s c => 2048 * (i 1).1 + (256 * s.1 + c.1 + 1))) (s := 4) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 4, 0, 0] S1x1x80x256.size inb_S2x8x80x256_S1x1x80x256_0_4_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 4, 0, 0] S1x1x80x256.size inb_S2x8x80x256_S1x1x80x256_1_4_0_0).toLoadRect)) (hn 4) (hv 4)
    (fun t => ?_) (fun t => ?_) t l)
  rotate_left
  · obtain ⟨m, hm⟩ := H 0 4 t
    refine ⟨m, fun r => ?_⟩
    exact (covA arg9 0 4 _ rfl _ _ r t).trans (hm r)
  · obtain ⟨m, hm⟩ := H 1 4 t
    refine ⟨m, fun r => ?_⟩
    exact (covA arg9 1 4 _ rfl _ _ r t).trans (hm r)
  refine DoneO.step ?_ 3 rfl rfl (fun t l => quot_att (V := (fun e r key => vAt x2 (80 * e.1 + r.1) key)) (n := (fun _ s c => 2048 * (i 1).1 + (256 * s.1 + c.1 + 1))) (s := 3) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 3, 0, 0] S1x1x80x256.size inb_S2x8x80x256_S1x1x80x256_0_3_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 3, 0, 0] S1x1x80x256.size inb_S2x8x80x256_S1x1x80x256_1_3_0_0).toLoadRect)) (hn 3) (hv 3)
    (fun t => ?_) (fun t => ?_) t l)
  rotate_left
  · obtain ⟨m, hm⟩ := H 0 3 t
    refine ⟨m, fun r => ?_⟩
    exact (covA arg9 0 3 _ rfl _ _ r t).trans (hm r)
  · obtain ⟨m, hm⟩ := H 1 3 t
    refine ⟨m, fun r => ?_⟩
    exact (covA arg9 1 3 _ rfl _ _ r t).trans (hm r)
  refine DoneO.step ?_ 2 rfl rfl (fun t l => quot_att (V := (fun e r key => vAt x2 (80 * e.1 + r.1) key)) (n := (fun _ s c => 2048 * (i 1).1 + (256 * s.1 + c.1 + 1))) (s := 2) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 2, 0, 0] S1x1x80x256.size inb_S2x8x80x256_S1x1x80x256_0_2_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 2, 0, 0] S1x1x80x256.size inb_S2x8x80x256_S1x1x80x256_1_2_0_0).toLoadRect)) (hn 2) (hv 2)
    (fun t => ?_) (fun t => ?_) t l)
  rotate_left
  · obtain ⟨m, hm⟩ := H 0 2 t
    refine ⟨m, fun r => ?_⟩
    exact (covA arg9 0 2 _ rfl _ _ r t).trans (hm r)
  · obtain ⟨m, hm⟩ := H 1 2 t
    refine ⟨m, fun r => ?_⟩
    exact (covA arg9 1 2 _ rfl _ _ r t).trans (hm r)
  refine DoneO.step ?_ 1 rfl rfl (fun t l => quot_att (V := (fun e r key => vAt x2 (80 * e.1 + r.1) key)) (n := (fun _ s c => 2048 * (i 1).1 + (256 * s.1 + c.1 + 1))) (s := 1) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 1, 0, 0] S1x1x80x256.size inb_S2x8x80x256_S1x1x80x256_0_1_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 1, 0, 0] S1x1x80x256.size inb_S2x8x80x256_S1x1x80x256_1_1_0_0).toLoadRect)) (hn 1) (hv 1)
    (fun t => ?_) (fun t => ?_) t l)
  rotate_left
  · obtain ⟨m, hm⟩ := H 0 1 t
    refine ⟨m, fun r => ?_⟩
    exact (covA arg9 0 1 _ rfl _ _ r t).trans (hm r)
  · obtain ⟨m, hm⟩ := H 1 1 t
    refine ⟨m, fun r => ?_⟩
    exact (covA arg9 1 1 _ rfl _ _ r t).trans (hm r)
  refine DoneO.step ?_ 0 rfl rfl (fun t l => quot_att (V := (fun e r key => vAt x2 (80 * e.1 + r.1) key)) (n := (fun _ s c => 2048 * (i 1).1 + (256 * s.1 + c.1 + 1))) (s := 0) (a := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![0, 0, 0, 0] S1x1x80x256.size inb_S2x8x80x256_S1x1x80x256_0_0_0_0).toLoadRect))
    (b := (arg9.view.readCov (Val := Elt Ideal) (bodyRun.sl.H7_16_2 c i arg2 harg2 arg3 harg3 arg4 harg4 arg5 harg5 arg6 harg6 arg7 harg7 arg8 harg8 arg9 harg9 (harg2.unread x0) (harg3.unread x1) (harg4.unread x2) (harg5.unread x3) (harg6.unread x4)) (Rect.unit (s := S2x8x80x256) ![1, 0, 0, 0] S1x1x80x256.size inb_S2x8x80x256_S1x1x80x256_1_0_0_0).toLoadRect)) (hn 0) (hv 0)
    (fun t => ?_) (fun t => ?_) t l)
  rotate_left
  · obtain ⟨m, hm⟩ := H 0 0 t
    refine ⟨m, fun r => ?_⟩
    exact (covA arg9 0 0 _ rfl _ _ r t).trans (hm r)
  · obtain ⟨m, hm⟩ := H 1 0 t
    refine ⟨m, fun r => ?_⟩
    exact (covA arg9 1 0 _ rfl _ _ r t).trans (hm r)
  exact fun s c l h => absurd h (by omega)

end

end Cert.AttnOut

end
-- ==== Proof.AttnIdealFrame.lean ====
module

public import proofs.«01_k».proof.Proof.Gen.AttnIdeal.Frame
public import proofs.«01_k».proof.Proof.AttnIdealBody
public import Idealize.ShloMosaic.Lib.Tactic
public import Idealize.ShloMosaic.Lib.Claim
public import Idealize.ShloMosaic.Lib.Pipeline.Kit
public import Idealize.ShloMosaic.Lib.Pipeline.DatRel

@[expose] public section

set_option maxRecDepth 16384

noncomputable section

namespace Cert.AttnIdealFrame

open Cert.AttnIdeal Cert.AttnIdeal.Gen Cert.AttnIdealBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000

theorem sound_kernel (c : Dev nD) (E : Set ℕ) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
    (x0 : Vec F S256x2048 .bf16) (x1 : Vec F S16384x256 .bf16) (x2 : Vec F S8x160x2048 .bf16) (x3 : Vec F S1x8x2048 .f32) (x4 : Vec F S8x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ x, owns (c : Thread nD τ) arg7 fullShare x) ∗ (∃ Z, arg8.view.loc (c : Thread nD τ) ↦[arg8.view.set]{fullShare} Z) ∗ (∃ Z, arg9.view.loc (c : Thread nD τ) ↦[arg9.view.set]{fullShare} Z)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare (arg7.view.read (Elt F) (outZ c i arg2 harg2 arg3 harg3 arg4 harg4 arg5 harg5 arg6 harg6 arg7 harg7 arg8 harg8 arg9 harg9 (harg2.unread x0) (harg3.unread x1) (harg4.unread x2) (harg5.unread x3) (harg6.unread x4))) ∗ (∃ Z, arg8.view.loc (c : Thread nD τ) ↦[arg8.view.set]{fullShare} Z) ∗ (∃ Z, arg9.view.loc (c : Thread nD τ) ↦[arg9.view.set]{fullShare} Z)) -∗ K ⟨⟩))
      ⊢ wp frame (wpE (defs₀ (F := F)) Variants.none c none) E (cc0_attn_prompt i arg2 harg2 arg3 harg3 arg4 harg4 arg5 harg5 arg6 harg6 arg7 harg7 arg8 harg8 arg9 harg9) K := by
  unfold owns
  iintro ⟨⟨%f0, %e0, H0⟩, ⟨%f1, %e1, H1⟩, ⟨%f2, %e2, H2⟩, ⟨%f3, %e3, H3⟩, ⟨%f4, %e4, H4⟩, ⟨%x5, %f5, %e5, H5⟩, ⟨%f6, H6⟩, ⟨%f7, H7⟩, Hk⟩
  obtain rfl := harg2.eq_unread e0
  obtain rfl := harg3.eq_unread e1
  obtain rfl := harg4.eq_unread e2
  obtain rfl := harg5.eq_unread e3
  obtain rfl := harg6.eq_unread e4
  iapply ((bodyRun c i arg2 harg2 arg3 harg3 arg4 harg4 arg5 harg5 arg6 harg6 arg7 harg7 arg8 harg8 arg9 harg9 (harg2.unread x0) (harg3.unread x1) (harg4.unread x2) (harg5.unread x3) (harg6.unread x4)).2 E f5 f6 f7 _ K (fun Z => Z = outZ c i arg2 harg2 arg3 harg3 arg4 harg4 arg5 harg5 arg6 harg6 arg7 harg7 arg8 harg8 arg9 harg9 (harg2.unread x0) (harg3.unread x1) (harg4.unread x2) (harg5.unread x3) (harg6.unread x4)) (outZ_of c i arg2 harg2 arg3 harg3 arg4 harg4 arg5 harg5 arg6 harg6 arg7 harg7 arg8 harg8 arg9 harg9 _ _ _ _ _).1 (outZ_of c i arg2 harg2 arg3 harg3 arg4 harg4 arg5 harg5 arg6 harg6 arg7 harg7 arg8 harg8 arg9 harg9 _ _ _ _ _).2 ?_)
  rotate_left
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hk
  intro Z Z8 Z9 hZ
  iintro ⟨H0, H1, H2, H3, H4, H5, H6, H7, Hk⟩
  obtain rfl := hZ
  iapply Hk
  isplitl [H0]; · iexists _; isplitr; · ipureintro; exact e0
                  iexact H0
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; rfl
                  iexact H5
  isplitl [H6]; · iexists _; iexact H6
  iexists _; iexact H7

variable (m : (l : Loc nD τ sig) → Buf (Elt F) l) (ρ : Dev nD → PrngReg)

/-- What the body leaves the output's block at, at grid point `t`. -/
def outBlock (c : Dev nD) (t : Fin cfg0.N) : Vec F S2048x128 .bf16 :=
  (st0_5 t).view.read (Elt F) (outZ c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole cc0_scratch0) (Memref.whole cc0_scratch1) (Memref.isWhole_whole cc0_scratch1)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)))

/-- The pipeline's proof data: the arrays as launched; after the body each input's buffer at its block and the output's at
    what the body leaves; the scratch and the generator's register carried along. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

theorem arr_eq (c : Dev nD) (w : Fin cfg0.W) : (dats m 0 c).A w = V m c (Pipeline.arrRef spec0 w) := by
  dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = outBlock m c t := by dsimp only [dats]
theorem found_0 (c : Dev nD) (t : Fin cfg0.N) (d) : (dats m 0 c).before 0 t d = iblk m c 0 t :=
  before0_0_of m (dats m 0 c) (arr_eq m c 0) (left_0 m c) t d
theorem found_1 (c : Dev nD) (t : Fin cfg0.N) (d) : (dats m 0 c).before 1 t d = iblk m c 1 t :=
  before0_1_of m (dats m 0 c) (arr_eq m c 1) (left_1 m c) t d
theorem found_2 (c : Dev nD) (t : Fin cfg0.N) (d) : (dats m 0 c).before 2 t d = iblk m c 2 t :=
  before0_2_of m (dats m 0 c) (arr_eq m c 2) (left_2 m c) t d
theorem found_3 (c : Dev nD) (t : Fin cfg0.N) (d) : (dats m 0 c).before 3 t d = iblk m c 3 t :=
  before0_3_of m (dats m 0 c) (arr_eq m c 3) (left_3 m c) t d
theorem found_4 (c : Dev nD) (t : Fin cfg0.N) (d) : (dats m 0 c).before 4 t d = iblk m c 4 t :=
  before0_4_of m (dats m 0 c) (arr_eq m c 4) (left_4 m c) t d

/-- The body holds the scratch buffers whole, whatever they hold. -/
theorem whole_pt (c : Dev nD) (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole b]

/-- What the body is given at point `t`, and what it returns. -/
def givenAt (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def returnedAt (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_at (c : Dev nD) (t : Fin cfg0.N) :
    givenAt m c t ⊢ wp frame (wpE (defs₀ (F := F)) Variants.none c none) Set.univ (bodyAt0 t) (fun _ => returnedAt m c t) := by
  unfold givenAt returnedAt bodyAt0
  simp only [found_0, found_1, found_2, found_3, found_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    left_0, left_1, left_2, left_3, left_4, left_5]
  unfold Pipeline.ΦA
  rw [scopedRest0_eq c]
  simp only [whole_pt]
  iintro ⟨⟨⟨S0, S1⟩, Hr⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  iintro ⟨H0, H1, H2, H3, H4, H5, S0, S1⟩
  isplitl [S0 S1 Hr]
  · isplitl [S0 S1]
    · isplitl [S0]; · iexact S0
      iexact S1
    · iexact Hr
  isplitl [Ho]; · iexact Ho
  isplitl [H0]; · iexact H0
  isplitl [H1]; · iexact H1
  isplitl [H2]; · iexact H2
  isplitl [H3]; · iexact H3
  isplitl [H4]; · iexact H4
  iexact H5

theorem row_at (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The launch: every execution ends with the arrays at what the proof data gives and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arr_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiet m ρ)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_eq m) (run_arrays m ρ)) ((θ_run defs _ _).mono (fun _ h => h.2) (run_quiet m ρ))

end Cert.AttnIdealFrame

end
-- ==== Proof.AttnKernel.lean ====
module

public import proofs.«01_k».proof.Proof.AttnMath
public import proofs.«01_k».proof.Proof.AttnSpec
public import proofs.«01_k».proof.Proof.AttnOut
public import proofs.«01_k».proof.Proof.AttnIdealFrame
public import Idealize.ShloMosaic.Lib.Claim
public import Idealize.ShloMosaic.Lib.Pipeline.ValueKit
public import Idealize.ShloMosaic.Lib.Pipeline.FrameBody

@[expose] public section

set_option maxRecDepth 16384

/-! The kernel's result array is the attention of its arguments. -/

noncomputable section

namespace Cert.AttnKernel

open Cert.AttnIdeal Cert.AttnIdeal.Gen Idealize.ShloMosaic Cert.AttnOps Cert.AttnMath

open Cert.AttnTile Cert.AttnIdealBody Cert.AttnOut Cert.AttnSpec Cert.AttnIdealFrame Idealize.ShloMosaic.TcCoe Idealize.SL.Sem

set_option maxHeartbeats 4000000

section
variable (c : Dev nD) (i : grid0.Coords) (arg2 : Memref sig .tc .vmem S256x2048 .bf16) (harg2 : arg2.IsWhole) (arg3 : Memref sig .tc .vmem S16384x256 .bf16) (harg3 : arg3.IsWhole) (arg4 : Memref sig .tc .vmem S8x160x2048 .bf16) (harg4 : arg4.IsWhole) (arg5 : Memref sig .tc .vmem S1x8x2048 .f32) (harg5 : arg5.IsWhole) (arg6 : Memref sig .tc .vmem S8x128 .f32) (harg6 : arg6.IsWhole) (arg7 : Memref sig .tc .vmem S2048x128 .bf16) (harg7 : arg7.IsWhole) (arg8 : Memref sig .tc .vmem S2x8x8x256 .f32) (harg8 : arg8.IsWhole) (arg9 : Memref sig .tc .vmem S2x8x80x256 .f32) (harg9 : arg9.IsWhole)
  (x0 : Vec Ideal S256x2048 .bf16) (x1 : Vec Ideal S16384x256 .bf16) (x2 : Vec Ideal S8x160x2048 .bf16) (x3 : Vec Ideal S1x8x2048 .f32) (x4 : Vec Ideal S8x128 .f32)
  (st : Fin 2 → Fin 8 → Fin 256 → ℕ → ℝ)
  (hs : ∀ e s c key, key < 16384 → ∑ d : Fin 128, kAt x1 key (128 * (e : Fin 2).1 + d.1) * qAt x0 (128 * e.1 + d.1) (256 * (s : Fin 8).1 + (c : Fin 256).1) = ((st e s c key : ℝ) : EReal))
include hs

/-- Whichever pass the body takes, its output block is the attention. -/
theorem out_eq (hx3 : ∀ j, ∃ r : ℝ, x3 j = (r : EReal)) (hx4 : ∀ j, ∃ r : ℝ, 0 ≤ r ∧ x4 j = (r : EReal))
    (hV : ∀ (e : Fin 2) (k : ℕ), k < 16384 → vAt x2 (80 * e.1 + 64) k = 1) (s : Fin 8) (t : Fin 256) (l : Fin 128) :
    arg7.view.read (Elt Ideal) (outZ c i arg2 harg2 arg3 harg3 arg4 harg4 arg5 harg5 arg6 harg6 arg7 harg7 arg8 harg8 arg9 harg9 (harg2.unread x0) (harg3.unread x1) (harg4.unread x2) (harg5.unread x3) (harg6.unread x4)) (ix2 ⟨256 * s.1 + t.1, by omega⟩ l) = attO st (fun e r key => vAt x2 (80 * e.1 + r.1) key) (fun _ s c => 2048 * (i 1).1 + (256 * s.1 + c.1 + 1)) s t l := by
  have e1 : (bodyRun c i arg2 harg2 arg3 harg3 arg4 harg4 arg5 harg5 arg6 harg6 arg7 harg7 arg8 harg8 arg9 harg9 (harg2.unread x0) (harg3.unread x1) (harg4.unread x2) (harg5.unread x3) (harg6.unread x4)).1.2.1 = arg7.view.writes (Elt Ideal) arg7.view.junk (bodyRun.sl.H5_8 c i arg2 harg2 arg3 harg3 arg4 harg4 arg5 harg5 arg6 harg6 arg7 harg7 arg8 harg8 arg9 harg9 (harg2.unread x0) (harg3.unread x1) (harg4.unread x2) (harg5.unread x3) (harg6.unread x4)) := by
    unfold bodyRun; rfl
  have e2 : (bodyRun c i arg2 harg2 arg3 harg3 arg4 harg4 arg5 harg5 arg6 harg6 arg7 harg7 arg8 harg8 arg9 harg9 (harg2.unread x0) (harg3.unread x1) (harg4.unread x2) (harg5.unread x3) (harg6.unread x4)).1.2.2 = arg7.view.writes (Elt Ideal) arg7.view.junk (bodyRun.sl.H5_8_1 c i arg2 harg2 arg3 harg3 arg4 harg4 arg5 harg5 arg6 harg6 arg7 harg7 arg8 harg8 arg9 harg9 (harg2.unread x0) (harg3.unread x1) (harg4.unread x2) (harg5.unread x3) (harg6.unread x4)) := by
    unfold bodyRun; rfl
  unfold outZ
  split
  · rw [e1, View.read_writes_junk_eq_canon]
    exact outR c i arg2 harg2 arg3 harg3 arg4 harg4 arg5 harg5 arg6 harg6 arg7 harg7 arg8 harg8 arg9 harg9 x0 x1 x2 x3 x4 st hs hV s t l s.2
  · rw [e2, View.read_writes_junk_eq_canon]
    exact outB c i arg2 harg2 arg3 harg3 arg4 harg4 arg5 harg5 arg6 harg6 arg7 harg7 arg8 harg8 arg9 harg9 x0 x1 x2 x3 x4 st hs hx3 hx4 hV s t l s.2

end

variable (m : (ℓ : Loc nD τ sig) → Buf (Elt Ideal) ℓ) (c : Dev nD)

/-- The kernel's queries, keys and values. -/
abbrev Q : ℕ → ℕ → EReal := qA (m ((c : Thread nD τ).loc main_arg0))
abbrev K : ℕ → ℕ → EReal := kA (m ((c : Thread nD τ).loc main_arg1))
abbrev W : ℕ → ℕ → EReal := vA (m ((c : Thread nD τ).loc main_arg2))

theorem idx : ∀ t : Fin cfg0.N, win0_0.index t = ![(grid0.coords t 0).1, (grid0.coords t 1).1] ∧ win0_1.index t = ![0, (grid0.coords t 0).1]
    ∧ win0_2.index t = ![0, (grid0.coords t 0).1, 0] ∧ win0_3.index t = ![(grid0.coords t 0).1, 0, (grid0.coords t 1).1]
    ∧ win0_4.index t = ![0, 0] ∧ win0_5.index t = ![(grid0.coords t 1).1, (grid0.coords t 0).1] := by decide +kernel

theorem lt0 (t : Fin cfg0.N) : (grid0.coords t 0).1 < 4 := (grid0.coords t 0).2
theorem lt1 (t : Fin cfg0.N) : (grid0.coords t 1).1 < 8 := (grid0.coords t 1).2

theorem blk0 (t : Fin cfg0.N) (d : Fin 256) (q : Fin 2048) : iblk m c 0 t (ix2 d q) =
    m ((c : Thread nD τ).loc main_arg0) (ix2 ⟨256 * (grid0.coords t 0).1 + d.1, by have := lt0 t; omega⟩ ⟨2048 * (grid0.coords t 1).1 + q.1, by have := lt1 t; omega⟩) := by
  blk_ext [iblk, V, idx t]
theorem blk1 (t : Fin cfg0.N) (k : Fin 16384) (d : Fin 256) : iblk m c 1 t (ix2 k d) =
    m ((c : Thread nD τ).loc main_arg1) (ix2 k ⟨256 * (grid0.coords t 0).1 + d.1, by have := lt0 t; omega⟩) := by
  blk_ext [iblk, V, idx t]
theorem blk2 (t : Fin cfg0.N) (a : Fin 8) (r : Fin 160) (k : Fin 2048) : iblk m c 2 t (ix3 a r k) =
    m ((c : Thread nD τ).loc main_arg2) (ix3 a ⟨160 * (grid0.coords t 0).1 + r.1, by have := lt0 t; omega⟩ k) := by
  blk_ext [iblk, V, idx t]
theorem blk3 (t : Fin cfg0.N) (j) : ∃ j', iblk m c 3 t j = m ((c : Thread nD τ).loc main_arg3) j' := ⟨_, rfl⟩
theorem blk4 (t : Fin cfg0.N) (j) : ∃ j', iblk m c 4 t j = m ((c : Thread nD τ).loc main_arg4) j' := ⟨_, rfl⟩

theorem q_at (t : Fin cfg0.N) (d q : ℕ) (hd : d < 256) (hq : q < 2048) : qAt (iblk m c 0 t) d q = Q m c (256 * (grid0.coords t 0).1 + d) (2048 * (grid0.coords t 1).1 + q) := by
  have := lt0 t; have := lt1 t
  unfold qAt Q qA
  rw [dif_pos ⟨hd, hq⟩, dif_pos ⟨by omega, by omega⟩]
  exact blk0 m c t ⟨d, hd⟩ ⟨q, hq⟩
theorem k_at (t : Fin cfg0.N) (k d : ℕ) (hk : k < 16384) (hd : d < 256) : kAt (iblk m c 1 t) k d = K m c k (256 * (grid0.coords t 0).1 + d) := by
  have := lt0 t
  unfold kAt K kA
  rw [dif_pos ⟨hk, hd⟩, dif_pos ⟨hk, by omega⟩]
  exact blk1 m c t ⟨k, hk⟩ ⟨d, hd⟩
theorem v_at (t : Fin cfg0.N) (r k : ℕ) (hr : r < 160) (hk : k < 16384) : vAt (iblk m c 2 t) r k = W m c (160 * (grid0.coords t 0).1 + r) k := by
  have := lt0 t
  unfold vAt W vA
  rw [dif_pos ⟨hr, hk⟩, dif_pos ⟨by omega, hk⟩]
  exact blk2 m c t _ ⟨r, hr⟩ _

/-- What the claims about values suppose: real queries, keys and norms, a key norm not negative, ones in the 65th row of each slab. -/
structure Packed : Prop where
  q : ∀ j, ∃ r : ℝ, m ((c : Thread nD τ).loc main_arg0) j = (r : EReal)
  k : ∀ j, ∃ r : ℝ, m ((c : Thread nD τ).loc main_arg1) j = (r : EReal)
  one : ∀ (h : ℕ) (k : ℕ), h < 8 → k < 16384 → W m c (80 * h + 64) k = 1
  qn : ∀ j, ∃ r : ℝ, m ((c : Thread nD τ).loc main_arg3) j = (r : EReal)
  kn : ∀ j, ∃ r : ℝ, 0 ≤ r ∧ m ((c : Thread nD τ).loc main_arg4) j = (r : EReal)

variable {m c}

theorem block_eq (hp : Packed m c) (t : Fin cfg0.N) (y : S2048x128.Idx) :
    outBlock m c t y = attn (Q m c) (K m c) (W m c) (2048 * (grid0.coords t 1).1 + (y 0).1) (128 * (grid0.coords t 0).1 + (y 1).1) := by
  obtain ⟨r, l, rfl⟩ : ∃ (r : Fin 2048) (l : Fin 128), y = ix2 r l := ⟨y 0, y 1, by pointwise⟩
  have hj := lt0 t
  have hb := lt1 t
  obtain ⟨s, u, er⟩ : ∃ (s : Fin 8) (u : Fin 256), r = ⟨256 * s.1 + u.1, by omega⟩ := ⟨⟨r.1 / 256, by omega⟩, ⟨r.1 % 256, by omega⟩, Fin.ext (by simp only; omega)⟩
  subst er
  refine (out_eq c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole cc0_scratch0) (Memref.whole cc0_scratch1) (Memref.isWhole_whole cc0_scratch1) (iblk m c 0 t) (iblk m c 1 t) (iblk m c 2 t) (iblk m c 3 t) (iblk m c 4 t)
    (fun e s u k => score (Q m c) (K m c) (2 * (grid0.coords t 0).1 + e.1) (2048 * (grid0.coords t 1).1 + (256 * s.1 + u.1)) k) ?_ ?_ ?_ ?_ s u l).trans ?_
  · intro e s u k hk
    have he := e.2; have hs := s.2; have hu := u.2
    rw [← score_coe (qA_real hp.q) (kA_real hp.k)]
    refine Finset.sum_congr rfl fun d _ => ?_
    have hd := d.2
    rw [k_at m c t _ _ hk (by omega), q_at m c t _ _ (by omega) (by omega)]
    rw [show 256 * (grid0.coords t 0).1 + (128 * e.1 + d.1) = 128 * (2 * (grid0.coords t 0).1 + e.1) + d.1 by omega]
  · intro j; obtain ⟨j', hj'⟩ := blk3 m c t j; rw [hj']; exact hp.qn j'
  · intro j; obtain ⟨j', hj'⟩ := blk4 m c t j; rw [hj']; exact hp.kn j'
  · intro e k hk
    have he := e.2
    rw [v_at m c t _ _ (by omega) hk, ← hp.one (2 * (grid0.coords t 0).1 + e.1) k (by omega) hk]
    congr 1
    omega
  · have hs := s.2; have hu := u.2; have hl := l.2
    show attO _ _ _ s u l = attn _ _ _ (2048 * (grid0.coords t 1).1 + (256 * s.1 + u.1)) (128 * (grid0.coords t 0).1 + l.1)
    unfold attO att attn
    have h1 : (128 * (grid0.coords t 0).1 + l.1) / 64 = 2 * (grid0.coords t 0).1 + l.1 / 64 := by omega
    have h2 : (128 * (grid0.coords t 0).1 + l.1) % 64 = l.1 % 64 := by omega
    have h3 : 2048 * (grid0.coords t 1).1 + (256 * s.1 + u.1 + 1) = 2048 * (grid0.coords t 1).1 + (256 * s.1 + u.1) + 1 := by omega
    simp only [h1, h2, h3]
    refine Finset.sum_congr rfl fun k hk => ?_
    have hk' := Finset.mem_range.1 hk
    rw [v_at m c t _ _ (by omega) (by omega)]
    rw [show 160 * (grid0.coords t 0).1 + (80 * (l.1 / 64) + l.1 % 64) = 80 * (2 * (grid0.coords t 0).1 + l.1 / 64) + l.1 % 64 by omega]

/-- The attention at one place of the result. -/
def res (m : (ℓ : Loc nD τ sig) → Buf (Elt Ideal) ℓ) (c : Dev nD) (q : Fin 16384) (l : Fin 512) : EReal :=
  attn (Q m c) (K m c) (W m c) q.1 l.1

theorem block_res (hp : Packed m c) (t : Fin cfg0.N) (y : S2048x128.Idx) (q : Fin 16384) (l : Fin 512)
    (hq : q.1 = (grid0.coords t 1).1 * 2048 + (y 0).1) (hl : l.1 = (grid0.coords t 0).1 * 128 + (y 1).1) :
    (dats m 0 c).after 5 t y = res m c q l := by
  unfold res
  rw [hq, hl, Nat.mul_comm _ 2048, Nat.mul_comm _ 128]
  exact (congrFun (left_5 m c t) y).trans (block_eq hp t y)

theorem idx5 : ∀ t : Fin cfg0.N, win0_5.index t 0 = (grid0.coords t 1).1 ∧ win0_5.index t 1 = (grid0.coords t 0).1 := by decide +kernel

/-- The result array. -/
theorem final (hp : Packed m c) : (dats m 0 c).arrAt 5 cfg0.N = fun i : S16384x512.Idx => res m c (i 0) (i 1) := by
  refine (dats m 0 c).arrAt_eq_of_covers 5 _ (by decide +kernel) fun t hf y => ?_
  have hB := block_res (m := m) (c := c) hp t
  revert hB
  generalize (dats m 0 c).after 5 t = Z
  generalize res m c = G
  intro hB
  clear hp
  refine Eq.trans (eq_of_heq (cast_heq _ _)) ?_
  have e0 : ((((cfg0.win 5).blk t).view.emb y 0 : Fin 16384)).1 = win0_5.index t 0 * 2048 + (y 0).1 := by blk_simp
  have e1 : ((((cfg0.win 5).blk t).view.emb y 1 : Fin 512)).1 = win0_5.index t 1 * 128 + (y 1).1 := by blk_simp
  rw [(idx5 t).1] at e0
  rw [(idx5 t).2] at e1
  exact hB y _ _ e0 e1

end Cert.AttnKernel

end
-- ==== Proof.AttnPacked.lean ====
module

public import proofs.«01_k».proof.Defs
public import proofs.«01_k».proof.Proof.Gen.Pre_packed
public import proofs.«01_k».proof.Proof.AttnKernel
public import Idealize.ShloMosaic.Lib.ReduceAll
public import Idealize.ShloMosaic.Lib.Pointwise

@[expose] public section

set_option maxRecDepth 16384

/-! What the precondition of the attention says of its arguments, one entry at a time. -/

noncomputable section

namespace Cert.AttnPacked

open Cert.Pre_packed Cert.Pre_packed.Facts Idealize.ShloMosaic

set_option maxHeartbeats 4000000

instance : Subsingleton S_.Idx := ⟨fun a b => funext fun i => i.elim0⟩

theorem two {a b : IVec S_ 1} (h : andi a b = fun _ => 1#1) : (a = fun _ => 1#1) ∧ (b = fun _ => 1#1) := by
  constructor
  · funext i; exact (IntOp.andi_eq_one.1 (congrFun h i)).1
  · funext i; exact (IntOp.andi_eq_one.1 (congrFun h i)).2

/-- An entry whose absolute value is below +∞ is real. -/
theorem real_of_abs (x : EReal) (h : FloatOps.cmpf (F := Ideal) (φ := .f32) .olt (FloatOps.absf (F := Ideal) (φ := .f32) x) (Ideal.ofBits .f32 0x7F800000#32) = 1#1) : ∃ r : ℝ, x = (r : EReal) := by
  have ht : Ideal.ofBits .f32 0x7F800000#32 = ⊤ := by simp [Ideal.ofBits, Ideal.ieee]
  have h' : max x (-x) < (⊤ : EReal) := by
    rw [ht] at h
    have h1 : BitVec.ofBool (decide (max x (-x) < (⊤ : EReal))) = 1#1 := h
    by_contra hn
    rw [decide_eq_false hn] at h1
    exact absurd h1 (by decide)
  induction x with
  | bot => exact absurd h' (by simp)
  | top => exact absurd h' (by simp)
  | coe r => exact ⟨r, rfl⟩

theorem nonneg_of (x : EReal) (h : FloatOps.cmpf (F := Ideal) (φ := .f32) .oge x (Ideal.ofBits .f32 0x00000000#32) = 1#1) : 0 ≤ x := by
  rw [Ideal.ofBits_zero] at h
  have h1 : BitVec.ofBool (decide ((0 : EReal) ≤ x)) = 1#1 := h
  by_contra hn
  rw [decide_eq_false hn] at h1
  exact absurd h1 (by decide)

theorem one_of (x : EReal) (h : FloatOps.cmpf (F := Ideal) (φ := .f32) .oeq x (Ideal.ofBits .f32 0x3F800000#32) = 1#1) : x = 1 := by
  have ho : Ideal.ofBits .f32 0x3F800000#32 = 1 := by
    simp [Ideal.ofBits, Ideal.ieee]; rw [← EReal.coe_mul]; norm_num
  rw [ho] at h
  have h1 : BitVec.ofBool (decide (x = (1 : EReal))) = 1#1 := h
  by_contra hn
  rw [decide_eq_false hn] at h1
  exact absurd h1 (by decide)

theorem read (x0 : FVec Ideal S1024x16384 .bf16) (x1 : FVec Ideal S16384x1024 .bf16) (x2 : FVec Ideal S8x640x2048 .bf16) (x3 : FVec Ideal S4x8x16384 .f32) (x4 : FVec Ideal S8x128 .f32)
    (h : fn (F := Ideal) x0 x1 x2 x3 x4 = fun _ => 1#1) :
    (∀ j, ∃ r : ℝ, x0 j = (r : EReal)) ∧ (∀ j, ∃ r : ℝ, x1 j = (r : EReal)) ∧ (∀ (a h : Fin 8) (k : Fin 2048), x2 (ix3 a ⟨80 * h.1 + 64, by omega⟩ k) = 1)
      ∧ (∀ j, ∃ r : ℝ, x3 j = (r : EReal)) ∧ (∀ j, ∃ r : ℝ, 0 ≤ r ∧ x4 j = (r : EReal)) := by
  dsimp only [fn, fn_part1] at h
  obtain ⟨h, h6⟩ := two h
  obtain ⟨h, h30⟩ := two h
  obtain ⟨h, h26⟩ := two h
  obtain ⟨h, h21⟩ := two h
  obtain ⟨h11, h16⟩ := two h
  refine ⟨fun j => ?_, fun j => ?_, fun a b k => ?_, fun j => ?_, fun j => ?_⟩
  · exact real_of_abs _ (Host.reduce_andi_all _ _ _ _ _ (congrFun h11 (fun a => Fin.elim0 a)) j)
  · exact real_of_abs _ (Host.reduce_andi_all _ _ _ _ _ (congrFun h16 (fun a => Fin.elim0 a)) j)
  · have e := Host.reduce_andi_all _ _ _ _ _ (congrFun h6 (fun a => Fin.elim0 a)) (ix3 a b k)
    refine one_of _ (Eq.trans ?_ e)
    pointwise
    simp only [Nat.mul_comm 80]
  · exact real_of_abs _ (Host.reduce_andi_all _ _ _ _ _ (congrFun h21 (fun a => Fin.elim0 a)) j)
  · obtain ⟨r, hr⟩ := real_of_abs _ (Host.reduce_andi_all _ _ _ _ _ (congrFun h26 (fun a => Fin.elim0 a)) j)
    have h0 := nonneg_of _ (Host.reduce_andi_all _ _ _ _ _ (congrFun h30 (fun a => Fin.elim0 a)) j)
    rw [hr] at h0
    exact ⟨r, by exact_mod_cast h0, hr⟩

/-- The arguments of which the precondition holds. -/
theorem packed (m : (ℓ : Loc Cert.AttnIdeal.nD Cert.AttnIdeal.τ Cert.AttnIdeal.sig) → Buf (Elt Ideal) ℓ) (hm : Cert.Pre_AttnIdeal_packed m)
    (c : Dev Cert.AttnIdeal.nD) : Cert.AttnKernel.Packed m c := by
  obtain ⟨h0, h1, h2, h3, h4⟩ := read _ _ _ _ _ (hm c)
  refine ⟨h0, h1, fun h k hh hk => ?_, h3, h4⟩
  show Cert.AttnSpec.vA _ _ _ = 1
  unfold Cert.AttnSpec.vA
  rw [dif_pos ⟨by omega, hk⟩]
  exact h2 _ ⟨h, hh⟩ _

end Cert.AttnPacked

end
-- ==== Proof.AttnRefValue.lean ====
module

public import proofs.«01_k».proof.Proof.AttnSpec
public import proofs.«01_k».proof.Proof.AttnMath
public import proofs.«01_k».proof.Proof.Gen.AttnRefIdeal.Run
public import Idealize.ShloMosaic.Lib.Pointwise
public import Idealize.ShloMosaic.Lib.WordCmp
public import Idealize.ShloMosaic.PureOps.Ideal.Laws

@[expose] public section

set_option maxRecDepth 16384

/-! The reference's result is the attention of its arguments: the greatest logit of a row cancels from its weights, and a
    natural exponential of a score times log 2 is the power of two. -/

noncomputable section

namespace Cert.AttnRefValue

open Cert.AttnRefIdeal Cert.AttnRefIdeal.Gen Cert.AttnRefIdeal.Facts Cert.AttnRefIdeal.Value Idealize.ShloMosaic Idealize.ShloMosaic.TcCoe Idealize.SL.Sem Cert.AttnSpec Cert.AttnMath

set_option maxHeartbeats 4000000

/-- A sum over a row of which only the first entries are not zero. -/
theorem sum_mask {w : ℕ} (o : ℕ) (ho : o < w) (f : ℕ → EReal) : ∑ l : Fin w, (if l.1 ≤ o then f l.1 else 0) = ∑ k ∈ Finset.range (o + 1), f k := by
  rw [Fin.sum_univ_eq_sum_range (fun k : ℕ => if k ≤ o then f k else 0) w, ← Finset.sum_subset (s₁ := Finset.range (o + 1))]
  · exact Finset.sum_congr rfl fun k hk => if_pos (by have := Finset.mem_range.mp hk; omega)
  · intro k hk; have := Finset.mem_range.mp hk; exact Finset.mem_range.mpr (by omega)
  · intro k _ hk; exact if_neg fun h => hk (Finset.mem_range.mpr (by omega))

/-- A masked softmax of natural logits, weighing values: the powers of two of the scores. -/
theorem soften {w : ℕ} (st : ℕ → ℝ) (V : ℕ → EReal) (o : ℕ) (ho : o < w) (x : Fin w → EReal)
    (hx : ∀ l, x l = if l.1 ≤ o then ((st l.1 * Real.log 2 : ℝ) : EReal) else ⊥) (m : ℝ) :
    ∑ k : Fin w, V k.1 * Ideal.div (Ideal.exp (x k - (m : EReal))) (∑ k : Fin w, Ideal.exp (x k - (m : EReal)))
      = ∑ k ∈ Finset.range (o + 1), V k * ((Real.rpow 2 (st k) / ∑ k ∈ Finset.range (o + 1), Real.rpow 2 (st k) : ℝ) : EReal) := by
  have hW : 0 < ∑ k ∈ Finset.range (o + 1), Real.rpow 2 (st k) :=
    Finset.sum_pos (fun k _ => Real.rpow_pos_of_pos (by norm_num) _) ⟨0, Finset.mem_range.mpr (Nat.succ_pos o)⟩
  have hz : 0 < Real.exp (-m) := Real.exp_pos _
  have h1 : ∀ l : Fin w, Ideal.exp (x l - (m : EReal)) = if l.1 ≤ o then ((Real.rpow 2 (st l.1) * Real.exp (-m) : ℝ) : EReal) else 0 := by
    intro l
    rw [hx l]
    by_cases h : l.1 ≤ o
    · rw [if_pos h, if_pos h, ← EReal.coe_sub, Ideal.exp_coe]
      congr 1
      show Real.exp (st l.1 * Real.log 2 - m) = (2:ℝ) ^ (st l.1) * Real.exp (-m)
      rw [Real.rpow_def_of_pos (by norm_num), ← Real.exp_add, sub_eq_add_neg, mul_comm]
    · rw [if_neg h, if_neg h, EReal.bot_sub, Ideal.exp_bot]
  have h2 : ∑ k : Fin w, Ideal.exp (x k - (m : EReal)) = (((∑ k ∈ Finset.range (o + 1), Real.rpow 2 (st k)) * Real.exp (-m) : ℝ) : EReal) := by
    rw [Finset.sum_congr rfl fun k _ => h1 k, sum_mask o ho (fun k => ((Real.rpow 2 (st k) * Real.exp (-m) : ℝ) : EReal)), Finset.sum_mul, coe_sum']
  rw [h2, ← sum_mask o ho (fun k => V k * ((Real.rpow 2 (st k) / ∑ k ∈ Finset.range (o + 1), Real.rpow 2 (st k) : ℝ) : EReal))]
  refine Finset.sum_congr rfl fun k _ => ?_
  rw [Ideal.div_coe (mul_pos hW hz).ne', h1 k]
  by_cases h : k.1 ≤ o
  · rw [if_pos h, if_pos h, ← EReal.coe_mul]
    congr 2
    field_simp
  · rw [if_neg h, if_neg h, zero_mul, mul_zero]

/-- The masked logits. -/
def logit (x0 : FVec Ideal S1024x16384 .bf16) (x1 : FVec Ideal S16384x1024 .bf16) : FVec Ideal S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (mulf (Host.dotGeneral dot_S8x128x16384_S16384x8x128_S8x16384x16384_1_2_2_0_0_1 none (shapeCast _ (extf .f32 x0 bitsLt_bf16_f32) shapeCasts_S1024x16384_S8x128x16384) (shapeCast _ (extf .f32 x1 bitsLt_bf16_f32) shapeCasts_S16384x1024_S16384x8x128)) (broadcastInDim S8x16384x16384 ![] bcast_S_S8x16384x16384 (id (Host.log (constant S_ .f32 0x40000000#32)))))
    (broadcastInDim S8x16384x16384 ![] bcast_S_S8x16384x16384 (id (constant S_ .f32 0xFF800000#32)))

/-- Each row's greatest logit. -/
def peak (L : FVec Ideal S8x16384x16384 .f32) : FVec Ideal S8x16384 .f32 :=
  maximumf (broadcastInDim S8x16384 ![] bcast_S_S8x16384 (constant S_ .f32 0xFF800000#32)) (Host.reduce FloatOps.maximumf L (constant S_ .f32 0xFF800000#32) reducesTo_S8x16384x16384_S8x16384_d2 h_S_)

/-- The exponentials, against a row's greatest logit. -/
def expo (L : FVec Ideal S8x16384x16384 .f32) (M : FVec Ideal S8x16384 .f32) : FVec Ideal S8x16384x16384 .f32 :=
  Host.exp (subf L (broadcastInDim S8x16384x16384 ![0, 1, 2] bcast_S8x16384x1_S8x16384x16384_0_1_2 (broadcastInDim S8x16384x1 ![0, 1] bcast_S8x16384_S8x16384x1_0_1 M)))

/-- The weights. -/
def weight (E : FVec Ideal S8x16384x16384 .f32) : FVec Ideal S8x16384x16384 .f32 :=
  Host.divf E (broadcastInDim S8x16384x16384 ![0, 1, 2] bcast_S8x16384x1_S8x16384x16384_0_1_2 (broadcastInDim S8x16384x1 ![0, 1] bcast_S8x16384_S8x16384x1_0_1 (Host.reduceAdd E (constant S_ .f32 0x00000000#32) reducesTo_S8x16384x16384_S8x16384_d2 h_S_)))

/-- The values, weighed. -/
def weighed (x2 : FVec Ideal S8x640x2048 .bf16) (P : FVec Ideal S8x16384x16384 .f32) : FVec Ideal S16384x512 .bf16 :=
  truncf .bf16 (shapeCast _ (transpose S16384x8x64 [2, 0, 1] (Host.dotGeneral dot_S16384x8x64_S8x16384x16384_S8x64x16384_0_2_2_1_1_0 none (extractStridedSlice S16384x8x64 ![0, 0, 0] (shapeCast _ (transpose S8x2048x8x80 [0, 3, 1, 2] (shapeCast _ (extf .f32 x2 bitsLt_bf16_f32) shapeCasts_S8x640x2048_S8x8x80x2048) transposes_S8x8x80x2048_S8x2048x8x80_0_3_1_2) shapeCasts_S8x2048x8x80_S16384x8x80) slices_S16384x8x80_S16384x8x64_0_0_0) P) transposes_S8x64x16384_S16384x8x64_2_0_1) shapeCasts_S16384x8x64_S16384x512) bitsLt_bf16_f32

theorem bottom : Ideal.ofBits .f32 0xFF800000#32 = ⊥ := by simp [Ideal.ofBits, Ideal.ieee]

theorem two : Ideal.ofBits .f32 0x40000000#32 = ((2 : ℝ) : EReal) := by
  simp [Ideal.ofBits, Ideal.ieee]; rw [← EReal.coe_mul]; norm_num

theorem logTwo : Ideal.log (Ideal.ofBits .f32 0x40000000#32) = ((Real.log 2 : ℝ) : EReal) := by
  rw [two, Ideal.log_coe, if_neg (by norm_num)]

section
variable (x0 : FVec Ideal S1024x16384 .bf16) (x1 : FVec Ideal S16384x1024 .bf16)
  (h0 : ∀ j, ∃ r : ℝ, x0 j = (r : EReal)) (h1 : ∀ j, ∃ r : ℝ, x1 j = (r : EReal))
include h0 h1

theorem logit_at (h : Fin 8) (q k : Fin 16384) :
    logit x0 x1 (ix3 h q k) = if k.1 ≤ q.1 then ((score (qA x0) (kA x1) h.1 q.1 k.1 * Real.log 2 : ℝ) : EReal) else ⊥ := by
  have e : logit x0 x1 (ix3 h q k) = Scalar.select (IntOp.cmpi .sle (BitVec.ofNat 32 k.1) (BitVec.ofNat 32 q.1))
      ((∑ x : Fin 128, x0 (ix2 ⟨h.1 * 128 + x.1, by omega⟩ q) * x1 (ix2 k ⟨h.1 * 128 + x.1, by omega⟩)) *
        Ideal.log (Ideal.ofBits .f32 0x40000000#32)) (Ideal.ofBits .f32 0xFF800000#32) := by
    unfold logit
    pointwise
    rfl
  have s : ∑ x : Fin 128, x0 (ix2 ⟨h.1 * 128 + x.1, by omega⟩ q) * x1 (ix2 k ⟨h.1 * 128 + x.1, by omega⟩)
      = ((score (qA x0) (kA x1) h.1 q.1 k.1 : ℝ) : EReal) := by
    rw [← score_coe (qA_real h0) (kA_real h1)]
    refine Finset.sum_congr rfl fun x _ => ?_
    unfold qA kA
    rw [dif_pos ⟨k.2, by omega⟩, dif_pos ⟨by omega, q.2⟩, mul_comm]
    simp only [Nat.mul_comm 128]
  rw [e, s, logTwo, bottom, ← EReal.coe_mul, WordCmp.cmpi_sle_ofNat (by omega) (by omega)]
  by_cases hk : k.1 ≤ q.1
  · rw [if_pos hk, decide_eq_true hk]; rfl
  · rw [if_neg hk, decide_eq_false hk]; rfl

end

/-- A greatest value over real and bottom entries of which one is real. -/
theorem max_real {s t u : Shape} {axes : List (Fin s.rank)} (x : s.Idx → EReal) (init : u.Idx → EReal) (h : s.ReducesTo axes t) (hu : 0 < u.numel)
    (j : t.Idx) (hb : init (Shape.Idx.first hu) = ⊥) (hx : ∀ i, x i = ⊥ ∨ ∃ r : ℝ, x i = (r : EReal)) (i : s.Idx) (hi : h.drop i = j)
    (hk : ∃ r : ℝ, x i = (r : EReal)) : ∃ r : ℝ, Host.reduce (FloatOps.maximumf (F := Ideal) (φ := .f32)) x init h hu j = (r : EReal) := by
  have e : Host.reduce (FloatOps.maximumf (F := Ideal) (φ := .f32)) x init h hu j = (Finset.univ.filter fun i => h.drop i = j).sup x := by
    refine (Host.reduce_eq_fold _ _ _ _ _ _).trans ?_
    rw [hb]
    rfl
  rw [e]
  have hm : i ∈ Finset.univ.filter fun i => h.drop i = j := Finset.mem_filter.2 ⟨Finset.mem_univ _, hi⟩
  obtain ⟨i', _, hi'⟩ := Finset.exists_mem_eq_sup _ ⟨_, hm⟩ x
  have hle := Finset.le_sup (f := x) hm
  rw [hi'] at hle ⊢
  rcases hx i' with hb' | hr
  · obtain ⟨r, hr⟩ := hk
    rw [hr, hb'] at hle
    exact absurd (le_bot_iff.mp hle) (EReal.coe_ne_bot _)
  · exact hr

theorem drop_at (h : Fin 8) (q k : Fin 16384) : Shape.ReducesTo.drop reducesTo_S8x16384x16384_S8x16384_d2 (ix3 h q k) = ix2 h q := by
  funext b
  refine Fin.ext ?_
  match b with
  | ⟨0, hb⟩ => exact Shape.ReducesTo.drop_apply_val_of_eq reducesTo_S8x16384x16384_S8x16384_d2 (ix3 h q k) ⟨0, by decide⟩ 0
  | ⟨1, hb⟩ => exact Shape.ReducesTo.drop_apply_val_of_eq reducesTo_S8x16384x16384_S8x16384_d2 (ix3 h q k) ⟨1, by decide⟩ 1

theorem peak_max (L : FVec Ideal S8x16384x16384 .f32) (Z : FVec Ideal S8x16384 .f32) (h : Fin 8) (q : Fin 16384) :
    maximumf (broadcastInDim S8x16384 ![] bcast_S_S8x16384 (constant S_ .f32 0xFF800000#32)) Z (ix2 h q) = max (Ideal.ofBits .f32 0xFF800000#32) (Z (ix2 h q)) := by
  pointwise

theorem first_bottom : constant (F := Ideal) S_ .f32 0xFF800000#32 (Shape.Idx.first h_S_) = (⊥ : EReal) := bottom

theorem reduce_real (L : FVec Ideal S8x16384x16384 .f32) (hL : ∀ i, L i = ⊥ ∨ ∃ r : ℝ, L i = (r : EReal)) (h : Fin 8) (q k : Fin 16384)
    (hk : ∃ r : ℝ, L (ix3 h q k) = (r : EReal)) : ∃ r : ℝ, Host.reduce (FloatOps.maximumf (F := Ideal) (φ := .f32)) L (constant (F := Ideal) S_ .f32 0xFF800000#32) reducesTo_S8x16384x16384_S8x16384_d2 h_S_ (ix2 h q) = (r : EReal) :=
  max_real L _ reducesTo_S8x16384x16384_S8x16384_d2 h_S_ (ix2 h q) first_bottom hL (ix3 h q k) (drop_at h q k) hk

/-- A row's greatest logit is real. -/
theorem peak_real (L : FVec Ideal S8x16384x16384 .f32) (hL : ∀ i, L i = ⊥ ∨ ∃ r : ℝ, L i = (r : EReal)) (h : Fin 8) (q k : Fin 16384)
    (hk : ∃ r : ℝ, L (ix3 h q k) = (r : EReal)) : ∃ r : ℝ, peak L (ix2 h q) = (r : EReal) := by
  obtain ⟨r, hr⟩ := reduce_real L hL h q k hk
  refine ⟨r, ?_⟩
  unfold peak
  rw [peak_max L, hr, bottom, max_eq_right bot_le]

theorem expo_at (L : FVec Ideal S8x16384x16384 .f32) (M : FVec Ideal S8x16384 .f32) (h : Fin 8) (q k : Fin 16384) :
    expo L M (ix3 h q k) = Ideal.exp (L (ix3 h q k) - M (ix2 h q)) := by
  unfold expo
  pointwise

theorem weight_at (E : FVec Ideal S8x16384x16384 .f32) (h : Fin 8) (q k : Fin 16384) :
    weight E (ix3 h q k) = Ideal.div (E (ix3 h q k)) (∑ x : Fin 16384, E (ix3 h q x)) := by
  unfold weight
  pointwise

theorem weighed_at (x2 : FVec Ideal S8x640x2048 .bf16) (P : FVec Ideal S8x16384x16384 .f32) (q : Fin 16384) (l : Fin 512) :
    weighed x2 P (ix2 q l) = ∑ x : Fin 16384, vA x2 (80 * (l.1 / 64) + l.1 % 64) x.1 * P (ix3 ⟨l.1 / 64, by omega⟩ q x) := by
  have e : weighed x2 P (ix2 q l) = ∑ x : Fin 16384, x2 (ix3 ⟨x.1 / 2048, by omega⟩ ⟨l.1 / 64 * 80 + l.1 % 64, by omega⟩ ⟨x.1 % 2048, by omega⟩) * P (ix3 ⟨l.1 / 64, by omega⟩ q x) := by
    unfold weighed
    pointwise
  rw [e]
  refine Finset.sum_congr rfl fun x _ => ?_
  unfold vA
  rw [dif_pos ⟨by omega, x.2⟩]
  simp only [Nat.mul_comm 80]

/-- The reference's operations, named. -/
theorem stages (m : (ℓ : Loc nD τ sig) → Buf (Elt Ideal) ℓ) (c : Dev nD) : res_out0 m c =
    weighed (m ((c.tc : Thread nD τ).loc main_arg2)) (weight (expo (logit (m ((c.tc : Thread nD τ).loc main_arg0)) (m ((c.tc : Thread nD τ).loc main_arg1))) (peak (logit (m ((c.tc : Thread nD τ).loc main_arg0)) (m ((c.tc : Thread nD τ).loc main_arg1)))))) := by
  unfold res_out0 res_main_v35 weighed weight expo peak logit
  rfl

/-- The stages at one place of the result. -/
theorem value (x0 : FVec Ideal S1024x16384 .bf16) (x1 : FVec Ideal S16384x1024 .bf16) (x2 : FVec Ideal S8x640x2048 .bf16)
    (h0 : ∀ j, ∃ r : ℝ, x0 j = (r : EReal)) (h1 : ∀ j, ∃ r : ℝ, x1 j = (r : EReal)) (q : Fin 16384) (l : Fin 512) :
    weighed x2 (weight (expo (logit x0 x1) (peak (logit x0 x1)))) (ix2 q l) = attn (qA x0) (kA x1) (vA x2) q.1 l.1 := by
  have hl : l.1 / 64 < 8 := by omega
  obtain ⟨μ, hμ⟩ := peak_real (logit x0 x1) (fun i => by
      obtain ⟨a, b, d, rfl⟩ : ∃ (a : Fin 8) (b d : Fin 16384), i = ix3 a b d := ⟨i 0, i 1, i 2, by pointwise⟩
      rw [logit_at x0 x1 h0 h1]
      split
      · exact Or.inr ⟨_, rfl⟩
      · exact Or.inl rfl) ⟨l.1 / 64, hl⟩ q ⟨0, by omega⟩ (by
      rw [logit_at x0 x1 h0 h1, if_pos (Nat.zero_le _)]
      exact ⟨_, rfl⟩)
  rw [weighed_at]
  simp only [weight_at, expo_at, hμ]
  unfold attn
  exact soften (score (qA x0) (kA x1) (l.1 / 64) q.1) (vA x2 (80 * (l.1 / 64) + l.1 % 64)) q.1 q.2 (fun k => logit x0 x1 (ix3 ⟨l.1 / 64, hl⟩ q k))
    (fun k => logit_at x0 x1 h0 h1 _ _ _) μ

/-- The reference's result. -/
theorem result_eq (m : (ℓ : Loc nD τ sig) → Buf (Elt Ideal) ℓ) (c : Dev nD)
    (h0 : ∀ j, ∃ r : ℝ, m ((c.tc : Thread nD τ).loc main_arg0) j = (r : EReal)) (h1 : ∀ j, ∃ r : ℝ, m ((c.tc : Thread nD τ).loc main_arg1) j = (r : EReal))
    (i : S16384x512.Idx) : res_out0 m c i = attn (qA (m ((c.tc : Thread nD τ).loc main_arg0))) (kA (m ((c.tc : Thread nD τ).loc main_arg1))) (vA (m ((c.tc : Thread nD τ).loc main_arg2))) (i 0).1 (i 1).1 := by
  obtain ⟨q, l, rfl⟩ : ∃ (q : Fin 16384) (l : Fin 512), i = ix2 q l := ⟨i 0, i 1, by pointwise⟩
  rw [stages]
  exact value _ _ _ h0 h1 q l

end Cert.AttnRefValue

end
-- ==== Proof.AttnClaims.lean ====
module

public import proofs.«01_k».proof.Defs
public import proofs.«01_k».proof.Proof.AttnPacked
public import proofs.«01_k».proof.Proof.AttnFrame
public import proofs.«01_k».proof.Proof.AttnRefValue
public import Idealize.ShloMosaic.Lib.Quiescent

@[expose] public section

/-! The claims about the attention call and its reference. -/

noncomputable section

namespace Cert.AttnClaims

open Idealize.ShloMosaic Idealize.ShloMosaic.TcCoe Idealize.SL.Sem

/-- The reference runs, keeps its arguments, and leaves every counter at zero. -/
theorem frame_ref : Cert.quiescent_AttnRefIdeal := fun m ρ _ =>
  (θ_run _ _ _).mono (fun r h => ⟨fun c => (h c).2, Idealize.ShloMosaic.sem_eq_zero_of_no_sems (by decide) r.2⟩)
    (Cert.AttnRefIdeal.Value.run (F := Ideal) m ρ)

theorem frame_ref_packed : Cert.quiescent_AttnRefIdeal_pre_packed := fun m ρ _ => frame_ref m ρ trivial

/-- The kernel runs, keeps its arguments, and leaves every counter at zero. -/
theorem frame : Cert.quiescent_Attn := fun m ρ _ => Cert.AttnFrame.frame m ρ

theorem frame_ideal : Cert.quiescent_AttnIdeal := fun m ρ _ => Cert.AttnIdealFrame.frame m ρ

theorem frame_ideal_packed : Cert.quiescent_AttnIdeal_pre_packed := fun m ρ _ => Cert.AttnIdealFrame.frame m ρ

/-- The mask value is read as the bottom. -/
theorem preserves : Cert.preserves_Attn_AttnIdeal :=
  IdealRules.named_const.statement Cert.AttnIdeal.κ "mask" .f32 0xF149F2CA#32 ⊥ rfl

section
open Cert.AttnIdeal Cert.AttnIdeal.Gen Cert.AttnIdealFrame
variable (m : (ℓ : Loc nD τ sig) → Buf (Elt Ideal) ℓ) (ρ : Dev nD → PrngReg)

/-- Every execution of the kernel ends with the attention in its result, and the arguments as they were. -/
theorem run_value (hm : Cert.Pre_AttnIdeal_packed m) :
    θ_run defs (onTc (τ := τ) (main (F := Ideal))) ⟨m, fun _ => 0, ρ⟩ (fun r => ∀ c : Dev nD,
      r.2.mem ((c.tc : Thread nD τ).loc main_v0) = (fun i : S16384x512.Idx => Cert.AttnKernel.res m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (Cert.AttnKernel.final (Cert.AttnPacked.packed m hm c)), h.2 c⟩)
    (θ_run_and (run_arrays m ρ) (frame_of m ρ (dats m) (arr_eq m) (run_arrays m ρ)))

end

/-- The kernel's result and the reference's are the same attention. -/
theorem algebraic : Cert.algebraic_AttnIdeal_AttnRefIdeal_pre_packed := by
  intro m ρ m' ρ' hm hagree
  refine ⟨fun c => fun i : Cert.AttnIdeal.S16384x512.Idx => Cert.AttnKernel.res m c (i 0) (i 1), ?_, ?_⟩
  · exact run_value m ρ hm
  · refine (θ_run Cert.AttnRefIdeal.defs _ _).mono (fun _ h c => ⟨(h c).1.trans ?_, (h c).2⟩)
      (Cert.AttnRefIdeal.Value.run (F := Ideal) m' ρ')
    obtain ⟨h0, h1, h2, h3, h4⟩ := hagree c
    have hp := Cert.AttnPacked.packed m hm c
    refine funext fun i => (Cert.AttnRefValue.result_eq m' c ?_ ?_ i).trans ?_
    · rw [h0]; exact hp.q
    · rw [h1]; exact hp.k
    · rw [h0, h1, h2]; rfl

end Cert.AttnClaims

end
-- ==== Proof.FfnRow.lean ====
module

public import Idealize.ShloMosaic.PureOps.Ideal
public import Idealize.ShloMosaic.Lib.Pointwise

@[expose] public section

/-! The merge and feed-forward part of the layer, for ONE token: every value the layer computes there is a function
    of the token's own row, so the kernel's blocks of rows and the reference's whole arrays are both compared with
    the functions of a row below. -/

noncomputable section

namespace Cert.FfnRow

open Idealize.ShloMosaic

/-- A row scaled by the reciprocal root of its mean square (plus the small constant), times a weight row. -/
def nrm (x w : Fin 1024 → EReal) (k : Fin 1024) : EReal :=
  x k * Ideal.rsqrt (Ideal.div (∑ i, x i * x i) (Ideal.ofBits FTy.f32 1149239296#32) +
    Ideal.ofBits FTy.f32 897988541#32) * w k

/-- The logistic function. -/
def sig (y : EReal) : EReal := Ideal.div 1 (1 + Ideal.exp (-y))

/-- A gate: the logistic function of a projection of the normalised row. -/
def gate (x w : Fin 1024 → EReal) (wg : Fin 1024 → Fin 2048 → EReal) (bg : Fin 2048 → EReal) (j : Fin 2048) : EReal :=
  sig (∑ k, nrm x w k * wg k j + bg j)

/-- The first half of the gates, which weigh the pooling branch. -/
def lo (j : Fin 1024) : Fin 2048 := ⟨j.1, by omega⟩

/-- The second half of the gates, which weigh the attention branch. -/
def hi (j : Fin 1024) : Fin 2048 := ⟨1024 + j.1, by omega⟩

/-- The row after the gated merge of the two branches. -/
def mid (x : Fin 1024 → EReal) (op oa : Fin 512 → EReal) (w : Fin 1024 → EReal) (wg : Fin 1024 → Fin 2048 → EReal)
    (bg : Fin 2048 → EReal) (wp wa : Fin 512 → Fin 1024 → EReal) (wo : Fin 1024 → Fin 1024 → EReal) (l : Fin 1024) :
    EReal :=
  x l + ∑ j, (gate x w wg bg (lo j) * (∑ k, op k * wp k j) + gate x w wg bg (hi j) * (∑ k, oa k * wa k j)) * wo j l

/-- One hidden unit of the feed-forward: gated by its own sigmoid. -/
def hid (h a b : Fin 1024 → EReal) : EReal :=
  (∑ k, h k * a k) * sig (∑ k, h k * a k) * (∑ k, h k * b k)

/-- The contribution of `n` hidden units. -/
def swi {n : ℕ} (h : Fin 1024 → EReal) (A B : Fin 1024 → Fin n → EReal) (D : Fin n → Fin 1024 → EReal) (l : Fin 1024) :
    EReal :=
  ∑ i, hid h (fun k => A k i) (fun k => B k i) * D i l

/-- The whole row: the merge, the feed-forward on the normalised row, the final norm. -/
def out (m w2 : Fin 1024 → EReal) (A B : Fin 1024 → Fin 2816 → EReal) (D : Fin 2816 → Fin 1024 → EReal)
    (wf : Fin 1024 → EReal) : Fin 1024 → EReal :=
  nrm (fun l => m l + swi (nrm m w2) A B D l) wf

/-- The first half of the hidden units. -/
def fst (j : Fin 1408) : Fin 2816 := ⟨j.1, by omega⟩

/-- The second half of the hidden units. -/
def snd (j : Fin 1408) : Fin 2816 := ⟨1408 + j.1, by omega⟩

/-- The feed-forward done in two halves of the hidden units. -/
theorem swi_halves (h : Fin 1024 → EReal) (A B : Fin 1024 → Fin 2816 → EReal) (D : Fin 2816 → Fin 1024 → EReal)
    (l : Fin 1024) :
    swi h (fun k j => A k (fst j)) (fun k j => B k (fst j)) (fun j => D (fst j)) l +
      swi h (fun k j => A k (snd j)) (fun k j => B k (snd j)) (fun j => D (snd j)) l = swi h A B D l := by
  unfold swi
  exact (Fin.sum_univ_add (a := 1408) (b := 1408)
    (fun i : Fin 2816 => hid h (fun k => A k i) (fun k => B k i) * D i l)).symm

theorem sig_zero_sub (y : EReal) : Ideal.div 1 (1 + Ideal.exp (0 - y)) = sig y := by
  rw [zero_sub]; rfl

/-- The array of the given sizes. -/
abbrev Arr (n : ℕ) (size : Fin n → ℕ) : Type := (⟨n, size⟩ : Shape).Idx → EReal

/-- Token `i`'s row of the layer's result, of the arrays. -/
def token (x : Arr 3 ![1, 16384, 1024]) (P A : Arr 2 ![16384, 512]) (w3 : Arr 2 ![1, 1024])
    (w4 : Arr 3 ![1, 1024, 4104]) (w5 w6 : Arr 3 ![1, 512, 1024]) (w7 : Arr 2 ![1, 2048]) (w8 : Arr 3 ![1, 1024, 1024])
    (w9 : Arr 2 ![1, 1024]) (w10 w11 : Arr 3 ![1, 1024, 2816]) (w12 : Arr 3 ![1, 2816, 1024]) (w13 : Arr 1 ![1024])
    (i : Fin 16384) : Fin 1024 → EReal :=
  out (mid (fun k => x (ix3 0 i k)) (fun k => P (ix2 i k)) (fun k => A (ix2 i k)) (fun k => w3 (ix2 0 k))
      (fun k j => w4 (ix3 0 k ⟨2056 + j.1, by omega⟩)) (fun j => w7 (ix2 0 j)) (fun k j => w5 (ix3 0 k j))
      (fun k j => w6 (ix3 0 k j)) (fun k j => w8 (ix3 0 k j)))
    (fun k => w9 (ix2 0 k)) (fun k j => w10 (ix3 0 k j)) (fun k j => w11 (ix3 0 k j)) (fun j k => w12 (ix3 0 j k))
    (fun k => w13 (ix1 k))

end Cert.FfnRow

end
-- ==== Proof.FfnHalf.lean ====
module

public import proofs.«01_k».proof.Proof.FfnRow
public import proofs.«01_k».proof.Proof.Gen.FfnIdeal.Skeleton
public import Idealize.ShloMosaic.Lib.Pointwise

@[expose] public section

set_option maxRecDepth 16384

/-! The kernel's body works on its 512 rows in two halves of 256. What each half computes, row by row. -/

noncomputable section

namespace Cert.FfnHalf

open Cert.FfnIdeal Cert.FfnIdeal.Gen Idealize.ShloMosaic Cert.FfnRow

variable (X : Vec Ideal S256x1024 .f32) (P A : Vec Ideal S256x512 .bf16) (w3 : Vec Ideal S1x1024 .f32)
  (w4 : Vec Ideal S1024x2048 .bf16) (w5 : Vec Ideal S1x2048 .f32) (w6 w7 : Vec Ideal S512x1024 .bf16)
  (w8 : Vec Ideal S1024x1024 .bf16) (w9 : Vec Ideal S1x1024 .f32) (a b a' b' : Vec Ideal S1024x1408 .bf16)
  (d d' : Vec Ideal S1408x1024 .bf16) (w13 : Vec Ideal S1x1024 .f32)

/-- The row after the merge, of the block's arrays. -/
def midAt (r : Fin 256) : Fin 1024 → EReal :=
  mid (fun k => X (ix2 r k)) (fun k => P (ix2 r k)) (fun k => A (ix2 r k)) (fun k => w3 (ix2 0 k))
    (fun k j => w4 (ix2 k j)) (fun j => w5 (ix2 0 j)) (fun k j => w6 (ix2 k j)) (fun k j => w7 (ix2 k j))
    (fun k j => w8 (ix2 k j))

theorem gates0 (r : Fin 256) (j : Fin 2048) :
    k0_pay3 X w3 w4 w5 (ix2 r j) = gate (fun k => X (ix2 r k)) (fun k => w3 (ix2 0 k)) (fun k j => w4 (ix2 k j))
      (fun j => w5 (ix2 0 j)) j := by
  pointwise [k0_pay3, k0_pay2]
  exact sig_zero_sub _

theorem gates1 (r : Fin 256) (j : Fin 2048) :
    k0_pay8 (k0_pay4 X) (k0_pay5 w3) (k0_pay6 X) (Scalar.ofBits .f32 0x44800000#32) w4 w5 (ix2 r j) =
      gate (fun k => X (ix2 r k)) (fun k => w3 (ix2 0 k)) (fun k j => w4 (ix2 k j)) (fun j => w5 (ix2 0 j)) j := by
  pointwise [k0_pay8, k0_pay4, k0_pay5, k0_pay6]
  exact sig_zero_sub _

theorem mid0 (r : Fin 256) (l : Fin 1024) :
    k0_pay9 (k0_pay2 X) (k0_pay7 (k0_pay3 X w3 w4 w5) P w6 A w7) w8 (ix2 r l) =
      midAt X P A w3 w4 w5 w6 w7 w8 r l := by
  pointwise [k0_pay9, k0_pay2, k0_pay7]
  exact congrArg₂ (· + ·) rfl (Finset.sum_congr rfl fun x _ => congrArg₂ (· * ·)
    (congrArg₂ (· + ·) (congrArg₂ (· * ·) (gates0 X w3 w4 w5 r (lo x)) rfl)
      (congrArg₂ (· * ·) (gates0 X w3 w4 w5 r (hi x)) rfl)) rfl)

theorem mid1 (r : Fin 256) (l : Fin 1024) :
    k0_pay15 (k0_pay4 X) (k0_pay11 (k0_pay8 (k0_pay4 X) (k0_pay5 w3) (k0_pay6 X) (Scalar.ofBits .f32 0x44800000#32) w4 w5) P w6 A w7) w8 (ix2 r l) =
      midAt X P A w3 w4 w5 w6 w7 w8 r l := by
  pointwise [k0_pay15, k0_pay11]
  exact congrArg₂ (· + ·) (by pointwise [k0_pay4]) (Finset.sum_congr rfl fun x _ => congrArg₂ (· * ·)
    (congrArg₂ (· + ·) (congrArg₂ (· * ·) (gates1 X w3 w4 w5 r (lo x)) rfl)
      (congrArg₂ (· * ·) (gates1 X w3 w4 w5 r (hi x)) rfl)) rfl)

/-- The normalised row the feed-forward reads, first half. -/
theorem norm0 (V : FVec Ideal S256x1024 .f32) (Y : FVec Ideal S256x1024 .bf16) (r : Fin 256) (l : Fin 1024) :
    k0_pay10 V Y w8 w9 (ix2 r l) = nrm (fun k => k0_pay9 V Y w8 (ix2 r k)) (fun k => w9 (ix2 0 k)) l := by
  pointwise [k0_pay10]
  rfl

theorem norm1 (V : FVec Ideal S256x1024 .f32) (Y : FVec Ideal S256x1024 .bf16) (r : Fin 256) (l : Fin 1024) :
    k0_pay16 V Y w8 w9 (ix2 r l) = nrm (fun k => k0_pay15 V Y w8 (ix2 r k)) (fun k => w9 (ix2 0 k)) l := by
  pointwise [k0_pay16]
  rfl

theorem hid_zero_sub (u v : EReal) : u * Ideal.div 1 (1 + Ideal.exp (0 - u)) * v = u * sig u * v := by
  rw [sig_zero_sub]

/-- The final norm of a half: the residual row, then the two halves of the hidden units. -/
def outAt (m : Fin 256 → Fin 1024 → EReal) (r : Fin 256) : Fin 1024 → EReal :=
  nrm (fun l => m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l)) (fun k => w13 (ix2 0 k))

/-- The first half's row before the final norm. -/
theorem sum0 (V : FVec Ideal S256x1024 .f32) (Y : FVec Ideal S256x1024 .bf16) (m : Fin 256 → Fin 1024 → EReal)
    (hm : ∀ r l, k0_pay9 V Y w8 (ix2 r l) = m r l) (r : Fin 256) (l : Fin 1024) :
    k0_pay21 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d' (ix2 r l) =
      m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l) := by
  have e : (fun k => k0_pay9 V Y w8 (ix2 r k)) = m r := funext (hm r)
  have hn : ∀ k, k0_pay10 V Y w8 w9 (ix2 r k) = nrm (m r) (fun k => w9 (ix2 0 k)) k := fun k => by
    rw [norm0, e]
  pointwise [k0_pay21, k0_pay14, k0_pay12, k0_pay13, k0_pay17, k0_pay18, k0_pay19]
  simp only [hn, hm, hid_zero_sub]
  rfl

theorem sum1 (V : FVec Ideal S256x1024 .f32) (Y : FVec Ideal S256x1024 .bf16) (m : Fin 256 → Fin 1024 → EReal)
    (hm : ∀ r l, k0_pay15 V Y w8 (ix2 r l) = m r l) (r : Fin 256) (l : Fin 1024) :
    k0_pay26 (k0_pay15 V Y w8) (k0_pay16 V Y w8 w9) (k0_pay20 (k0_pay16 V Y w8 w9) a b d) a' b' d' (ix2 r l) =
      m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l) := by
  have e : (fun k => k0_pay15 V Y w8 (ix2 r k)) = m r := funext (hm r)
  have hn : ∀ k, k0_pay16 V Y w8 w9 (ix2 r k) = nrm (m r) (fun k => w9 (ix2 0 k)) k := fun k => by
    rw [norm1, e]
  pointwise [k0_pay26, k0_pay20]
  simp only [hn, hm, hid_zero_sub]
  rfl

theorem out0 (V : FVec Ideal S256x1024 .f32) (Y : FVec Ideal S256x1024 .bf16) (m : Fin 256 → Fin 1024 → EReal)
    (hm : ∀ r l, k0_pay9 V Y w8 (ix2 r l) = m r l) (r : Fin 256) (l : Fin 1024) :
    k0_pay25 (k0_pay21 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d')
      (k0_pay22 w13) (k0_pay23 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d')
      (k0_pay24 (F := Ideal)) (ix2 r l) = outAt w9 a b a' b' d d' w13 m r l := by
  have hs := sum0 w8 w9 a b a' b' d d' V Y m hm r
  pointwise [k0_pay25, k0_pay22, k0_pay23, k0_pay24]
  simp only [hs]
  rfl

theorem out1 (V : FVec Ideal S256x1024 .f32) (Y : FVec Ideal S256x1024 .bf16) (m : Fin 256 → Fin 1024 → EReal)
    (hm : ∀ r l, k0_pay15 V Y w8 (ix2 r l) = m r l) (r : Fin 256) (l : Fin 1024) :
    k0_pay1 (k0_pay26 (k0_pay15 V Y w8) (k0_pay16 V Y w8 w9) (k0_pay20 (k0_pay16 V Y w8 w9) a b d) a' b' d')
      (k0_pay27 w13) (k0_pay28 (k0_pay15 V Y w8) (k0_pay16 V Y w8 w9) (k0_pay20 (k0_pay16 V Y w8 w9) a b d) a' b' d')
      (ix2 r l) = outAt w9 a b a' b' d d' w13 m r l := by
  have hs := sum1 w8 w9 a b a' b' d d' V Y m hm r
  pointwise [k0_pay1, k0_pay27, k0_pay28]
  simp only [hs]
  rfl

end Cert.FfnHalf

end
-- ==== Proof.FfnBlocks.lean ====
module

public import proofs.«01_k».proof.Proof.FfnHalf
public import proofs.«01_k».proof.Proof.Gen.FfnIdeal.Value
public import Idealize.ShloMosaic.Lib.Pipeline.ValueKit
public import Idealize.ShloMosaic.Lib.Claim
public import Idealize.ShloMosaic.Lib.StableHlo.ReadAt

@[expose] public section

set_option maxRecDepth 16384

/-! What each window of the kernel holds at a grid point, element by element, of the arguments. -/

noncomputable section

namespace Cert.FfnBlocks

open Cert.FfnIdeal Cert.FfnIdeal.Gen Idealize.ShloMosaic Idealize.ShloMosaic.TcCoe Idealize.SL.Sem Cert.FfnRow

variable (m : (ℓ : Loc nD τ sig) → Buf (Elt Ideal) ℓ)

theorem idx : ∀ t : Fin grid0.N, win0_0.index t = ![t.1, 0] ∧ win0_1.index t = ![t.1, 0] ∧ win0_2.index t = ![t.1, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![t.1, 0] := by
  decide +kernel

/-- The array row that row `r` of point `t`'s blocks is. -/
def row (t : Fin cfg0.N) (r : Fin 512) : Fin 16384 := ⟨t.1 * 512 + r.1, by
  have h : t.1 < 32 := t.isLt
  omega⟩

variable (c : Dev nD) (t : Fin cfg0.N)

theorem b0 (r : Fin 512) (k : Fin 1024) :
    iblk m c 0 t (ix2 r k) = m ((c : Thread nD τ).loc main_arg0) (ix3 0 (row t r) k) := by
  have e : V m c main_v22 (ix2 (row t r) k) = m ((c : Thread nD τ).loc main_arg0) (ix3 0 (row t r) k) := by
    unfold V
    after_reads_at
  refine Eq.trans ?_ e
  blk_ext [iblk, idx t, row]

theorem b1 (r : Fin 512) (k : Fin 512) :
    iblk m c 1 t (ix2 r k) = m ((c : Thread nD τ).loc main_arg1) (ix2 (row t r) k) := by
  blk_ext [iblk, V, idx t, row]

theorem b2 (r : Fin 512) (k : Fin 512) :
    iblk m c 2 t (ix2 r k) = m ((c : Thread nD τ).loc main_arg2) (ix2 (row t r) k) := by
  blk_ext [iblk, V, idx t, row]

theorem b3 (k : Fin 1024) :
    iblk m c 3 t (ix2 0 k) = m ((c : Thread nD τ).loc main_arg3) (ix2 0 k) := by
  have e : V m c main_v4 (ix2 0 k) = m ((c : Thread nD τ).loc main_arg3) (ix2 0 k) := by
    unfold V
    after_reads_at
  refine Eq.trans ?_ e
  blk_ext [iblk, idx t, row]

theorem b4 (k : Fin 1024) (j : Fin 2048) :
    iblk m c 4 t (ix2 k j) = m ((c : Thread nD τ).loc main_arg4) (ix3 0 k ⟨2056 + j.1, by omega⟩) := by
  have e : V m c main_v2 (ix2 k j) = m ((c : Thread nD τ).loc main_arg4) (ix3 0 k ⟨2056 + j.1, by omega⟩) := by
    unfold V
    after_reads_at
  refine Eq.trans ?_ e
  blk_ext [iblk, idx t, row]

theorem b5 (k : Fin 2048) :
    iblk m c 5 t (ix2 0 k) = m ((c : Thread nD τ).loc main_arg7) (ix2 0 k) := by
  have e : V m c main_v9 (ix2 0 k) = m ((c : Thread nD τ).loc main_arg7) (ix2 0 k) := by
    unfold V
    after_reads_at
  refine Eq.trans ?_ e
  blk_ext [iblk, idx t, row]

theorem b6 (k : Fin 512) (j : Fin 1024) :
    iblk m c 6 t (ix2 k j) = m ((c : Thread nD τ).loc main_arg5) (ix3 0 k j) := by
  have e : V m c main_v11 (ix2 k j) = m ((c : Thread nD τ).loc main_arg5) (ix3 0 k j) := by
    unfold V
    after_reads_at
  refine Eq.trans ?_ e
  blk_ext [iblk, idx t, row]

theorem b7 (k : Fin 512) (j : Fin 1024) :
    iblk m c 7 t (ix2 k j) = m ((c : Thread nD τ).loc main_arg6) (ix3 0 k j) := by
  have e : V m c main_v13 (ix2 k j) = m ((c : Thread nD τ).loc main_arg6) (ix3 0 k j) := by
    unfold V
    after_reads_at
  refine Eq.trans ?_ e
  blk_ext [iblk, idx t, row]

theorem b8 (k : Fin 1024) (j : Fin 1024) :
    iblk m c 8 t (ix2 k j) = m ((c : Thread nD τ).loc main_arg8) (ix3 0 k j) := by
  have e : V m c main_v15 (ix2 k j) = m ((c : Thread nD τ).loc main_arg8) (ix3 0 k j) := by
    unfold V
    after_reads_at
  refine Eq.trans ?_ e
  blk_ext [iblk, idx t, row]

theorem b9 (k : Fin 1024) :
    iblk m c 9 t (ix2 0 k) = m ((c : Thread nD τ).loc main_arg9) (ix2 0 k) := by
  have e : V m c main_v6 (ix2 0 k) = m ((c : Thread nD τ).loc main_arg9) (ix2 0 k) := by
    unfold V
    after_reads_at
  refine Eq.trans ?_ e
  blk_ext [iblk, idx t, row]

theorem b10 (k : Fin 1024) (j : Fin 2816) :
    iblk m c 10 t (ix2 k j) = m ((c : Thread nD τ).loc main_arg10) (ix3 0 k j) := by
  have e : V m c main_v17 (ix2 k j) = m ((c : Thread nD τ).loc main_arg10) (ix3 0 k j) := by
    unfold V
    after_reads_at
  refine Eq.trans ?_ e
  blk_ext [iblk, idx t, row]

theorem b11 (k : Fin 1024) (j : Fin 2816) :
    iblk m c 11 t (ix2 k j) = m ((c : Thread nD τ).loc main_arg11) (ix3 0 k j) := by
  have e : V m c main_v19 (ix2 k j) = m ((c : Thread nD τ).loc main_arg11) (ix3 0 k j) := by
    unfold V
    after_reads_at
  refine Eq.trans ?_ e
  blk_ext [iblk, idx t, row]

theorem b12 (k : Fin 2816) (j : Fin 1024) :
    iblk m c 12 t (ix2 k j) = m ((c : Thread nD τ).loc main_arg12) (ix3 0 k j) := by
  have e : V m c main_v21 (ix2 k j) = m ((c : Thread nD τ).loc main_arg12) (ix3 0 k j) := by
    unfold V
    after_reads_at
  refine Eq.trans ?_ e
  blk_ext [iblk, idx t, row]

theorem b13 (k : Fin 1024) :
    iblk m c 13 t (ix2 0 k) = m ((c : Thread nD τ).loc main_arg13) (ix1 k) := by
  have e : V m c main_v7 (ix2 0 k) = m ((c : Thread nD τ).loc main_arg13) (ix1 k) := by
    unfold V
    after_reads_at
  refine Eq.trans ?_ e
  blk_ext [iblk, idx t, row]

end Cert.FfnBlocks

end
-- ==== Proof.FfnKernel.lean ====
module

public import proofs.«01_k».proof.Proof.FfnBlocks

@[expose] public section

set_option maxRecDepth 16384

/-! The kernel's result array: every row is the layer's function of that token's row. -/

noncomputable section

namespace Cert.FfnKernel

open Cert.FfnIdeal Cert.FfnIdeal.Gen Idealize.ShloMosaic Idealize.ShloMosaic.TcCoe Idealize.SL.Sem Cert.FfnRow
open Cert.FfnHalf Cert.FfnBlocks
open Idealize.ShloMosaic.Pipeline (Dat)

variable (m : (ℓ : Loc nD τ sig) → Buf (Elt Ideal) ℓ) (ρ : Dev nD → PrngReg) (c : Dev nD)

/-- The layer's rows, of the kernel's arguments. -/
def tok : Fin 16384 → Fin 1024 → EReal :=
  token (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- What a half computes when its loads are the token's row and the layer's weights. -/
theorem outAt_eq (t : Fin cfg0.N) (o : Fin 256 → Fin 512) (X : Vec Ideal S256x1024 .f32) (P A : Vec Ideal S256x512 .bf16)
    (w3 : Vec Ideal S1x1024 .f32)
    (w4 : Vec Ideal S1024x2048 .bf16) (w5 : Vec Ideal S1x2048 .f32) (w6 w7 : Vec Ideal S512x1024 .bf16)
    (w8 : Vec Ideal S1024x1024 .bf16) (w9 : Vec Ideal S1x1024 .f32) (a b a' b' : Vec Ideal S1024x1408 .bf16)
    (d d' : Vec Ideal S1408x1024 .bf16) (w13 : Vec Ideal S1x1024 .f32)
    (hX : ∀ r k, X (ix2 r k) = iblk m c 0 t (ix2 (o r) k)) (hP : ∀ r k, P (ix2 r k) = iblk m c 1 t (ix2 (o r) k))
    (hA : ∀ r k, A (ix2 r k) = iblk m c 2 t (ix2 (o r) k)) (h3 : w3 = iblk m c 3 t) (h4 : w4 = iblk m c 4 t)
    (h5 : w5 = iblk m c 5 t) (h6 : w6 = iblk m c 6 t) (h7 : w7 = iblk m c 7 t) (h8 : w8 = iblk m c 8 t)
    (h9 : w9 = iblk m c 9 t) (ha : ∀ k j, a (ix2 k j) = iblk m c 10 t (ix2 k (fst j)))
    (hb : ∀ k j, b (ix2 k j) = iblk m c 11 t (ix2 k (fst j))) (ha' : ∀ k j, a' (ix2 k j) = iblk m c 10 t (ix2 k (snd j)))
    (hb' : ∀ k j, b' (ix2 k j) = iblk m c 11 t (ix2 k (snd j))) (hd : ∀ j k, d (ix2 j k) = iblk m c 12 t (ix2 (fst j) k))
    (hd' : ∀ j k, d' (ix2 j k) = iblk m c 12 t (ix2 (snd j) k)) (h13 : w13 = iblk m c 13 t) (r : Fin 256) (l : Fin 1024) :
    outAt w9 a b a' b' d d' w13 (midAt X P A w3 w4 w5 w6 w7 w8) r l = tok m c (row t (o r)) l := by
  subst h3 h4 h5 h6 h7 h8 h9 h13
  unfold outAt midAt tok token out
  simp only [hX, hP, hA, ha, hb, ha', hb', hd, hd', b0, b1, b2, b3, b4, b5, b6, b7, b8, b9, b10, b11, b12, b13]
  refine congrArg (fun f => nrm f _ l) (funext fun l => congrArg _ ?_)
  exact swi_halves _ (fun k j => m ((c : Thread nD τ).loc main_arg10) (ix3 0 k j))
    (fun k j => m ((c : Thread nD τ).loc main_arg11) (ix3 0 k j)) (fun j k => m ((c : Thread nD τ).loc main_arg12) (ix3 0 j k)) l

/-- The first 256 rows of a block. -/
def up (r : Fin 256) : Fin 512 := ⟨r.1, by omega⟩

/-- The other 256. -/
def down (r : Fin 256) : Fin 512 := ⟨256 + r.1, by omega⟩

theorem hz2 : (![0, 0] : Fin 2 → Nat) = fun _ => 0 := funext fun a => by fin_cases a <;> rfl

theorem block_eq (t : Fin cfg0.N) (y : S512x1024.Idx) :
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y =
      tok m c (row t (y 0)) (y 1) := by
  unfold_out out0_14
  refine View.canon_apply_of_pieces (Val := Elt Ideal) (fun y : S512x1024.Idx => tok m c (row t (y 0)) (y 1)) _ ?_ y (cover0_14 _ _ y)
  intro p hp x
  rcases List.mem_cons.mp hp with rfl | hp
  · obtain ⟨r, l, rfl⟩ : ∃ (r : Fin 256) (l : Fin 1024), x = ix2 r l := ⟨x 0, x 1, by pointwise⟩
    have e0 : (r0_4.emb (ix2 r l)) 0 = down r := Fin.ext (by show 256 + 1 * r.1 = 256 + r.1; omega)
    have e1 : (r0_4.emb (ix2 r l)) 1 = l := Fin.ext (by show 0 + 1 * l.1 = l.1; omega)
    refine ((out1 _ _ _ _ _ _ _ _ _ _ _ _ (mid1 _ _ _ _ _ _ _ _ _) r l).trans
      (outAt_eq m c t down _ _ _ _ _ _ _ _ _ _ _ _ _ _ _ _ _ ?_ ?_ ?_ ?_ ?_ ?_ ?_ ?_ ?_ ?_ ?_ ?_ ?_ ?_ ?_ ?_ ?_ r l)).trans
      (congrArg₂ (fun a b => tok m c (row t a) b) e0.symm e1.symm)
    all_goals first
      | exact View.ld_unit_zero hz2 _ _
      | (intro r k; pointwise; done)
      | (intro r k; pointwise; rfl)
  rcases List.mem_cons.mp hp with rfl | hp
  · obtain ⟨r, l, rfl⟩ : ∃ (r : Fin 256) (l : Fin 1024), x = ix2 r l := ⟨x 0, x 1, by pointwise⟩
    have e0 : (r0_0.emb (ix2 r l)) 0 = up r := Fin.ext (by show 0 + 1 * r.1 = r.1; omega)
    have e1 : (r0_0.emb (ix2 r l)) 1 = l := Fin.ext (by show 0 + 1 * l.1 = l.1; omega)
    refine ((out0 _ _ _ _ _ _ _ _ _ _ _ _ (mid0 _ _ _ _ _ _ _ _ _) r l).trans
      (outAt_eq m c t up _ _ _ _ _ _ _ _ _ _ _ _ _ _ _ _ _ ?_ ?_ ?_ ?_ ?_ ?_ ?_ ?_ ?_ ?_ ?_ ?_ ?_ ?_ ?_ ?_ ?_ r l)).trans
      (congrArg₂ (fun a b => tok m c (row t a) b) e0.symm e1.symm)
    all_goals first
      | exact View.ld_unit_zero hz2 _ _
      | (intro r k; pointwise; done)
      | (intro r k; pointwise; rfl)
  · exact absurd hp List.not_mem_nil

/-- The result array: every row the layer's. -/
theorem final : (dats m 0 c).arrAt 14 cfg0.N = fun i : S16384x1024.Idx => tok m c (i 0) (i 1) := by
  refine (dats m 0 c).arrAt_eq_of_covers 14 _ (by decide +kernel) fun t hf y => ?_
  blk_simp
  rw [after0_14, block_eq]
  have e0 : ((((cfg0.win 14).blk t).view.emb y) 0 : Fin 16384) = row t (y 0) := Fin.ext (by
    blk_simp [idx t, row])
  have e1 : ((((cfg0.win 14).blk t).view.emb y) 1 : Fin 1024) = y 1 := Fin.ext (by
    blk_simp [idx t])
  exact (congrArg₂ (tok m c) e0 e1).symm

end Cert.FfnKernel

end
-- ==== Proof.FfnRefValue.lean ====
module

public import proofs.«01_k».proof.Proof.FfnRow
public import proofs.«01_k».proof.Proof.Gen.FfnRefIdeal.Run

@[expose] public section

set_option maxRecDepth 16384

/-! The reference's result: every row is the layer's function of that token's row. -/

noncomputable section

namespace Cert.FfnRefValue

open Cert.FfnRefIdeal Cert.FfnRefIdeal.Gen Cert.FfnRefIdeal.Facts Cert.FfnRefIdeal.Value Idealize.ShloMosaic Idealize.ShloMosaic.TcCoe Idealize.SL.Sem Cert.FfnRow
open Idealize.ShloMosaic.StableHlo

variable (V0 : Valuation τ sig (Elt Ideal))

theorem gates_eq (i : Fin 16384) (j : Fin 2048) :
    res_main_v30 V0 (ix3 0 i j) = gate (fun k => V0 (Proc.devRef .tc main_arg0) (ix3 0 i k))
      (fun k => V0 (Proc.devRef .tc main_arg3) (ix2 0 k))
      (fun k j => V0 (Proc.devRef .tc main_arg4) (ix3 0 k ⟨2056 + j.1, by omega⟩))
      (fun j => V0 (Proc.devRef .tc main_arg7) (ix2 0 j)) j := by
  unfold res_main_v30
  pointwise
  rfl

/-- The row after the merge. -/
def midR (i : Fin 16384) : Fin 1024 → EReal :=
  mid (fun k => V0 (Proc.devRef .tc main_arg0) (ix3 0 i k)) (fun k => V0 (Proc.devRef .tc main_arg1) (ix2 i k))
    (fun k => V0 (Proc.devRef .tc main_arg2) (ix2 i k)) (fun k => V0 (Proc.devRef .tc main_arg3) (ix2 0 k))
    (fun k j => V0 (Proc.devRef .tc main_arg4) (ix3 0 k ⟨2056 + j.1, by omega⟩))
    (fun j => V0 (Proc.devRef .tc main_arg7) (ix2 0 j)) (fun k j => V0 (Proc.devRef .tc main_arg5) (ix3 0 k j))
    (fun k j => V0 (Proc.devRef .tc main_arg6) (ix3 0 k j)) (fun k j => V0 (Proc.devRef .tc main_arg8) (ix3 0 k j))

theorem mid_eq (i : Fin 16384) (l : Fin 1024) : res_main_v42 V0 (ix3 0 i l) = midR V0 i l := by
  unfold res_main_v42
  pointwise
  exact congrArg₂ (· + ·) rfl (Finset.sum_congr rfl fun x _ => congrArg₂ (· * ·)
    (congrArg₂ (· + ·) (congrArg₂ (· * ·) (gates_eq V0 i (lo x)) rfl)
      (congrArg₂ (· * ·) (gates_eq V0 i (hi x)) rfl)) rfl)

theorem norm_eq (i : Fin 16384) (l : Fin 1024) :
    res_main_v56 V0 (ix3 0 i l) = nrm (midR V0 i) (fun k => V0 (Proc.devRef .tc main_arg9) (ix2 0 k)) l := by
  unfold res_main_v56
  pointwise
  simp only [mid_eq]
  rfl

theorem ffn_eq (i : Fin 16384) (l : Fin 1024) :
    res_main_v65 V0 (ix3 0 i l) = midR V0 i l +
      swi (nrm (midR V0 i) (fun k => V0 (Proc.devRef .tc main_arg9) (ix2 0 k)))
        (fun k j => V0 (Proc.devRef .tc main_arg10) (ix3 0 k j)) (fun k j => V0 (Proc.devRef .tc main_arg11) (ix3 0 k j))
        (fun j k => V0 (Proc.devRef .tc main_arg12) (ix3 0 j k)) l := by
  unfold res_main_v65 res_main_v60
  pointwise
  simp only [mid_eq, norm_eq]
  rfl

/-- The reference's result array, as its run names it. -/
theorem result_eq (i : S16384x1024.Idx) :
    shapeCast S16384x1024 (mulf (mulf (res_main_v65 V0) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (res_main_v65 V0) (res_main_v65 V0)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (V0 (Proc.devRef .tc main_arg13))))) shapeCasts_S1x16384x1024_S16384x1024 i =
      token (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11))
        (V0 (Proc.devRef .tc main_arg12)) (V0 (Proc.devRef .tc main_arg13)) (i 0) (i 1) := by
  obtain ⟨r, l, rfl⟩ : ∃ (r : Fin 16384) (l : Fin 1024), i = ix2 r l := ⟨i 0, i 1, by pointwise⟩
  pointwise
  simp only [ffn_eq]
  rfl

end Cert.FfnRefValue

end
-- ==== Proof.FfnClaims.lean ====
module

public import proofs.«01_k».proof.Defs
public import proofs.«01_k».proof.Proof.FfnKernel
public import proofs.«01_k».proof.Proof.FfnRefValue
public import Idealize.ShloMosaic.Lib.Quiescent

@[expose] public section

/-! The claims about the merge and feed-forward call and its reference. -/

noncomputable section

namespace Cert.FfnClaims

open Idealize.ShloMosaic Idealize.ShloMosaic.TcCoe Idealize.SL.Sem

/-- The reference runs, keeps its arguments, and leaves every counter at zero. -/
theorem frame_ref : Cert.quiescent_FfnRefIdeal := fun m ρ _ =>
  (θ_run _ _ _).mono (fun r h => ⟨fun c => (h c).2, Idealize.ShloMosaic.sem_eq_zero_of_no_sems (by decide) r.2⟩)
    (Cert.FfnRefIdeal.Value.run (F := Ideal) m ρ)

/-- The kernel's result and the reference's are the same rows. -/
theorem algebraic : Cert.algebraic_FfnIdeal_FfnRefIdeal := by
  intro m ρ m' ρ' _ hagree
  refine ⟨fun c => fun i : Cert.FfnIdeal.S16384x1024.Idx => Cert.FfnKernel.tok m c (i 0) (i 1), ?_, ?_⟩
  · exact (θ_run Cert.FfnIdeal.defs _ _).mono (fun _ h c => ⟨(h c).1.trans (Cert.FfnKernel.final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4, h5, h6, h7, h8, h9, h10, h11, h12, h13⟩ := hagree c
    have key : ∀ (i : Fin 16384) (l : Fin 1024), Cert.FfnRow.token
          (m' ((c.tc : Thread Cert.FfnRefIdeal.nD Cert.FfnRefIdeal.τ).loc Cert.FfnRefIdeal.main_arg0))
          (m' ((c.tc : Thread Cert.FfnRefIdeal.nD Cert.FfnRefIdeal.τ).loc Cert.FfnRefIdeal.main_arg1))
          (m' ((c.tc : Thread Cert.FfnRefIdeal.nD Cert.FfnRefIdeal.τ).loc Cert.FfnRefIdeal.main_arg2))
          (m' ((c.tc : Thread Cert.FfnRefIdeal.nD Cert.FfnRefIdeal.τ).loc Cert.FfnRefIdeal.main_arg3))
          (m' ((c.tc : Thread Cert.FfnRefIdeal.nD Cert.FfnRefIdeal.τ).loc Cert.FfnRefIdeal.main_arg4))
          (m' ((c.tc : Thread Cert.FfnRefIdeal.nD Cert.FfnRefIdeal.τ).loc Cert.FfnRefIdeal.main_arg5))
          (m' ((c.tc : Thread Cert.FfnRefIdeal.nD Cert.FfnRefIdeal.τ).loc Cert.FfnRefIdeal.main_arg6))
          (m' ((c.tc : Thread Cert.FfnRefIdeal.nD Cert.FfnRefIdeal.τ).loc Cert.FfnRefIdeal.main_arg7))
          (m' ((c.tc : Thread Cert.FfnRefIdeal.nD Cert.FfnRefIdeal.τ).loc Cert.FfnRefIdeal.main_arg8))
          (m' ((c.tc : Thread Cert.FfnRefIdeal.nD Cert.FfnRefIdeal.τ).loc Cert.FfnRefIdeal.main_arg9))
          (m' ((c.tc : Thread Cert.FfnRefIdeal.nD Cert.FfnRefIdeal.τ).loc Cert.FfnRefIdeal.main_arg10))
          (m' ((c.tc : Thread Cert.FfnRefIdeal.nD Cert.FfnRefIdeal.τ).loc Cert.FfnRefIdeal.main_arg11))
          (m' ((c.tc : Thread Cert.FfnRefIdeal.nD Cert.FfnRefIdeal.τ).loc Cert.FfnRefIdeal.main_arg12))
          (m' ((c.tc : Thread Cert.FfnRefIdeal.nD Cert.FfnRefIdeal.τ).loc Cert.FfnRefIdeal.main_arg13)) i l = Cert.FfnKernel.tok m c i l := fun i l => by
      unfold Cert.FfnKernel.tok
      rw [h0, h1, h2, h3, h4, h5, h6, h7, h8, h9, h10, h11, h12, h13]
    exact funext fun i => (Cert.FfnRefValue.result_eq (StableHlo.launchContents m' c) i).trans (key _ _)

end Cert.FfnClaims

end
-- ==== Proof.InprojSRow.lean ====
module

public import proofs.«01_k».proof.Proof.FfnRow

@[expose] public section

/-! The input projections of the sampling call, for ONE token: the normalised row through the weight, and the
    logarithm of the forget gate. -/

noncomputable section

namespace Cert.InprojSRow

open Idealize.ShloMosaic Cert.FfnRow

/-- Column `j` of a projection of the normalised row. -/
def proj {n : ℕ} (x w : Fin 1024 → EReal) (W : Fin 1024 → Fin n → EReal) (j : Fin n) : EReal :=
  ∑ k, nrm x w k * W k j

/-- The logarithm of the logistic function. -/
def lsig (y : EReal) : EReal := min y 0 - Ideal.log1p (Ideal.exp (0 - max y (-y)))

/-- A non-negative exponential's logarithm of one more is not the bottom. -/
theorem log1p_exp_ne_bot (x : EReal) : Ideal.log1p (Ideal.exp x) ≠ ⊥ := by
  induction x using EReal.rec with
  | bot =>
    show Ideal.log (1 + ((0 : ℝ) : EReal)) ≠ ⊥
    have e : (1 + ((0 : ℝ) : EReal)) = ((1 + 0 : ℝ) : EReal) := by push_cast; rfl
    rw [e]
    show (if (1 + 0 : ℝ) ≤ 0 then (⊥ : EReal) else ((Real.log (1 + 0) : ℝ) : EReal)) ≠ ⊥
    rw [if_neg (by norm_num)]
    exact EReal.coe_ne_bot _
  | top =>
    show Ideal.log (1 + ⊤) ≠ ⊥
    have e : (1 + ⊤ : EReal) = ⊤ := EReal.add_top_of_ne_bot (by decide)
    rw [e]
    exact top_ne_bot
  | coe r =>
    show Ideal.log (1 + ((Real.exp r : ℝ) : EReal)) ≠ ⊥
    have e : (1 + ((Real.exp r : ℝ) : EReal)) = ((1 + Real.exp r : ℝ) : EReal) := by push_cast; rfl
    rw [e]
    show (if (1 + Real.exp r : ℝ) ≤ 0 then (⊥ : EReal) else ((Real.log (1 + Real.exp r) : ℝ) : EReal)) ≠ ⊥
    rw [if_neg (by have := Real.exp_pos r; linarith)]
    exact EReal.coe_ne_bot _

/-- The other way to write it: the negated softplus of the negation. -/
theorem lsig_softplus (y : EReal) :
    -(max (-y) 0 + Ideal.log1p (Ideal.exp (-max (-y) (- -y)))) = lsig y := by
  unfold lsig
  have h : max (-y) 0 ≠ ⊥ := fun h => by
    have := (max_eq_bot.mp h).2
    exact absurd this (by decide)
  rw [EReal.neg_add (.inl h) (.inr (log1p_exp_ne_bot _)), neg_neg, max_comm (-y) y, zero_sub]
  congr 1
  rcases le_total y 0 with hy | hy
  · rw [min_eq_left hy, max_eq_left (by simpa using EReal.neg_le_neg_iff.mpr hy), neg_neg]
  · rw [min_eq_right hy, max_eq_right (by simpa using EReal.neg_le_neg_iff.mpr hy), neg_zero]

end Cert.InprojSRow

end
-- ==== Proof.InprojSPay.lean ====
module

public import proofs.«01_k».proof.Proof.InprojSRow
public import proofs.«01_k».proof.Proof.Gen.InprojSIdeal.Skeleton
public import Idealize.ShloMosaic.Lib.Pointwise

@[expose] public section

set_option maxRecDepth 16384

/-! What the body computes of its blocks, element by element. -/

noncomputable section

namespace Cert.InprojSPay

open Cert.InprojSIdeal Cert.InprojSIdeal.Gen Idealize.ShloMosaic Cert.FfnRow Cert.InprojSRow

variable (X : Vec Ideal S512x1024 .f32) (w : Vec Ideal S1x1024 .f32) (W : Vec Ideal S1024x2048 .bf16)
  (Wf : Vec Ideal S1024x128 .bf16) (Wt : Vec Ideal S16x1024 .bf16) (b : Vec Ideal S1x8 .f32) (bt : Vec Ideal S8x1 .f32)

theorem pay5 (r j : Fin 512) : k0_pay5 X w W (ix2 r j) =
    proj (fun k => X (ix2 r k)) (fun k => w (ix2 0 k)) (fun k j => W (ix2 k ⟨j.1, by omega⟩)) j := by
  pointwise [k0_pay5, k0_pay4, k0_pay3]
  rfl

theorem pay6 (r j : Fin 512) : k0_pay6 X w W (ix2 r j) =
    proj (fun k => X (ix2 r k)) (fun k => w (ix2 0 k)) (fun k (j : Fin 512) => W (ix2 k ⟨512 + j.1, by omega⟩)) j *
      Ideal.ofBits FTy.f32 0x3E38AA3B#32 := by
  pointwise [k0_pay6, k0_pay4, k0_pay3]
  rfl

theorem pay7 (r j : Fin 512) : k0_pay7 X w W (ix2 r j) =
    proj (fun k => X (ix2 r k)) (fun k => w (ix2 0 k)) (fun k (j : Fin 512) => W (ix2 k ⟨1024 + j.1, by omega⟩)) j := by
  pointwise [k0_pay7, k0_pay4, k0_pay3]
  rfl

theorem pay8 (r j : Fin 512) : k0_pay8 X w W (ix2 r j) =
    proj (fun k => X (ix2 r k)) (fun k => w (ix2 0 k)) (fun k (j : Fin 512) => W (ix2 k ⟨1536 + j.1, by omega⟩)) j := by
  pointwise [k0_pay8, k0_pay4, k0_pay3]
  rfl

theorem pay1 (r : Fin 512) (j : Fin 8) : k0_pay1 (k0_pay9 X w Wf) b (ix2 r j) =
    lsig (proj (fun k => X (ix2 r k)) (fun k => w (ix2 0 k)) (fun k (j : Fin 8) => Wf (ix2 k ⟨j.1, by omega⟩)) j +
      b (ix2 0 j)) := by
  pointwise [k0_pay1, k0_pay9, k0_pay3]
  rfl

theorem pay2 (j : Fin 8) (r : Fin 512) : k0_pay2 (k0_pay3 X w) Wt bt (ix2 j r) =
    lsig (proj (fun k => X (ix2 r k)) (fun k => w (ix2 0 k)) (fun k (j : Fin 8) => Wt (ix2 ⟨j.1, by omega⟩ k)) j +
      bt (ix2 j 0)) := by
  have e : ∀ (f g : Fin 1024 → EReal), ∑ k, f k * g k = ∑ k, g k * f k := fun f g =>
    Finset.sum_congr rfl fun k _ => mul_comm _ _
  unfold proj
  rw [e]
  pointwise [k0_pay2, k0_pay3]
  rfl

end Cert.InprojSPay

end
-- ==== Proof.InprojSBlocks.lean ====
module

public import proofs.«01_k».proof.Proof.InprojSPay
public import proofs.«01_k».proof.Proof.Gen.InprojSIdeal.Value
public import Idealize.ShloMosaic.Lib.Pipeline.ValueKit
public import Idealize.ShloMosaic.Lib.Claim
public import Idealize.ShloMosaic.Lib.StableHlo.ReadAt

@[expose] public section

set_option maxRecDepth 16384

/-! What each window of the kernel holds at a grid point, element by element, of the arguments. -/

noncomputable section

namespace Cert.InprojSBlocks

open Cert.InprojSIdeal Cert.InprojSIdeal.Gen Idealize.ShloMosaic Idealize.ShloMosaic.TcCoe Idealize.SL.Sem
open Cert.FfnRow Cert.InprojSRow

variable (m : (ℓ : Loc nD τ sig) → Buf (Elt Ideal) ℓ)

theorem idx : ∀ t : Fin grid0.N, win0_0.index t = ![t.1, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.1, 0] ∧ win0_8.index t = ![t.1, 0] ∧ win0_9.index t = ![t.1, 0] ∧
    win0_10.index t = ![t.1, 0] ∧ win0_11.index t = ![t.1, 0] ∧ win0_12.index t = ![0, t.1] := by
  decide +kernel

/-- The array row that row `r` of point `t`'s blocks is. -/
def row (t : Fin cfg0.N) (r : Fin 512) : Fin 1024 := ⟨t.1 * 512 + r.1, by
  have h : t.1 < 2 := t.isLt
  omega⟩

/-- The sequence and the position that token `i` is of. -/
def sq (i : Fin 1024) : Fin 32 := ⟨i.1 / 32, by omega⟩

def ps (i : Fin 1024) : Fin 32 := ⟨i.1 % 32, by omega⟩

variable (c : Dev nD) (t : Fin cfg0.N)

theorem b0 (r : Fin 512) (k : Fin 1024) :
    iblk m c 0 t (ix2 r k) = m ((c : Thread nD τ).loc main_arg0) (ix3 (sq (row t r)) (ps (row t r)) k) := by
  have e : ∀ i : Fin 1024, V m c main_v14 (ix2 i k) = m ((c : Thread nD τ).loc main_arg0) (ix3 (sq i) (ps i) k) := by
    intro i
    unfold V
    after_reads_at
    rfl
  refine Eq.trans ?_ (e (row t r))
  blk_ext [iblk, idx t, row]

theorem b1 (k : Fin 1024) :
    iblk m c 1 t (ix2 0 k) = m ((c : Thread nD τ).loc main_arg1) (ix2 0 k) := by
  have e : V m c main_v13 (ix2 0 k) = m ((c : Thread nD τ).loc main_arg1) (ix2 0 k) := by
    unfold V
    after_reads_at
  refine Eq.trans ?_ e
  blk_ext [iblk, idx t, row]

theorem b2 (k : Fin 1024) (j : Fin 2048) :
    iblk m c 2 t (ix2 k j) = m ((c : Thread nD τ).loc main_arg2) (ix3 0 k ⟨j.1, by omega⟩) := by
  have e : V m c main_v2 (ix2 k j) = m ((c : Thread nD τ).loc main_arg2) (ix3 0 k ⟨j.1, by omega⟩) := by
    unfold V
    after_reads_at
  refine Eq.trans ?_ e
  blk_ext [iblk, idx t, row]

theorem b3 (k : Fin 1024) (j : Fin 8) :
    iblk m c 3 t (ix2 k ⟨j.1, by omega⟩) = m ((c : Thread nD τ).loc main_arg2) (ix3 0 k ⟨2048 + j.1, by omega⟩) := by
  have e : V m c main_v4 (ix2 k ⟨j.1, by omega⟩) = m ((c : Thread nD τ).loc main_arg2) (ix3 0 k ⟨2048 + j.1, by omega⟩) := by
    unfold V
    after_reads_at
  refine Eq.trans ?_ e
  blk_ext [iblk, idx t, row]

theorem b4 (j : Fin 8) (k : Fin 1024) :
    iblk m c 4 t (ix2 ⟨j.1, by omega⟩ k) = m ((c : Thread nD τ).loc main_arg2) (ix3 0 k ⟨2048 + j.1, by omega⟩) := by
  have e : V m c main_v6 (ix2 ⟨j.1, by omega⟩ k) = m ((c : Thread nD τ).loc main_arg2) (ix3 0 k ⟨2048 + j.1, by omega⟩) := by
    unfold V
    after_reads_at
  refine Eq.trans ?_ e
  blk_ext [iblk, idx t, row]

theorem b5 (j : Fin 8) :
    iblk m c 5 t (ix2 0 j) = m ((c : Thread nD τ).loc main_arg3) (ix2 0 j) := by
  have e : V m c main_v8 (ix2 0 j) = m ((c : Thread nD τ).loc main_arg3) (ix2 0 j) := by
    unfold V
    after_reads_at
  refine Eq.trans ?_ e
  blk_ext [iblk, idx t, row]

theorem b6 (j : Fin 8) :
    iblk m c 6 t (ix2 j 0) = m ((c : Thread nD τ).loc main_arg3) (ix2 0 j) := by
  have e : V m c main_v11 (ix2 j 0) = m ((c : Thread nD τ).loc main_arg3) (ix2 0 j) := by
    unfold V
    after_reads_at
  refine Eq.trans ?_ e
  blk_ext [iblk, idx t, row]

end Cert.InprojSBlocks

end
-- ==== Proof.InprojSKernel.lean ====
module

public import proofs.«01_k».proof.Proof.InprojSBlocks

@[expose] public section

set_option maxRecDepth 16384

/-! The kernel's result arrays: every row is the projection's function of that token's row. -/

noncomputable section

namespace Cert.InprojSKernel

open Cert.InprojSIdeal Cert.InprojSIdeal.Gen Idealize.ShloMosaic Idealize.ShloMosaic.TcCoe Idealize.SL.Sem Cert.FfnRow Cert.InprojSRow
open Cert.InprojSPay Cert.InprojSBlocks
open Idealize.ShloMosaic.Pipeline (Dat)

variable (m : (ℓ : Loc nD τ sig) → Buf (Elt Ideal) ℓ) (ρ : Dev nD → PrngReg) (c : Dev nD)

/-- Column `j` of token `i`'s projection, of the kernel's arguments. -/
def tok (i : Fin 1024) (j : Fin 4104) : EReal :=
  proj (fun k => (m ((c : Thread nD τ).loc main_arg0) (ix3 (sq i) (ps i) k) : EReal))
    (fun k => (m ((c : Thread nD τ).loc main_arg1) (ix2 0 k) : EReal))
    (fun k (j : Fin 4104) => (m ((c : Thread nD τ).loc main_arg2) (ix3 0 k j) : EReal)) j

def pv (i : Fin 1024) (j : Fin 512) : EReal := tok m c i ⟨0 + j.1, by omega⟩
def qv (i : Fin 1024) (j : Fin 512) : EReal := tok m c i ⟨512 + j.1, by omega⟩ * Ideal.ofBits FTy.f32 0x3E38AA3B#32
def kv (i : Fin 1024) (j : Fin 512) : EReal := tok m c i ⟨1024 + j.1, by omega⟩
def vv (i : Fin 1024) (j : Fin 512) : EReal := tok m c i ⟨1536 + j.1, by omega⟩

/-- The logarithm of token `i`'s forget gate at head `j`. -/
def fv (i : Fin 1024) (j : Fin 8) : EReal :=
  lsig (tok m c i ⟨2048 + j.1, by omega⟩ + m ((c : Thread nD τ).loc main_arg3) (ix2 0 j))

theorem hz2 : (![0, 0] : Fin 2 → Nat) = fun _ => 0 := funext fun a => by fin_cases a <;> rfl

theorem tok_eq {n : ℕ} (t : Fin cfg0.N) (r : Fin 512) (f : Fin 1024 → Fin n → EReal) (j : Fin n) (l : Fin 4104)
    (h : ∀ k, f k j = m ((c : Thread nD τ).loc main_arg2) (ix3 0 k l)) :
    proj (fun k => iblk m c 0 t (ix2 r k)) (fun k => iblk m c 1 t (ix2 0 k)) f j = tok m c (row t r) l := by
  unfold tok proj
  simp only [b0, b1, h]

theorem block7 (t : Fin cfg0.N) (y : S512x512.Idx) :
    out0_7 (iblk m c 0 t) (iblk m c 1 t) (iblk m c 2 t) (iblk m c 3 t) (iblk m c 4 t) (iblk m c 5 t) (iblk m c 6 t) y =
      pv m c (row t (y 0)) (y 1) := by
  unfold out0_7
  refine View.canon_apply_of_pieces (Val := Elt Ideal) (fun y : S512x512.Idx => pv m c (row t (y 0)) (y 1)) _ ?_ y (cover0_7 _ y)
  intro p hp x
  rcases List.mem_cons.mp hp with rfl | hp
  · obtain ⟨r, j, rfl⟩ : ∃ (r j : Fin 512), x = ix2 r j := ⟨x 0, x 1, by pointwise⟩
    have e0 : (r0_3.emb (ix2 r j)) 0 = r := Fin.ext (by show 0 + 1 * r.1 = r.1; omega)
    have e1 : (r0_3.emb (ix2 r j)) 1 = j := Fin.ext (by show 0 + 1 * j.1 = j.1; omega)
    refine Eq.trans ?_ (congrArg₂ (fun a b => pv m c (row t a) b) e0.symm e1.symm)
    refine (pay5 _ _ _ r j).trans ?_
    rw [View.ld_unit_zero hz2, View.ld_unit_zero hz2, View.ld_unit_zero hz2]
    exact tok_eq m c t r _ j ⟨0 + j.1, by omega⟩ fun k => (b2 m c t k _).trans (congrArg (fun l => m ((c : Thread nD τ).loc main_arg2) (ix3 0 k l)) (Fin.ext (by simp)))
  · exact absurd hp List.not_mem_nil

theorem final7 : (dats m 0 c).arrAt 7 cfg0.N = fun i : S1024x512.Idx => pv m c (i 0) (i 1) := by
  refine (dats m 0 c).arrAt_eq_of_covers 7 _ (by decide +kernel) fun t hf y => ?_
  blk_simp
  rw [after0_7, block7]
  have e0 : ((((cfg0.win 7).blk t).view.emb y) 0 : Fin 1024) = row t (y 0) := Fin.ext (by
    blk_simp [idx t, row])
  have e1 : ((((cfg0.win 7).blk t).view.emb y) 1 : Fin 512) = y 1 := Fin.ext (by
    blk_simp [idx t])
  exact (congrArg₂ (pv m c) e0 e1).symm

theorem block8 (t : Fin cfg0.N) (y : S512x512.Idx) :
    out0_8 (iblk m c 0 t) (iblk m c 1 t) (iblk m c 2 t) (iblk m c 3 t) (iblk m c 4 t) (iblk m c 5 t) (iblk m c 6 t) y =
      qv m c (row t (y 0)) (y 1) := by
  unfold out0_8
  refine View.canon_apply_of_pieces (Val := Elt Ideal) (fun y : S512x512.Idx => qv m c (row t (y 0)) (y 1)) _ ?_ y (cover0_8 _ y)
  intro p hp x
  rcases List.mem_cons.mp hp with rfl | hp
  · obtain ⟨r, j, rfl⟩ : ∃ (r j : Fin 512), x = ix2 r j := ⟨x 0, x 1, by pointwise⟩
    have e0 : (r0_3.emb (ix2 r j)) 0 = r := Fin.ext (by show 0 + 1 * r.1 = r.1; omega)
    have e1 : (r0_3.emb (ix2 r j)) 1 = j := Fin.ext (by show 0 + 1 * j.1 = j.1; omega)
    refine Eq.trans ?_ (congrArg₂ (fun a b => qv m c (row t a) b) e0.symm e1.symm)
    refine (pay6 _ _ _ r j).trans ?_
    rw [View.ld_unit_zero hz2, View.ld_unit_zero hz2, View.ld_unit_zero hz2]
    exact congrArg (· * Ideal.ofBits FTy.f32 0x3E38AA3B#32) (tok_eq m c t r _ j ⟨512 + j.1, by omega⟩ fun k => (b2 m c t k _).trans (congrArg (fun l => m ((c : Thread nD τ).loc main_arg2) (ix3 0 k l)) (Fin.ext (by simp))))
  · exact absurd hp List.not_mem_nil

theorem final8 : (dats m 0 c).arrAt 8 cfg0.N = fun i : S1024x512.Idx => qv m c (i 0) (i 1) := by
  refine (dats m 0 c).arrAt_eq_of_covers 8 _ (by decide +kernel) fun t hf y => ?_
  blk_simp
  rw [after0_8, block8]
  have e0 : ((((cfg0.win 8).blk t).view.emb y) 0 : Fin 1024) = row t (y 0) := Fin.ext (by
    blk_simp [idx t, row])
  have e1 : ((((cfg0.win 8).blk t).view.emb y) 1 : Fin 512) = y 1 := Fin.ext (by
    blk_simp [idx t])
  exact (congrArg₂ (qv m c) e0 e1).symm

theorem block9 (t : Fin cfg0.N) (y : S512x512.Idx) :
    out0_9 (iblk m c 0 t) (iblk m c 1 t) (iblk m c 2 t) (iblk m c 3 t) (iblk m c 4 t) (iblk m c 5 t) (iblk m c 6 t) y =
      kv m c (row t (y 0)) (y 1) := by
  unfold out0_9
  refine View.canon_apply_of_pieces (Val := Elt Ideal) (fun y : S512x512.Idx => kv m c (row t (y 0)) (y 1)) _ ?_ y (cover0_9 _ y)
  intro p hp x
  rcases List.mem_cons.mp hp with rfl | hp
  · obtain ⟨r, j, rfl⟩ : ∃ (r j : Fin 512), x = ix2 r j := ⟨x 0, x 1, by pointwise⟩
    have e0 : (r0_3.emb (ix2 r j)) 0 = r := Fin.ext (by show 0 + 1 * r.1 = r.1; omega)
    have e1 : (r0_3.emb (ix2 r j)) 1 = j := Fin.ext (by show 0 + 1 * j.1 = j.1; omega)
    refine Eq.trans ?_ (congrArg₂ (fun a b => kv m c (row t a) b) e0.symm e1.symm)
    refine (pay7 _ _ _ r j).trans ?_
    rw [View.ld_unit_zero hz2, View.ld_unit_zero hz2, View.ld_unit_zero hz2]
    exact tok_eq m c t r _ j ⟨1024 + j.1, by omega⟩ fun k => (b2 m c t k _).trans (congrArg (fun l => m ((c : Thread nD τ).loc main_arg2) (ix3 0 k l)) (Fin.ext (by simp)))
  · exact absurd hp List.not_mem_nil

theorem final9 : (dats m 0 c).arrAt 9 cfg0.N = fun i : S1024x512.Idx => kv m c (i 0) (i 1) := by
  refine (dats m 0 c).arrAt_eq_of_covers 9 _ (by decide +kernel) fun t hf y => ?_
  blk_simp
  rw [after0_9, block9]
  have e0 : ((((cfg0.win 9).blk t).view.emb y) 0 : Fin 1024) = row t (y 0) := Fin.ext (by
    blk_simp [idx t, row])
  have e1 : ((((cfg0.win 9).blk t).view.emb y) 1 : Fin 512) = y 1 := Fin.ext (by
    blk_simp [idx t])
  exact (congrArg₂ (kv m c) e0 e1).symm

theorem block10 (t : Fin cfg0.N) (y : S512x512.Idx) :
    out0_10 (iblk m c 0 t) (iblk m c 1 t) (iblk m c 2 t) (iblk m c 3 t) (iblk m c 4 t) (iblk m c 5 t) (iblk m c 6 t) y =
      vv m c (row t (y 0)) (y 1) := by
  unfold out0_10
  refine View.canon_apply_of_pieces (Val := Elt Ideal) (fun y : S512x512.Idx => vv m c (row t (y 0)) (y 1)) _ ?_ y (cover0_10 _ y)
  intro p hp x
  rcases List.mem_cons.mp hp with rfl | hp
  · obtain ⟨r, j, rfl⟩ : ∃ (r j : Fin 512), x = ix2 r j := ⟨x 0, x 1, by pointwise⟩
    have e0 : (r0_3.emb (ix2 r j)) 0 = r := Fin.ext (by show 0 + 1 * r.1 = r.1; omega)
    have e1 : (r0_3.emb (ix2 r j)) 1 = j := Fin.ext (by show 0 + 1 * j.1 = j.1; omega)
    refine Eq.trans ?_ (congrArg₂ (fun a b => vv m c (row t a) b) e0.symm e1.symm)
    refine (pay8 _ _ _ r j).trans ?_
    rw [View.ld_unit_zero hz2, View.ld_unit_zero hz2, View.ld_unit_zero hz2]
    exact tok_eq m c t r _ j ⟨1536 + j.1, by omega⟩ fun k => (b2 m c t k _).trans (congrArg (fun l => m ((c : Thread nD τ).loc main_arg2) (ix3 0 k l)) (Fin.ext (by simp)))
  · exact absurd hp List.not_mem_nil

theorem final10 : (dats m 0 c).arrAt 10 cfg0.N = fun i : S1024x512.Idx => vv m c (i 0) (i 1) := by
  refine (dats m 0 c).arrAt_eq_of_covers 10 _ (by decide +kernel) fun t hf y => ?_
  blk_simp
  rw [after0_10, block10]
  have e0 : ((((cfg0.win 10).blk t).view.emb y) 0 : Fin 1024) = row t (y 0) := Fin.ext (by
    blk_simp [idx t, row])
  have e1 : ((((cfg0.win 10).blk t).view.emb y) 1 : Fin 512) = y 1 := Fin.ext (by
    blk_simp [idx t])
  exact (congrArg₂ (vv m c) e0 e1).symm

theorem block11 (t : Fin cfg0.N) (y : S512x8.Idx) :
    out0_11 (iblk m c 0 t) (iblk m c 1 t) (iblk m c 2 t) (iblk m c 3 t) (iblk m c 4 t) (iblk m c 5 t) (iblk m c 6 t) y =
      fv m c (row t (y 0)) (y 1) := by
  unfold out0_11
  refine View.canon_apply_of_pieces (Val := Elt Ideal) (fun y : S512x8.Idx => fv m c (row t (y 0)) (y 1)) _ ?_ y (cover0_11 _ y)
  intro p hp x
  rcases List.mem_cons.mp hp with rfl | hp
  · obtain ⟨r, j, rfl⟩ : ∃ (r : Fin 512) (j : Fin 8), x = ix2 r j := ⟨x 0, x 1, by pointwise⟩
    have e0 : (r0_6.emb (ix2 r j)) 0 = r := Fin.ext (by show 0 + 1 * r.1 = r.1; omega)
    have e1 : (r0_6.emb (ix2 r j)) 1 = j := Fin.ext (by show 0 + 1 * j.1 = j.1; omega)
    refine Eq.trans ?_ (congrArg₂ (fun a b => fv m c (row t a) b) e0.symm e1.symm)
    refine (pay1 _ _ _ _ r j).trans ?_
    rw [View.ld_unit_zero hz2, View.ld_unit_zero hz2, View.ld_unit_zero hz2, View.ld_unit_zero hz2]
    exact congrArg lsig (congrArg₂ (· + ·) (tok_eq m c t r _ j ⟨2048 + j.1, by omega⟩ fun k => b3 m c t k j) (b5 m c t j))
  · exact absurd hp List.not_mem_nil

theorem final11 : (dats m 0 c).arrAt 11 cfg0.N = fun i : S1024x8.Idx => fv m c (i 0) (i 1) := by
  refine (dats m 0 c).arrAt_eq_of_covers 11 _ (by decide +kernel) fun t hf y => ?_
  blk_simp
  rw [after0_11, block11]
  have e0 : ((((cfg0.win 11).blk t).view.emb y) 0 : Fin 1024) = row t (y 0) := Fin.ext (by
    blk_simp [idx t, row])
  have e1 : ((((cfg0.win 11).blk t).view.emb y) 1 : Fin 8) = y 1 := Fin.ext (by
    blk_simp [idx t])
  exact (congrArg₂ (fv m c) e0 e1).symm

theorem block12 (t : Fin cfg0.N) (y : S8x512.Idx) :
    out0_12 (iblk m c 0 t) (iblk m c 1 t) (iblk m c 2 t) (iblk m c 3 t) (iblk m c 4 t) (iblk m c 5 t) (iblk m c 6 t) y =
      fv m c (row t (y 1)) (y 0) := by
  unfold out0_12
  refine View.canon_apply_of_pieces (Val := Elt Ideal) (fun y : S8x512.Idx => fv m c (row t (y 1)) (y 0)) _ ?_ y (cover0_12 _ y)
  intro p hp x
  rcases List.mem_cons.mp hp with rfl | hp
  · obtain ⟨j, r, rfl⟩ : ∃ (j : Fin 8) (r : Fin 512), x = ix2 j r := ⟨x 0, x 1, by pointwise⟩
    have e0 : (r0_9.emb (ix2 j r)) 0 = j := Fin.ext (by show 0 + 1 * j.1 = j.1; omega)
    have e1 : (r0_9.emb (ix2 j r)) 1 = r := Fin.ext (by show 0 + 1 * r.1 = r.1; omega)
    refine Eq.trans ?_ (congrArg₂ (fun a b => fv m c (row t a) b) e1.symm e0.symm)
    refine (pay2 _ _ _ _ j r).trans ?_
    rw [View.ld_unit_zero hz2, View.ld_unit_zero hz2, View.ld_unit_zero hz2]
    refine congrArg lsig (congrArg₂ (· + ·) (tok_eq m c t r _ j ⟨2048 + j.1, by omega⟩ fun k => b4 m c t j k) (Eq.trans ?_ (b6 m c t j)))
    refine congrArg (iblk m c 6 t) (funext fun a => ?_)
    fin_cases a
    · exact Fin.ext (by show 0 + 1 * j.1 = j.1; omega)
    · rfl
  · exact absurd hp List.not_mem_nil

theorem final12 : (dats m 0 c).arrAt 12 cfg0.N = fun i : S8x1024.Idx => fv m c (i 1) (i 0) := by
  refine (dats m 0 c).arrAt_eq_of_covers 12 _ (by decide +kernel) fun t hf y => ?_
  blk_simp
  rw [after0_12, block12]
  have e0 : ((((cfg0.win 12).blk t).view.emb y) 0 : Fin 8) = y 0 := Fin.ext (by
    blk_simp [idx t])
  have e1 : ((((cfg0.win 12).blk t).view.emb y) 1 : Fin 1024) = row t (y 1) := Fin.ext (by
    blk_simp [idx t, row])
  exact (congrArg₂ (fv m c) e1 e0).symm

end Cert.InprojSKernel

end
-- ==== Proof.InprojSRefValue.lean ====
module

public import proofs.«01_k».proof.Proof.InprojSRow
public import proofs.«01_k».proof.Proof.Gen.InprojSRefIdeal.Run

@[expose] public section

set_option maxRecDepth 16384

/-! The reference's results: every row is the projection's function of that token's row. -/

noncomputable section

namespace Cert.InprojSRefValue

open Cert.InprojSRefIdeal Cert.InprojSRefIdeal.Gen Cert.InprojSRefIdeal.Facts Cert.InprojSRefIdeal.Value Idealize.ShloMosaic Idealize.ShloMosaic.TcCoe Idealize.SL.Sem Cert.FfnRow Cert.InprojSRow
open Idealize.ShloMosaic.StableHlo

variable (m : (ℓ : Loc nD τ sig) → Buf (Elt Ideal) ℓ) (c : Dev nD)

/-- The sequence and the position that token `i` is of. -/
def sq (i : Fin 1024) : Fin 32 := ⟨i.1 / 32, by omega⟩

def ps (i : Fin 1024) : Fin 32 := ⟨i.1 % 32, by omega⟩

/-- The normalised tokens. -/
def nn : FVec Ideal S32x32x1024 .f32 :=
  mulf (mulf (m ((c.tc : Thread nD τ).loc main_arg0)) (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf (m ((c.tc : Thread nD τ).loc main_arg0)) (m ((c.tc : Thread nD τ).loc main_arg0))) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 (shapeCast _ (m ((c.tc : Thread nD τ).loc main_arg1)) shapeCasts_S1x1024_S1024)))

/-- The whole projection of the normalised tokens. -/
def zz : FVec Ideal S32x32x4104 .f32 :=
  Host.dotGeneral (φ₂ := FTy.f32) dot_S32x32x1024_S1024x4104_S32x32x4104_2_0_01_1_n_n none (nn m c) (shapeCast _ (m ((c.tc : Thread nD τ).loc main_arg2)) shapeCasts_S1x1024x4104_S1024x4104)

set_option maxHeartbeats 1000000 in
theorem nn_at (a b : Fin 32) (k : Fin 1024) : nn m c (ix3 a b k) =
    nrm (fun k => (m ((c.tc : Thread nD τ).loc main_arg0) (ix3 a b k) : EReal)) (fun k => (m ((c.tc : Thread nD τ).loc main_arg1) (ix2 0 k) : EReal)) k := by
  unfold nn
  pointwise
  rfl

theorem dot_at (n : FVec Ideal S32x32x1024 .f32) (W : FVec Ideal S1024x4104 .f32) (a b : Fin 32) (j : Fin 4104) :
    (Host.dotGeneral (φ₂ := FTy.f32) dot_S32x32x1024_S1024x4104_S32x32x4104_2_0_01_1_n_n none n W : FVec Ideal S32x32x4104 .f32) (ix3 a b j) =
      ∑ k : Fin 1024, n (ix3 a b k) * W (ix2 k j) := by
  pointwise

theorem cast_at (W : FVec Ideal S1x1024x4104 .f32) (k : Fin 1024) (j : Fin 4104) :
    (shapeCast _ W shapeCasts_S1x1024x4104_S1024x4104 : FVec Ideal S1024x4104 .f32) (ix2 k j) = W (ix3 0 k j) := by
  pointwise

theorem zz_at (a b : Fin 32) (j : Fin 4104) : zz m c (ix3 a b j) =
    proj (fun k => (m ((c.tc : Thread nD τ).loc main_arg0) (ix3 a b k) : EReal)) (fun k => (m ((c.tc : Thread nD τ).loc main_arg1) (ix2 0 k) : EReal))
      (fun k (j : Fin 4104) => (m ((c.tc : Thread nD τ).loc main_arg2) (ix3 0 k j) : EReal)) j :=
  (dot_at (nn m c) _ a b j).trans (Finset.sum_congr rfl fun k _ => congrArg₂ (· * ·) (nn_at m c a b k)
    (cast_at (m ((c.tc : Thread nD τ).loc main_arg2)) k j))

theorem p_at (i : Fin 1024) (j : Fin 512) :
    (shapeCast _ (extractStridedSlice S32x32x512 ![0, 0, 0] (zz m c) slices_S32x32x4104_S32x32x512_0_0_0) shapeCasts_S32x32x512_S1024x512 : FVec Ideal S1024x512 .f32) (ix2 i j) =
      zz m c (ix3 (sq i) (ps i) ⟨0 + j.1, by omega⟩) := by
  pointwise
  rfl

theorem q_at (i : Fin 1024) (j : Fin 512) :
    (mulf (shapeCast _ (extractStridedSlice S32x32x512 ![0, 0, 512] (zz m c) slices_S32x32x4104_S32x32x512_0_0_512) shapeCasts_S32x32x512_S1024x512) (broadcastInDim S1024x512 ![] bcast_S_S1024x512 (constant S_ .f32 0x3E38AA3B#32)) : FVec Ideal S1024x512 .f32) (ix2 i j) =
      zz m c (ix3 (sq i) (ps i) ⟨512 + j.1, by omega⟩) * Ideal.ofBits FTy.f32 0x3E38AA3B#32 := by
  pointwise
  rfl

theorem k_at (i : Fin 1024) (j : Fin 512) :
    (shapeCast _ (extractStridedSlice S32x32x512 ![0, 0, 1024] (zz m c) slices_S32x32x4104_S32x32x512_0_0_1024) shapeCasts_S32x32x512_S1024x512 : FVec Ideal S1024x512 .f32) (ix2 i j) =
      zz m c (ix3 (sq i) (ps i) ⟨1024 + j.1, by omega⟩) := by
  pointwise
  rfl

theorem v_at (i : Fin 1024) (j : Fin 512) :
    (shapeCast _ (extractStridedSlice S32x32x512 ![0, 0, 1536] (zz m c) slices_S32x32x4104_S32x32x512_0_0_1536) shapeCasts_S32x32x512_S1024x512 : FVec Ideal S1024x512 .f32) (ix2 i j) =
      zz m c (ix3 (sq i) (ps i) ⟨1536 + j.1, by omega⟩) := by
  pointwise
  rfl

theorem f33_at (i : Fin 1024) (j : Fin 8) :
    res_main_v33 m c (ix2 i j) =
      lsig (zz m c (ix3 (sq i) (ps i) ⟨2048 + j.1, by omega⟩) + m ((c.tc : Thread nD τ).loc main_arg3) (ix2 0 j)) := by
  rw [← lsig_softplus]
  have e : res_main_v33 m c = (shapeCast _ (Host.negf (select (cmpf .une (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32)))) (addf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (addf (maximumf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (Host.log1p (Host.exp (Host.negf (Host.absf (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32)))))))))) shapeCasts_S32x32x8_S1024x8) := by
    unfold res_main_v33 zz nn
    rfl
  rw [e]
  generalize zz m c = z
  pointwise
  rw [if_neg (fun h => h rfl)]
  rfl

theorem f35_at (i : Fin 1024) (j : Fin 8) :
    res_main_v35 m c (ix2 j i) =
      lsig (zz m c (ix3 (sq i) (ps i) ⟨2048 + j.1, by omega⟩) + m ((c.tc : Thread nD τ).loc main_arg3) (ix2 0 j)) := by
  rw [← lsig_softplus]
  have e : res_main_v35 m c = (transpose S8x1024 [1, 0] (shapeCast _ (Host.negf (select (cmpf .une (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32)))) (addf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (addf (maximumf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32))) (Host.log1p (Host.exp (Host.negf (Host.absf (subf (Host.negf (addf (extractStridedSlice S32x32x8 ![0, 0, 2048] (zz m c) slices_S32x32x4104_S32x32x8_0_0_2048) (broadcastInDim S32x32x8 ![0, 1, 2] bcast_S1x1x8_S32x32x8_0_1_2 (broadcastInDim S1x1x8 ![2] bcast_S8_S1x1x8_2 (shapeCast _ (m ((c.tc : Thread nD τ).loc main_arg3)) shapeCasts_S1x8_S8))))) (broadcastInDim S32x32x8 ![] bcast_S_S32x32x8 (constant S_ .f32 0x00000000#32)))))))))) shapeCasts_S32x32x8_S1024x8) transposes_S1024x8_S8x1024_1_0) := by
    unfold res_main_v35 zz nn
    rfl
  rw [e]
  generalize zz m c = z
  pointwise
  rw [if_neg (fun h => h rfl)]
  rfl

end Cert.InprojSRefValue

end
-- ==== Proof.InprojSClaims.lean ====
module

public import proofs.«01_k».proof.Defs
public import proofs.«01_k».proof.Proof.InprojSKernel
public import proofs.«01_k».proof.Proof.InprojSRefValue
public import Idealize.ShloMosaic.Lib.Quiescent

@[expose] public section

/-! The claims about the sampling call's input projections and their reference. -/

noncomputable section

namespace Cert.InprojSClaims

open Idealize.ShloMosaic Idealize.ShloMosaic.TcCoe Idealize.SL.Sem
open Cert.InprojSKernel (pv qv kv vv fv)

/-- The reference runs, keeps its arguments, and leaves every counter at zero. -/
theorem frame_ref : Cert.quiescent_InprojSRefIdeal := fun m ρ _ =>
  (θ_run _ _ _).mono (fun r h => ⟨fun c => (h c).2.2.2.2.2.2, Idealize.ShloMosaic.sem_eq_zero_of_no_sems (by decide) r.2⟩)
    (Cert.InprojSRefIdeal.Value.run (F := Ideal) m ρ)

/-- The kernel's results and the reference's are the same rows. -/
theorem algebraic : Cert.algebraic_InprojSIdeal_InprojSRefIdeal := by
  intro m ρ m' ρ' _ hagree
  refine ⟨fun c => fun i : Cert.InprojSIdeal.S1024x512.Idx => pv m c (i 0) (i 1),
    fun c => fun i : Cert.InprojSIdeal.S1024x512.Idx => qv m c (i 0) (i 1),
    fun c => fun i : Cert.InprojSIdeal.S1024x512.Idx => kv m c (i 0) (i 1),
    fun c => fun i : Cert.InprojSIdeal.S1024x512.Idx => vv m c (i 0) (i 1),
    fun c => fun i : Cert.InprojSIdeal.S1024x8.Idx => fv m c (i 0) (i 1),
    fun c => fun i : Cert.InprojSIdeal.S8x1024.Idx => fv m c (i 1) (i 0), ?_, ?_⟩
  · exact (θ_run Cert.InprojSIdeal.defs _ _).mono (fun _ h c => by
      obtain ⟨g7, g8, g9, g10, g11, g12, k⟩ := h c
      exact ⟨g7.trans (Cert.InprojSKernel.final7 m c), g8.trans (Cert.InprojSKernel.final8 m c),
        g9.trans (Cert.InprojSKernel.final9 m c), g10.trans (Cert.InprojSKernel.final10 m c),
        g11.trans (Cert.InprojSKernel.final11 m c), g12.trans (Cert.InprojSKernel.final12 m c), k⟩)
      (Cert.InprojSIdeal.Value.run_blocks (F := Ideal) m ρ)
  · refine (θ_run Cert.InprojSRefIdeal.defs _ _).mono (fun _ h c => ?_)
      (Cert.InprojSRefIdeal.Value.run (F := Ideal) m' ρ')
    obtain ⟨g0, g1, g2, g3, g4, g5, k⟩ := h c
    obtain ⟨h0, h1, h2, h3⟩ := hagree c
    have key : ∀ (i : Fin 1024) (j : Fin 4104), Cert.InprojSRefValue.zz m' c
        (ix3 (Cert.InprojSRefValue.sq i) (Cert.InprojSRefValue.ps i) j) = Cert.InprojSKernel.tok m c i j := fun i j => by
      rw [Cert.InprojSRefValue.zz_at]
      unfold Cert.InprojSKernel.tok
      rw [h0, h1, h2]
      rfl
    refine ⟨g0.trans (funext fun i => ?_), g1.trans (funext fun i => ?_), g2.trans (funext fun i => ?_),
      g3.trans (funext fun i => ?_), g4.trans (funext fun i => ?_), g5.trans (funext fun i => ?_), k⟩
    · obtain ⟨r, j, rfl⟩ : ∃ (r : Fin 1024) (j : Fin 512), i = ix2 r j := ⟨i 0, i 1, by pointwise⟩
      exact (Cert.InprojSRefValue.p_at m' c r j).trans (key r _)
    · obtain ⟨r, j, rfl⟩ : ∃ (r : Fin 1024) (j : Fin 512), i = ix2 r j := ⟨i 0, i 1, by pointwise⟩
      exact (Cert.InprojSRefValue.q_at m' c r j).trans (congrArg (· * Ideal.ofBits FTy.f32 0x3E38AA3B#32) (key r _))
    · obtain ⟨r, j, rfl⟩ : ∃ (r : Fin 1024) (j : Fin 512), i = ix2 r j := ⟨i 0, i 1, by pointwise⟩
      exact (Cert.InprojSRefValue.k_at m' c r j).trans (key r _)
    · obtain ⟨r, j, rfl⟩ : ∃ (r : Fin 1024) (j : Fin 512), i = ix2 r j := ⟨i 0, i 1, by pointwise⟩
      exact (Cert.InprojSRefValue.v_at m' c r j).trans (key r _)
    · obtain ⟨r, j, rfl⟩ : ∃ (r : Fin 1024) (j : Fin 8), i = ix2 r j := ⟨i 0, i 1, by pointwise⟩
      exact (Cert.InprojSRefValue.f33_at m' c r j).trans
        (congrArg Cert.InprojSRow.lsig (congrArg₂ (· + ·) (key r _) (congrFun h3 _)))
    · obtain ⟨j, r, rfl⟩ : ∃ (j : Fin 8) (r : Fin 1024), i = ix2 j r := ⟨i 0, i 1, by pointwise⟩
      exact (Cert.InprojSRefValue.f35_at m' c r j).trans
        (congrArg Cert.InprojSRow.lsig (congrArg₂ (· + ·) (key r _) (congrFun h3 _)))

end Cert.InprojSClaims

end
-- ==== Proof.FfnSHalf.lean ====
module

public import proofs.«01_k».proof.Proof.FfnRow
public import proofs.«01_k».proof.Proof.Gen.FfnSIdeal.Skeleton
public import Idealize.ShloMosaic.Lib.Pointwise

@[expose] public section

set_option maxRecDepth 16384

/-! The kernel's body works on its 512 rows in two halves of 256. What each half computes, row by row. -/

noncomputable section

namespace Cert.FfnSHalf

open Cert.FfnSIdeal Cert.FfnSIdeal.Gen Idealize.ShloMosaic Cert.FfnRow

variable (X : Vec Ideal S256x1024 .f32) (P A : Vec Ideal S256x512 .bf16) (w3 : Vec Ideal S1x1024 .f32)
  (w4 : Vec Ideal S1024x2048 .bf16) (w5 : Vec Ideal S1x2048 .f32) (w6 w7 : Vec Ideal S512x1024 .bf16)
  (w8 : Vec Ideal S1024x1024 .bf16) (w9 : Vec Ideal S1x1024 .f32) (a b a' b' : Vec Ideal S1024x1408 .bf16)
  (d d' : Vec Ideal S1408x1024 .bf16) (w13 : Vec Ideal S1x1024 .f32)

/-- The row after the merge, of the block's arrays. -/
def midAt (r : Fin 256) : Fin 1024 → EReal :=
  mid (fun k => X (ix2 r k)) (fun k => P (ix2 r k)) (fun k => A (ix2 r k)) (fun k => w3 (ix2 0 k))
    (fun k j => w4 (ix2 k j)) (fun j => w5 (ix2 0 j)) (fun k j => w6 (ix2 k j)) (fun k j => w7 (ix2 k j))
    (fun k j => w8 (ix2 k j))

theorem gates0 (r : Fin 256) (j : Fin 2048) :
    k0_pay3 X w3 w4 w5 (ix2 r j) = gate (fun k => X (ix2 r k)) (fun k => w3 (ix2 0 k)) (fun k j => w4 (ix2 k j))
      (fun j => w5 (ix2 0 j)) j := by
  pointwise [k0_pay3, k0_pay2]
  exact sig_zero_sub _

theorem gates1 (r : Fin 256) (j : Fin 2048) :
    k0_pay8 (k0_pay4 X) (k0_pay5 w3) (k0_pay6 X) (Scalar.ofBits .f32 0x44800000#32) w4 w5 (ix2 r j) =
      gate (fun k => X (ix2 r k)) (fun k => w3 (ix2 0 k)) (fun k j => w4 (ix2 k j)) (fun j => w5 (ix2 0 j)) j := by
  pointwise [k0_pay8, k0_pay4, k0_pay5, k0_pay6]
  exact sig_zero_sub _

theorem mid0 (r : Fin 256) (l : Fin 1024) :
    k0_pay9 (k0_pay2 X) (k0_pay7 (k0_pay3 X w3 w4 w5) P w6 A w7) w8 (ix2 r l) =
      midAt X P A w3 w4 w5 w6 w7 w8 r l := by
  pointwise [k0_pay9, k0_pay2, k0_pay7]
  exact congrArg₂ (· + ·) rfl (Finset.sum_congr rfl fun x _ => congrArg₂ (· * ·)
    (congrArg₂ (· + ·) (congrArg₂ (· * ·) (gates0 X w3 w4 w5 r (lo x)) rfl)
      (congrArg₂ (· * ·) (gates0 X w3 w4 w5 r (hi x)) rfl)) rfl)

theorem mid1 (r : Fin 256) (l : Fin 1024) :
    k0_pay15 (k0_pay4 X) (k0_pay11 (k0_pay8 (k0_pay4 X) (k0_pay5 w3) (k0_pay6 X) (Scalar.ofBits .f32 0x44800000#32) w4 w5) P w6 A w7) w8 (ix2 r l) =
      midAt X P A w3 w4 w5 w6 w7 w8 r l := by
  pointwise [k0_pay15, k0_pay11]
  exact congrArg₂ (· + ·) (by pointwise [k0_pay4]) (Finset.sum_congr rfl fun x _ => congrArg₂ (· * ·)
    (congrArg₂ (· + ·) (congrArg₂ (· * ·) (gates1 X w3 w4 w5 r (lo x)) rfl)
      (congrArg₂ (· * ·) (gates1 X w3 w4 w5 r (hi x)) rfl)) rfl)

/-- The normalised row the feed-forward reads, first half. -/
theorem norm0 (V : FVec Ideal S256x1024 .f32) (Y : FVec Ideal S256x1024 .bf16) (r : Fin 256) (l : Fin 1024) :
    k0_pay10 V Y w8 w9 (ix2 r l) = nrm (fun k => k0_pay9 V Y w8 (ix2 r k)) (fun k => w9 (ix2 0 k)) l := by
  pointwise [k0_pay10]
  rfl

theorem norm1 (V : FVec Ideal S256x1024 .f32) (Y : FVec Ideal S256x1024 .bf16) (r : Fin 256) (l : Fin 1024) :
    k0_pay16 V Y w8 w9 (ix2 r l) = nrm (fun k => k0_pay15 V Y w8 (ix2 r k)) (fun k => w9 (ix2 0 k)) l := by
  pointwise [k0_pay16]
  rfl

theorem hid_zero_sub (u v : EReal) : u * Ideal.div 1 (1 + Ideal.exp (0 - u)) * v = u * sig u * v := by
  rw [sig_zero_sub]

/-- The final norm of a half: the residual row, then the two halves of the hidden units. -/
def outAt (m : Fin 256 → Fin 1024 → EReal) (r : Fin 256) : Fin 1024 → EReal :=
  nrm (fun l => m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l)) (fun k => w13 (ix2 0 k))

/-- The first half's row before the final norm. -/
theorem sum0 (V : FVec Ideal S256x1024 .f32) (Y : FVec Ideal S256x1024 .bf16) (m : Fin 256 → Fin 1024 → EReal)
    (hm : ∀ r l, k0_pay9 V Y w8 (ix2 r l) = m r l) (r : Fin 256) (l : Fin 1024) :
    k0_pay21 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d' (ix2 r l) =
      m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l) := by
  have e : (fun k => k0_pay9 V Y w8 (ix2 r k)) = m r := funext (hm r)
  have hn : ∀ k, k0_pay10 V Y w8 w9 (ix2 r k) = nrm (m r) (fun k => w9 (ix2 0 k)) k := fun k => by
    rw [norm0, e]
  pointwise [k0_pay21, k0_pay14, k0_pay12, k0_pay13, k0_pay17, k0_pay18, k0_pay19]
  simp only [hn, hm, hid_zero_sub]
  rfl

theorem sum1 (V : FVec Ideal S256x1024 .f32) (Y : FVec Ideal S256x1024 .bf16) (m : Fin 256 → Fin 1024 → EReal)
    (hm : ∀ r l, k0_pay15 V Y w8 (ix2 r l) = m r l) (r : Fin 256) (l : Fin 1024) :
    k0_pay26 (k0_pay15 V Y w8) (k0_pay16 V Y w8 w9) (k0_pay20 (k0_pay16 V Y w8 w9) a b d) a' b' d' (ix2 r l) =
      m r l + (swi (nrm (m r) fun k => w9 (ix2 0 k)) (fun k j => a (ix2 k j)) (fun k j => b (ix2 k j))
      (fun j k => d (ix2 j k)) l + swi (nrm (m r) fun k => w9 (ix2 0 k)) (fun k j => a' (ix2 k j))
      (fun k j => b' (ix2 k j)) (fun j k => d' (ix2 j k)) l) := by
  have e : (fun k => k0_pay15 V Y w8 (ix2 r k)) = m r := funext (hm r)
  have hn : ∀ k, k0_pay16 V Y w8 w9 (ix2 r k) = nrm (m r) (fun k => w9 (ix2 0 k)) k := fun k => by
    rw [norm1, e]
  pointwise [k0_pay26, k0_pay20]
  simp only [hn, hm, hid_zero_sub]
  rfl

theorem out0 (V : FVec Ideal S256x1024 .f32) (Y : FVec Ideal S256x1024 .bf16) (m : Fin 256 → Fin 1024 → EReal)
    (hm : ∀ r l, k0_pay9 V Y w8 (ix2 r l) = m r l) (r : Fin 256) (l : Fin 1024) :
    k0_pay25 (k0_pay21 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d')
      (k0_pay22 w13) (k0_pay23 (k0_pay9 V Y w8) (k0_pay14 (k0_pay12 V Y w8 w9 a) (k0_pay13 V Y w8 w9 b) d)
      (k0_pay17 (k0_pay10 V Y w8 w9) a') (k0_pay18 (k0_pay10 V Y w8 w9) b') (k0_pay19 (F := Ideal)) d')
      (k0_pay24 (F := Ideal)) (ix2 r l) = outAt w9 a b a' b' d d' w13 m r l := by
  have hs := sum0 w8 w9 a b a' b' d d' V Y m hm r
  pointwise [k0_pay25, k0_pay22, k0_pay23, k0_pay24]
  simp only [hs]
  rfl

theorem out1 (V : FVec Ideal S256x1024 .f32) (Y : FVec Ideal S256x1024 .bf16) (m : Fin 256 → Fin 1024 → EReal)
    (hm : ∀ r l, k0_pay15 V Y w8 (ix2 r l) = m r l) (r : Fin 256) (l : Fin 1024) :
    k0_pay1 (k0_pay26 (k0_pay15 V Y w8) (k0_pay16 V Y w8 w9) (k0_pay20 (k0_pay16 V Y w8 w9) a b d) a' b' d')
      (k0_pay27 w13) (k0_pay28 (k0_pay15 V Y w8) (k0_pay16 V Y w8 w9) (k0_pay20 (k0_pay16 V Y w8 w9) a b d) a' b' d')
      (ix2 r l) = outAt w9 a b a' b' d d' w13 m r l := by
  have hs := sum1 w8 w9 a b a' b' d d' V Y m hm r
  pointwise [k0_pay1, k0_pay27, k0_pay28]
  simp only [hs]
  rfl

end Cert.FfnSHalf

end
-- ==== Proof.FfnSRow.lean ====
module

public import proofs.«01_k».proof.Proof.FfnRow

@[expose] public section

/-! The merge and feed-forward part of the layer on the sample: 32 sequences of 32 tokens, whose rows the call lays out
    one after the other. -/

noncomputable section

namespace Cert.FfnSRow

open Idealize.ShloMosaic Cert.FfnRow

/-- The sequence and the position that token `i` is of. -/
def sq (i : Fin 1024) : Fin 32 := ⟨i.1 / 32, by omega⟩

def ps (i : Fin 1024) : Fin 32 := ⟨i.1 % 32, by omega⟩

/-- The token at a position of a sequence. -/
def tk (a b : Fin 32) : Fin 1024 := ⟨a.1 * 32 + b.1, by omega⟩

theorem tk_sq_ps (i : Fin 1024) : tk (sq i) (ps i) = i := Fin.ext (by
  show i.1 / 32 * 32 + i.1 % 32 = i.1
  omega)

/-- Token `i`'s row of the layer's result, of the arrays. -/
def token (x : Arr 3 ![32, 32, 1024]) (P A : Arr 2 ![1024, 512]) (w3 : Arr 2 ![1, 1024])
    (w4 : Arr 3 ![1, 1024, 4104]) (w5 w6 : Arr 3 ![1, 512, 1024]) (w7 : Arr 2 ![1, 2048]) (w8 : Arr 3 ![1, 1024, 1024])
    (w9 : Arr 2 ![1, 1024]) (w10 w11 : Arr 3 ![1, 1024, 2816]) (w12 : Arr 3 ![1, 2816, 1024]) (w13 : Arr 1 ![1024])
    (i : Fin 1024) : Fin 1024 → EReal :=
  out (mid (fun k => x (ix3 (sq i) (ps i) k)) (fun k => P (ix2 i k)) (fun k => A (ix2 i k)) (fun k => w3 (ix2 0 k))
      (fun k j => w4 (ix3 0 k ⟨2056 + j.1, by omega⟩)) (fun j => w7 (ix2 0 j)) (fun k j => w5 (ix3 0 k j))
      (fun k j => w6 (ix3 0 k j)) (fun k j => w8 (ix3 0 k j)))
    (fun k => w9 (ix2 0 k)) (fun k j => w10 (ix3 0 k j)) (fun k j => w11 (ix3 0 k j)) (fun j k => w12 (ix3 0 j k))
    (fun k => w13 (ix1 k))

end Cert.FfnSRow

end
-- ==== Proof.FfnSBlocks.lean ====
module

public import proofs.«01_k».proof.Proof.FfnSHalf
public import proofs.«01_k».proof.Proof.FfnSRow
public import proofs.«01_k».proof.Proof.Gen.FfnSIdeal.Value
public import Idealize.ShloMosaic.Lib.Pipeline.ValueKit
public import Idealize.ShloMosaic.Lib.Claim
public import Idealize.ShloMosaic.Lib.StableHlo.ReadAt

@[expose] public section

set_option maxRecDepth 16384

/-! What each window of the kernel holds at a grid point, element by element, of the arguments. -/

noncomputable section

namespace Cert.FfnSBlocks

open Cert.FfnSIdeal Cert.FfnSIdeal.Gen Idealize.ShloMosaic Idealize.ShloMosaic.TcCoe Idealize.SL.Sem Cert.FfnRow Cert.FfnSRow

variable (m : (ℓ : Loc nD τ sig) → Buf (Elt Ideal) ℓ)

theorem idx : ∀ t : Fin grid0.N, win0_0.index t = ![t.1, 0] ∧ win0_1.index t = ![t.1, 0] ∧ win0_2.index t = ![t.1, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![t.1, 0] := by
  decide +kernel

/-- The array row that row `r` of point `t`'s blocks is. -/
def row (t : Fin cfg0.N) (r : Fin 512) : Fin 1024 := ⟨t.1 * 512 + r.1, by
  have h : t.1 < 2 := t.isLt
  omega⟩

variable (c : Dev nD) (t : Fin cfg0.N)

theorem b0 (r : Fin 512) (k : Fin 1024) :
    iblk m c 0 t (ix2 r k) = m ((c : Thread nD τ).loc main_arg0) (ix3 (sq (row t r)) (ps (row t r)) k) := by
  have e : ∀ i : Fin 1024, V m c main_v22 (ix2 i k) = m ((c : Thread nD τ).loc main_arg0) (ix3 (sq i) (ps i) k) := by
    intro i
    unfold V
    after_reads_at
    rfl
  refine Eq.trans ?_ (e (row t r))
  blk_ext [iblk, idx t, row]

theorem b1 (r : Fin 512) (k : Fin 512) :
    iblk m c 1 t (ix2 r k) = m ((c : Thread nD τ).loc main_arg1) (ix2 (row t r) k) := by
  blk_ext [iblk, V, idx t, row]

theorem b2 (r : Fin 512) (k : Fin 512) :
    iblk m c 2 t (ix2 r k) = m ((c : Thread nD τ).loc main_arg2) (ix2 (row t r) k) := by
  blk_ext [iblk, V, idx t, row]

theorem b3 (k : Fin 1024) :
    iblk m c 3 t (ix2 0 k) = m ((c : Thread nD τ).loc main_arg3) (ix2 0 k) := by
  have e : V m c main_v4 (ix2 0 k) = m ((c : Thread nD τ).loc main_arg3) (ix2 0 k) := by
    unfold V
    after_reads_at
  refine Eq.trans ?_ e
  blk_ext [iblk, idx t, row]

theorem b4 (k : Fin 1024) (j : Fin 2048) :
    iblk m c 4 t (ix2 k j) = m ((c : Thread nD τ).loc main_arg4) (ix3 0 k ⟨2056 + j.1, by omega⟩) := by
  have e : V m c main_v2 (ix2 k j) = m ((c : Thread nD τ).loc main_arg4) (ix3 0 k ⟨2056 + j.1, by omega⟩) := by
    unfold V
    after_reads_at
  refine Eq.trans ?_ e
  blk_ext [iblk, idx t, row]

theorem b5 (k : Fin 2048) :
    iblk m c 5 t (ix2 0 k) = m ((c : Thread nD τ).loc main_arg7) (ix2 0 k) := by
  have e : V m c main_v6 (ix2 0 k) = m ((c : Thread nD τ).loc main_arg7) (ix2 0 k) := by
    unfold V
    after_reads_at
  refine Eq.trans ?_ e
  blk_ext [iblk, idx t, row]

theorem b6 (k : Fin 512) (j : Fin 1024) :
    iblk m c 6 t (ix2 k j) = m ((c : Thread nD τ).loc main_arg5) (ix3 0 k j) := by
  have e : V m c main_v8 (ix2 k j) = m ((c : Thread nD τ).loc main_arg5) (ix3 0 k j) := by
    unfold V
    after_reads_at
  refine Eq.trans ?_ e
  blk_ext [iblk, idx t, row]

theorem b7 (k : Fin 512) (j : Fin 1024) :
    iblk m c 7 t (ix2 k j) = m ((c : Thread nD τ).loc main_arg6) (ix3 0 k j) := by
  have e : V m c main_v10 (ix2 k j) = m ((c : Thread nD τ).loc main_arg6) (ix3 0 k j) := by
    unfold V
    after_reads_at
  refine Eq.trans ?_ e
  blk_ext [iblk, idx t, row]

theorem b8 (k : Fin 1024) (j : Fin 1024) :
    iblk m c 8 t (ix2 k j) = m ((c : Thread nD τ).loc main_arg8) (ix3 0 k j) := by
  have e : V m c main_v12 (ix2 k j) = m ((c : Thread nD τ).loc main_arg8) (ix3 0 k j) := by
    unfold V
    after_reads_at
  refine Eq.trans ?_ e
  blk_ext [iblk, idx t, row]

theorem b9 (k : Fin 1024) :
    iblk m c 9 t (ix2 0 k) = m ((c : Thread nD τ).loc main_arg9) (ix2 0 k) := by
  have e : V m c main_v14 (ix2 0 k) = m ((c : Thread nD τ).loc main_arg9) (ix2 0 k) := by
    unfold V
    after_reads_at
  refine Eq.trans ?_ e
  blk_ext [iblk, idx t, row]

theorem b10 (k : Fin 1024) (j : Fin 2816) :
    iblk m c 10 t (ix2 k j) = m ((c : Thread nD τ).loc main_arg10) (ix3 0 k j) := by
  have e : V m c main_v16 (ix2 k j) = m ((c : Thread nD τ).loc main_arg10) (ix3 0 k j) := by
    unfold V
    after_reads_at
  refine Eq.trans ?_ e
  blk_ext [iblk, idx t, row]

theorem b11 (k : Fin 1024) (j : Fin 2816) :
    iblk m c 11 t (ix2 k j) = m ((c : Thread nD τ).loc main_arg11) (ix3 0 k j) := by
  have e : V m c main_v18 (ix2 k j) = m ((c : Thread nD τ).loc main_arg11) (ix3 0 k j) := by
    unfold V
    after_reads_at
  refine Eq.trans ?_ e
  blk_ext [iblk, idx t, row]

theorem b12 (k : Fin 2816) (j : Fin 1024) :
    iblk m c 12 t (ix2 k j) = m ((c : Thread nD τ).loc main_arg12) (ix3 0 k j) := by
  have e : V m c main_v20 (ix2 k j) = m ((c : Thread nD τ).loc main_arg12) (ix3 0 k j) := by
    unfold V
    after_reads_at
  refine Eq.trans ?_ e
  blk_ext [iblk, idx t, row]

theorem b13 (k : Fin 1024) :
    iblk m c 13 t (ix2 0 k) = m ((c : Thread nD τ).loc main_arg13) (ix1 k) := by
  have e : V m c main_v21 (ix2 0 k) = m ((c : Thread nD τ).loc main_arg13) (ix1 k) := by
    unfold V
    after_reads_at
  refine Eq.trans ?_ e
  blk_ext [iblk, idx t, row]

end Cert.FfnSBlocks

end
-- ==== Proof.FfnSKernel.lean ====
module

public import proofs.«01_k».proof.Proof.FfnSBlocks

@[expose] public section

set_option maxRecDepth 16384

/-! The kernel's result array: every row is the layer's function of that token's row. -/

noncomputable section

namespace Cert.FfnSKernel

open Cert.FfnSIdeal Cert.FfnSIdeal.Gen Idealize.ShloMosaic Idealize.ShloMosaic.TcCoe Idealize.SL.Sem Cert.FfnRow
open Cert.FfnSHalf Cert.FfnSBlocks
open Idealize.ShloMosaic.Pipeline (Dat)

variable (m : (ℓ : Loc nD τ sig) → Buf (Elt Ideal) ℓ) (ρ : Dev nD → PrngReg) (c : Dev nD)

/-- The layer's rows, of the kernel's arguments. -/
def tok : Fin 1024 → Fin 1024 → EReal :=
  FfnSRow.token (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- What a half computes when its loads are the token's row and the layer's weights. -/
theorem outAt_eq (t : Fin cfg0.N) (o : Fin 256 → Fin 512) (X : Vec Ideal S256x1024 .f32) (P A : Vec Ideal S256x512 .bf16)
    (w3 : Vec Ideal S1x1024 .f32)
    (w4 : Vec Ideal S1024x2048 .bf16) (w5 : Vec Ideal S1x2048 .f32) (w6 w7 : Vec Ideal S512x1024 .bf16)
    (w8 : Vec Ideal S1024x1024 .bf16) (w9 : Vec Ideal S1x1024 .f32) (a b a' b' : Vec Ideal S1024x1408 .bf16)
    (d d' : Vec Ideal S1408x1024 .bf16) (w13 : Vec Ideal S1x1024 .f32)
    (hX : ∀ r k, X (ix2 r k) = iblk m c 0 t (ix2 (o r) k)) (hP : ∀ r k, P (ix2 r k) = iblk m c 1 t (ix2 (o r) k))
    (hA : ∀ r k, A (ix2 r k) = iblk m c 2 t (ix2 (o r) k)) (h3 : w3 = iblk m c 3 t) (h4 : w4 = iblk m c 4 t)
    (h5 : w5 = iblk m c 5 t) (h6 : w6 = iblk m c 6 t) (h7 : w7 = iblk m c 7 t) (h8 : w8 = iblk m c 8 t)
    (h9 : w9 = iblk m c 9 t) (ha : ∀ k j, a (ix2 k j) = iblk m c 10 t (ix2 k (fst j)))
    (hb : ∀ k j, b (ix2 k j) = iblk m c 11 t (ix2 k (fst j))) (ha' : ∀ k j, a' (ix2 k j) = iblk m c 10 t (ix2 k (snd j)))
    (hb' : ∀ k j, b' (ix2 k j) = iblk m c 11 t (ix2 k (snd j))) (hd : ∀ j k, d (ix2 j k) = iblk m c 12 t (ix2 (fst j) k))
    (hd' : ∀ j k, d' (ix2 j k) = iblk m c 12 t (ix2 (snd j) k)) (h13 : w13 = iblk m c 13 t) (r : Fin 256) (l : Fin 1024) :
    outAt w9 a b a' b' d d' w13 (midAt X P A w3 w4 w5 w6 w7 w8) r l = tok m c (row t (o r)) l := by
  subst h3 h4 h5 h6 h7 h8 h9 h13
  unfold outAt midAt tok FfnSRow.token out
  simp only [hX, hP, hA, ha, hb, ha', hb', hd, hd', b0, b1, b2, b3, b4, b5, b6, b7, b8, b9, b10, b11, b12, b13]
  refine congrArg (fun f => nrm f _ l) (funext fun l => congrArg _ ?_)
  exact swi_halves _ (fun k j => m ((c : Thread nD τ).loc main_arg10) (ix3 0 k j))
    (fun k j => m ((c : Thread nD τ).loc main_arg11) (ix3 0 k j)) (fun j k => m ((c : Thread nD τ).loc main_arg12) (ix3 0 j k)) l

/-- The first 256 rows of a block. -/
def up (r : Fin 256) : Fin 512 := ⟨r.1, by omega⟩

/-- The other 256. -/
def down (r : Fin 256) : Fin 512 := ⟨256 + r.1, by omega⟩

theorem hz2 : (![0, 0] : Fin 2 → Nat) = fun _ => 0 := funext fun a => by fin_cases a <;> rfl

theorem block_eq (t : Fin cfg0.N) (y : S512x1024.Idx) :
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y =
      tok m c (row t (y 0)) (y 1) := by
  unfold_out out0_14
  refine View.canon_apply_of_pieces (Val := Elt Ideal) (fun y : S512x1024.Idx => tok m c (row t (y 0)) (y 1)) _ ?_ y (cover0_14 _ _ y)
  intro p hp x
  rcases List.mem_cons.mp hp with rfl | hp
  · obtain ⟨r, l, rfl⟩ : ∃ (r : Fin 256) (l : Fin 1024), x = ix2 r l := ⟨x 0, x 1, by pointwise⟩
    have e0 : (r0_4.emb (ix2 r l)) 0 = down r := Fin.ext (by show 256 + 1 * r.1 = 256 + r.1; omega)
    have e1 : (r0_4.emb (ix2 r l)) 1 = l := Fin.ext (by show 0 + 1 * l.1 = l.1; omega)
    refine ((out1 _ _ _ _ _ _ _ _ _ _ _ _ (mid1 _ _ _ _ _ _ _ _ _) r l).trans
      (outAt_eq m c t down _ _ _ _ _ _ _ _ _ _ _ _ _ _ _ _ _ ?_ ?_ ?_ ?_ ?_ ?_ ?_ ?_ ?_ ?_ ?_ ?_ ?_ ?_ ?_ ?_ ?_ r l)).trans
      (congrArg₂ (fun a b => tok m c (row t a) b) e0.symm e1.symm)
    all_goals first
      | exact View.ld_unit_zero hz2 _ _
      | (intro r k; pointwise; done)
      | (intro r k; pointwise; rfl)
  rcases List.mem_cons.mp hp with rfl | hp
  · obtain ⟨r, l, rfl⟩ : ∃ (r : Fin 256) (l : Fin 1024), x = ix2 r l := ⟨x 0, x 1, by pointwise⟩
    have e0 : (r0_0.emb (ix2 r l)) 0 = up r := Fin.ext (by show 0 + 1 * r.1 = r.1; omega)
    have e1 : (r0_0.emb (ix2 r l)) 1 = l := Fin.ext (by show 0 + 1 * l.1 = l.1; omega)
    refine ((out0 _ _ _ _ _ _ _ _ _ _ _ _ (mid0 _ _ _ _ _ _ _ _ _) r l).trans
      (outAt_eq m c t up _ _ _ _ _ _ _ _ _ _ _ _ _ _ _ _ _ ?_ ?_ ?_ ?_ ?_ ?_ ?_ ?_ ?_ ?_ ?_ ?_ ?_ ?_ ?_ ?_ ?_ r l)).trans
      (congrArg₂ (fun a b => tok m c (row t a) b) e0.symm e1.symm)
    all_goals first
      | exact View.ld_unit_zero hz2 _ _
      | (intro r k; pointwise; done)
      | (intro r k; pointwise; rfl)
  · exact absurd hp List.not_mem_nil

/-- The result array: every row the layer's. -/
theorem final : (dats m 0 c).arrAt 14 cfg0.N = fun i : S1024x1024.Idx => tok m c (i 0) (i 1) := by
  refine (dats m 0 c).arrAt_eq_of_covers 14 _ (by decide +kernel) fun t hf y => ?_
  blk_simp
  rw [after0_14, block_eq]
  have e0 : ((((cfg0.win 14).blk t).view.emb y) 0 : Fin 1024) = row t (y 0) := Fin.ext (by
    blk_simp [idx t, row])
  have e1 : ((((cfg0.win 14).blk t).view.emb y) 1 : Fin 1024) = y 1 := Fin.ext (by
    blk_simp [idx t])
  exact (congrArg₂ (tok m c) e0 e1).symm

end Cert.FfnSKernel

end
-- ==== Proof.FfnSRefValue.lean ====
module

public import proofs.«01_k».proof.Proof.FfnSRow
public import proofs.«01_k».proof.Proof.Gen.FfnSRefIdeal.Run

@[expose] public section

set_option maxRecDepth 16384

/-! The reference's result: every row is the layer's function of that token's row. -/

noncomputable section

namespace Cert.FfnSRefValue

open Cert.FfnSRefIdeal Cert.FfnSRefIdeal.Gen Cert.FfnSRefIdeal.Facts Cert.FfnSRefIdeal.Value Idealize.ShloMosaic Idealize.ShloMosaic.TcCoe Idealize.SL.Sem Cert.FfnRow Cert.FfnSRow
open Idealize.ShloMosaic.StableHlo

variable (V0 : Valuation τ sig (Elt Ideal))

theorem gates_eq (a b : Fin 32) (j : Fin 2048) :
    res_main_v30 V0 (ix3 a b j) = gate (fun k => V0 (Proc.devRef .tc main_arg0) (ix3 a b k))
      (fun k => V0 (Proc.devRef .tc main_arg3) (ix2 0 k))
      (fun k j => V0 (Proc.devRef .tc main_arg4) (ix3 0 k ⟨2056 + j.1, by omega⟩))
      (fun j => V0 (Proc.devRef .tc main_arg7) (ix2 0 j)) j := by
  unfold res_main_v30
  pointwise
  rfl

/-- The row after the merge. -/
def midR (a b : Fin 32) : Fin 1024 → EReal :=
  mid (fun k => V0 (Proc.devRef .tc main_arg0) (ix3 a b k)) (fun k => V0 (Proc.devRef .tc main_arg1) (ix2 (tk a b) k))
    (fun k => V0 (Proc.devRef .tc main_arg2) (ix2 (tk a b) k)) (fun k => V0 (Proc.devRef .tc main_arg3) (ix2 0 k))
    (fun k j => V0 (Proc.devRef .tc main_arg4) (ix3 0 k ⟨2056 + j.1, by omega⟩))
    (fun j => V0 (Proc.devRef .tc main_arg7) (ix2 0 j)) (fun k j => V0 (Proc.devRef .tc main_arg5) (ix3 0 k j))
    (fun k j => V0 (Proc.devRef .tc main_arg6) (ix3 0 k j)) (fun k j => V0 (Proc.devRef .tc main_arg8) (ix3 0 k j))

theorem midR_tok (i : Fin 1024) : midR V0 (sq i) (ps i) =
    mid (fun k => V0 (Proc.devRef .tc main_arg0) (ix3 (sq i) (ps i) k)) (fun k => V0 (Proc.devRef .tc main_arg1) (ix2 i k))
      (fun k => V0 (Proc.devRef .tc main_arg2) (ix2 i k)) (fun k => V0 (Proc.devRef .tc main_arg3) (ix2 0 k))
      (fun k j => V0 (Proc.devRef .tc main_arg4) (ix3 0 k ⟨2056 + j.1, by omega⟩))
      (fun j => V0 (Proc.devRef .tc main_arg7) (ix2 0 j)) (fun k j => V0 (Proc.devRef .tc main_arg5) (ix3 0 k j))
      (fun k j => V0 (Proc.devRef .tc main_arg6) (ix3 0 k j)) (fun k j => V0 (Proc.devRef .tc main_arg8) (ix3 0 k j)) := by
  unfold midR
  rw [tk_sq_ps]

theorem mid_eq (a b : Fin 32) (l : Fin 1024) : res_main_v42 V0 (ix3 a b l) = midR V0 a b l := by
  unfold res_main_v42
  pointwise
  exact congrArg₂ (· + ·) rfl (Finset.sum_congr rfl fun x _ => congrArg₂ (· * ·)
    (congrArg₂ (· + ·) (congrArg₂ (· * ·) (gates_eq V0 a b (lo x)) rfl)
      (congrArg₂ (· * ·) (gates_eq V0 a b (hi x)) rfl)) rfl)

theorem norm_eq (a b : Fin 32) (l : Fin 1024) :
    res_main_v56 V0 (ix3 a b l) = nrm (midR V0 a b) (fun k => V0 (Proc.devRef .tc main_arg9) (ix2 0 k)) l := by
  unfold res_main_v56
  pointwise
  simp only [mid_eq]
  rfl

theorem ffn_eq (a b : Fin 32) (l : Fin 1024) :
    res_main_v65 V0 (ix3 a b l) = midR V0 a b l +
      swi (nrm (midR V0 a b) (fun k => V0 (Proc.devRef .tc main_arg9) (ix2 0 k)))
        (fun k j => V0 (Proc.devRef .tc main_arg10) (ix3 0 k j)) (fun k j => V0 (Proc.devRef .tc main_arg11) (ix3 0 k j))
        (fun j k => V0 (Proc.devRef .tc main_arg12) (ix3 0 j k)) l := by
  unfold res_main_v65 res_main_v60
  pointwise
  simp only [mid_eq, norm_eq]
  rfl

/-- The reference's result array, as its run names it. -/
theorem result_eq (i : S1024x1024.Idx) :
    shapeCast S1024x1024 (mulf (mulf (res_main_v65 V0) (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf (res_main_v65 V0) (res_main_v65 V0)) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 (V0 (Proc.devRef .tc main_arg13))))) shapeCasts_S32x32x1024_S1024x1024 i =
      FfnSRow.token (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11))
        (V0 (Proc.devRef .tc main_arg12)) (V0 (Proc.devRef .tc main_arg13)) (i 0) (i 1) := by
  obtain ⟨r, l, rfl⟩ : ∃ (r : Fin 1024) (l : Fin 1024), i = ix2 r l := ⟨i 0, i 1, by pointwise⟩
  pointwise
  simp only [ffn_eq]
  unfold FfnSRow.token
  rw [← midR_tok]
  rfl

end Cert.FfnSRefValue

end
-- ==== Proof.FfnSClaims.lean ====
module

public import proofs.«01_k».proof.Defs
public import proofs.«01_k».proof.Proof.FfnSKernel
public import proofs.«01_k».proof.Proof.FfnSRefValue
public import Idealize.ShloMosaic.Lib.Quiescent

@[expose] public section

/-! The claims about the merge and feed-forward call on the sample and its reference. -/

noncomputable section

namespace Cert.FfnSClaims

open Idealize.ShloMosaic Idealize.ShloMosaic.TcCoe Idealize.SL.Sem

/-- The reference runs, keeps its arguments, and leaves every counter at zero. -/
theorem frame_ref : Cert.quiescent_FfnSRefIdeal := fun m ρ _ =>
  (θ_run _ _ _).mono (fun r h => ⟨fun c => (h c).2, Idealize.ShloMosaic.sem_eq_zero_of_no_sems (by decide) r.2⟩)
    (Cert.FfnSRefIdeal.Value.run (F := Ideal) m ρ)

/-- The kernel's result and the reference's are the same rows. -/
theorem algebraic : Cert.algebraic_FfnSIdeal_FfnSRefIdeal := by
  intro m ρ m' ρ' _ hagree
  refine ⟨fun c => fun i : Cert.FfnSIdeal.S1024x1024.Idx => Cert.FfnSKernel.tok m c (i 0) (i 1), ?_, ?_⟩
  · exact (θ_run Cert.FfnSIdeal.defs _ _).mono (fun _ h c => ⟨(h c).1.trans (Cert.FfnSKernel.final m c), (h c).2⟩)
      (Cert.FfnSIdeal.Value.run_blocks (F := Ideal) m ρ)
  · refine (θ_run Cert.FfnSRefIdeal.defs _ _).mono (fun _ h c => ⟨(h c).1.trans ?_, (h c).2⟩)
      (Cert.FfnSRefIdeal.Value.run (F := Ideal) m' ρ')
    obtain ⟨h0, h1, h2, h3, h4, h5, h6, h7, h8, h9, h10, h11, h12, h13⟩ := hagree c
    have key : ∀ (i : Fin 1024) (l : Fin 1024), Cert.FfnSRow.token
          (m' ((c.tc : Thread Cert.FfnSRefIdeal.nD Cert.FfnSRefIdeal.τ).loc Cert.FfnSRefIdeal.main_arg0))
          (m' ((c.tc : Thread Cert.FfnSRefIdeal.nD Cert.FfnSRefIdeal.τ).loc Cert.FfnSRefIdeal.main_arg1))
          (m' ((c.tc : Thread Cert.FfnSRefIdeal.nD Cert.FfnSRefIdeal.τ).loc Cert.FfnSRefIdeal.main_arg2))
          (m' ((c.tc : Thread Cert.FfnSRefIdeal.nD Cert.FfnSRefIdeal.τ).loc Cert.FfnSRefIdeal.main_arg3))
          (m' ((c.tc : Thread Cert.FfnSRefIdeal.nD Cert.FfnSRefIdeal.τ).loc Cert.FfnSRefIdeal.main_arg4))
          (m' ((c.tc : Thread Cert.FfnSRefIdeal.nD Cert.FfnSRefIdeal.τ).loc Cert.FfnSRefIdeal.main_arg5))
          (m' ((c.tc : Thread Cert.FfnSRefIdeal.nD Cert.FfnSRefIdeal.τ).loc Cert.FfnSRefIdeal.main_arg6))
          (m' ((c.tc : Thread Cert.FfnSRefIdeal.nD Cert.FfnSRefIdeal.τ).loc Cert.FfnSRefIdeal.main_arg7))
          (m' ((c.tc : Thread Cert.FfnSRefIdeal.nD Cert.FfnSRefIdeal.τ).loc Cert.FfnSRefIdeal.main_arg8))
          (m' ((c.tc : Thread Cert.FfnSRefIdeal.nD Cert.FfnSRefIdeal.τ).loc Cert.FfnSRefIdeal.main_arg9))
          (m' ((c.tc : Thread Cert.FfnSRefIdeal.nD Cert.FfnSRefIdeal.τ).loc Cert.FfnSRefIdeal.main_arg10))
          (m' ((c.tc : Thread Cert.FfnSRefIdeal.nD Cert.FfnSRefIdeal.τ).loc Cert.FfnSRefIdeal.main_arg11))
          (m' ((c.tc : Thread Cert.FfnSRefIdeal.nD Cert.FfnSRefIdeal.τ).loc Cert.FfnSRefIdeal.main_arg12))
          (m' ((c.tc : Thread Cert.FfnSRefIdeal.nD Cert.FfnSRefIdeal.τ).loc Cert.FfnSRefIdeal.main_arg13)) i l = Cert.FfnSKernel.tok m c i l := fun i l => by
      unfold Cert.FfnSKernel.tok
      rw [h0, h1, h2, h3, h4, h5, h6, h7, h8, h9, h10, h11, h12, h13]
    exact funext fun i => (Cert.FfnSRefValue.result_eq (StableHlo.launchContents m' c) i).trans (key _ _)

end Cert.FfnSClaims

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Pre_packed
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal
public import proofs.«01_k».proof.Proof.Gen.InprojSIdeal.Skeleton
public import proofs.«01_k».proof.Proof.Gen.InprojSIdeal.Launch
public import proofs.«01_k».proof.Proof.Gen.InprojSIdeal.Points
public import proofs.«01_k».proof.Proof.Gen.InprojSIdeal.Frame
public import proofs.«01_k».proof.Proof.Gen.InprojSIdeal.Value
public import proofs.«01_k».proof.Proof.Gen.InprojSRefIdeal
public import proofs.«01_k».proof.Proof.Gen.InprojSRefIdeal.Run
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.AttnClaims
public import proofs.«01_k».proof.Proof.FfnClaims
public import proofs.«01_k».proof.Proof.InprojSClaims
public import proofs.«01_k».proof.Proof.FfnSClaims
public import Idealize.ShloMosaic.Adequacy
public import Idealize.ShloMosaic.Init

@[expose] public section

/-! The certificate: every claim, from the modules that prove them. -/

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.InprojS.Gen.facts, Cert.InprojSIdeal.Gen.facts, Cert.InprojSRefIdeal.Gen.facts,
    Cert.FfnS.Gen.facts, Cert.FfnSIdeal.Gen.facts, Cert.FfnSRefIdeal.Gen.facts, Cert.Pre_packed.Gen.facts,
    Cert.AttnClaims.frame, Cert.AttnClaims.frame_ideal, Cert.AttnClaims.frame_ideal_packed, Cert.AttnClaims.frame_ref,
    Cert.AttnClaims.frame_ref_packed, fun m ρ _ => Cert.Ffn.Gen.frame m ρ, fun m ρ _ => Cert.FfnIdeal.Gen.frame m ρ,
    Cert.FfnClaims.frame_ref,
    fun m ρ _ => Cert.InprojS.Gen.frame m ρ, fun m ρ _ => Cert.InprojSIdeal.Gen.frame m ρ, Cert.InprojSClaims.frame_ref,
    fun m ρ _ => Cert.FfnS.Gen.frame m ρ, fun m ρ _ => Cert.FfnSIdeal.Gen.frame m ρ, Cert.FfnSClaims.frame_ref,
    Cert.AttnClaims.preserves, Cert.AttnClaims.algebraic, trivial, Cert.FfnClaims.algebraic, trivial,
    Cert.InprojSClaims.algebraic, trivial, Cert.FfnSClaims.algebraic⟩

end Cert.Proof

end
